-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_bounded [hPre_bounded : Cert.Pre_bounded.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_bounded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_bounded [hPre_bounded : Cert.Pre_bounded.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_bounded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_numbers [hPre_numbers : Cert.Pre_numbers.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_numbers.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).1 = (fun _ => 1#1)
    ∧ (Cert.Pre_numbers.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_numbers [hPre_numbers : Cert.Pre_numbers.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_numbers.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).1 = (fun _ => 1#1)
    ∧ (Cert.Pre_numbers.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ r.2.sem = fun _ => 0)

def quiescent_Kernel5Ideal_pre_bounded [hKernel5Ideal : Cert.Kernel5Ideal.Facts] [hPre_bounded : Cert.Pre_bounded.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_bounded m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14))
      ∧ r.2.sem = fun _ => 0)

def quiescent_Reference5Ideal_pre_bounded [hReference5Ideal : Cert.Reference5Ideal.Facts] [hPre_bounded : Cert.Pre_bounded.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_bounded m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_numbers [hKernel9Ideal : Cert.Kernel9Ideal.Facts] [hPre_numbers : Cert.Pre_numbers.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_numbers m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_numbers [hReference9Ideal : Cert.Reference9Ideal.Facts] [hPre_numbers : Cert.Pre_numbers.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_numbers m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_bounded [hKernel5Ideal : Cert.Kernel5Ideal.Facts] [hReference5Ideal : Cert.Reference5Ideal.Facts] [hPre_bounded : Cert.Pre_bounded.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_bounded m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)) →
    ∃ (v0 : (c : Dev Cert.Kernel5Ideal.nD) → Buf (Elt Ideal) ((c.tc : Thread Cert.Kernel5Ideal.nD Cert.Kernel5Ideal.τ).loc Cert.Kernel5Ideal.main_v23)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v52) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v35) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  IdealRules.named_const.Statement Cert.Kernel9Ideal.κ "mask" .f32 0xF149F2CA#32 ⊥

def algebraic_Kernel9Ideal_Reference9Ideal_pre_numbers [hKernel9Ideal : Cert.Kernel9Ideal.Facts] [hReference9Ideal : Cert.Reference9Ideal.Facts] [hPre_numbers : Cert.Pre_numbers.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_numbers m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v11_0)) (v1 : (c : Dev Cert.Kernel9Ideal.nD) → Buf (Elt Ideal) ((c.tc : Thread Cert.Kernel9Ideal.nD Cert.Kernel9Ideal.τ).loc Cert.Kernel9Ideal.main_v11_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v11_0) = v0 c
          ∧ r.2.mem ((c.tc : Thread Cert.Kernel9Ideal.nD Cert.Kernel9Ideal.τ).loc Cert.Kernel9Ideal.main_v11_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_v26) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_bounded : Cert.Pre_bounded.Facts) (hPre_numbers : Cert.Pre_numbers.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_bounded (hKernel5Ideal := hKernel5Ideal) (hPre_bounded := hPre_bounded)
    ∧ quiescent_Reference5Ideal (hReference5Ideal := hReference5Ideal)
    ∧ quiescent_Reference5Ideal_pre_bounded (hReference5Ideal := hReference5Ideal) (hPre_bounded := hPre_bounded)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_numbers (hKernel9Ideal := hKernel9Ideal) (hPre_numbers := hPre_numbers)
    ∧ quiescent_Reference9Ideal (hReference9Ideal := hReference9Ideal)
    ∧ quiescent_Reference9Ideal_pre_numbers (hReference9Ideal := hReference9Ideal) (hPre_numbers := hPre_numbers)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_bounded (hKernel5Ideal := hKernel5Ideal) (hReference5Ideal := hReference5Ideal) (hPre_bounded := hPre_bounded)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_numbers (hKernel9Ideal := hKernel9Ideal) (hReference9Ideal := hReference9Ideal) (hPre_numbers := hPre_numbers)
-- ==== Pre_bounded.lean ====
abbrev S4096x1024 : Shape := ⟨2, ![4096, 1024]⟩
abbrev S4096x11168 : Shape := ⟨2, ![4096, 11168]⟩
abbrev S3072 : Shape := ⟨1, ![3072]⟩
abbrev S4096x512 : Shape := ⟨2, ![4096, 512]⟩
abbrev S4096x8x64 : Shape := ⟨3, ![4096, 8, 64]⟩
abbrev S4096x8 : Shape := ⟨2, ![4096, 8]⟩
abbrev S512x1024 : Shape := ⟨2, ![512, 1024]⟩
abbrev S1024x1024 : Shape := ⟨2, ![1024, 1024]⟩
abbrev S_ : Shape := ⟨0, ![]⟩

class Facts : Prop where
  bcast_S_S4096x8 : S_.BroadcastsInDim S4096x8 (![] : Fin 0 → Fin S4096x8.rank)

variable [Facts]

def fn {F : FTy → Type} [FloatOps F] (main_arg0 : FVec F S4096x1024 .f32) (main_arg1 : FVec F S4096x11168 .f32) (main_arg2 : FVec F S3072 .f32) (main_arg3 : FVec F S4096x512 .f32) (main_arg4 : FVec F S4096x512 .f32) (main_arg5 : FVec F S4096x8x64 .f32) (main_arg6 : FVec F S4096x8x64 .f32) (main_arg7 : FVec F S4096x8x64 .f32) (main_arg8 : FVec F S4096x8 .f32) (main_arg9 : FVec F S4096x8 .f32) (main_arg10 : FVec F S4096x8 .f32) (main_arg11 : FVec F S512x1024 .f32) (main_arg12 : FVec F S512x1024 .f32) (main_arg13 : FVec F S512x1024 .f32) (main_arg14 : FVec F S1024x1024 .f32) : IVec S4096x8 1 :=
  let main_v0 : FVec F S4096x8 .f32 := maximumf main_arg8 main_arg9
  let main_v1 : FVec F S4096x8 .f32 := maximumf main_v0 main_arg10
  let main_v2 : FVec F S4096x8 .f32 := Host.absf main_v1
  let main_cst : FVec F S_ .f32 := constant S_ .f32 0x7F800000#32
  let main_v3 : FVec F S4096x8 .f32 := broadcastInDim S4096x8 ![] bcast_S_S4096x8 main_cst
  let main_v4 : IVec S4096x8 1 := cmpf .olt main_v2 main_v3
  main_v4
-- ==== Pre_finite.lean ====
abbrev S2x8x2048x96 : Shape := ⟨4, ![2, 8, 2048, 96]⟩
abbrev S2x8x2048x64 : Shape := ⟨4, ![2, 8, 2048, 64]⟩
abbrev S_ : Shape := ⟨0, ![]⟩

class Facts : Prop where
  bcast_S_S2x8x2048x96 : S_.BroadcastsInDim S2x8x2048x96 (![] : Fin 0 → Fin S2x8x2048x96.rank)
  bcast_S_S2x8x2048x64 : S_.BroadcastsInDim S2x8x2048x64 (![] : Fin 0 → Fin S2x8x2048x64.rank)

variable [Facts]

def fn {F : FTy → Type} [FloatOps F] (main_arg0 : FVec F S2x8x2048x96 .f32) (main_arg1 : FVec F S2x8x2048x96 .f32) (main_arg2 : FVec F S2x8x2048x64 .f32) (main_arg3 : FVec F S2x8x2048x64 .f32) : IVec S2x8x2048x96 1 × IVec S2x8x2048x96 1 × IVec S2x8x2048x64 1 × IVec S2x8x2048x64 1 :=
  let main_v0 : FVec F S2x8x2048x96 .f32 := Host.absf main_arg0
  let main_cst : FVec F S_ .f32 := constant S_ .f32 0x7F800000#32
  let main_v1 : FVec F S2x8x2048x96 .f32 := broadcastInDim S2x8x2048x96 ![] bcast_S_S2x8x2048x96 main_cst
  let main_v2 : IVec S2x8x2048x96 1 := cmpf .olt main_v0 main_v1
  let main_v3 : FVec F S2x8x2048x96 .f32 := Host.absf main_arg1
  let main_cst_0 : FVec F S_ .f32 := constant S_ .f32 0x7F800000#32
  let main_v4 : FVec F S2x8x2048x96 .f32 := broadcastInDim S2x8x2048x96 ![] bcast_S_S2x8x2048x96 main_cst_0
  let main_v5 : IVec S2x8x2048x96 1 := cmpf .olt main_v3 main_v4
  let main_v6 : FVec F S2x8x2048x64 .f32 := Host.absf main_arg2
  let main_cst_1 : FVec F S_ .f32 := constant S_ .f32 0x7F800000#32
  let main_v7 : FVec F S2x8x2048x64 .f32 := broadcastInDim S2x8x2048x64 ![] bcast_S_S2x8x2048x64 main_cst_1
  let main_v8 : IVec S2x8x2048x64 1 := cmpf .olt main_v6 main_v7
  let main_v9 : FVec F S2x8x2048x64 .f32 := Host.absf main_arg3
  let main_cst_2 : FVec F S_ .f32 := constant S_ .f32 0x7F800000#32
  let main_v10 : FVec F S2x8x2048x64 .f32 := broadcastInDim S2x8x2048x64 ![] bcast_S_S2x8x2048x64 main_cst_2
  let main_v11 : IVec S2x8x2048x64 1 := cmpf .olt main_v9 main_v10
  (main_v2, main_v5, main_v8, main_v11)
-- ==== Pre_numbers.lean ====
abbrev S2x8x2048x96 : Shape := ⟨4, ![2, 8, 2048, 96]⟩
abbrev S2x8x2048x64 : Shape := ⟨4, ![2, 8, 2048, 64]⟩
abbrev S_ : Shape := ⟨0, ![]⟩

class Facts : Prop where
  bcast_S_S2x8x2048x96 : S_.BroadcastsInDim S2x8x2048x96 (![] : Fin 0 → Fin S2x8x2048x96.rank)

variable [Facts]

def fn {F : FTy → Type} [FloatOps F] (main_arg0 : FVec F S2x8x2048x96 .f32) (main_arg1 : FVec F S2x8x2048x96 .f32) (main_arg2 : FVec F S2x8x2048x64 .f32) : IVec S2x8x2048x96 1 × IVec S2x8x2048x96 1 :=
  let main_v0 : FVec F S2x8x2048x96 .f32 := Host.absf main_arg0
  let main_cst : FVec F S_ .f32 := constant S_ .f32 0x7F800000#32
  let main_v1 : FVec F S2x8x2048x96 .f32 := broadcastInDim S2x8x2048x96 ![] bcast_S_S2x8x2048x96 main_cst
  let main_v2 : IVec S2x8x2048x96 1 := cmpf .olt main_v0 main_v1
  let main_v3 : FVec F S2x8x2048x96 .f32 := Host.absf main_arg1
  let main_cst_0 : FVec F S_ .f32 := constant S_ .f32 0x7F800000#32
  let main_v4 : FVec F S2x8x2048x96 .f32 := broadcastInDim S2x8x2048x96 ![] bcast_S_S2x8x2048x96 main_cst_0
  let main_v5 : IVec S2x8x2048x96 1 := cmpf .olt main_v3 main_v4
  (main_v2, main_v5)
-- ==== Kernel.lean ====
abbrev S2x8x2048x96 : Shape := ⟨4, ![2, 8, 2048, 96]⟩
abbrev S2x8x2048x64 : Shape := ⟨4, ![2, 8, 2048, 64]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S8x2x2048x96 : Shape := ⟨4, ![8, 2, 2048, 96]⟩
abbrev S8x4096x96 : Shape := ⟨3, ![8, 4096, 96]⟩
abbrev S8x4096x128 : Shape := ⟨3, ![8, 4096, 128]⟩
abbrev S2x2048x8x64 : Shape := ⟨4, ![2, 2048, 8, 64]⟩
abbrev S4096x512 : Shape := ⟨2, ![4096, 512]⟩
abbrev S2x2048x128 : Shape := ⟨3, ![2, 2048, 128]⟩
abbrev S2048x128 : Shape := ⟨2, ![2048, 128]⟩
abbrev S512x128 : Shape := ⟨2, ![512, 128]⟩
abbrev S512x512 : Shape := ⟨2, ![512, 512]⟩
abbrev S1x512x128 : Shape := ⟨3, ![1, 512, 128]⟩
abbrev S512 : Shape := ⟨1, ![512]⟩
abbrev S512x1 : Shape := ⟨2, ![512, 1]⟩

abbrev nBuf : Space → Nat
  | .hbm => 64
  | .vmem => 18
  | .smem => 0
  | _ => 0

abbrev bufTy : (tb : Table) → Fin (tcTables nBuf tb) → BufTy
  | .hbm, ⟨0, _⟩ => ⟨S2x8x2048x96, .f32⟩
  | .hbm, ⟨1, _⟩ => ⟨S2x8x2048x96, .f32⟩
  | .hbm, ⟨2, _⟩ => ⟨S2x8x2048x64, .f32⟩
  | .hbm, ⟨3, _⟩ => ⟨S2x8x2048x64, .f32⟩
  | .hbm, ⟨4, _⟩ => ⟨S2x8x2048x2048, .f32⟩
  | .hbm, ⟨5, _⟩ => ⟨S_, .f32⟩
  | .hbm, ⟨6, _⟩ => ⟨S2x8x2048x2048, .f32⟩
  | .hbm, ⟨7, _⟩ => ⟨S2x8x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2x8x2048x2048, .i1⟩
  | .hbm, ⟨17, _⟩ => ⟨S2x8x2048x2048, .f32⟩
  | .hbm, ⟨18, _⟩ => ⟨S2x8x2048x2048, .f32⟩
  | .hbm, ⟨19, _⟩ => ⟨S_, .f32⟩
  | .hbm, ⟨20, _⟩ => ⟨S2x8x2048, .f32⟩
  | .hbm, ⟨21, _⟩ => ⟨S2x8x2048x1, .f32⟩
  | .hbm, ⟨22, _⟩ => ⟨S2x8x2048x2048, .f32⟩
  | .hbm, ⟨23, _⟩ => ⟨S2x8x2048x2048, .f32⟩
  | .hbm, ⟨24, _⟩ => ⟨S2x8x2048x2048, .f32⟩
  | .hbm, ⟨25, _⟩ => ⟨S_, .f32⟩
  | .hbm, ⟨26, _⟩ => ⟨S2x8x2048, .f32⟩
  | .hbm, ⟨27, _⟩ => ⟨S2x8x2048x1, .f32⟩
  | .hbm, ⟨28, _⟩ => ⟨S2x8x2048x2048, .f32⟩
  | .hbm, ⟨29, _⟩ => ⟨S2x8x2048x2048, .f32⟩
  | .hbm, ⟨30, _⟩ => ⟨S2x8x2048x64, .f32⟩
  | .hbm, ⟨31, _⟩ => ⟨S2x8x2048x1, .f32⟩
  | .hbm, ⟨32, _⟩ => ⟨S2x8x2048x1, .f32⟩
  | .hbm, ⟨33, _⟩ => ⟨S2x8x2048x64, .f32⟩
  | .hbm, ⟨34, _⟩ => ⟨S_, .f32⟩
  | .hbm, ⟨35, _⟩ => ⟨S2x8x2048, .f32⟩
  | .hbm, ⟨36, _⟩ => ⟨S2x8x2048x1, .f32⟩
  | .hbm, ⟨37, _⟩ => ⟨S8x2x2048x96, .f32⟩
  | .hbm, ⟨38, _⟩ => ⟨S8x4096x96, .f32⟩
  | .hbm, ⟨39, _⟩ => ⟨S_, .i32⟩
  | .hbm, ⟨40, _⟩ => ⟨S_, .f32⟩
  | .hbm, ⟨41, _⟩ => ⟨S8x4096x128, .f32⟩
  | .hbm, ⟨42, _⟩ => ⟨S8x4096x128, .bf16⟩
  | .hbm, ⟨43, _⟩ => ⟨S8x2x2048x96, .f32⟩
  | .hbm, ⟨44, _⟩ => ⟨S8x4096x96, .f32⟩
  | .hbm, ⟨45, _⟩ => ⟨S_, .i32⟩
  | .hbm, ⟨46, _⟩ => ⟨S_, .f32⟩
  | .hbm, ⟨47, _⟩ => ⟨S8x4096x128, .f32⟩
  | .hbm, ⟨48, _⟩ => ⟨S8x4096x128, .bf16⟩
  | .hbm, ⟨49, _⟩ => ⟨S2x2048x8x64, .f32⟩
  | .hbm, ⟨50, _⟩ => ⟨S4096x512, .f32⟩
  | .hbm, ⟨51, _⟩ => ⟨S4096x512, .bf16⟩
  | .hbm, ⟨52, _⟩ => ⟨S2x2048x8x64, .f32⟩
  | .hbm, ⟨53, _⟩ => ⟨S4096x512, .f32⟩
  | .hbm, ⟨54, _⟩ => ⟨S4096x512, .bf16⟩
  | .hbm, ⟨55, _⟩ => ⟨S2x8x2048x64, .f32⟩
  | .hbm, ⟨56, _⟩ => ⟨S2x2048x8x64, .f32⟩
  | .hbm, ⟨57, _⟩ => ⟨S4096x512, .f32⟩
  | .hbm, ⟨58, _⟩ => ⟨S2x8x2048x64, .f32⟩
  | .hbm, ⟨59, _⟩ => ⟨S2x2048x8x64, .f32⟩
  | .hbm, ⟨60, _⟩ => ⟨S4096x512, .f32⟩
  | .hbm, ⟨61, _⟩ => ⟨S8x4096x128, .f32⟩
  | .hbm, ⟨62, _⟩ => ⟨S8x4096x128, .f32⟩
  | .hbm, ⟨63, _⟩ => ⟨S4096x512, .f32⟩
  | .local _ .vmem, ⟨0, _⟩ => ⟨S2x2048x128, .bf16⟩
  | .local _ .vmem, ⟨1, _⟩ => ⟨S2x2048x128, .bf16⟩
  | .local _ .vmem, ⟨2, _⟩ => ⟨S2x2048x128, .bf16⟩
  | .local _ .vmem, ⟨3, _⟩ => ⟨S2x2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2x2048x128, .f32⟩
  | .local _ .vmem, ⟨13, _⟩ => ⟨S2x2048x128, .f32⟩
  | .local _ .vmem, ⟨14, _⟩ => ⟨S2x2048x128, .f32⟩
  | .local _ .vmem, ⟨15, _⟩ => ⟨S2x2048x128, .f32⟩
  | .local _ .vmem, ⟨16, _⟩ => ⟨S2048x128, .f32⟩
  | .local _ .vmem, ⟨17, _⟩ => ⟨S2048x128, .f32⟩
  | _, _ => ⟨S2x8x2048x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_call1_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_call2_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45_0 : Ref sig .tc := ⟨.hbm, 61, rfl⟩
abbrev main_v45_1 : Ref sig .tc := ⟨.hbm, 62, rfl⟩
abbrev main_v45_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_7 : BitVec 32 := 0#32
  let c4_i32 : BitVec 32 := 4#32
  let v15 : BitVec 32 := Scalar.addi c0_i32_7 c4_i32
  let c1_i32 : BitVec 32 := 1#32
  ⟨c0_i32_7, v15, c1_i32⟩
def k0_mult1 (k0_t1 : Fin k0_t1_loop.trips) : BitVec 32 :=
  let c0_i32_7 : BitVec 32 := 0#32
  let c1_i32 : BitVec 32 := 1#32
  let arg11 : BitVec 32 := Scf.iv c0_i32_7 c1_i32 k0_t1
  let c512_i32 : BitVec 32 := 512#32
  let v16 : BitVec 32 := Scalar.muli arg11 c512_i32
  v16
def k0_off1 (k0_t1 : Fin k0_t1_loop.trips) : Fin 3 → Nat :=
  let c0_9 : Index := 0#32
  let c0_i32_7 : BitVec 32 := 0#32
  let c1_i32 : BitVec 32 := 1#32
  let arg11 : BitVec 32 := Scf.iv c0_i32_7 c1_i32 k0_t1
  let c512_i32 : BitVec 32 := 512#32
  let v16 : BitVec 32 := Scalar.muli arg11 c512_i32
  let v17 : BitVec 32 := v16
  let v18 : Index := Scalar.indexCast v17
  let c0_10 : Index := 0#32
  ![0, v18.toNat, 0]
def k0_off2 (k0_t1 : Fin k0_t1_loop.trips) : Fin 2 → Nat :=
  let c0_i32_7 : BitVec 32 := 0#32
  let c1_i32 : BitVec 32 := 1#32
  let arg11 : BitVec 32 := Scf.iv c0_i32_7 c1_i32 k0_t1
  let c512_i32 : BitVec 32 := 512#32
  let v16 : BitVec 32 := Scalar.muli arg11 c512_i32
  let v17 : BitVec 32 := v16
  let v21 : Index := Scalar.indexCast v17
  let c0_11 : Index := 0#32
  ![v21.toNat, 0]
def k0_off3 (k0_t1 : Fin k0_t1_loop.trips) : Fin 3 → Nat :=
  let c1 : Index := 1#32
  let c0_i32_7 : BitVec 32 := 0#32
  let c1_i32 : BitVec 32 := 1#32
  let arg11 : BitVec 32 := Scf.iv c0_i32_7 c1_i32 k0_t1
  let c512_i32 : BitVec 32 := 512#32
  let v16 : BitVec 32 := Scalar.muli arg11 c512_i32
  let v17 : BitVec 32 := v16
  let v41 : Index := Scalar.indexCast v17
  let c0_20 : Index := 0#32
  ![1, v41.toNat, 0]
@[reducible] def k0_t2_loop (k0_t1 : Fin k0_t1_loop.trips) : Scf.Loop 32 :=
  let c0_i32_31 : BitVec 32 := 0#32
  let c0_i32_7 : BitVec 32 := 0#32
  let c1_i32 : BitVec 32 := 1#32
  let arg11 : BitVec 32 := Scf.iv c0_i32_7 c1_i32 k0_t1
  let c1_i32_30 : BitVec 32 := 1#32
  let v64 : BitVec 32 := Scalar.muli arg11 c1_i32_30
  let v65 : BitVec 32 := Scalar.subi v64 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_33 : BitVec 32 := 1#32
  ⟨c0_i32_31, v69, c1_i32_33⟩
def k0_mult2 (k0_t1 : Fin k0_t1_loop.trips) (k0_t2 : Fin (k0_t2_loop k0_t1).trips) : BitVec 32 :=
  let c0_i32_31 : BitVec 32 := 0#32
  let c1_i32_33 : BitVec 32 := 1#32
  let arg12 : BitVec 32 := Scf.iv c0_i32_31 c1_i32_33 k0_t2
  let c512_i32_71 : BitVec 32 := 512#32
  let v156 : BitVec 32 := Scalar.muli arg12 c512_i32_71
  v156
def k0_off4 (k0_t1 : Fin k0_t1_loop.trips) (k0_t2 : Fin (k0_t2_loop k0_t1).trips) : Fin 2 → Nat :=
  let c0_i32_31 : BitVec 32 := 0#32
  let c1_i32_33 : BitVec 32 := 1#32
  let arg12 : BitVec 32 := Scf.iv c0_i32_31 c1_i32_33 k0_t2
  let c512_i32_71 : BitVec 32 := 512#32
  let v156 : BitVec 32 := Scalar.muli arg12 c512_i32_71
  let v157 : BitVec 32 := v156
  let v158 : Index := Scalar.indexCast v157
  let c0_72 : Index := 0#32
  ![v158.toNat, 0]
def k0_off5 (k0_t1 : Fin k0_t1_loop.trips) (k0_t2 : Fin (k0_t2_loop k0_t1).trips) : Fin 3 → Nat :=
  let c0_73 : Index := 0#32
  let c0_i32_31 : BitVec 32 := 0#32
  let c1_i32_33 : BitVec 32 := 1#32
  let arg12 : BitVec 32 := Scf.iv c0_i32_31 c1_i32_33 k0_t2
  let c512_i32_71 : BitVec 32 := 512#32
  let v156 : BitVec 32 := Scalar.muli arg12 c512_i32_71
  let v157 : BitVec 32 := v156
  let v161 : Index := Scalar.indexCast v157
  let c0_74 : Index := 0#32
  ![0, v161.toNat, 0]
def k0_off6 (k0_t1 : Fin k0_t1_loop.trips) (k0_t2 : Fin (k0_t2_loop k0_t1).trips) : Fin 3 → Nat :=
  let c1_86 : Index := 1#32
  let c0_i32_31 : BitVec 32 := 0#32
  let c1_i32_33 : BitVec 32 := 1#32
  let arg12 : BitVec 32 := Scf.iv c0_i32_31 c1_i32_33 k0_t2
  let c512_i32_71 : BitVec 32 := 512#32
  let v156 : BitVec 32 := Scalar.muli arg12 c512_i32_71
  let v157 : BitVec 32 := v156
  let v190 : Index := Scalar.indexCast v157
  let c0_87 : Index := 0#32
  ![1, v190.toNat, 0]
@[reducible] def k0_t3_loop (k0_t1 : Fin k0_t1_loop.trips) : Scf.Loop 32 :=
  let c0_i32_31 : BitVec 32 := 0#32
  let c0_i32_7 : BitVec 32 := 0#32
  let c1_i32 : BitVec 32 := 1#32
  let arg11 : BitVec 32 := Scf.iv c0_i32_7 c1_i32 k0_t1
  let c1_i32_30 : BitVec 32 := 1#32
  let v64 : BitVec 32 := Scalar.muli arg11 c1_i32_30
  let v65 : BitVec 32 := Scalar.subi v64 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let v66 : BitVec 32 := Scalar.addi c0_i32_31 v65
  let c1_i32_34 : BitVec 32 := 1#32
  ⟨v69, v66, c1_i32_34⟩
def k0_mult3 (k0_t1 : Fin k0_t1_loop.trips) (k0_t3 : Fin (k0_t3_loop k0_t1).trips) : BitVec 32 :=
  let c0_i32_31 : BitVec 32 := 0#32
  let c0_i32_7 : BitVec 32 := 0#32
  let c1_i32 : BitVec 32 := 1#32
  let arg11 : BitVec 32 := Scf.iv c0_i32_7 c1_i32 k0_t1
  let c1_i32_30 : BitVec 32 := 1#32
  let v64 : BitVec 32 := Scalar.muli arg11 c1_i32_30
  let v65 : BitVec 32 := Scalar.subi v64 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg12 : BitVec 32 := Scf.iv v69 c1_i32_34 k0_t3
  let c512_i32_71 : BitVec 32 := 512#32
  let v156 : BitVec 32 := Scalar.muli arg12 c512_i32_71
  v156
def k0_off7 (k0_t1 : Fin k0_t1_loop.trips) (k0_t3 : Fin (k0_t3_loop k0_t1).trips) : Fin 2 → Nat :=
  let c0_i32_31 : BitVec 32 := 0#32
  let c0_i32_7 : BitVec 32 := 0#32
  let c1_i32 : BitVec 32 := 1#32
  let arg11 : BitVec 32 := Scf.iv c0_i32_7 c1_i32 k0_t1
  let c1_i32_30 : BitVec 32 := 1#32
  let v64 : BitVec 32 := Scalar.muli arg11 c1_i32_30
  let v65 : BitVec 32 := Scalar.subi v64 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg12 : BitVec 32 := Scf.iv v69 c1_i32_34 k0_t3
  let c512_i32_71 : BitVec 32 := 512#32
  let v156 : BitVec 32 := Scalar.muli arg12 c512_i32_71
  let v157 : BitVec 32 := v156
  let v158 : Index := Scalar.indexCast v157
  let c0_72 : Index := 0#32
  ![v158.toNat, 0]
def k0_off8 (k0_t1 : Fin k0_t1_loop.trips) (k0_t3 : Fin (k0_t3_loop k0_t1).trips) : Fin 3 → Nat :=
  let c0_73 : Index := 0#32
  let c0_i32_31 : BitVec 32 := 0#32
  let c0_i32_7 : BitVec 32 := 0#32
  let c1_i32 : BitVec 32 := 1#32
  let arg11 : BitVec 32 := Scf.iv c0_i32_7 c1_i32 k0_t1
  let c1_i32_30 : BitVec 32 := 1#32
  let v64 : BitVec 32 := Scalar.muli arg11 c1_i32_30
  let v65 : BitVec 32 := Scalar.subi v64 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg12 : BitVec 32 := Scf.iv v69 c1_i32_34 k0_t3
  let c512_i32_71 : BitVec 32 := 512#32
  let v156 : BitVec 32 := Scalar.muli arg12 c512_i32_71
  let v157 : BitVec 32 := v156
  let v161 : Index := Scalar.indexCast v157
  let c0_74 : Index := 0#32
  ![0, v161.toNat, 0]
def k0_off9 (k0_t1 : Fin k0_t1_loop.trips) (k0_t3 : Fin (k0_t3_loop k0_t1).trips) : Fin 3 → Nat :=
  let c1_86 : Index := 1#32
  let c0_i32_31 : BitVec 32 := 0#32
  let c0_i32_7 : BitVec 32 := 0#32
  let c1_i32 : BitVec 32 := 1#32
  let arg11 : BitVec 32 := Scf.iv c0_i32_7 c1_i32 k0_t1
  let c1_i32_30 : BitVec 32 := 1#32
  let v64 : BitVec 32 := Scalar.muli arg11 c1_i32_30
  let v65 : BitVec 32 := Scalar.subi v64 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg12 : BitVec 32 := Scf.iv v69 c1_i32_34 k0_t3
  let c512_i32_71 : BitVec 32 := 512#32
  let v156 : BitVec 32 := Scalar.muli arg12 c512_i32_71
  let v157 : BitVec 32 := v156
  let v190 : Index := Scalar.indexCast v157
  let c0_87 : Index := 0#32
  ![1, v190.toNat, 0]
def k0_mult4 (k0_t1 : Fin k0_t1_loop.trips) : BitVec 32 :=
  let c0_i32_7 : BitVec 32 := 0#32
  let c1_i32 : BitVec 32 := 1#32
  let arg11 : BitVec 32 := Scf.iv c0_i32_7 c1_i32 k0_t1
  let c512_i32 : BitVec 32 := 512#32
  let v16 : BitVec 32 := Scalar.muli arg11 c512_i32
  let v17 : BitVec 32 := v16
  let c0_i32_35 : BitVec 32 := 0#32
  let v72 : BitVec 32 := Scalar.addi v17 c0_i32_35
  v72
def k0_off10 (k0_t1 : Fin k0_t1_loop.trips) : Fin 2 → Nat :=
  let c0_i32_7 : BitVec 32 := 0#32
  let c1_i32 : BitVec 32 := 1#32
  let arg11 : BitVec 32 := Scf.iv c0_i32_7 c1_i32 k0_t1
  let c512_i32 : BitVec 32 := 512#32
  let v16 : BitVec 32 := Scalar.muli arg11 c512_i32
  let v17 : BitVec 32 := v16
  let c0_i32_35 : BitVec 32 := 0#32
  let v72 : BitVec 32 := Scalar.addi v17 c0_i32_35
  let v73 : BitVec 32 := v72
  let v74 : Index := Scalar.indexCast v73
  let c0_36 : Index := 0#32
  ![v74.toNat, 0]
def k0_off11 (k0_t1 : Fin k0_t1_loop.trips) : Fin 3 → Nat :=
  let c0_37 : Index := 0#32
  let c0_i32_7 : BitVec 32 := 0#32
  let c1_i32 : BitVec 32 := 1#32
  let arg11 : BitVec 32 := Scf.iv c0_i32_7 c1_i32 k0_t1
  let c512_i32 : BitVec 32 := 512#32
  let v16 : BitVec 32 := Scalar.muli arg11 c512_i32
  let v17 : BitVec 32 := v16
  let c0_i32_35 : BitVec 32 := 0#32
  let v72 : BitVec 32 := Scalar.addi v17 c0_i32_35
  let v73 : BitVec 32 := v72
  let v77 : Index := Scalar.indexCast v73
  let c0_38 : Index := 0#32
  ![0, v77.toNat, 0]
def k0_off12 (k0_t1 : Fin k0_t1_loop.trips) : Fin 3 → Nat :=
  let c1_50 : Index := 1#32
  let c0_i32_7 : BitVec 32 := 0#32
  let c1_i32 : BitVec 32 := 1#32
  let arg11 : BitVec 32 := Scf.iv c0_i32_7 c1_i32 k0_t1
  let c512_i32 : BitVec 32 := 512#32
  let v16 : BitVec 32 := Scalar.muli arg11 c512_i32
  let v17 : BitVec 32 := v16
  let c0_i32_35 : BitVec 32 := 0#32
  let v72 : BitVec 32 := Scalar.addi v17 c0_i32_35
  let v73 : BitVec 32 := v72
  let v107 : Index := Scalar.indexCast v73
  let c0_51 : Index := 0#32
  ![1, v107.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8x2048x96 : Shape := ⟨4, ![2, 8, 2048, 96]⟩
abbrev S2x8x2048x64 : Shape := ⟨4, ![2, 8, 2048, 64]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S8x2x2048x96 : Shape := ⟨4, ![8, 2, 2048, 96]⟩
abbrev S8x4096x96 : Shape := ⟨3, ![8, 4096, 96]⟩
abbrev S8x4096x128 : Shape := ⟨3, ![8, 4096, 128]⟩
abbrev S2x2048x8x64 : Shape := ⟨4, ![2, 2048, 8, 64]⟩
abbrev S4096x512 : Shape := ⟨2, ![4096, 512]⟩

abbrev nBuf : Space → Nat
  | .hbm => 97
  | .vmem => 0
  | .smem => 0
  | _ => 0

abbrev bufTy : (tb : Table) → Fin (tcTables nBuf tb) → BufTy
  | .hbm, ⟨0, _⟩ => ⟨S2x8x2048x96, .f32⟩
  | .hbm, ⟨1, _⟩ => ⟨S2x8x2048x96, .f32⟩
  | .hbm, ⟨2, _⟩ => ⟨S2x8x2048x64, .f32⟩
  | .hbm, ⟨3, _⟩ => ⟨S2x8x2048x64, .f32⟩
  | .hbm, ⟨4, _⟩ => ⟨S2x8x2048x2048, .f32⟩
  | .hbm, ⟨5, _⟩ => ⟨S_, .f32⟩
  | .hbm, ⟨6, _⟩ => ⟨S2x8x2048x2048, .f32⟩
  | .hbm, ⟨7, _⟩ => ⟨S2x8x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2x8x2048x2048, .i1⟩
  | .hbm, ⟨17, _⟩ => ⟨S2x8x2048x2048, .f32⟩
  | .hbm, ⟨18, _⟩ => ⟨S2x8x2048x2048, .f32⟩
  | .hbm, ⟨19, _⟩ => ⟨S_, .f32⟩
  | .hbm, ⟨20, _⟩ => ⟨S2x8x2048x2048, .f32⟩
  | .hbm, ⟨21, _⟩ => ⟨S_, .f32⟩
  | .hbm, ⟨22, _⟩ => ⟨S2x8x2048, .f32⟩
  | .hbm, ⟨23, _⟩ => ⟨S2x8x2048x1, .f32⟩
  | .hbm, ⟨24, _⟩ => ⟨S2x8x2048x2048, .f32⟩
  | .hbm, ⟨25, _⟩ => ⟨S2x8x2048x2048, .i1⟩
  | .hbm, ⟨26, _⟩ => ⟨S2x8x2048x2048, .f32⟩
  | .hbm, ⟨27, _⟩ => ⟨S_, .f32⟩
  | .hbm, ⟨28, _⟩ => ⟨S2x8x2048, .f32⟩
  | .hbm, ⟨29, _⟩ => ⟨S_, .f32⟩
  | .hbm, ⟨30, _⟩ => ⟨S2x8x2048, .f32⟩
  | .hbm, ⟨31, _⟩ => ⟨S2x8x2048, .f32⟩
  | .hbm, ⟨32, _⟩ => ⟨S_, .f32⟩
  | .hbm, ⟨33, _⟩ => ⟨S2x8x2048, .f32⟩
  | .hbm, ⟨34, _⟩ => ⟨S2x8x2048, .i1⟩
  | .hbm, ⟨35, _⟩ => ⟨S_, .f32⟩
  | .hbm, ⟨36, _⟩ => ⟨S2x8x2048, .f32⟩
  | .hbm, ⟨37, _⟩ => ⟨S2x8x2048, .i1⟩
  | .hbm, ⟨38, _⟩ => ⟨S_, .f32⟩
  | .hbm, ⟨39, _⟩ => ⟨S2x8x2048, .f32⟩
  | .hbm, ⟨40, _⟩ => ⟨S_, .f32⟩
  | .hbm, ⟨41, _⟩ => ⟨S2x8x2048, .f32⟩
  | .hbm, ⟨42, _⟩ => ⟨S_, .f32⟩
  | .hbm, ⟨43, _⟩ => ⟨S2x8x2048, .f32⟩
  | .hbm, ⟨44, _⟩ => ⟨S2x8x2048, .f32⟩
  | .hbm, ⟨45, _⟩ => ⟨S2x8x2048, .f32⟩
  | .hbm, ⟨46, _⟩ => ⟨S2x8x2048x1, .f32⟩
  | .hbm, ⟨47, _⟩ => ⟨S2x8x2048x2048, .f32⟩
  | .hbm, ⟨48, _⟩ => ⟨S2x8x2048x2048, .f32⟩
  | .hbm, ⟨49, _⟩ => ⟨S2x8x2048x2048, .f32⟩
  | .hbm, ⟨50, _⟩ => ⟨S_, .f32⟩
  | .hbm, ⟨51, _⟩ => ⟨S2x8x2048, .f32⟩
  | .hbm, ⟨52, _⟩ => ⟨S2x8x2048x1, .f32⟩
  | .hbm, ⟨53, _⟩ => ⟨S2x8x2048x2048, .f32⟩
  | .hbm, ⟨54, _⟩ => ⟨S2x8x2048x2048, .f32⟩
  | .hbm, ⟨55, _⟩ => ⟨S2x8x2048x1, .f32⟩
  | .hbm, ⟨56, _⟩ => ⟨S_, .f32⟩
  | .hbm, ⟨57, _⟩ => ⟨S2x8x2048x1, .f32⟩
  | .hbm, ⟨58, _⟩ => ⟨S2x8x2048x1, .f32⟩
  | .hbm, ⟨59, _⟩ => ⟨S2x8x2048x64, .f32⟩
  | .hbm, ⟨60, _⟩ => ⟨S2x8x64x2048, .f32⟩
  | .hbm, ⟨61, _⟩ => ⟨S2x8x2048x64, .f32⟩
  | .hbm, ⟨62, _⟩ => ⟨S2x8x2048x2048, .f32⟩
  | .hbm, ⟨63, _⟩ => ⟨S2x8x2048x2048, .f32⟩
  | .hbm, ⟨64, _⟩ => ⟨S2x8x2048x2048, .f32⟩
  | .hbm, ⟨65, _⟩ => ⟨S2x8x2048x2048, .f32⟩
  | .hbm, ⟨66, _⟩ => ⟨S_, .f32⟩
  | .hbm, ⟨67, _⟩ => ⟨S2x8x2048, .f32⟩
  | .hbm, ⟨68, _⟩ => ⟨S2x8x2048x1, .f32⟩
  | .hbm, ⟨69, _⟩ => ⟨S2x8x2048x1, .f32⟩
  | .hbm, ⟨70, _⟩ => ⟨S2x8x2048x2048, .f32⟩
  | .hbm, ⟨71, _⟩ => ⟨S2x8x2048x2048, .f32⟩
  | .hbm, ⟨72, _⟩ => ⟨S_, .f32⟩
  | .hbm, ⟨73, _⟩ => ⟨S2x8x2048, .f32⟩
  | .hbm, ⟨74, _⟩ => ⟨S2x8x2048x2048, .f32⟩
  | .hbm, ⟨75, _⟩ => ⟨S2x8x2048x2048, .f32⟩
  | .hbm, ⟨76, _⟩ => ⟨S2x8x2048x2048, .f32⟩
  | .hbm, ⟨77, _⟩ => ⟨S_, .f32⟩
  | .hbm, ⟨78, _⟩ => ⟨S2x8x2048x2048, .f32⟩
  | .hbm, ⟨79, _⟩ => ⟨S2x8x2048x2048, .f32⟩
  | .hbm, ⟨80, _⟩ => ⟨S_, .f32⟩
  | .hbm, ⟨81, _⟩ => ⟨S2x8x2048x2048, .f32⟩
  | .hbm, ⟨82, _⟩ => ⟨S2x8x2048x2048, .f32⟩
  | .hbm, ⟨83, _⟩ => ⟨S2x8x2048x96, .f32⟩
  | .hbm, ⟨84, _⟩ => ⟨S2x8x2048x96, .f32⟩
  | .hbm, ⟨85, _⟩ => ⟨S8x2x2048x96, .f32⟩
  | .hbm, ⟨86, _⟩ => ⟨S8x4096x96, .f32⟩
  | .hbm, ⟨87, _⟩ => ⟨S_, .i32⟩
  | .hbm, ⟨88, _⟩ => ⟨S_, .f32⟩
  | .hbm, ⟨89, _⟩ => ⟨S8x4096x128, .f32⟩
  | .hbm, ⟨90, _⟩ => ⟨S8x2x2048x96, .f32⟩
  | .hbm, ⟨91, _⟩ => ⟨S8x4096x96, .f32⟩
  | .hbm, ⟨92, _⟩ => ⟨S_, .i32⟩
  | .hbm, ⟨93, _⟩ => ⟨S_, .f32⟩
  | .hbm, ⟨94, _⟩ => ⟨S8x4096x128, .f32⟩
  | .hbm, ⟨95, _⟩ => ⟨S2x2048x8x64, .f32⟩
  | .hbm, ⟨96, _⟩ => ⟨S4096x512, .f32⟩
  | _, _ => ⟨S2x8x2048x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c : Ref sig .tc := ⟨.hbm, 87, rfl⟩
abbrev main_call2_v0 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_call3_v0 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x11168 : Shape := ⟨2, ![1024, 11168]⟩
abbrev S4096x11168 : Shape := ⟨2, ![4096, 11168]⟩
abbrev S4096x2464 : Shape := ⟨2, ![4096, 2464]⟩
abbrev S_ : Shape := ⟨0, ![]⟩
abbrev S4096x96 : Shape := ⟨2, ![4096, 96]⟩
abbrev S4096x8704 : Shape := ⟨2, ![4096, 8704]⟩
abbrev S4096x11264 : Shape := ⟨2, ![4096, 11264]⟩
abbrev S1024x2464 : Shape := ⟨2, ![1024, 2464]⟩
abbrev S1024x96 : Shape := ⟨2, ![1024, 96]⟩
abbrev S1024x8704 : Shape := ⟨2, ![1024, 8704]⟩
abbrev S1024x11264 : Shape := ⟨2, ![1024, 11264]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 20
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x11168, .f32⟩
  | .hbm, ⟨3, _⟩ => ⟨S4096x11168, .f32⟩
  | .hbm, ⟨4, _⟩ => ⟨S4096x1024, .f32⟩
  | .hbm, ⟨5, _⟩ => ⟨S4096x2464, .f32⟩
  | .hbm, ⟨6, _⟩ => ⟨S_, .f32⟩
  | .hbm, ⟨7, _⟩ => ⟨S4096x96, .f32⟩
  | .hbm, ⟨8, _⟩ => ⟨S4096x8704, .f32⟩
  | .hbm, ⟨9, _⟩ => ⟨S4096x11264, .f32⟩
  | .hbm, ⟨10, _⟩ => ⟨S4096x11264, .bf16⟩
  | .hbm, ⟨11, _⟩ => ⟨S1024x2464, .f32⟩
  | .hbm, ⟨12, _⟩ => ⟨S_, .f32⟩
  | .hbm, ⟨13, _⟩ => ⟨S1024x96, .f32⟩
  | .hbm, ⟨14, _⟩ => ⟨S1024x8704, .f32⟩
  | .hbm, ⟨15, _⟩ => ⟨S1024x11264, .f32⟩
  | .hbm, ⟨16, _⟩ => ⟨S1024x11264, .bf16⟩
  | .hbm, ⟨17, _⟩ => ⟨S1x1024, .f32⟩
  | .hbm, ⟨18, _⟩ => ⟨S4096x1024, .f32⟩
  | .hbm, ⟨19, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 11], ![false, false]⟩

def k0_cond3 (i : grid0.Coords) : BitVec 1 :=
  let arg1 : BitVec 32 := BitVec.ofNat 32 (i 1).val
  let c10_i32 : BitVec 32 := 10#32
  let v18 : BitVec 1 := Scalar.cmpi .eq arg1 c10_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference2Ideal.lean ====
abbrev S4096x1024 : Shape := ⟨2, ![4096, 1024]⟩
abbrev S1024 : Shape := ⟨1, ![1024]⟩
abbrev S1024x11168 : Shape := ⟨2, ![1024, 11168]⟩
abbrev S4096x11168 : Shape := ⟨2, ![4096, 11168]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x11168, .f32⟩
  | .hbm, ⟨3, _⟩ => ⟨S4096x11168, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x11168, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S4096x11168 : Shape := ⟨2, ![4096, 11168]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩
abbrev S4096x2464 : Shape := ⟨2, ![4096, 2464]⟩
abbrev S4096x96 : Shape := ⟨2, ![4096, 96]⟩
abbrev S4096x8704 : Shape := ⟨2, ![4096, 8704]⟩
abbrev S4096x11264 : Shape := ⟨2, ![4096, 11264]⟩
abbrev S1024x11264 : Shape := ⟨2, ![1024, 11264]⟩
abbrev S1024x1024 : Shape := ⟨2, ![1024, 1024]⟩
abbrev S1024x2816 : Shape := ⟨2, ![1024, 2816]⟩

abbrev nBuf : Space → Nat
  | .hbm => 28
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x11168, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x4096, .f32⟩
  | .hbm, ⟨20, _⟩ => ⟨S1024x4096, .bf16⟩
  | .hbm, ⟨21, _⟩ => ⟨S4096x2464, .f32⟩
  | .hbm, ⟨22, _⟩ => ⟨S_, .f32⟩
  | .hbm, ⟨23, _⟩ => ⟨S4096x96, .f32⟩
  | .hbm, ⟨24, _⟩ => ⟨S4096x8704, .f32⟩
  | .hbm, ⟨25, _⟩ => ⟨S4096x11264, .f32⟩
  | .hbm, ⟨26, _⟩ => ⟨S4096x11264, .bf16⟩
  | .hbm, ⟨27, _⟩ => ⟨S1024x11264, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S1024 : Shape := ⟨1, ![1024]⟩
abbrev S4096x11168 : Shape := ⟨2, ![4096, 11168]⟩
abbrev S_ : Shape := ⟨0, ![]⟩
abbrev S1024x11168 : Shape := ⟨2, ![1024, 11168]⟩
abbrev S4096 : Shape := ⟨1, ![4096]⟩
abbrev S4096x1 : Shape := ⟨2, ![4096, 1]⟩
abbrev S1x1024 : Shape := ⟨2, ![1, 1024]⟩
abbrev S11168x1024 : Shape := ⟨2, ![11168, 1024]⟩
abbrev S1024x2464 : Shape := ⟨2, ![1024, 2464]⟩
abbrev S1024x2560 : Shape := ⟨2, ![1024, 2560]⟩
abbrev S1024x8704 : Shape := ⟨2, ![1024, 8704]⟩
abbrev S1024x11264 : Shape := ⟨2, ![1024, 11264]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x11168, .f32⟩
  | .hbm, ⟨3, _⟩ => ⟨S_, .f32⟩
  | .hbm, ⟨4, _⟩ => ⟨S1024x11168, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x11168, .f32⟩
  | .hbm, ⟨22, _⟩ => ⟨S11168x1024, .f32⟩
  | .hbm, ⟨23, _⟩ => ⟨S1024x11168, .f32⟩
  | .hbm, ⟨24, _⟩ => ⟨S1024x2464, .f32⟩
  | .hbm, ⟨25, _⟩ => ⟨S_, .i32⟩
  | .hbm, ⟨26, _⟩ => ⟨S_, .f32⟩
  | .hbm, ⟨27, _⟩ => ⟨S1024x2560, .f32⟩
  | .hbm, ⟨28, _⟩ => ⟨S1024x8704, .f32⟩
  | .hbm, ⟨29, _⟩ => ⟨S1024x11264, .f32⟩
  | .hbm, ⟨30, _⟩ => ⟨S1024x11264, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x11168 : Shape := ⟨2, ![1024, 11168]⟩
abbrev S1x1024 : Shape := ⟨2, ![1, 1024]⟩
abbrev S1024x2464 : Shape := ⟨2, ![1024, 2464]⟩
abbrev S_ : Shape := ⟨0, ![]⟩
abbrev S1024x96 : Shape := ⟨2, ![1024, 96]⟩
abbrev S1024x8704 : Shape := ⟨2, ![1024, 8704]⟩
abbrev S1024x11264 : Shape := ⟨2, ![1024, 11264]⟩
abbrev S4096x11264 : Shape := ⟨2, ![4096, 11264]⟩
abbrev S1024x4096 : Shape := ⟨2, ![1024, 4096]⟩
abbrev S2048x1024 : Shape := ⟨2, ![2048, 1024]⟩
abbrev S1024x512 : Shape := ⟨2, ![1024, 512]⟩
abbrev S2048x512 : Shape := ⟨2, ![2048, 512]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x11168, .f32⟩
  | .hbm, ⟨3, _⟩ => ⟨S1x1024, .f32⟩
  | .hbm, ⟨4, _⟩ => ⟨S1024x2464, .f32⟩
  | .hbm, ⟨5, _⟩ => ⟨S_, .f32⟩
  | .hbm, ⟨6, _⟩ => ⟨S1024x96, .f32⟩
  | .hbm, ⟨7, _⟩ => ⟨S1024x8704, .f32⟩
  | .hbm, ⟨8, _⟩ => ⟨S1024x11264, .f32⟩
  | .hbm, ⟨9, _⟩ => ⟨S1024x11264, .bf16⟩
  | .hbm, ⟨10, _⟩ => ⟨S4096x11264, .bf16⟩
  | .hbm, ⟨11, _⟩ => ⟨S1024x4096, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S2048x512, .bf16⟩
  | .local _ .vmem, ⟨6, _⟩ => ⟨S2048x512, .bf16⟩
  | .local _ .vmem, ⟨7, _⟩ => ⟨S1024x2048, .bf16⟩
  | .local _ .vmem, ⟨8, _⟩ => ⟨S1024x2048, .bf16⟩
  | .local _ .vmem, ⟨9, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S4096x1024 : Shape := ⟨2, ![4096, 1024]⟩
abbrev S1024 : Shape := ⟨1, ![1024]⟩
abbrev S1024x11168 : Shape := ⟨2, ![1024, 11168]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x11168 : Shape := ⟨2, ![4096, 11168]⟩
abbrev S4096x2464 : Shape := ⟨2, ![4096, 2464]⟩
abbrev S4096x2560 : Shape := ⟨2, ![4096, 2560]⟩
abbrev S4096x8704 : Shape := ⟨2, ![4096, 8704]⟩
abbrev S4096x11264 : Shape := ⟨2, ![4096, 11264]⟩
abbrev S1024x4096 : Shape := ⟨2, ![1024, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x11168, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x11168, .f32⟩
  | .hbm, ⟨20, _⟩ => ⟨S4096x2464, .f32⟩
  | .hbm, ⟨21, _⟩ => ⟨S_, .i32⟩
  | .hbm, ⟨22, _⟩ => ⟨S_, .f32⟩
  | .hbm, ⟨23, _⟩ => ⟨S4096x2560, .f32⟩
  | .hbm, ⟨24, _⟩ => ⟨S4096x8704, .f32⟩
  | .hbm, ⟨25, _⟩ => ⟨S4096x11264, .f32⟩
  | .hbm, ⟨26, _⟩ => ⟨S4096x11264, .bf16⟩
  | .hbm, ⟨27, _⟩ => ⟨S1024x4096, .f32⟩
  | .hbm, ⟨28, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel5.lean ====
abbrev S4096x1024 : Shape := ⟨2, ![4096, 1024]⟩
abbrev S4096x11168 : Shape := ⟨2, ![4096, 11168]⟩
abbrev S3072 : Shape := ⟨1, ![3072]⟩
abbrev S4096x512 : Shape := ⟨2, ![4096, 512]⟩
abbrev S4096x8x64 : Shape := ⟨3, ![4096, 8, 64]⟩
abbrev S4096x8 : Shape := ⟨2, ![4096, 8]⟩
abbrev S512x1024 : Shape := ⟨2, ![512, 1024]⟩
abbrev S1024x1024 : Shape := ⟨2, ![1024, 1024]⟩
abbrev S4096x2464 : Shape := ⟨2, ![4096, 2464]⟩
abbrev S_ : Shape := ⟨0, ![]⟩
abbrev S4096x96 : Shape := ⟨2, ![4096, 96]⟩
abbrev S4096x8704 : Shape := ⟨2, ![4096, 8704]⟩
abbrev S4096x11264 : Shape := ⟨2, ![4096, 11264]⟩
abbrev S1x3072 : Shape := ⟨2, ![1, 3072]⟩
abbrev S4096x8x1 : Shape := ⟨3, ![4096, 8, 1]⟩
abbrev S256x1024 : Shape := ⟨2, ![256, 1024]⟩
abbrev S256x512 : Shape := ⟨2, ![256, 512]⟩
abbrev S1x1024 : Shape := ⟨2, ![1, 1024]⟩

abbrev nBuf : Space → Nat
  | .hbm => 40
  | .vmem => 35
  | .smem => 0
  | _ => 0

abbrev bufTy : (tb : Table) → Fin (tcTables nBuf tb) → BufTy
  | .hbm, ⟨0, _⟩ => ⟨S4096x1024, .f32⟩
  | .hbm, ⟨1, _⟩ => ⟨S4096x11168, .f32⟩
  | .hbm, ⟨2, _⟩ => ⟨S3072, .f32⟩
  | .hbm, ⟨3, _⟩ => ⟨S4096x512, .f32⟩
  | .hbm, ⟨4, _⟩ => ⟨S4096x512, .f32⟩
  | .hbm, ⟨5, _⟩ => ⟨S4096x8x64, .f32⟩
  | .hbm, ⟨6, _⟩ => ⟨S4096x8x64, .f32⟩
  | .hbm, ⟨7, _⟩ => ⟨S4096x8x64, .f32⟩
  | .hbm, ⟨8, _⟩ => ⟨S4096x8, .f32⟩
  | .hbm, ⟨9, _⟩ => ⟨S4096x8, .f32⟩
  | .hbm, ⟨10, _⟩ => ⟨S4096x8, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S4096x2464, .f32⟩
  | .hbm, ⟨16, _⟩ => ⟨S_, .f32⟩
  | .hbm, ⟨17, _⟩ => ⟨S4096x96, .f32⟩
  | .hbm, ⟨18, _⟩ => ⟨S4096x8704, .f32⟩
  | .hbm, ⟨19, _⟩ => ⟨S4096x11264, .f32⟩
  | .hbm, ⟨20, _⟩ => ⟨S4096x11264, .bf16⟩
  | .hbm, ⟨21, _⟩ => ⟨S1x3072, .f32⟩
  | .hbm, ⟨22, _⟩ => ⟨S4096x512, .bf16⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x8x1, .f32⟩
  | .hbm, ⟨27, _⟩ => ⟨S4096x8x64, .f32⟩
  | .hbm, ⟨28, _⟩ => ⟨S4096x512, .f32⟩
  | .hbm, ⟨29, _⟩ => ⟨S4096x8x1, .f32⟩
  | .hbm, ⟨30, _⟩ => ⟨S4096x8x64, .f32⟩
  | .hbm, ⟨31, _⟩ => ⟨S4096x512, .f32⟩
  | .hbm, ⟨32, _⟩ => ⟨S4096x8x1, .f32⟩
  | .hbm, ⟨33, _⟩ => ⟨S4096x8x64, .f32⟩
  | .hbm, ⟨34, _⟩ => ⟨S4096x512, .f32⟩
  | .hbm, ⟨35, _⟩ => ⟨S512x1024, .bf16⟩
  | .hbm, ⟨36, _⟩ => ⟨S512x1024, .bf16⟩
  | .hbm, ⟨37, _⟩ => ⟨S512x1024, .bf16⟩
  | .hbm, ⟨38, _⟩ => ⟨S1024x1024, .bf16⟩
  | .hbm, ⟨39, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1x3072, .f32⟩
  | .local _ .vmem, ⟨13, _⟩ => ⟨S256x512, .bf16⟩
  | .local _ .vmem, ⟨14, _⟩ => ⟨S256x512, .bf16⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S1024x1024, .bf16⟩
  | .local _ .vmem, ⟨33, _⟩ => ⟨S256x1024, .f32⟩
  | .local _ .vmem, ⟨34, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg19_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference5Ideal.lean ====
abbrev S4096x1024 : Shape := ⟨2, ![4096, 1024]⟩
abbrev S4096x11168 : Shape := ⟨2, ![4096, 11168]⟩
abbrev S3072 : Shape := ⟨1, ![3072]⟩
abbrev S4096x512 : Shape := ⟨2, ![4096, 512]⟩
abbrev S4096x8x64 : Shape := ⟨3, ![4096, 8, 64]⟩
abbrev S4096x8 : Shape := ⟨2, ![4096, 8]⟩
abbrev S512x1024 : Shape := ⟨2, ![512, 1024]⟩
abbrev S1024x1024 : Shape := ⟨2, ![1024, 1024]⟩
abbrev S4096x3072 : Shape := ⟨2, ![4096, 3072]⟩
abbrev S_ : Shape := ⟨0, ![]⟩
abbrev S1x4096x8 : Shape := ⟨3, ![1, 4096, 8]⟩
abbrev S3x4096x8 : Shape := ⟨3, ![3, 4096, 8]⟩
abbrev S3x4096x8x1 : Shape := ⟨4, ![3, 4096, 8, 1]⟩
abbrev S1x4096x8x64 : Shape := ⟨4, ![1, 4096, 8, 64]⟩
abbrev S3x4096x8x64 : Shape := ⟨4, ![3, 4096, 8, 64]⟩
abbrev S1x3072 : Shape := ⟨2, ![1, 3072]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x11168, .f32⟩
  | .hbm, ⟨2, _⟩ => ⟨S3072, .f32⟩
  | .hbm, ⟨3, _⟩ => ⟨S4096x512, .f32⟩
  | .hbm, ⟨4, _⟩ => ⟨S4096x512, .f32⟩
  | .hbm, ⟨5, _⟩ => ⟨S4096x8x64, .f32⟩
  | .hbm, ⟨6, _⟩ => ⟨S4096x8x64, .f32⟩
  | .hbm, ⟨7, _⟩ => ⟨S4096x8x64, .f32⟩
  | .hbm, ⟨8, _⟩ => ⟨S4096x8, .f32⟩
  | .hbm, ⟨9, _⟩ => ⟨S4096x8, .f32⟩
  | .hbm, ⟨10, _⟩ => ⟨S4096x8, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S4096x512, .f32⟩
  | .hbm, ⟨16, _⟩ => ⟨S4096x512, .f32⟩
  | .hbm, ⟨17, _⟩ => ⟨S4096x3072, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S1x4096x8, .f32⟩
  | .hbm, ⟨29, _⟩ => ⟨S1x4096x8, .f32⟩
  | .hbm, ⟨30, _⟩ => ⟨S1x4096x8, .f32⟩
  | .hbm, ⟨31, _⟩ => ⟨S3x4096x8, .f32⟩
  | .hbm, ⟨32, _⟩ => ⟨S_, .f32⟩
  | .hbm, ⟨33, _⟩ => ⟨S4096x8, .f32⟩
  | .hbm, ⟨34, _⟩ => ⟨S_, .f32⟩
  | .hbm, ⟨35, _⟩ => ⟨S4096x8, .f32⟩
  | .hbm, ⟨36, _⟩ => ⟨S4096x8, .f32⟩
  | .hbm, ⟨37, _⟩ => ⟨S1x4096x8, .f32⟩
  | .hbm, ⟨38, _⟩ => ⟨S3x4096x8, .f32⟩
  | .hbm, ⟨39, _⟩ => ⟨S3x4096x8, .f32⟩
  | .hbm, ⟨40, _⟩ => ⟨S3x4096x8, .f32⟩
  | .hbm, ⟨41, _⟩ => ⟨S_, .f32⟩
  | .hbm, ⟨42, _⟩ => ⟨S4096x8, .f32⟩
  | .hbm, ⟨43, _⟩ => ⟨S1x4096x8, .f32⟩
  | .hbm, ⟨44, _⟩ => ⟨S3x4096x8, .f32⟩
  | .hbm, ⟨45, _⟩ => ⟨S3x4096x8, .f32⟩
  | .hbm, ⟨46, _⟩ => ⟨S3x4096x8x1, .f32⟩
  | .hbm, ⟨47, _⟩ => ⟨S1x4096x8x64, .f32⟩
  | .hbm, ⟨48, _⟩ => ⟨S1x4096x8x64, .f32⟩
  | .hbm, ⟨49, _⟩ => ⟨S1x4096x8x64, .f32⟩
  | .hbm, ⟨50, _⟩ => ⟨S3x4096x8x64, .f32⟩
  | .hbm, ⟨51, _⟩ => ⟨S3x4096x8x64, .f32⟩
  | .hbm, ⟨52, _⟩ => ⟨S3x4096x8x64, .f32⟩
  | .hbm, ⟨53, _⟩ => ⟨S_, .f32⟩
  | .hbm, ⟨54, _⟩ => ⟨S4096x8x64, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S_, .f32⟩
  | .hbm, ⟨59, _⟩ => ⟨S4096x512, .f32⟩
  | .hbm, ⟨60, _⟩ => ⟨S4096x512, .f32⟩
  | .hbm, ⟨61, _⟩ => ⟨S_, .f32⟩
  | .hbm, ⟨62, _⟩ => ⟨S4096x512, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S1x3072, .f32⟩
  | .hbm, ⟨67, _⟩ => ⟨S4096x3072, .f32⟩
  | .hbm, ⟨68, _⟩ => ⟨S4096x3072, .f32⟩
  | .hbm, ⟨69, _⟩ => ⟨S4096x3072, .f32⟩
  | .hbm, ⟨70, _⟩ => ⟨S4096x3072, .f32⟩
  | .hbm, ⟨71, _⟩ => ⟨S_, .f32⟩
  | .hbm, ⟨72, _⟩ => ⟨S4096x3072, .f32⟩
  | .hbm, ⟨73, _⟩ => ⟨S4096x3072, .f32⟩
  | .hbm, ⟨74, _⟩ => ⟨S_, .f32⟩
  | .hbm, ⟨75, _⟩ => ⟨S4096x3072, .f32⟩
  | .hbm, ⟨76, _⟩ => ⟨S4096x3072, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_cst_0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_2 : Ref sig .tc := ⟨.hbm, 53, rfl⟩
abbrev main_v27 : Ref sig .tc := ⟨.hbm, 54, rfl⟩
abbrev main_v28 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_3 : Ref sig .tc := ⟨.hbm, 71, rfl⟩
abbrev main_v36 : Ref sig .tc := ⟨.hbm, 72, rfl⟩
abbrev main_v37 : Ref sig .tc := ⟨.hbm, 73, rfl⟩
abbrev main_cst_4 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S4096x1024, .bf16⟩
  | .hbm, ⟨4, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x11168 : Shape := ⟨2, ![4096, 11168]⟩
abbrev S3x512 : Shape := ⟨2, ![3, 512]⟩
abbrev S512 : Shape := ⟨1, ![512]⟩
abbrev S4096x2464 : Shape := ⟨2, ![4096, 2464]⟩
abbrev S_ : Shape := ⟨0, ![]⟩
abbrev S4096x96 : Shape := ⟨2, ![4096, 96]⟩
abbrev S4096x8704 : Shape := ⟨2, ![4096, 8704]⟩
abbrev S4096x11264 : Shape := ⟨2, ![4096, 11264]⟩
abbrev S1x512 : Shape := ⟨2, ![1, 512]⟩
abbrev S4096x512 : Shape := ⟨2, ![4096, 512]⟩
abbrev S2048x128 : Shape := ⟨2, ![2048, 128]⟩
abbrev S3x128 : Shape := ⟨2, ![3, 128]⟩
abbrev S1x128 : Shape := ⟨2, ![1, 128]⟩

abbrev nBuf : Space → Nat
  | .hbm => 11
  | .vmem => 14
  | .smem => 0
  | _ => 0

abbrev bufTy : (tb : Table) → Fin (tcTables nBuf tb) → BufTy
  | .hbm, ⟨0, _⟩ => ⟨S4096x11168, .f32⟩
  | .hbm, ⟨1, _⟩ => ⟨S3x512, .f32⟩
  | .hbm, ⟨2, _⟩ => ⟨S512, .f32⟩
  | .hbm, ⟨3, _⟩ => ⟨S4096x2464, .f32⟩
  | .hbm, ⟨4, _⟩ => ⟨S_, .f32⟩
  | .hbm, ⟨5, _⟩ => ⟨S4096x96, .f32⟩
  | .hbm, ⟨6, _⟩ => ⟨S4096x8704, .f32⟩
  | .hbm, ⟨7, _⟩ => ⟨S4096x11264, .f32⟩
  | .hbm, ⟨8, _⟩ => ⟨S4096x11264, .bf16⟩
  | .hbm, ⟨9, _⟩ => ⟨S1x512, .f32⟩
  | .hbm, ⟨10, _⟩ => ⟨S4096x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S3x128, .f32⟩
  | .local _ .vmem, ⟨9, _⟩ => ⟨S3x128, .f32⟩
  | .local _ .vmem, ⟨10, _⟩ => ⟨S1x128, .f32⟩
  | .local _ .vmem, ⟨11, _⟩ => ⟨S1x128, .f32⟩
  | .local _ .vmem, ⟨12, _⟩ => ⟨S2048x128, .bf16⟩
  | .local _ .vmem, ⟨13, _⟩ => ⟨S2048x128, .bf16⟩
  | _, _ => ⟨S4096x11168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S4096x11168 : Shape := ⟨2, ![4096, 11168]⟩
abbrev S3x512 : Shape := ⟨2, ![3, 512]⟩
abbrev S512 : Shape := ⟨1, ![512]⟩
abbrev S2x2048x11168 : Shape := ⟨3, ![2, 2048, 11168]⟩
abbrev S2x2048x512 : Shape := ⟨3, ![2, 2048, 512]⟩
abbrev S2x2048x9120 : Shape := ⟨3, ![2, 2048, 9120]⟩
abbrev S_ : Shape := ⟨0, ![]⟩
abbrev S2x2050x512 : Shape := ⟨3, ![2, 2050, 512]⟩
abbrev S1x512 : Shape := ⟨2, ![1, 512]⟩
abbrev S1x1x512 : Shape := ⟨3, ![1, 1, 512]⟩
abbrev S4096x512 : Shape := ⟨2, ![4096, 512]⟩

abbrev nBuf : Space → Nat
  | .hbm => 49
  | .vmem => 0
  | .smem => 0
  | _ => 0

abbrev bufTy : (tb : Table) → Fin (tcTables nBuf tb) → BufTy
  | .hbm, ⟨0, _⟩ => ⟨S4096x11168, .f32⟩
  | .hbm, ⟨1, _⟩ => ⟨S3x512, .f32⟩
  | .hbm, ⟨2, _⟩ => ⟨S512, .f32⟩
  | .hbm, ⟨3, _⟩ => ⟨S2x2048x11168, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S2x2048x9120, .f32⟩
  | .hbm, ⟨9, _⟩ => ⟨S2x2048x512, .f32⟩
  | .hbm, ⟨10, _⟩ => ⟨S_, .i32⟩
  | .hbm, ⟨11, _⟩ => ⟨S_, .f32⟩
  | .hbm, ⟨12, _⟩ => ⟨S2x2050x512, .f32⟩
  | .hbm, ⟨13, _⟩ => ⟨S2x2048x512, .f32⟩
  | .hbm, ⟨14, _⟩ => ⟨S1x512, .f32⟩
  | .hbm, ⟨15, _⟩ => ⟨S512, .f32⟩
  | .hbm, ⟨16, _⟩ => ⟨S1x1x512, .f32⟩
  | .hbm, ⟨17, _⟩ => ⟨S2x2048x512, .f32⟩
  | .hbm, ⟨18, _⟩ => ⟨S2x2048x512, .f32⟩
  | .hbm, ⟨19, _⟩ => ⟨S1x1x512, .f32⟩
  | .hbm, ⟨20, _⟩ => ⟨S2x2048x512, .f32⟩
  | .hbm, ⟨21, _⟩ => ⟨S2x2048x512, .f32⟩
  | .hbm, ⟨22, _⟩ => ⟨S2x2048x512, .f32⟩
  | .hbm, ⟨23, _⟩ => ⟨S1x512, .f32⟩
  | .hbm, ⟨24, _⟩ => ⟨S512, .f32⟩
  | .hbm, ⟨25, _⟩ => ⟨S1x1x512, .f32⟩
  | .hbm, ⟨26, _⟩ => ⟨S2x2048x512, .f32⟩
  | .hbm, ⟨27, _⟩ => ⟨S2x2048x512, .f32⟩
  | .hbm, ⟨28, _⟩ => ⟨S2x2048x512, .f32⟩
  | .hbm, ⟨29, _⟩ => ⟨S2x2048x512, .f32⟩
  | .hbm, ⟨30, _⟩ => ⟨S1x512, .f32⟩
  | .hbm, ⟨31, _⟩ => ⟨S512, .f32⟩
  | .hbm, ⟨32, _⟩ => ⟨S1x1x512, .f32⟩
  | .hbm, ⟨33, _⟩ => ⟨S2x2048x512, .f32⟩
  | .hbm, ⟨34, _⟩ => ⟨S2x2048x512, .f32⟩
  | .hbm, ⟨35, _⟩ => ⟨S2x2048x512, .f32⟩
  | .hbm, ⟨36, _⟩ => ⟨S2x2048x512, .f32⟩
  | .hbm, ⟨37, _⟩ => ⟨S2x2048x512, .f32⟩
  | .hbm, ⟨38, _⟩ => ⟨S2x2048x512, .f32⟩
  | .hbm, ⟨39, _⟩ => ⟨S_, .f32⟩
  | .hbm, ⟨40, _⟩ => ⟨S2x2048x512, .f32⟩
  | .hbm, ⟨41, _⟩ => ⟨S2x2048x512, .f32⟩
  | .hbm, ⟨42, _⟩ => ⟨S_, .f32⟩
  | .hbm, ⟨43, _⟩ => ⟨S2x2048x512, .f32⟩
  | .hbm, ⟨44, _⟩ => ⟨S2x2048x512, .f32⟩
  | .hbm, ⟨45, _⟩ => ⟨S2x2048x512, .f32⟩
  | .hbm, ⟨46, _⟩ => ⟨S2x2048x512, .f32⟩
  | .hbm, ⟨47, _⟩ => ⟨S4096x512, .f32⟩
  | .hbm, ⟨48, _⟩ => ⟨S4096x512, .bf16⟩
  | _, _ => ⟨S4096x11168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel9.lean ====
abbrev S2x8x2048x96 : Shape := ⟨4, ![2, 8, 2048, 96]⟩
abbrev S2x8x2048x64 : Shape := ⟨4, ![2, 8, 2048, 64]⟩
abbrev S8x2x2048x96 : Shape := ⟨4, ![8, 2, 2048, 96]⟩
abbrev S8x4096x96 : Shape := ⟨3, ![8, 4096, 96]⟩
abbrev S_ : Shape := ⟨0, ![]⟩
abbrev S8x4096x128 : Shape := ⟨3, ![8, 4096, 128]⟩
abbrev S2x2048x8x64 : Shape := ⟨4, ![2, 2048, 8, 64]⟩
abbrev S4096x512 : Shape := ⟨2, ![4096, 512]⟩
abbrev S2x2048x128 : Shape := ⟨3, ![2, 2048, 128]⟩
abbrev S2048x128 : Shape := ⟨2, ![2048, 128]⟩
abbrev S512x128 : Shape := ⟨2, ![512, 128]⟩
abbrev S512x512 : Shape := ⟨2, ![512, 512]⟩
abbrev S1x512x128 : Shape := ⟨3, ![1, 512, 128]⟩
abbrev S512x1 : Shape := ⟨2, ![512, 1]⟩
abbrev S512 : Shape := ⟨1, ![512]⟩

abbrev nBuf : Space → Nat
  | .hbm => 20
  | .vmem => 10
  | .smem => 0
  | _ => 0

abbrev bufTy : (tb : Table) → Fin (tcTables nBuf tb) → BufTy
  | .hbm, ⟨0, _⟩ => ⟨S2x8x2048x96, .f32⟩
  | .hbm, ⟨1, _⟩ => ⟨S2x8x2048x96, .f32⟩
  | .hbm, ⟨2, _⟩ => ⟨S2x8x2048x64, .f32⟩
  | .hbm, ⟨3, _⟩ => ⟨S8x2x2048x96, .f32⟩
  | .hbm, ⟨4, _⟩ => ⟨S8x4096x96, .f32⟩
  | .hbm, ⟨5, _⟩ => ⟨S_, .i32⟩
  | .hbm, ⟨6, _⟩ => ⟨S_, .f32⟩
  | .hbm, ⟨7, _⟩ => ⟨S8x4096x128, .f32⟩
  | .hbm, ⟨8, _⟩ => ⟨S8x4096x128, .bf16⟩
  | .hbm, ⟨9, _⟩ => ⟨S8x2x2048x96, .f32⟩
  | .hbm, ⟨10, _⟩ => ⟨S8x4096x96, .f32⟩
  | .hbm, ⟨11, _⟩ => ⟨S_, .i32⟩
  | .hbm, ⟨12, _⟩ => ⟨S_, .f32⟩
  | .hbm, ⟨13, _⟩ => ⟨S8x4096x128, .f32⟩
  | .hbm, ⟨14, _⟩ => ⟨S8x4096x128, .bf16⟩
  | .hbm, ⟨15, _⟩ => ⟨S2x2048x8x64, .f32⟩
  | .hbm, ⟨16, _⟩ => ⟨S4096x512, .f32⟩
  | .hbm, ⟨17, _⟩ => ⟨S4096x512, .bf16⟩
  | .hbm, ⟨18, _⟩ => ⟨S4096x512, .f32⟩
  | .hbm, ⟨19, _⟩ => ⟨S4096x512, .f32⟩
  | .local _ .vmem, ⟨0, _⟩ => ⟨S2x2048x128, .bf16⟩
  | .local _ .vmem, ⟨1, _⟩ => ⟨S2x2048x128, .bf16⟩
  | .local _ .vmem, ⟨2, _⟩ => ⟨S2x2048x128, .bf16⟩
  | .local _ .vmem, ⟨3, _⟩ => ⟨S2x2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | _, _ => ⟨S2x8x2048x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_2 : BitVec 32 := 0#32
  let c4_i32 : BitVec 32 := 4#32
  let v14 : BitVec 32 := Scalar.addi c0_i32_2 c4_i32
  let c1_i32 : BitVec 32 := 1#32
  ⟨c0_i32_2, v14, c1_i32⟩
def k0_mult1 (k0_t1 : Fin k0_t1_loop.trips) : BitVec 32 :=
  let c0_i32_2 : BitVec 32 := 0#32
  let c1_i32 : BitVec 32 := 1#32
  let arg7 : BitVec 32 := Scf.iv c0_i32_2 c1_i32 k0_t1
  let c512_i32 : BitVec 32 := 512#32
  let v15 : BitVec 32 := Scalar.muli arg7 c512_i32
  v15
def k0_off1 (k0_t1 : Fin k0_t1_loop.trips) : Fin 3 → Nat :=
  let c0 : Index := 0#32
  let c0_i32_2 : BitVec 32 := 0#32
  let c1_i32 : BitVec 32 := 1#32
  let arg7 : BitVec 32 := Scf.iv c0_i32_2 c1_i32 k0_t1
  let c512_i32 : BitVec 32 := 512#32
  let v15 : BitVec 32 := Scalar.muli arg7 c512_i32
  let v16 : BitVec 32 := v15
  let v17 : Index := Scalar.indexCast v16
  let c0_4 : Index := 0#32
  ![0, v17.toNat, 0]
def k0_off2 (k0_t1 : Fin k0_t1_loop.trips) : Fin 3 → Nat :=
  let c1 : Index := 1#32
  let c0_i32_2 : BitVec 32 := 0#32
  let c1_i32 : BitVec 32 := 1#32
  let arg7 : BitVec 32 := Scf.iv c0_i32_2 c1_i32 k0_t1
  let c512_i32 : BitVec 32 := 512#32
  let v15 : BitVec 32 := Scalar.muli arg7 c512_i32
  let v16 : BitVec 32 := v15
  let v20 : Index := Scalar.indexCast v16
  let c0_5 : Index := 0#32
  ![1, v20.toNat, 0]
@[reducible] def k0_t2_loop (k0_t1 : Fin k0_t1_loop.trips) : Scf.Loop 32 :=
  let c0_i32_10 : BitVec 32 := 0#32
  let c0_i32_2 : BitVec 32 := 0#32
  let c1_i32 : BitVec 32 := 1#32
  let arg7 : BitVec 32 := Scf.iv c0_i32_2 c1_i32 k0_t1
  let c1_i32_8 : BitVec 32 := 1#32
  let v25 : BitVec 32 := Scalar.muli arg7 c1_i32_8
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_12 : BitVec 32 := 1#32
  ⟨c0_i32_10, v30, c1_i32_12⟩
def k0_mult2 (k0_t1 : Fin k0_t1_loop.trips) (k0_t2 : Fin (k0_t2_loop k0_t1).trips) : BitVec 32 :=
  let c0_i32_10 : BitVec 32 := 0#32
  let c1_i32_12 : BitVec 32 := 1#32
  let arg8 : BitVec 32 := Scf.iv c0_i32_10 c1_i32_12 k0_t2
  let c512_i32_34 : BitVec 32 := 512#32
  let v98 : BitVec 32 := Scalar.muli arg8 c512_i32_34
  v98
def k0_off3 (k0_t1 : Fin k0_t1_loop.trips) (k0_t2 : Fin (k0_t2_loop k0_t1).trips) : Fin 2 → Nat :=
  let c0_i32_10 : BitVec 32 := 0#32
  let c1_i32_12 : BitVec 32 := 1#32
  let arg8 : BitVec 32 := Scf.iv c0_i32_10 c1_i32_12 k0_t2
  let c512_i32_34 : BitVec 32 := 512#32
  let v98 : BitVec 32 := Scalar.muli arg8 c512_i32_34
  let v99 : BitVec 32 := v98
  let v100 : Index := Scalar.indexCast v99
  let c0_35 : Index := 0#32
  ![v100.toNat, 0]
def k0_off4 (k0_t1 : Fin k0_t1_loop.trips) (k0_t2 : Fin (k0_t2_loop k0_t1).trips) : Fin 3 → Nat :=
  let c0_36 : Index := 0#32
  let c0_i32_10 : BitVec 32 := 0#32
  let c1_i32_12 : BitVec 32 := 1#32
  let arg8 : BitVec 32 := Scf.iv c0_i32_10 c1_i32_12 k0_t2
  let c512_i32_34 : BitVec 32 := 512#32
  let v98 : BitVec 32 := Scalar.muli arg8 c512_i32_34
  let v99 : BitVec 32 := v98
  let v107 : Index := Scalar.indexCast v99
  let c0_37 : Index := 0#32
  ![0, v107.toNat, 0]
def k0_off5 (k0_t1 : Fin k0_t1_loop.trips) (k0_t2 : Fin (k0_t2_loop k0_t1).trips) : Fin 3 → Nat :=
  let c1_42 : Index := 1#32
  let c0_i32_10 : BitVec 32 := 0#32
  let c1_i32_12 : BitVec 32 := 1#32
  let arg8 : BitVec 32 := Scf.iv c0_i32_10 c1_i32_12 k0_t2
  let c512_i32_34 : BitVec 32 := 512#32
  let v98 : BitVec 32 := Scalar.muli arg8 c512_i32_34
  let v99 : BitVec 32 := v98
  let v126 : Index := Scalar.indexCast v99
  let c0_43 : Index := 0#32
  ![1, v126.toNat, 0]
@[reducible] def k0_t3_loop (k0_t1 : Fin k0_t1_loop.trips) : Scf.Loop 32 :=
  let c0_i32_10 : BitVec 32 := 0#32
  let c0_i32_2 : BitVec 32 := 0#32
  let c1_i32 : BitVec 32 := 1#32
  let arg7 : BitVec 32 := Scf.iv c0_i32_2 c1_i32 k0_t1
  let c1_i32_8 : BitVec 32 := 1#32
  let v25 : BitVec 32 := Scalar.muli arg7 c1_i32_8
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let v27 : BitVec 32 := Scalar.addi c0_i32_10 v26
  let c1_i32_13 : BitVec 32 := 1#32
  ⟨v30, v27, c1_i32_13⟩
def k0_mult3 (k0_t1 : Fin k0_t1_loop.trips) (k0_t3 : Fin (k0_t3_loop k0_t1).trips) : BitVec 32 :=
  let c0_i32_10 : BitVec 32 := 0#32
  let c0_i32_2 : BitVec 32 := 0#32
  let c1_i32 : BitVec 32 := 1#32
  let arg7 : BitVec 32 := Scf.iv c0_i32_2 c1_i32 k0_t1
  let c1_i32_8 : BitVec 32 := 1#32
  let v25 : BitVec 32 := Scalar.muli arg7 c1_i32_8
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg8 : BitVec 32 := Scf.iv v30 c1_i32_13 k0_t3
  let c512_i32_34 : BitVec 32 := 512#32
  let v98 : BitVec 32 := Scalar.muli arg8 c512_i32_34
  v98
def k0_off6 (k0_t1 : Fin k0_t1_loop.trips) (k0_t3 : Fin (k0_t3_loop k0_t1).trips) : Fin 2 → Nat :=
  let c0_i32_10 : BitVec 32 := 0#32
  let c0_i32_2 : BitVec 32 := 0#32
  let c1_i32 : BitVec 32 := 1#32
  let arg7 : BitVec 32 := Scf.iv c0_i32_2 c1_i32 k0_t1
  let c1_i32_8 : BitVec 32 := 1#32
  let v25 : BitVec 32 := Scalar.muli arg7 c1_i32_8
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg8 : BitVec 32 := Scf.iv v30 c1_i32_13 k0_t3
  let c512_i32_34 : BitVec 32 := 512#32
  let v98 : BitVec 32 := Scalar.muli arg8 c512_i32_34
  let v99 : BitVec 32 := v98
  let v100 : Index := Scalar.indexCast v99
  let c0_35 : Index := 0#32
  ![v100.toNat, 0]
def k0_off7 (k0_t1 : Fin k0_t1_loop.trips) (k0_t3 : Fin (k0_t3_loop k0_t1).trips) : Fin 3 → Nat :=
  let c0_36 : Index := 0#32
  let c0_i32_10 : BitVec 32 := 0#32
  let c0_i32_2 : BitVec 32 := 0#32
  let c1_i32 : BitVec 32 := 1#32
  let arg7 : BitVec 32 := Scf.iv c0_i32_2 c1_i32 k0_t1
  let c1_i32_8 : BitVec 32 := 1#32
  let v25 : BitVec 32 := Scalar.muli arg7 c1_i32_8
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg8 : BitVec 32 := Scf.iv v30 c1_i32_13 k0_t3
  let c512_i32_34 : BitVec 32 := 512#32
  let v98 : BitVec 32 := Scalar.muli arg8 c512_i32_34
  let v99 : BitVec 32 := v98
  let v107 : Index := Scalar.indexCast v99
  let c0_37 : Index := 0#32
  ![0, v107.toNat, 0]
def k0_off8 (k0_t1 : Fin k0_t1_loop.trips) (k0_t3 : Fin (k0_t3_loop k0_t1).trips) : Fin 3 → Nat :=
  let c1_42 : Index := 1#32
  let c0_i32_10 : BitVec 32 := 0#32
  let c0_i32_2 : BitVec 32 := 0#32
  let c1_i32 : BitVec 32 := 1#32
  let arg7 : BitVec 32 := Scf.iv c0_i32_2 c1_i32 k0_t1
  let c1_i32_8 : BitVec 32 := 1#32
  let v25 : BitVec 32 := Scalar.muli arg7 c1_i32_8
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg8 : BitVec 32 := Scf.iv v30 c1_i32_13 k0_t3
  let c512_i32_34 : BitVec 32 := 512#32
  let v98 : BitVec 32 := Scalar.muli arg8 c512_i32_34
  let v99 : BitVec 32 := v98
  let v126 : Index := Scalar.indexCast v99
  let c0_43 : Index := 0#32
  ![1, v126.toNat, 0]
def k0_mult4 (k0_t1 : Fin k0_t1_loop.trips) : BitVec 32 :=
  let c0_i32_2 : BitVec 32 := 0#32
  let c1_i32 : BitVec 32 := 1#32
  let arg7 : BitVec 32 := Scf.iv c0_i32_2 c1_i32 k0_t1
  let c512_i32 : BitVec 32 := 512#32
  let v15 : BitVec 32 := Scalar.muli arg7 c512_i32
  let v16 : BitVec 32 := v15
  let c0_i32_14 : BitVec 32 := 0#32
  let v33 : BitVec 32 := Scalar.addi v16 c0_i32_14
  v33
def k0_off9 (k0_t1 : Fin k0_t1_loop.trips) : Fin 2 → Nat :=
  let c0_i32_2 : BitVec 32 := 0#32
  let c1_i32 : BitVec 32 := 1#32
  let arg7 : BitVec 32 := Scf.iv c0_i32_2 c1_i32 k0_t1
  let c512_i32 : BitVec 32 := 512#32
  let v15 : BitVec 32 := Scalar.muli arg7 c512_i32
  let v16 : BitVec 32 := v15
  let c0_i32_14 : BitVec 32 := 0#32
  let v33 : BitVec 32 := Scalar.addi v16 c0_i32_14
  let v34 : BitVec 32 := v33
  let v35 : Index := Scalar.indexCast v34
  let c0_15 : Index := 0#32
  ![v35.toNat, 0]
def k0_off10 (k0_t1 : Fin k0_t1_loop.trips) : Fin 3 → Nat :=
  let c0_18 : Index := 0#32
  let c0_i32_2 : BitVec 32 := 0#32
  let c1_i32 : BitVec 32 := 1#32
  let arg7 : BitVec 32 := Scf.iv c0_i32_2 c1_i32 k0_t1
  let c512_i32 : BitVec 32 := 512#32
  let v15 : BitVec 32 := Scalar.muli arg7 c512_i32
  let v16 : BitVec 32 := v15
  let c0_i32_14 : BitVec 32 := 0#32
  let v33 : BitVec 32 := Scalar.addi v16 c0_i32_14
  let v34 : BitVec 32 := v33
  let v42 : Index := Scalar.indexCast v34
  let c0_19 : Index := 0#32
  ![0, v42.toNat, 0]
def k0_off11 (k0_t1 : Fin k0_t1_loop.trips) : Fin 3 → Nat :=
  let c1_24 : Index := 1#32
  let c0_i32_2 : BitVec 32 := 0#32
  let c1_i32 : BitVec 32 := 1#32
  let arg7 : BitVec 32 := Scf.iv c0_i32_2 c1_i32 k0_t1
  let c512_i32 : BitVec 32 := 512#32
  let v15 : BitVec 32 := Scalar.muli arg7 c512_i32
  let v16 : BitVec 32 := v15
  let c0_i32_14 : BitVec 32 := 0#32
  let v33 : BitVec 32 := Scalar.addi v16 c0_i32_14
  let v34 : BitVec 32 := v33
  let v62 : Index := Scalar.indexCast v34
  let c0_25 : Index := 0#32
  ![1, v62.toNat, 0]
def k0_off12 (k0_t1 : Fin k0_t1_loop.trips) : Fin 2 → Nat :=
  let c0_i32_2 : BitVec 32 := 0#32
  let c1_i32 : BitVec 32 := 1#32
  let arg7 : BitVec 32 := Scf.iv c0_i32_2 c1_i32 k0_t1
  let c512_i32 : BitVec 32 := 512#32
  let v15 : BitVec 32 := Scalar.muli arg7 c512_i32
  let v16 : BitVec 32 := v15
  let v87 : Index := Scalar.indexCast v16
  let c0_32 : Index := 0#32
  ![v87.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel9Ideal.lean ====
variable {F : FTy → Type} [FloatOps F] [Named F]
def κ : String → Option EReal := fun
  | "mask" => some ⊥
  | _ => none
-- ==== Reference9Ideal.lean ====
abbrev S2x8x2048x96 : Shape := ⟨4, ![2, 8, 2048, 96]⟩
abbrev S2x8x2048x64 : Shape := ⟨4, ![2, 8, 2048, 64]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x2048x8x64 : Shape := ⟨4, ![2, 2048, 8, 64]⟩
abbrev S4096x512 : Shape := ⟨2, ![4096, 512]⟩

abbrev nBuf : Space → Nat
  | .hbm => 37
  | .vmem => 0
  | .smem => 0
  | _ => 0

abbrev bufTy : (tb : Table) → Fin (tcTables nBuf tb) → BufTy
  | .hbm, ⟨0, _⟩ => ⟨S2x8x2048x96, .f32⟩
  | .hbm, ⟨1, _⟩ => ⟨S2x8x2048x96, .f32⟩
  | .hbm, ⟨2, _⟩ => ⟨S2x8x2048x64, .f32⟩
  | .hbm, ⟨3, _⟩ => ⟨S2x8x2048x2048, .f32⟩
  | .hbm, ⟨4, _⟩ => ⟨S_, .f32⟩
  | .hbm, ⟨5, _⟩ => ⟨S2x8x2048x2048, .f32⟩
  | .hbm, ⟨6, _⟩ => ⟨S2x8x2048x2048, .f32⟩
  | .hbm, ⟨7, _⟩ => ⟨S2048, .i32⟩
  | .hbm, ⟨8, _⟩ => ⟨S1x2048, .i32⟩
  | .hbm, ⟨9, _⟩ => ⟨S2048x1, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S_, .f32⟩
  | .hbm, ⟨14, _⟩ => ⟨S_, .f32⟩
  | .hbm, ⟨15, _⟩ => ⟨S2x8x2048x2048, .i1⟩
  | .hbm, ⟨16, _⟩ => ⟨S2x8x2048x2048, .f32⟩
  | .hbm, ⟨17, _⟩ => ⟨S2x8x2048x2048, .f32⟩
  | .hbm, ⟨18, _⟩ => ⟨S_, .f32⟩
  | .hbm, ⟨19, _⟩ => ⟨S2x8x2048, .f32⟩
  | .hbm, ⟨20, _⟩ => ⟨S2x8x2048x1, .f32⟩
  | .hbm, ⟨21, _⟩ => ⟨S2x8x2048x2048, .f32⟩
  | .hbm, ⟨22, _⟩ => ⟨S2x8x2048x2048, .f32⟩
  | .hbm, ⟨23, _⟩ => ⟨S2x8x2048x2048, .f32⟩
  | .hbm, ⟨24, _⟩ => ⟨S_, .f32⟩
  | .hbm, ⟨25, _⟩ => ⟨S2x8x2048, .f32⟩
  | .hbm, ⟨26, _⟩ => ⟨S2x8x2048x1, .f32⟩
  | .hbm, ⟨27, _⟩ => ⟨S2x8x2048x2048, .f32⟩
  | .hbm, ⟨28, _⟩ => ⟨S2x8x2048x2048, .f32⟩
  | .hbm, ⟨29, _⟩ => ⟨S2x8x2048x64, .f32⟩
  | .hbm, ⟨30, _⟩ => ⟨S2x8x2048x1, .f32⟩
  | .hbm, ⟨31, _⟩ => ⟨S2x8x2048x1, .f32⟩
  | .hbm, ⟨32, _⟩ => ⟨S2x8x2048x64, .f32⟩
  | .hbm, ⟨33, _⟩ => ⟨S2x2048x8x64, .f32⟩
  | .hbm, ⟨34, _⟩ => ⟨S4096x512, .f32⟩
  | .hbm, ⟨35, _⟩ => ⟨S2x2048x8x64, .f32⟩
  | .hbm, ⟨36, _⟩ => ⟨S4096x512, .f32⟩
  | _, _ => ⟨S2x8x2048x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Proof.Loop.lean ====
/- The outer loop of the attention gradient's body: one trip (one block of queries) run once at a symbolic trip, and the
   invariant over it. The inner loops over the blocks of keys are gone through by the generated invariants. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.VecWindow

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S2x2048x128 .bf16) (harg2 : arg2.IsWhole) (arg3 : Memref sig .tc .vmem S2x2048x128 .bf16) (harg3 : arg3.IsWhole)
  (arg4 : Memref sig .tc .vmem S2048x128 .bf16) (harg4 : arg4.IsWhole) (arg5 : Memref sig .tc .vmem S2048x128 .bf16) (harg5 : arg5.IsWhole)
  (arg6 : Memref sig .tc .vmem S2048x128 .f32) (harg6 : arg6.IsWhole) (arg7 : Memref sig .tc .vmem S2048x128 .f32) (harg7 : arg7.IsWhole)
  (arg8 : Memref sig .tc .vmem S2x2048x128 .f32) (harg8 : arg8.IsWhole) (arg9 : Memref sig .tc .vmem S2x2048x128 .f32) (harg9 : arg9.IsWhole)
  (arg10 : Memref sig .tc .vmem S2048x128 .f32) (harg10 : arg10.IsWhole)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)

/-- What a trip holds: the six blocks read at their contents, the three blocks written at any. -/
abbrev Held (f8 : BufTy.Contents (Elt F) arg8.view.ty) (f9 : BufTy.Contents (Elt F) arg9.view.ty) (f10 : BufTy.Contents (Elt F) arg10.view.ty) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (arg8.view.loc (c : Thread nD τ) ↦[arg8.view.set]{fullShare} f8) ∗ (arg9.view.loc (c : Thread nD τ) ↦[arg9.view.set]{fullShare} f9)
    ∗ (arg10.view.loc (c : Thread nD τ) ↦[arg10.view.set]{fullShare} f10))

/-- One trip of the outer loop at a symbolic trip `k`: what it writes into the three results, as functions of what it finds there. -/
@[irreducible] def trip (k : Fin k0_t1_loop.trips) :
    Σ' (L8 : BufTy.Contents (Elt F) arg8.view.ty → BufTy.Contents (Elt F) arg9.view.ty → BufTy.Contents (Elt F) arg10.view.ty → List (View.Piece (Elt F) S2x2048x128 .f32))
       (L9 : BufTy.Contents (Elt F) arg8.view.ty → BufTy.Contents (Elt F) arg9.view.ty → BufTy.Contents (Elt F) arg10.view.ty → List (View.Piece (Elt F) S2x2048x128 .f32)),
       { L10 : BufTy.Contents (Elt F) arg8.view.ty → BufTy.Contents (Elt F) arg9.view.ty → BufTy.Contents (Elt F) arg10.view.ty → List (View.Piece (Elt F) S2048x128 .f32) //
         ∀ (E : Set ℕ) (f8 : BufTy.Contents (Elt F) arg8.view.ty) (f9 : BufTy.Contents (Elt F) arg9.view.ty) (f10 : BufTy.Contents (Elt F) arg10.view.ty),
          Held c arg2 arg3 arg4 arg5 arg6 arg7 arg8 arg9 arg10 X2 X3 X4 X5 X6 X7 f8 f9 f10
          ⊢ wp frame (wpE (defs₀ (F := F)) Variants.none (c : Thread nD τ) none) E
              (k0_t1_body (F := F) i arg2 harg2 arg3 harg3 arg4 harg4 arg5 harg5 arg6 harg6 arg7 harg7 arg8 harg8 arg9 harg9 arg10 harg10 k ())
              (fun _ => Held c arg2 arg3 arg4 arg5 arg6 arg7 arg8 arg9 arg10 X2 X3 X4 X5 X6 X7
                (arg8.view.writes (Elt F) f8 (L8 f8 f9 f10)) (arg9.view.writes (Elt F) f9 (L9 f8 f9 f10)) (arg10.view.writes (Elt F) f10 (L10 f8 f9 f10))) } := by
  refine ⟨?_, ?_, ?_, fun E f8 f9 f10 => ?run⟩
  case run =>
    unfold k0_t1_body
    iintro ⟨H2, H3, H4, H5, H6, H7, H8, H9, H10⟩
    sl_exec
    sl_step
    sl_close

end Cert.KernelIdeal.Hand

end
-- ==== Proof.Tiles.lean ====
/- The attention gradient's block arithmetic as plain functions of vectors: tiles of the operands, and what one pass over
   the blocks of keys leaves in the sums, with no memory in it. -/
module

public import proofs.«01_k».proof.Proof.Loop

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F] [Named F]

/-- Head `h`'s rows of block `g` (512 rows) of a two-head array. -/
def tile3 {α : Type} (x : S2x2048x128.Idx → α) (h : Fin 2) (g : ℕ) : S1x512x128.Idx → α :=
  fun y => x fun a => match a with
    | ⟨0, _⟩ => (h : Fin 2)
    | ⟨1, _⟩ => (⟨(512 * g + (y 1).val) % 2048, Nat.mod_lt _ (by omega)⟩ : Fin 2048)
    | ⟨2, _⟩ => (y 2 : Fin 128)

/-- The rows of block `g` of an array of rows. -/
def tile2 {α : Type} (x : S2048x128.Idx → α) (g : ℕ) : S512x128.Idx → α :=
  fun y => x fun a => match a with
    | ⟨0, _⟩ => (⟨(512 * g + (y 0).val) % 2048, Nat.mod_lt _ (by omega)⟩ : Fin 2048)
    | ⟨1, _⟩ => (y 1 : Fin 128)

theorem window3_eq {α : Type} (x : S2x2048x128.Idx → α) (h : Fin 2) (g : ℕ) (hg : g < 4)
    (inb : ∀ a, (![h.val, 512 * g, 0] : Fin 3 → ℕ) a + S1x512x128.size a ≤ S2x2048x128.size a) :
    VecWindow.window x ![h.val, 512 * g, 0] S1x512x128.size inb = tile3 x h g := by
  funext y
  refine congrArg x (funext fun a => Fin.ext ?_)
  match a with
  | ⟨0, _⟩ => show h.val + 1 * (y 0).val = h.val
              have : (y 0).val < 1 := (y 0).isLt
              omega
  | ⟨1, _⟩ => show 512 * g + 1 * (y 1).val = (512 * g + (y 1).val) % 2048
              have : (y 1).val < 512 := (y 1).isLt
              rw [Nat.mod_eq_of_lt (by omega)]; omega
  | ⟨2, _⟩ => show 0 + 1 * (y 2).val = (y 2).val
              omega

theorem window2_eq {α : Type} (x : S2048x128.Idx → α) (g : ℕ) (hg : g < 4)
    (inb : ∀ a, (![512 * g, 0] : Fin 2 → ℕ) a + S512x128.size a ≤ S2048x128.size a) :
    VecWindow.window x ![512 * g, 0] S512x128.size inb = tile2 x g := by
  funext y
  refine congrArg x (funext fun a => Fin.ext ?_)
  match a with
  | ⟨0, _⟩ => show 512 * g + 1 * (y 0).val = (512 * g + (y 0).val) % 2048
              have : (y 0).val < 512 := (y 0).isLt
              rw [Nat.mod_eq_of_lt (by omega)]; omega
  | ⟨1, _⟩ => show 0 + 1 * (y 1).val = (y 1).val
              omega

/-- A two-head array with head `h`'s rows of block `g` replaced. -/
abbrev put3 {α : Type} (x : S2x2048x128.Idx → α) (h : Fin 2) (g : ℕ) (w : S1x512x128.Idx → α) : S2x2048x128.Idx → α :=
  VecWindow.put x ![h.val, 512 * g, 0] S1x512x128.size w

/-- An array of rows with block `g` replaced. -/
abbrev put2 {α : Type} (x : S2048x128.Idx → α) (g : ℕ) (w : S512x128.Idx → α) : S2048x128.Idx → α :=
  VecWindow.put x ![512 * g, 0] S512x128.size w

theorem tile3_put3 {α : Type} (x : S2x2048x128.Idx → α) (g : ℕ) (hg : g < 4) (w : S1x512x128.Idx → α) :
    tile3 (put3 x 0 g w) 1 g = tile3 x 1 g := by
  have inb : ∀ a, (![(1 : Fin 2).val, 512 * g, 0] : Fin 3 → ℕ) a + S1x512x128.size a ≤ S2x2048x128.size a := fun a => match a with
    | ⟨0, _⟩ => show 1 + 1 ≤ 2 by omega
    | ⟨1, _⟩ => show 512 * g + 512 ≤ 2048 by omega
    | ⟨2, _⟩ => show 0 + 128 ≤ 128 by omega
  rw [← window3_eq _ 1 g hg inb, ← window3_eq _ 1 g hg inb]
  exact VecWindow.window_put_of_disjoint (s := S2x2048x128) x _ _ _ _ inb w 0 (Or.inr (by show 0 + 1 ≤ 1; omega))

section Read
variable {κ : Kind} {sp : Space} {e : EltTy}

theorem readAt3 (v : View sig κ sp S2x2048x128 e) (f : v.ty.Contents (Elt F)) (off : Fin 3 → ℕ) (h : Fin 2) (g : ℕ) (hg : g < 4)
    (inb : ∀ a, off a + S1x512x128.size a ≤ S2x2048x128.size a) (ho : off = ![h.val, 512 * g, 0]) :
    v.readAt (Elt F) (Rect.unit (s := S2x2048x128) off S1x512x128.size inb).toLoadRect f = tile3 (v.read (Elt F) f) h g := by
  subst ho
  exact (View.readAt_unit v f inb rfl inb).trans (window3_eq _ h g hg inb)

theorem readAt2 (v : View sig κ sp S2048x128 e) (f : v.ty.Contents (Elt F)) (off : Fin 2 → ℕ) (g : ℕ) (hg : g < 4)
    (inb : ∀ a, off a + S512x128.size a ≤ S2048x128.size a) (ho : off = ![512 * g, 0]) :
    v.readAt (Elt F) (Rect.unit (s := S2048x128) off S512x128.size inb).toLoadRect f = tile2 (v.read (Elt F) f) g := by
  subst ho
  exact (View.readAt_unit v f inb rfl inb).trans (window2_eq _ g hg inb)

theorem readPut3 (v : View sig κ sp S2x2048x128 e) (f : v.ty.Contents (Elt F)) (off : Fin 3 → ℕ) (h : Fin 2) (g : ℕ)
    (inb : ∀ a, off a + S1x512x128.size a ≤ S2x2048x128.size a) (ho : off = ![h.val, 512 * g, 0])
    (w : S1x512x128.Idx → Elt F e) (L : List (View.Piece (Elt F) S2x2048x128 e)) :
    v.read (Elt F) (v.writes (Elt F) f (⟨Rect.unit off S1x512x128.size inb, w⟩ :: L))
      = put3 (v.read (Elt F) (v.writes (Elt F) f L)) h g w :=
  View.read_writes_cons_put v f inb w L ho

theorem readPut2 (v : View sig κ sp S2048x128 e) (f : v.ty.Contents (Elt F)) (off : Fin 2 → ℕ) (g : ℕ)
    (inb : ∀ a, off a + S512x128.size a ≤ S2048x128.size a) (ho : off = ![512 * g, 0])
    (w : S512x128.Idx → Elt F e) (L : List (View.Piece (Elt F) S2048x128 e)) :
    v.read (Elt F) (v.writes (Elt F) f (⟨Rect.unit off S512x128.size inb, w⟩ :: L))
      = put2 (v.read (Elt F) (v.writes (Elt F) f L)) g w :=
  View.read_writes_cons_put v f inb w L ho

end Read

/-! ## The pass over the blocks of keys below the diagonal -/

section Inner
variable (v20 v25 : FVec F S512x128 .bf16) (v32 v39 : FVec F S512x1 .f32) (v40 : IVec S512x128 1) (v43 v48 : FVec F S512x128 .bf16)
  (v55 : FVec F S512x1 .f32) (v57 : Vec F S512x128 .f32) (xk : Vec F S2x2048x128 .bf16) (xv : Vec F S2048x128 .bf16)

/-- The two heads' sums for the queries' gradient before block `j`. -/
def accs : ℕ → FVec F S512x128 .f32 × FVec F S512x128 .f32
  | 0 => (k0_pay37, k0_pay37)
  | j + 1 => (k0_pay14 v20 v25 v32 v39 (accs j).1 (tile2 xv j) (tile3 xk 0 j),
      k0_pay41 v40 v48 v55 v57 (accs j).2 (k0_pay8 (tile2 xv j)) (k0_pay15 (tile3 xk 1 j)) (k0_pay16 v43 (tile3 xk 1 j)) k0_pay17)

/-- The keys' gradient before block `j`, from what the pass finds. -/
def dkIn (d : Vec F S2x2048x128 .f32) : ℕ → Vec F S2x2048x128 .f32
  | 0 => d
  | j + 1 => put3 (put3 (dkIn d j) 0 j (k0_pay12 v20 v25 v32 v39 (tile2 xv j) (tile3 xk 0 j) (tile3 (dkIn d j) 0 j)))
      1 j (k0_pay40 v40 v43 v48 v55 v57 (k0_pay8 (tile2 xv j)) (k0_pay16 v43 (tile3 xk 1 j)) k0_pay17 (tile3 (dkIn d j) 1 j))

/-- The values' gradient before block `j`, from what the pass finds. -/
def dvIn (d : Vec F S2048x128 .f32) : ℕ → Vec F S2048x128 .f32
  | 0 => d
  | j + 1 => put2 (dvIn d j) j (k0_pay42 v48 v55 (k0_pay13 v20 v25 v32 (tile3 xk 0 j)) (k0_pay16 v43 (tile3 xk 1 j)) k0_pay17 (tile2 (dvIn d j) j))

end Inner

section Pass
variable (𝒱 : Variants) (c : Dev nD) (bd : Option 𝒱.V) (i : grid0.Coords)
  (arg2 : Memref sig .tc .vmem S2x2048x128 .bf16) (harg2 : arg2.IsWhole) (arg3 : Memref sig .tc .vmem S2x2048x128 .bf16) (harg3 : arg3.IsWhole)
  (arg4 : Memref sig .tc .vmem S2048x128 .bf16) (harg4 : arg4.IsWhole) (arg5 : Memref sig .tc .vmem S2048x128 .bf16) (harg5 : arg5.IsWhole)
  (arg6 : Memref sig .tc .vmem S2048x128 .f32) (harg6 : arg6.IsWhole) (arg7 : Memref sig .tc .vmem S2048x128 .f32) (harg7 : arg7.IsWhole)
  (arg8 : Memref sig .tc .vmem S2x2048x128 .f32) (harg8 : arg8.IsWhole) (arg9 : Memref sig .tc .vmem S2x2048x128 .f32) (harg9 : arg9.IsWhole)
  (arg10 : Memref sig .tc .vmem S2048x128 .f32) (harg10 : arg10.IsWhole)
  (v14 : FVec F S512x512 .f32) (g : Fin k0_t1_loop.trips) (w11 w17 : BitVec 32)
  (v20 v25 : FVec F S512x128 .bf16) (v32 v39 : FVec F S512x1 .f32) (v40 : IVec S512x128 1) (v43 v48 : FVec F S512x128 .bf16)
  (v55 : FVec F S512x1 .f32) (v57 : Vec F S512x128 .f32)
  (X3 : BufTy.Contents (Elt F) arg3.view.ty) (X4 : BufTy.Contents (Elt F) arg4.view.ty)

theorem trips2_le : ∀ g : Fin k0_t1_loop.trips, (k0_t2_loop g).trips = g.val := by decide +kernel
theorem trips3_eq : ∀ g : Fin k0_t1_loop.trips, (k0_t3_loop g).trips = 0 := by decide +kernel
theorem trips1_eq : k0_t1_loop.trips = 4 := by decide +kernel

theorem lt4 (j : Fin (k0_t2_loop g).trips) : j.val < 4 := by
  have h1 := j.isLt
  have h2 := g.isLt
  have h3 := trips2_le g
  have h4 := trips1_eq
  omega

theorem step_eq (j : Fin (k0_t2_loop g).trips) (acc : FVec F S512x128 .f32 × FVec F S512x128 .f32)
    (f9 : BufTy.Contents (Elt F) arg9.view.ty) (f10 : BufTy.Contents (Elt F) arg10.view.ty) :
    tripR_k0_t2 𝒱 c bd i arg2 harg2 arg3 harg3 arg4 harg4 arg5 harg5 arg6 harg6 arg7 harg7 arg8 harg8 arg9 harg9 arg10 harg10 v14 g w11 w17 v20 v25 v32 v39 v40 v43 v48 v55 v57 X3 X4 j acc f9 f10
      = (k0_pay14 v20 v25 v32 v39 acc.1 (tile2 (arg4.view.read (Elt F) X4) j.val) (tile3 (arg3.view.read (Elt F) X3) 0 j.val),
          k0_pay41 v40 v48 v55 v57 acc.2 (k0_pay8 (tile2 (arg4.view.read (Elt F) X4) j.val)) (k0_pay15 (tile3 (arg3.view.read (Elt F) X3) 1 j.val)) (k0_pay16 v43 (tile3 (arg3.view.read (Elt F) X3) 1 j.val)) k0_pay17)
    ∧ arg9.view.read (Elt F) (arg9.view.writes (Elt F) f9 (tripL_k0_t2 𝒱 c bd i arg2 harg2 arg3 harg3 arg4 harg4 arg5 harg5 arg6 harg6 arg7 harg7 arg8 harg8 arg9 harg9 arg10 harg10 v14 g w11 w17 v20 v25 v32 v39 v40 v43 v48 v55 v57 X3 X4 j acc f9 f10).1)
      = put3 (put3 (arg9.view.read (Elt F) f9) 0 j.val (k0_pay12 v20 v25 v32 v39 (tile2 (arg4.view.read (Elt F) X4) j.val) (tile3 (arg3.view.read (Elt F) X3) 0 j.val) (tile3 (arg9.view.read (Elt F) f9) 0 j.val)))
      1 j.val (k0_pay40 v40 v43 v48 v55 v57 (k0_pay8 (tile2 (arg4.view.read (Elt F) X4) j.val)) (k0_pay16 v43 (tile3 (arg3.view.read (Elt F) X3) 1 j.val)) k0_pay17 (tile3 (arg9.view.read (Elt F) f9) 1 j.val))
    ∧ arg10.view.read (Elt F) (arg10.view.writes (Elt F) f10 (tripL_k0_t2 𝒱 c bd i arg2 harg2 arg3 harg3 arg4 harg4 arg5 harg5 arg6 harg6 arg7 harg7 arg8 harg8 arg9 harg9 arg10 harg10 v14 g w11 w17 v20 v25 v32 v39 v40 v43 v48 v55 v57 X3 X4 j acc f9 f10).2)
      = put2 (arg10.view.read (Elt F) f10) j.val (k0_pay42 v48 v55 (k0_pay13 v20 v25 v32 (tile3 (arg3.view.read (Elt F) X3) 0 j.val)) (k0_pay16 v43 (tile3 (arg3.view.read (Elt F) X3) 1 j.val)) k0_pay17 (tile2 (arg10.view.read (Elt F) f10) j.val)) := by
  have h4 := lt4 g j
  unfold tripR_k0_t2 tripL_k0_t2 trip_k0_t2
  dsimp only
  sl_unfold_words
  refine ⟨?_, ?_, ?_⟩
  · rw [← readAt2 arg4.view X4 (k0_off4 g j) j.val h4 (k0_off4_inb g j) (k0_off4_eq g j),
      ← readAt3 arg3.view X3 (k0_off5 g j) 0 j.val h4 (k0_off5_inb g j) (k0_off5_eq g j),
      ← readAt3 arg3.view X3 (k0_off6 g j) 1 j.val h4 (k0_off6_inb g j) (k0_off6_eq g j)]
    rfl
  · rw [← readAt2 arg4.view X4 (k0_off4 g j) j.val h4 (k0_off4_inb g j) (k0_off4_eq g j),
      ← readAt3 arg3.view X3 (k0_off5 g j) 0 j.val h4 (k0_off5_inb g j) (k0_off5_eq g j),
      ← readAt3 arg3.view X3 (k0_off6 g j) 1 j.val h4 (k0_off6_inb g j) (k0_off6_eq g j),
      ← readAt3 arg9.view f9 (k0_off5 g j) 0 j.val h4 (k0_off5_inb g j) (k0_off5_eq g j),
      ← readAt3 arg9.view f9 (k0_off6 g j) 1 j.val h4 (k0_off6_inb g j) (k0_off6_eq g j)]
    exact (readPut3 arg9.view f9 (k0_off6 g j) 1 j.val (k0_off6_inb g j) (k0_off6_eq g j) _ _).trans
      (congrArg (fun d => put3 d 1 j.val _) (readPut3 arg9.view f9 (k0_off5 g j) 0 j.val (k0_off5_inb g j) (k0_off5_eq g j) _ []))
  · rw [← readAt2 arg10.view f10 (k0_off4 g j) j.val h4 (k0_off4_inb g j) (k0_off4_eq g j),
      ← readAt3 arg3.view X3 (k0_off5 g j) 0 j.val h4 (k0_off5_inb g j) (k0_off5_eq g j),
      ← readAt3 arg3.view X3 (k0_off6 g j) 1 j.val h4 (k0_off6_inb g j) (k0_off6_eq g j)]
    exact readPut2 arg10.view f10 (k0_off4 g j) j.val (k0_off4_inb g j) (k0_off4_eq g j) _ []

/-- The pass over the blocks of keys, stated by its sums: what the carried pair and the two gradients hold before block `k`. -/
theorem pass_eq (G9 : BufTy.Contents (Elt F) arg9.view.ty) (G10 : BufTy.Contents (Elt F) arg10.view.ty) :
    ∀ k : ℕ, k ≤ (k0_t2_loop g).trips →
    (st_k0_t2 𝒱 c bd i arg2 harg2 arg3 harg3 arg4 harg4 arg5 harg5 arg6 harg6 arg7 harg7 arg8 harg8 arg9 harg9 arg10 harg10 v14 g w11 w17 v20 v25 v32 v39 v40 v43 v48 v55 v57 X3 X4 G9 G10 (k0_pay37, k0_pay37) k).1
      = accs v20 v25 v32 v39 v40 v43 v48 v55 v57 (arg3.view.read (Elt F) X3) (arg4.view.read (Elt F) X4) k
    ∧ arg9.view.read (Elt F) (arg9.view.writes (Elt F) G9 (st_k0_t2 𝒱 c bd i arg2 harg2 arg3 harg3 arg4 harg4 arg5 harg5 arg6 harg6 arg7 harg7 arg8 harg8 arg9 harg9 arg10 harg10 v14 g w11 w17 v20 v25 v32 v39 v40 v43 v48 v55 v57 X3 X4 G9 G10 (k0_pay37, k0_pay37) k).2.1)
      = dkIn v20 v25 v32 v39 v40 v43 v48 v55 v57 (arg3.view.read (Elt F) X3) (arg4.view.read (Elt F) X4) (arg9.view.read (Elt F) G9) k
    ∧ arg10.view.read (Elt F) (arg10.view.writes (Elt F) G10 (st_k0_t2 𝒱 c bd i arg2 harg2 arg3 harg3 arg4 harg4 arg5 harg5 arg6 harg6 arg7 harg7 arg8 harg8 arg9 harg9 arg10 harg10 v14 g w11 w17 v20 v25 v32 v39 v40 v43 v48 v55 v57 X3 X4 G9 G10 (k0_pay37, k0_pay37) k).2.2)
      = dvIn v20 v25 v32 v43 v48 v55 (arg3.view.read (Elt F) X3) (arg10.view.read (Elt F) G10) k
  | 0, _ => ⟨rfl, rfl, rfl⟩
  | k + 1, hk => by
    obtain ⟨h1, h2, h3⟩ := pass_eq G9 G10 k (Nat.le_of_succ_le hk)
    have hs := st_k0_t2_succ 𝒱 c bd i arg2 harg2 arg3 harg3 arg4 harg4 arg5 harg5 arg6 harg6 arg7 harg7 arg8 harg8 arg9 harg9 arg10 harg10 v14 g w11 w17 v20 v25 v32 v39 v40 v43 v48 v55 v57 X3 X4 G9 G10 (k0_pay37, k0_pay37) ⟨k, hk⟩
    dsimp only at hs
    rw [hs]
    dsimp only
    generalize st_k0_t2 𝒱 c bd i arg2 harg2 arg3 harg3 arg4 harg4 arg5 harg5 arg6 harg6 arg7 harg7 arg8 harg8 arg9 harg9 arg10 harg10 v14 g w11 w17 v20 v25 v32 v39 v40 v43 v48 v55 v57 X3 X4 G9 G10 (k0_pay37, k0_pay37) k = s at h1 h2 h3 ⊢
    obtain ⟨e1, e2, e3⟩ := step_eq 𝒱 c bd i arg2 harg2 arg3 harg3 arg4 harg4 arg5 harg5 arg6 harg6 arg7 harg7 arg8 harg8 arg9 harg9 arg10 harg10 v14 g w11 w17 v20 v25 v32 v39 v40 v43 v48 v55 v57 X3 X4 ⟨k, hk⟩ s.1 (arg9.view.writes (Elt F) G9 s.2.1) (arg10.view.writes (Elt F) G10 s.2.2)
    refine ⟨?_, ?_, ?_⟩
    · rw [e1, h1]; rfl
    · rw [View.writes_append, e2, h2]; rfl
    · rw [View.writes_append, e3, h3]; rfl

theorem none_left (w69 : BitVec 32) (G9 : BufTy.Contents (Elt F) arg9.view.ty) (G10 : BufTy.Contents (Elt F) arg10.view.ty)
    (init : FVec F S512x128 .f32 × FVec F S512x128 .f32) :
    st_k0_t3 𝒱 c bd i arg2 harg2 arg3 harg3 arg4 harg4 arg5 harg5 arg6 harg6 arg7 harg7 arg8 harg8 arg9 harg9 arg10 harg10 v14 g w11 w17 v20 v25 v32 v39 v40 v43 v48 v55 v57 w69 X3 X4 G9 G10 init
      (Scf.trips (k0_t3_loop g).lb (k0_t3_loop g).ub (k0_t3_loop g).st) = (init, [], []) := by
  have h : Scf.trips (k0_t3_loop g).lb (k0_t3_loop g).ub (k0_t3_loop g).st = 0 := trips3_eq g
  rw [h]; rfl

end Pass

/-! ## One block of queries -/

section Block
variable (xq xk : Vec F S2x2048x128 .bf16) (xv xo : Vec F S2048x128 .bf16) (xl xd : Vec F S2048x128 .f32)

def q0 (g : ℕ) : FVec F S512x128 .bf16 := k0_pay28 (tile3 xq 0 g)
def q1 (g : ℕ) : FVec F S512x128 .bf16 := k0_pay33 (tile3 xq 1 g)
def o0 (g : ℕ) : FVec F S512x128 .bf16 := k0_pay29 k0_pay3 (tile2 xo g)
def o1 (g : ℕ) : FVec F S512x128 .bf16 := k0_pay34 k0_pay3 (tile2 xo g)
def l0 (g : ℕ) : FVec F S512x1 .f32 := k0_pay30 k0_pay3 (tile2 xl g)
def l1 (g : ℕ) : FVec F S512x1 .f32 := k0_pay35 k0_pay3 (tile2 xl g)
def d0 (g : ℕ) : FVec F S512x1 .f32 := k0_pay31 k0_pay3 (tile2 xd g)
def d1 (g : ℕ) : FVec F S512x1 .f32 := k0_pay36 (k0_pay32 k0_pay3) (tile2 xd g)

/-- The two heads' sums over the blocks of keys below block `g`. -/
def sums (g : ℕ) : FVec F S512x128 .f32 × FVec F S512x128 .f32 :=
  accs (q0 xq g) (o0 xo g) (l0 xl g) (d0 xd g) (k0_pay32 k0_pay3) (q1 xq g) (o1 xo g) (l1 xl g) (tile2 xd g) xk xv g

/-- Head 0's and head 1's rows of the queries' gradient for block `g`. -/
def dq0 (g : ℕ) : FVec F S1x512x128 .f32 :=
  k0_pay6 (k0_pay55 (sums xq xk xv xo xl xd g).1 (k0_pay49 (tile3 xk 0 g))
    (k0_pay51 k0_pay4 (q0 xq g) (o0 xo g) (l0 xl g) (d0 xd g) (tile2 xv g) (tile3 xk 0 g)))
def dq1 (g : ℕ) : FVec F S1x512x128 .f32 :=
  k0_pay7 (sums xq xk xv xo xl xd g).2
    (k0_pay61 k0_pay4 (q1 xq g) (o1 xo g) (l1 xl g) (d1 xd g) (k0_pay48 (tile2 xv g)) (tile3 xk 1 g))

/-- The keys' gradient after the pass below block `g` and the block on the diagonal. -/
def dkStep (d : Vec F S2x2048x128 .f32) (g : ℕ) : Vec F S2x2048x128 .f32 :=
  let p := dkIn (q0 xq g) (o0 xo g) (l0 xl g) (d0 xd g) (k0_pay32 k0_pay3) (q1 xq g) (o1 xo g) (l1 xl g) (tile2 xd g) xk xv d g
  put3 (put3 p 0 g (k0_pay54 (k0_pay52 (tile3 p 0 g))
      (k0_pay53 k0_pay4 (q0 xq g) (o0 xo g) (l0 xl g) (d0 xd g) (tile2 xv g) (tile3 xk 0 g)) (Scalar.ofBits .f32 0x3DD105EC#32)))
    1 g (k0_pay59 k0_pay4 (q1 xq g) (o1 xo g) (l1 xl g) (d1 xd g) (k0_pay48 (tile2 xv g)) (tile3 xk 1 g) (tile3 p 1 g))

/-- The values' gradient after the pass below block `g` and the block on the diagonal. -/
def dvStep (d : Vec F S2048x128 .f32) (g : ℕ) : Vec F S2048x128 .f32 :=
  let p := dvIn (q0 xq g) (o0 xo g) (l0 xl g) (q1 xq g) (o1 xo g) (l1 xl g) xk d g
  put2 p g (k0_pay5 (k0_pay60 k0_pay4 (o0 xo g) (q1 xq g) (o1 xo g) (l1 xl g)
    (k0_pay50 k0_pay4 (q0 xq g) (l0 xl g) (tile3 xk 0 g)) (tile3 xk 1 g)) (tile2 p g))

end Block

section Trip
variable (c : Dev nD) (i : grid0.Coords)
  (arg2 : Memref sig .tc .vmem S2x2048x128 .bf16) (harg2 : arg2.IsWhole) (arg3 : Memref sig .tc .vmem S2x2048x128 .bf16) (harg3 : arg3.IsWhole)
  (arg4 : Memref sig .tc .vmem S2048x128 .bf16) (harg4 : arg4.IsWhole) (arg5 : Memref sig .tc .vmem S2048x128 .bf16) (harg5 : arg5.IsWhole)
  (arg6 : Memref sig .tc .vmem S2048x128 .f32) (harg6 : arg6.IsWhole) (arg7 : Memref sig .tc .vmem S2048x128 .f32) (harg7 : arg7.IsWhole)
  (arg8 : Memref sig .tc .vmem S2x2048x128 .f32) (harg8 : arg8.IsWhole) (arg9 : Memref sig .tc .vmem S2x2048x128 .f32) (harg9 : arg9.IsWhole)
  (arg10 : Memref sig .tc .vmem S2048x128 .f32) (harg10 : arg10.IsWhole)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)

theorem trip_eq (g : Fin k0_t1_loop.trips)
    (f8 : BufTy.Contents (Elt F) arg8.view.ty) (f9 : BufTy.Contents (Elt F) arg9.view.ty) (f10 : BufTy.Contents (Elt F) arg10.view.ty) :
    arg8.view.read (Elt F) (arg8.view.writes (Elt F) f8 ((trip c i arg2 harg2 arg3 harg3 arg4 harg4 arg5 harg5 arg6 harg6 arg7 harg7 arg8 harg8 arg9 harg9 arg10 harg10 X2 X3 X4 X5 X6 X7 g).1 f8 f9 f10))
      = put3 (put3 (arg8.view.read (Elt F) f8) 0 g.val (dq0 (arg2.view.read (Elt F) X2) (arg3.view.read (Elt F) X3) (arg4.view.read (Elt F) X4) (arg5.view.read (Elt F) X5) (arg6.view.read (Elt F) X6) (arg7.view.read (Elt F) X7) g.val))
          1 g.val (dq1 (arg2.view.read (Elt F) X2) (arg3.view.read (Elt F) X3) (arg4.view.read (Elt F) X4) (arg5.view.read (Elt F) X5) (arg6.view.read (Elt F) X6) (arg7.view.read (Elt F) X7) g.val)
    ∧ arg9.view.read (Elt F) (arg9.view.writes (Elt F) f9 ((trip c i arg2 harg2 arg3 harg3 arg4 harg4 arg5 harg5 arg6 harg6 arg7 harg7 arg8 harg8 arg9 harg9 arg10 harg10 X2 X3 X4 X5 X6 X7 g).2.1 f8 f9 f10))
      = dkStep (arg2.view.read (Elt F) X2) (arg3.view.read (Elt F) X3) (arg4.view.read (Elt F) X4) (arg5.view.read (Elt F) X5) (arg6.view.read (Elt F) X6) (arg7.view.read (Elt F) X7) (arg9.view.read (Elt F) f9) g.val
    ∧ arg10.view.read (Elt F) (arg10.view.writes (Elt F) f10 ((trip c i arg2 harg2 arg3 harg3 arg4 harg4 arg5 harg5 arg6 harg6 arg7 harg7 arg8 harg8 arg9 harg9 arg10 harg10 X2 X3 X4 X5 X6 X7 g).2.2.1 f8 f9 f10))
      = dvStep (arg2.view.read (Elt F) X2) (arg3.view.read (Elt F) X3) (arg5.view.read (Elt F) X5) (arg6.view.read (Elt F) X6) (arg10.view.read (Elt F) f10) g.val := by
  have h4 : g.val < 4 := by have := g.isLt; have := trips1_eq; omega
  have e1 : arg2.view.readAt (Elt F) (Rect.unit (s := S2x2048x128) (k0_off1 g) S1x512x128.size (k0_off1_inb g)).toLoadRect X2 = _ :=
    readAt3 arg2.view X2 (k0_off1 g) 0 g.val h4 (k0_off1_inb g) (k0_off1_eq g)
  have e3 : arg2.view.readAt (Elt F) (Rect.unit (s := S2x2048x128) (k0_off3 g) S1x512x128.size (k0_off3_inb g)).toLoadRect X2 = _ :=
    readAt3 arg2.view X2 (k0_off3 g) 1 g.val h4 (k0_off3_inb g) (k0_off3_eq g)
  have e5 := readAt2 arg5.view X5 (k0_off2 g) g.val h4 (k0_off2_inb g) (k0_off2_eq g)
  have e6 := readAt2 arg6.view X6 (k0_off2 g) g.val h4 (k0_off2_inb g) (k0_off2_eq g)
  have e7 := readAt2 arg7.view X7 (k0_off2 g) g.val h4 (k0_off2_inb g) (k0_off2_eq g)
  have e4 := readAt2 arg4.view X4 (k0_off10 g) g.val h4 (k0_off10_inb g) (k0_off10_eq g)
  have e11 := readAt3 arg3.view X3 (k0_off11 g) 0 g.val h4 (k0_off11_inb g) (k0_off11_eq g)
  have e12 := readAt3 arg3.view X3 (k0_off12 g) 1 g.val h4 (k0_off12_inb g) (k0_off12_eq g)
  have hr : trip.sl.r arg2 X2 g = q0 (arg2.view.read (Elt F) X2) g.val := congrArg k0_pay28 e1
  have hr1 : trip.sl.r_1 arg5 X5 g = o0 (arg5.view.read (Elt F) X5) g.val := congrArg (k0_pay29 k0_pay3) e5
  have hr2 : trip.sl.r_2 arg6 X6 g = l0 (arg6.view.read (Elt F) X6) g.val := congrArg (k0_pay30 k0_pay3) e6
  have hr3 : trip.sl.r_3 arg7 X7 g = d0 (arg7.view.read (Elt F) X7) g.val := congrArg (k0_pay31 k0_pay3) e7
  have hr4 : trip.sl.r_4 arg2 X2 g = q1 (arg2.view.read (Elt F) X2) g.val := congrArg k0_pay33 e3
  have hr5 : trip.sl.r_5 arg5 X5 g = o1 (arg5.view.read (Elt F) X5) g.val := congrArg (k0_pay34 k0_pay3) e5
  have hr6 : trip.sl.r_6 arg6 X6 g = l1 (arg6.view.read (Elt F) X6) g.val := congrArg (k0_pay35 k0_pay3) e6
  have hr7 : trip.sl.r_7 arg7 X7 g = d1 (arg7.view.read (Elt F) X7) g.val := congrArg (k0_pay36 (k0_pay32 k0_pay3)) e7
  have hn : Scf.trips (k0_t2_loop g).lb (k0_t2_loop g).ub (k0_t2_loop g).st = g.val := trips2_le g
  obtain ⟨p1, p2, p3⟩ := pass_eq Variants.none c none i arg2 harg2 arg3 harg3 arg4 harg4 arg5 harg5 arg6 harg6 arg7 harg7 arg8 harg8 arg9 harg9 arg10 harg10
    k0_pay4 g (trip.sl.arg11 g) (trip.sl.v16 g) (q0 (arg2.view.read (Elt F) X2) g.val) (o0 (arg5.view.read (Elt F) X5) g.val) (l0 (arg6.view.read (Elt F) X6) g.val) (d0 (arg7.view.read (Elt F) X7) g.val) (k0_pay32 k0_pay3)
    (q1 (arg2.view.read (Elt F) X2) g.val) (o1 (arg5.view.read (Elt F) X5) g.val) (l1 (arg6.view.read (Elt F) X6) g.val) (tile2 (arg7.view.read (Elt F) X7) g.val) X3 X4 f9 f10 g.val (trips2_le g).ge
  have hr8 : trip.sl.r_8 c i arg2 harg2 arg3 harg3 arg4 harg4 arg5 harg5 arg6 harg6 arg7 harg7 arg8 harg8 arg9 harg9 arg10 harg10 X2 X3 X4 X5 X6 X7 g f9 f10
      = (sums (arg2.view.read (Elt F) X2) (arg3.view.read (Elt F) X3) (arg4.view.read (Elt F) X4) (arg5.view.read (Elt F) X5) (arg6.view.read (Elt F) X6) (arg7.view.read (Elt F) X7) g.val).1 := by
    unfold trip.sl.r_8
    rw [none_left, hr, hr1, hr2, hr3, hr4, hr5, hr6, hn, e7]
    exact congrArg Prod.fst p1
  have hr9 : trip.sl.r_9 c i arg2 harg2 arg3 harg3 arg4 harg4 arg5 harg5 arg6 harg6 arg7 harg7 arg8 harg8 arg9 harg9 arg10 harg10 X2 X3 X4 X5 X6 X7 g f9 f10
      = (sums (arg2.view.read (Elt F) X2) (arg3.view.read (Elt F) X3) (arg4.view.read (Elt F) X4) (arg5.view.read (Elt F) X5) (arg6.view.read (Elt F) X6) (arg7.view.read (Elt F) X7) g.val).2 := by
    unfold trip.sl.r_9
    rw [none_left, hr, hr1, hr2, hr3, hr4, hr5, hr6, hn, e7]
    exact congrArg Prod.snd p1
  have hr10 : trip.sl.r_10 arg4 X4 g = k0_pay48 (tile2 (arg4.view.read (Elt F) X4) g.val) := congrArg k0_pay48 e4
  unfold trip
  dsimp only
  refine ⟨?_, ?_, ?_⟩
  · refine (readPut3 arg8.view f8 (k0_off3 g) 1 g.val (k0_off3_inb g) (k0_off3_eq g) _ _).trans ?_
    rw [readPut3 arg8.view f8 (k0_off1 g) 0 g.val (k0_off1_inb g) (k0_off1_eq g) _ []]
    refine congrArg₂ (fun a b => put3 (put3 (arg8.view.read (Elt F) f8) 0 g.val a) 1 g.val b) ?_ ?_
    · show k0_pay6 (k0_pay55 (trip.sl.r_8 c i arg2 harg2 arg3 harg3 arg4 harg4 arg5 harg5 arg6 harg6 arg7 harg7 arg8 harg8 arg9 harg9 arg10 harg10 X2 X3 X4 X5 X6 X7 g f9 f10)
        (k0_pay49 (arg3.view.readAt (Elt F) (Rect.unit (s := S2x2048x128) (k0_off11 g) S1x512x128.size (k0_off11_inb g)).toLoadRect X3))
        (k0_pay51 k0_pay4 (trip.sl.r arg2 X2 g) (trip.sl.r_1 arg5 X5 g) (trip.sl.r_2 arg6 X6 g) (trip.sl.r_3 arg7 X7 g)
          (arg4.view.readAt (Elt F) (Rect.unit (s := S2048x128) (k0_off10 g) S512x128.size (k0_off10_inb g)).toLoadRect X4)
          (arg3.view.readAt (Elt F) (Rect.unit (s := S2x2048x128) (k0_off11 g) S1x512x128.size (k0_off11_inb g)).toLoadRect X3))) = _
      rw [hr8, hr, hr1, hr2, hr3, e4, e11]; rfl
    · show k0_pay7 (trip.sl.r_9 c i arg2 harg2 arg3 harg3 arg4 harg4 arg5 harg5 arg6 harg6 arg7 harg7 arg8 harg8 arg9 harg9 arg10 harg10 X2 X3 X4 X5 X6 X7 g f9 f10)
        (k0_pay61 k0_pay4 (trip.sl.r_4 arg2 X2 g) (trip.sl.r_5 arg5 X5 g) (trip.sl.r_6 arg6 X6 g) (trip.sl.r_7 arg7 X7 g) (trip.sl.r_10 arg4 X4 g)
          (arg3.view.readAt (Elt F) (Rect.unit (s := S2x2048x128) (k0_off12 g) S1x512x128.size (k0_off12_inb g)).toLoadRect X3)) = _
      rw [hr9, hr4, hr5, hr6, hr7, hr10, e12]; rfl
  · refine (readPut3 arg9.view f9 (k0_off12 g) 1 g.val (k0_off12_inb g) (k0_off12_eq g) _ _).trans ?_
    have h93 : trip.sl.v93 c i arg2 harg2 arg3 harg3 arg4 harg4 arg5 harg5 arg6 harg6 arg7 harg7 arg8 harg8 arg9 harg9 arg10 harg10 X2 X3 X4 X5 X6 X7 g f9 f10 = tile3 (dkIn (q0 (arg2.view.read (Elt F) X2) g.val) (o0 (arg5.view.read (Elt F) X5) g.val) (l0 (arg6.view.read (Elt F) X6) g.val) (d0 (arg7.view.read (Elt F) X7) g.val) (k0_pay32 k0_pay3) (q1 (arg2.view.read (Elt F) X2) g.val) (o1 (arg5.view.read (Elt F) X5) g.val) (l1 (arg6.view.read (Elt F) X6) g.val) (tile2 (arg7.view.read (Elt F) X7) g.val) (arg3.view.read (Elt F) X3) (arg4.view.read (Elt F) X4) (arg9.view.read (Elt F) f9) g.val) 0 g.val := by
      unfold trip.sl.v93
      rw [none_left, hr, hr1, hr2, hr3, hr4, hr5, hr6, hn, e7]
      exact (readAt3 arg9.view _ (k0_off11 g) 0 g.val h4 (k0_off11_inb g) (k0_off11_eq g)).trans (congrArg (fun d => tile3 d 0 g.val) p2)
    have hP : arg9.view.read (Elt F) (arg9.view.writes (Elt F) f9 (trip.sl.H9_1 c i arg2 harg2 arg3 harg3 arg4 harg4 arg5 harg5 arg6 harg6 arg7 harg7 arg8 harg8 arg9 harg9 arg10 harg10 X2 X3 X4 X5 X6 X7 g f9 f10))
        = put3 (dkIn (q0 (arg2.view.read (Elt F) X2) g.val) (o0 (arg5.view.read (Elt F) X5) g.val) (l0 (arg6.view.read (Elt F) X6) g.val) (d0 (arg7.view.read (Elt F) X7) g.val) (k0_pay32 k0_pay3) (q1 (arg2.view.read (Elt F) X2) g.val) (o1 (arg5.view.read (Elt F) X5) g.val) (l1 (arg6.view.read (Elt F) X6) g.val) (tile2 (arg7.view.read (Elt F) X7) g.val) (arg3.view.read (Elt F) X3) (arg4.view.read (Elt F) X4) (arg9.view.read (Elt F) f9) g.val) 0 g.val (k0_pay54 (k0_pay52 (tile3 (dkIn (q0 (arg2.view.read (Elt F) X2) g.val) (o0 (arg5.view.read (Elt F) X5) g.val) (l0 (arg6.view.read (Elt F) X6) g.val) (d0 (arg7.view.read (Elt F) X7) g.val) (k0_pay32 k0_pay3) (q1 (arg2.view.read (Elt F) X2) g.val) (o1 (arg5.view.read (Elt F) X5) g.val) (l1 (arg6.view.read (Elt F) X6) g.val) (tile2 (arg7.view.read (Elt F) X7) g.val) (arg3.view.read (Elt F) X3) (arg4.view.read (Elt F) X4) (arg9.view.read (Elt F) f9) g.val) 0 g.val)) (trip.sl.r_15 arg2 arg3 arg4 arg5 arg6 arg7 X2 X3 X4 X5 X6 X7 g) (Scalar.ofBits .f32 0x3DD105EC#32)) := by
      rw [← h93]
      unfold trip.sl.H9_1
      refine (readPut3 arg9.view f9 (k0_off11 g) 0 g.val (k0_off11_inb g) (k0_off11_eq g) _ _).trans ?_
      rw [none_left, hr, hr1, hr2, hr3, hr4, hr5, hr6, hn, e7]
      exact congrArg (fun d => put3 d 0 g.val _) p2
    have h15 : trip.sl.r_15 arg2 arg3 arg4 arg5 arg6 arg7 X2 X3 X4 X5 X6 X7 g
        = k0_pay53 k0_pay4 (q0 (arg2.view.read (Elt F) X2) g.val) (o0 (arg5.view.read (Elt F) X5) g.val) (l0 (arg6.view.read (Elt F) X6) g.val) (d0 (arg7.view.read (Elt F) X7) g.val)
          (tile2 (arg4.view.read (Elt F) X4) g.val) (tile3 (arg3.view.read (Elt F) X3) 0 g.val) := by
      unfold trip.sl.r_15
      rw [hr, hr1, hr2, hr3, e4, e11]
    have h124 := readAt3 arg9.view (arg9.view.writes (Elt F) f9 (trip.sl.H9_1 c i arg2 harg2 arg3 harg3 arg4 harg4 arg5 harg5 arg6 harg6 arg7 harg7 arg8 harg8 arg9 harg9 arg10 harg10 X2 X3 X4 X5 X6 X7 g f9 f10)) (k0_off12 g) 1 g.val h4 (k0_off12_inb g) (k0_off12_eq g)
    rw [hP, tile3_put3 _ _ h4] at h124
    refine congrArg₂ (fun a b => put3 a 1 g.val b) (hP.trans (by rw [h15])) ?_
    show k0_pay59 k0_pay4 (trip.sl.r_4 arg2 X2 g) (trip.sl.r_5 arg5 X5 g) (trip.sl.r_6 arg6 X6 g) (trip.sl.r_7 arg7 X7 g) (trip.sl.r_10 arg4 X4 g)
      (arg3.view.readAt (Elt F) (Rect.unit (s := S2x2048x128) (k0_off12 g) S1x512x128.size (k0_off12_inb g)).toLoadRect X3)
      (arg9.view.readAt (Elt F) (Rect.unit (s := S2x2048x128) (k0_off12 g) S1x512x128.size (k0_off12_inb g)).toLoadRect (arg9.view.writes (Elt F) f9 (trip.sl.H9_1 c i arg2 harg2 arg3 harg3 arg4 harg4 arg5 harg5 arg6 harg6 arg7 harg7 arg8 harg8 arg9 harg9 arg10 harg10 X2 X3 X4 X5 X6 X7 g f9 f10))) = _
    rw [h124, hr4, hr5, hr6, hr7, hr10, e12]
  · have h139 : trip.sl.v139 c i arg2 harg2 arg3 harg3 arg4 harg4 arg5 harg5 arg6 harg6 arg7 harg7 arg8 harg8 arg9 harg9 arg10 harg10 X2 X3 X4 X5 X6 X7 g f9 f10 = tile2 (dvIn (q0 (arg2.view.read (Elt F) X2) g.val) (o0 (arg5.view.read (Elt F) X5) g.val) (l0 (arg6.view.read (Elt F) X6) g.val) (q1 (arg2.view.read (Elt F) X2) g.val) (o1 (arg5.view.read (Elt F) X5) g.val) (l1 (arg6.view.read (Elt F) X6) g.val) (arg3.view.read (Elt F) X3) (arg10.view.read (Elt F) f10) g.val) g.val := by
      unfold trip.sl.v139
      rw [none_left, hr, hr1, hr2, hr3, hr4, hr5, hr6, hn, e7]
      exact (readAt2 arg10.view _ (k0_off10 g) g.val h4 (k0_off10_inb g) (k0_off10_eq g)).trans (congrArg (fun d => tile2 d g.val) p3)
    refine (readPut2 arg10.view f10 (k0_off10 g) g.val (k0_off10_inb g) (k0_off10_eq g) _ _).trans ?_
    rw [none_left, hr, hr1, hr2, hr3, hr4, hr5, hr6, hn, e7]
    refine congrArg₂ (fun a b => put2 a g.val b) p3 ?_
    show k0_pay5 (k0_pay60 k0_pay4 (trip.sl.r_1 arg5 X5 g) (trip.sl.r_4 arg2 X2 g) (trip.sl.r_5 arg5 X5 g) (trip.sl.r_6 arg6 X6 g)
        (k0_pay50 k0_pay4 (trip.sl.r arg2 X2 g) (trip.sl.r_2 arg6 X6 g) (arg3.view.readAt (Elt F) (Rect.unit (s := S2x2048x128) (k0_off11 g) S1x512x128.size (k0_off11_inb g)).toLoadRect X3))
        (arg3.view.readAt (Elt F) (Rect.unit (s := S2x2048x128) (k0_off12 g) S1x512x128.size (k0_off12_inb g)).toLoadRect X3))
      (trip.sl.v139 c i arg2 harg2 arg3 harg3 arg4 harg4 arg5 harg5 arg6 harg6 arg7 harg7 arg8 harg8 arg9 harg9 arg10 harg10 X2 X3 X4 X5 X6 X7 g f9 f10) = _
    rw [h139, hr, hr1, hr2, hr4, hr5, hr6, e11, e12]

end Trip

end Cert.KernelIdeal.Hand

end
-- ==== Proof.Body.lean ====
/- The body of the attention gradient at a grid point: what the blocks of the three results hold after it, as functions of
   the six blocks it reads. -/
module

public import proofs.«01_k».proof.Proof.Tiles

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- An element's place in its block of 512 rows. -/
def in3 (y : S2x2048x128.Idx) : S1x512x128.Idx := fun a => match a with
  | ⟨0, _⟩ => (0 : Fin 1)
  | ⟨1, _⟩ => (⟨(y 1).val % 512, Nat.mod_lt _ (by omega)⟩ : Fin 512)
  | ⟨2, _⟩ => (y 2 : Fin 128)

def in2 (y : S2048x128.Idx) : S512x128.Idx := fun a => match a with
  | ⟨0, _⟩ => (⟨(y 0).val % 512, Nat.mod_lt _ (by omega)⟩ : Fin 512)
  | ⟨1, _⟩ => (y 1 : Fin 128)

/-! ## The four trips -/

section Outer
variable (xq xk : Vec F S2x2048x128 .bf16) (xv xo : Vec F S2048x128 .bf16) (xl xd : Vec F S2048x128 .f32)

/-- The queries' gradient before block `g`, over what the block held. -/
def dqUp (d : Vec F S2x2048x128 .f32) : ℕ → Vec F S2x2048x128 .f32
  | 0 => d
  | g + 1 => put3 (put3 (dqUp d g) 0 g (dq0 xq xk xv xo xl xd g)) 1 g (dq1 xq xk xv xo xl xd g)

/-- The keys' gradient before block `g` of the queries. -/
def dkUp (d : Vec F S2x2048x128 .f32) : ℕ → Vec F S2x2048x128 .f32
  | 0 => d
  | g + 1 => dkStep xq xk xv xo xl xd (dkUp d g) g

/-- The values' gradient before block `g` of the queries. -/
def dvUp (d : Vec F S2048x128 .f32) : ℕ → Vec F S2048x128 .f32
  | 0 => d
  | g + 1 => dvStep xq xk xo xl (dvUp d g) g

/-- What the body leaves in the queries' gradient: block `y₁ / 512` of head `y₀`. -/
def dqOut : Vec F S2x2048x128 .f32 :=
  fun y => if (y 0).val = 0
    then dq0 xq xk xv xo xl xd ((y 1).val / 512) (in3 y)
    else dq1 xq xk xv xo xl xd ((y 1).val / 512) (in3 y)

/-- What the body leaves in the keys' and the values' gradients. -/
def dkOut : Vec F S2x2048x128 .f32 := dkUp xq xk xv xo xl xd k0_pay1 4
def dvOut : Vec F S2048x128 .f32 := dvUp xq xk xo xl k0_pay2 4

end Outer

variable (c : Dev nD) (i : grid0.Coords)
  (arg2 : Memref sig .tc .vmem S2x2048x128 .bf16) (harg2 : arg2.IsWhole) (arg3 : Memref sig .tc .vmem S2x2048x128 .bf16) (harg3 : arg3.IsWhole)
  (arg4 : Memref sig .tc .vmem S2048x128 .bf16) (harg4 : arg4.IsWhole) (arg5 : Memref sig .tc .vmem S2048x128 .bf16) (harg5 : arg5.IsWhole)
  (arg6 : Memref sig .tc .vmem S2048x128 .f32) (harg6 : arg6.IsWhole) (arg7 : Memref sig .tc .vmem S2048x128 .f32) (harg7 : arg7.IsWhole)
  (arg8 : Memref sig .tc .vmem S2x2048x128 .f32) (harg8 : arg8.IsWhole) (arg9 : Memref sig .tc .vmem S2x2048x128 .f32) (harg9 : arg9.IsWhole)
  (arg10 : Memref sig .tc .vmem S2048x128 .f32) (harg10 : arg10.IsWhole)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)
  (G8 : BufTy.Contents (Elt F) arg8.view.ty) (G9 : BufTy.Contents (Elt F) arg9.view.ty) (G10 : BufTy.Contents (Elt F) arg10.view.ty)

/-- The three results' contents before trip `g`. -/
def sto : ℕ → BufTy.Contents (Elt F) arg8.view.ty × BufTy.Contents (Elt F) arg9.view.ty × BufTy.Contents (Elt F) arg10.view.ty
  | 0 => (G8, G9, G10)
  | g + 1 => if h : g < k0_t1_loop.trips then
      (arg8.view.writes (Elt F) (sto g).1 ((trip c i arg2 harg2 arg3 harg3 arg4 harg4 arg5 harg5 arg6 harg6 arg7 harg7 arg8 harg8 arg9 harg9 arg10 harg10 X2 X3 X4 X5 X6 X7 ⟨g, h⟩).1 (sto g).1 (sto g).2.1 (sto g).2.2),
       arg9.view.writes (Elt F) (sto g).2.1 ((trip c i arg2 harg2 arg3 harg3 arg4 harg4 arg5 harg5 arg6 harg6 arg7 harg7 arg8 harg8 arg9 harg9 arg10 harg10 X2 X3 X4 X5 X6 X7 ⟨g, h⟩).2.1 (sto g).1 (sto g).2.1 (sto g).2.2),
       arg10.view.writes (Elt F) (sto g).2.2 ((trip c i arg2 harg2 arg3 harg3 arg4 harg4 arg5 harg5 arg6 harg6 arg7 harg7 arg8 harg8 arg9 harg9 arg10 harg10 X2 X3 X4 X5 X6 X7 ⟨g, h⟩).2.2.1 (sto g).1 (sto g).2.1 (sto g).2.2))
    else sto g

theorem sto_succ (k : Fin k0_t1_loop.trips) :
    sto c i arg2 harg2 arg3 harg3 arg4 harg4 arg5 harg5 arg6 harg6 arg7 harg7 arg8 harg8 arg9 harg9 arg10 harg10 X2 X3 X4 X5 X6 X7 G8 G9 G10 (k.val + 1) = (arg8.view.writes (Elt F) (sto c i arg2 harg2 arg3 harg3 arg4 harg4 arg5 harg5 arg6 harg6 arg7 harg7 arg8 harg8 arg9 harg9 arg10 harg10 X2 X3 X4 X5 X6 X7 G8 G9 G10 k.val).1 ((trip c i arg2 harg2 arg3 harg3 arg4 harg4 arg5 harg5 arg6 harg6 arg7 harg7 arg8 harg8 arg9 harg9 arg10 harg10 X2 X3 X4 X5 X6 X7 k).1 (sto c i arg2 harg2 arg3 harg3 arg4 harg4 arg5 harg5 arg6 harg6 arg7 harg7 arg8 harg8 arg9 harg9 arg10 harg10 X2 X3 X4 X5 X6 X7 G8 G9 G10 k.val).1 (sto c i arg2 harg2 arg3 harg3 arg4 harg4 arg5 harg5 arg6 harg6 arg7 harg7 arg8 harg8 arg9 harg9 arg10 harg10 X2 X3 X4 X5 X6 X7 G8 G9 G10 k.val).2.1 (sto c i arg2 harg2 arg3 harg3 arg4 harg4 arg5 harg5 arg6 harg6 arg7 harg7 arg8 harg8 arg9 harg9 arg10 harg10 X2 X3 X4 X5 X6 X7 G8 G9 G10 k.val).2.2),
       arg9.view.writes (Elt F) (sto c i arg2 harg2 arg3 harg3 arg4 harg4 arg5 harg5 arg6 harg6 arg7 harg7 arg8 harg8 arg9 harg9 arg10 harg10 X2 X3 X4 X5 X6 X7 G8 G9 G10 k.val).2.1 ((trip c i arg2 harg2 arg3 harg3 arg4 harg4 arg5 harg5 arg6 harg6 arg7 harg7 arg8 harg8 arg9 harg9 arg10 harg10 X2 X3 X4 X5 X6 X7 k).2.1 (sto c i arg2 harg2 arg3 harg3 arg4 harg4 arg5 harg5 arg6 harg6 arg7 harg7 arg8 harg8 arg9 harg9 arg10 harg10 X2 X3 X4 X5 X6 X7 G8 G9 G10 k.val).1 (sto c i arg2 harg2 arg3 harg3 arg4 harg4 arg5 harg5 arg6 harg6 arg7 harg7 arg8 harg8 arg9 harg9 arg10 harg10 X2 X3 X4 X5 X6 X7 G8 G9 G10 k.val).2.1 (sto c i arg2 harg2 arg3 harg3 arg4 harg4 arg5 harg5 arg6 harg6 arg7 harg7 arg8 harg8 arg9 harg9 arg10 harg10 X2 X3 X4 X5 X6 X7 G8 G9 G10 k.val).2.2),
       arg10.view.writes (Elt F) (sto c i arg2 harg2 arg3 harg3 arg4 harg4 arg5 harg5 arg6 harg6 arg7 harg7 arg8 harg8 arg9 harg9 arg10 harg10 X2 X3 X4 X5 X6 X7 G8 G9 G10 k.val).2.2 ((trip c i arg2 harg2 arg3 harg3 arg4 harg4 arg5 harg5 arg6 harg6 arg7 harg7 arg8 harg8 arg9 harg9 arg10 harg10 X2 X3 X4 X5 X6 X7 k).2.2.1 (sto c i arg2 harg2 arg3 harg3 arg4 harg4 arg5 harg5 arg6 harg6 arg7 harg7 arg8 harg8 arg9 harg9 arg10 harg10 X2 X3 X4 X5 X6 X7 G8 G9 G10 k.val).1 (sto c i arg2 harg2 arg3 harg3 arg4 harg4 arg5 harg5 arg6 harg6 arg7 harg7 arg8 harg8 arg9 harg9 arg10 harg10 X2 X3 X4 X5 X6 X7 G8 G9 G10 k.val).2.1 (sto c i arg2 harg2 arg3 harg3 arg4 harg4 arg5 harg5 arg6 harg6 arg7 harg7 arg8 harg8 arg9 harg9 arg10 harg10 X2 X3 X4 X5 X6 X7 G8 G9 G10 k.val).2.2)) := by
  rw [sto.eq_2]
  exact dif_pos k.isLt

/-- Read as vectors, the three results before trip `g` are the plain recursions. -/
theorem sto_eq : ∀ g : ℕ, g ≤ k0_t1_loop.trips →
    arg8.view.read (Elt F) (sto c i arg2 harg2 arg3 harg3 arg4 harg4 arg5 harg5 arg6 harg6 arg7 harg7 arg8 harg8 arg9 harg9 arg10 harg10 X2 X3 X4 X5 X6 X7 G8 G9 G10 g).1 = dqUp (arg2.view.read (Elt F) X2) (arg3.view.read (Elt F) X3) (arg4.view.read (Elt F) X4) (arg5.view.read (Elt F) X5) (arg6.view.read (Elt F) X6) (arg7.view.read (Elt F) X7) (arg8.view.read (Elt F) G8) g
    ∧ arg9.view.read (Elt F) (sto c i arg2 harg2 arg3 harg3 arg4 harg4 arg5 harg5 arg6 harg6 arg7 harg7 arg8 harg8 arg9 harg9 arg10 harg10 X2 X3 X4 X5 X6 X7 G8 G9 G10 g).2.1 = dkUp (arg2.view.read (Elt F) X2) (arg3.view.read (Elt F) X3) (arg4.view.read (Elt F) X4) (arg5.view.read (Elt F) X5) (arg6.view.read (Elt F) X6) (arg7.view.read (Elt F) X7) (arg9.view.read (Elt F) G9) g
    ∧ arg10.view.read (Elt F) (sto c i arg2 harg2 arg3 harg3 arg4 harg4 arg5 harg5 arg6 harg6 arg7 harg7 arg8 harg8 arg9 harg9 arg10 harg10 X2 X3 X4 X5 X6 X7 G8 G9 G10 g).2.2 = dvUp (arg2.view.read (Elt F) X2) (arg3.view.read (Elt F) X3) (arg5.view.read (Elt F) X5) (arg6.view.read (Elt F) X6) (arg10.view.read (Elt F) G10) g
  | 0, _ => ⟨rfl, rfl, rfl⟩
  | g + 1, hg => by
    obtain ⟨h1, h2, h3⟩ := sto_eq g (Nat.le_of_succ_le hg)
    rw [sto_succ c i arg2 harg2 arg3 harg3 arg4 harg4 arg5 harg5 arg6 harg6 arg7 harg7 arg8 harg8 arg9 harg9 arg10 harg10 X2 X3 X4 X5 X6 X7 G8 G9 G10 ⟨g, hg⟩]
    dsimp only
    obtain ⟨e1, e2, e3⟩ := trip_eq c i arg2 harg2 arg3 harg3 arg4 harg4 arg5 harg5 arg6 harg6 arg7 harg7 arg8 harg8 arg9 harg9 arg10 harg10 X2 X3 X4 X5 X6 X7 ⟨g, hg⟩
      (sto c i arg2 harg2 arg3 harg3 arg4 harg4 arg5 harg5 arg6 harg6 arg7 harg7 arg8 harg8 arg9 harg9 arg10 harg10 X2 X3 X4 X5 X6 X7 G8 G9 G10 g).1 (sto c i arg2 harg2 arg3 harg3 arg4 harg4 arg5 harg5 arg6 harg6 arg7 harg7 arg8 harg8 arg9 harg9 arg10 harg10 X2 X3 X4 X5 X6 X7 G8 G9 G10 g).2.1 (sto c i arg2 harg2 arg3 harg3 arg4 harg4 arg5 harg5 arg6 harg6 arg7 harg7 arg8 harg8 arg9 harg9 arg10 harg10 X2 X3 X4 X5 X6 X7 G8 G9 G10 g).2.2
    refine ⟨?_, ?_, ?_⟩
    · rw [e1, h1]; rfl
    · rw [e2, h2]; rfl
    · rw [e3, h3]; rfl

/-- The invariant of the outer loop before trip `k`. -/
abbrev invOuter (k : ℕ) (acc : Unit) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (∃ f, (arg8.view.loc (c : Thread nD τ) ↦[arg8.view.set]{fullShare} f) ∗ ⌜f = (sto c i arg2 harg2 arg3 harg3 arg4 harg4 arg5 harg5 arg6 harg6 arg7 harg7 arg8 harg8 arg9 harg9 arg10 harg10 X2 X3 X4 X5 X6 X7 G8 G9 G10 k).1⌝)
    ∗ (∃ f, (arg9.view.loc (c : Thread nD τ) ↦[arg9.view.set]{fullShare} f) ∗ ⌜f = (sto c i arg2 harg2 arg3 harg3 arg4 harg4 arg5 harg5 arg6 harg6 arg7 harg7 arg8 harg8 arg9 harg9 arg10 harg10 X2 X3 X4 X5 X6 X7 G8 G9 G10 k).2.1⌝)
    ∗ (∃ f, (arg10.view.loc (c : Thread nD τ) ↦[arg10.view.set]{fullShare} f) ∗ ⌜f = (sto c i arg2 harg2 arg3 harg3 arg4 harg4 arg5 harg5 arg6 harg6 arg7 harg7 arg8 harg8 arg9 harg9 arg10 harg10 X2 X3 X4 X5 X6 X7 G8 G9 G10 k).2.2⌝))

set_option warn.classDefReducibility false in
/-- The outer loop's invariant and its step. -/
def loopOuter : Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 where
  inv := invOuter c i arg2 harg2 arg3 harg3 arg4 harg4 arg5 harg5 arg6 harg6 arg7 harg7 arg8 harg8 arg9 harg9 arg10 harg10 X2 X3 X4 X5 X6 X7 G8 G9 G10
  step k acc := by
    iintro ⟨H2, H3, H4, H5, H6, H7, ⟨%f8, H8, %h8⟩, ⟨%f9, H9, %h9⟩, ⟨%f10, H10, %h10⟩⟩
    iapply (wp_wand_r Idealize.ShloMosaic.frame (wpE (defs₀ (F := F)) Variants.none (c : Thread nD τ) none) Set.univ)
    isplitl [H2 H3 H4 H5 H6 H7 H8 H9 H10]
    · iapply ((trip c i arg2 harg2 arg3 harg3 arg4 harg4 arg5 harg5 arg6 harg6 arg7 harg7 arg8 harg8 arg9 harg9 arg10 harg10 X2 X3 X4 X5 X6 X7 k).2.2.2 Set.univ f8 f9 f10)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · iintro %yld ⟨H2, H3, H4, H5, H6, H7, H8, H9, H10⟩
      isplitl [H2]; · iexact H2
      isplitl [H3]; · iexact H3
      isplitl [H4]; · iexact H4
      isplitl [H5]; · iexact H5
      isplitl [H6]; · iexact H6
      isplitl [H7]; · iexact H7
      isplitl [H8]
      · iexists _; isplitl [H8]; · iexact H8
        ipureintro
        rw [sto_succ, h8, h9, h10]
      isplitl [H9]
      · iexists _; isplitl [H9]; · iexact H9
        ipureintro
        rw [sto_succ, h8, h9, h10]
      iexists _; isplitl [H10]; · iexact H10
      ipureintro
      rw [sto_succ, h8, h9, h10]

end Cert.KernelIdeal.Hand

end
-- ==== Proof.Run.lean ====
/- The attention gradient's launch: the body at a grid point, the pipeline's data, the run, and the frame. -/
module

public import proofs.«01_k».proof.Proof.Body
public import Idealize.ShloMosaic.Lib.Quiescent

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

/-! ## A block put into an array, at an element -/

theorem put3_apply {α : Type} (x : S2x2048x128.Idx → α) (h : Fin 2) (g : ℕ) (w : S1x512x128.Idx → α) (y : S2x2048x128.Idx) :
    put3 x h g w y = if (y 0).val = h.val ∧ (y 1).val / 512 = g then w (in3 y) else x y := by
  have h0 : (y 0).val < 2 := (y 0).isLt
  have h1 : (y 1).val < 2048 := (y 1).isLt
  have h2 : (y 2).val < 128 := (y 2).isLt
  unfold put3 VecWindow.put
  by_cases hc : (y 0).val = h.val ∧ (y 1).val / 512 = g
  · rw [if_pos hc, dif_pos]
    · refine congrArg w (funext fun a => Fin.ext ?_)
      match a with
      | ⟨0, _⟩ => show (y 0).val - h.val = 0; omega
      | ⟨1, _⟩ => show (y 1).val - 512 * g = (y 1).val % 512; omega
      | ⟨2, _⟩ => show (y 2).val - 0 = (y 2).val; omega
    · intro a
      match a with
      | ⟨0, _⟩ => show h.val ≤ (y 0).val ∧ (y 0).val < h.val + 1; omega
      | ⟨1, _⟩ => show 512 * g ≤ (y 1).val ∧ (y 1).val < 512 * g + 512; omega
      | ⟨2, _⟩ => show 0 ≤ (y 2).val ∧ (y 2).val < 0 + 128; omega
  · rw [if_neg hc, dif_neg]
    intro hall
    have a0 : h.val ≤ (y 0).val ∧ (y 0).val < h.val + 1 := hall 0
    have a1 : 512 * g ≤ (y 1).val ∧ (y 1).val < 512 * g + 512 := hall 1
    exact hc ⟨by omega, by omega⟩

theorem put2_apply {α : Type} (x : S2048x128.Idx → α) (g : ℕ) (w : S512x128.Idx → α) (y : S2048x128.Idx) :
    put2 x g w y = if (y 0).val / 512 = g then w (in2 y) else x y := by
  have h1 : (y 0).val < 2048 := (y 0).isLt
  have h2 : (y 1).val < 128 := (y 1).isLt
  unfold put2 VecWindow.put
  by_cases hc : (y 0).val / 512 = g
  · rw [if_pos hc, dif_pos]
    · refine congrArg w (funext fun a => Fin.ext ?_)
      match a with
      | ⟨0, _⟩ => show (y 0).val - 512 * g = (y 0).val % 512; omega
      | ⟨1, _⟩ => show (y 1).val - 0 = (y 1).val; omega
    · intro a
      match a with
      | ⟨0, _⟩ => show 512 * g ≤ (y 0).val ∧ (y 0).val < 512 * g + 512; omega
      | ⟨1, _⟩ => show 0 ≤ (y 1).val ∧ (y 1).val < 0 + 128; omega
  · rw [if_neg hc, dif_neg]
    intro hall
    have a1 : 512 * g ≤ (y 0).val ∧ (y 0).val < 512 * g + 512 := hall 0
    exact hc (by omega)

theorem dqUp_apply (xq xk : Vec F S2x2048x128 .bf16) (xv xo : Vec F S2048x128 .bf16) (xl xd : Vec F S2048x128 .f32) (d : Vec F S2x2048x128 .f32)
    (y : S2x2048x128.Idx) : ∀ n : ℕ, dqUp xq xk xv xo xl xd d n y = if (y 1).val / 512 < n then dqOut xq xk xv xo xl xd y else d y
  | 0 => by simp [dqUp]
  | n + 1 => by
    have h0 : (y 0).val < 2 := (y 0).isLt
    show put3 (put3 (dqUp xq xk xv xo xl xd d n) 0 n _) 1 n _ y = _
    rw [put3_apply, put3_apply, dqUp_apply xq xk xv xo xl xd d y n]
    by_cases hn : (y 1).val / 512 = n
    · subst hn
      by_cases hy : (y 0).val = 0
      · rw [if_neg (fun h => by have h' : (y 0).val = 1 := h.1; omega), if_pos ⟨hy, rfl⟩, if_pos (Nat.lt_succ_self _)]
        unfold dqOut; rw [if_pos hy]
      · rw [if_pos ⟨by show (y 0).val = 1; omega, rfl⟩, if_pos (Nat.lt_succ_self _)]
        unfold dqOut; rw [if_neg hy]
    · rw [if_neg (fun h => hn h.2), if_neg (fun h => hn h.2)]
      by_cases hl : (y 1).val / 512 < n
      · rw [if_pos hl, if_pos (by omega)]
      · rw [if_neg hl, if_neg (by omega)]

/-! ## The body -/

/-- The outer loop run from its invariant. -/
theorem outerRule (c : Dev nD) (i : grid0.Coords)
    (arg2 : Memref sig .tc .vmem S2x2048x128 .bf16) (harg2 : arg2.IsWhole) (arg3 : Memref sig .tc .vmem S2x2048x128 .bf16) (harg3 : arg3.IsWhole)
    (arg4 : Memref sig .tc .vmem S2048x128 .bf16) (harg4 : arg4.IsWhole) (arg5 : Memref sig .tc .vmem S2048x128 .bf16) (harg5 : arg5.IsWhole)
    (arg6 : Memref sig .tc .vmem S2048x128 .f32) (harg6 : arg6.IsWhole) (arg7 : Memref sig .tc .vmem S2048x128 .f32) (harg7 : arg7.IsWhole)
    (arg8 : Memref sig .tc .vmem S2x2048x128 .f32) (harg8 : arg8.IsWhole) (arg9 : Memref sig .tc .vmem S2x2048x128 .f32) (harg9 : arg9.IsWhole)
    (arg10 : Memref sig .tc .vmem S2048x128 .f32) (harg10 : arg10.IsWhole)
    (X2 : Buf (Elt F) (arg2.view.loc (c : Thread nD τ))) (X3 : Buf (Elt F) (arg3.view.loc (c : Thread nD τ)))
    (X4 : Buf (Elt F) (arg4.view.loc (c : Thread nD τ))) (X5 : Buf (Elt F) (arg5.view.loc (c : Thread nD τ)))
    (X6 : Buf (Elt F) (arg6.view.loc (c : Thread nD τ))) (X7 : Buf (Elt F) (arg7.view.loc (c : Thread nD τ)))
    (G8 : Buf (Elt F) (arg8.view.loc (c : Thread nD τ))) (G9 : Buf (Elt F) (arg9.view.loc (c : Thread nD τ)))
    (G10 : Buf (Elt F) (arg10.view.loc (c : Thread nD τ))) (K : PUnit → sProp 𝕄) :
    invOuter c i arg2 harg2 arg3 harg3 arg4 harg4 arg5 harg5 arg6 harg6 arg7 harg7 arg8 harg8 arg9 harg9 arg10 harg10 X2 X3 X4 X5 X6 X7 G8 G9 G10 0 () ⊢ iprop((∀ acc, invOuter c i arg2 harg2 arg3 harg3 arg4 harg4 arg5 harg5 arg6 harg6 arg7 harg7 arg8 harg8 arg9 harg9 arg10 harg10 X2 X3 X4 X5 X6 X7 G8 G9 G10 k0_t1_loop.trips acc
        -∗ wp Idealize.ShloMosaic.frame (wpE (defs₀ (F := F)) Variants.none (c : Thread nD τ) none) Set.univ (Pure.pure PUnit.unit) K)
      -∗ wp Idealize.ShloMosaic.frame (wpE (defs₀ (F := F)) Variants.none (c : Thread nD τ) none) Set.univ
        (k0_t1_loop.for k0_t1_ok PUnit.unit (k0_t1_body (F := F) i arg2 harg2 arg3 harg3 arg4 harg4 arg5 harg5 arg6 harg6 arg7 harg7 arg8 harg8 arg9 harg9 arg10 harg10) >>= fun _ => Pure.pure PUnit.unit) K) :=
  exec_loop Idealize.ShloMosaic.frame (wpE (defs₀ (F := F)) Variants.none (c : Thread nD τ) none) Set.univ k0_t1_loop.lb k0_t1_loop.ub k0_t1_loop.st k0_t1_ok PUnit.unit
    (k0_t1_body (F := F) i arg2 harg2 arg3 harg3 arg4 harg4 arg5 harg5 arg6 harg6 arg7 harg7 arg8 harg8 arg9 harg9 arg10 harg10) (loopOuter c i arg2 harg2 arg3 harg3 arg4 harg4 arg5 harg5 arg6 harg6 arg7 harg7 arg8 harg8 arg9 harg9 arg10 harg10 X2 X3 X4 X5 X6 X7 G8 G9 G10)

theorem kernelRun (c : Dev nD) (i : grid0.Coords)
    (arg2 : Memref sig .tc .vmem S2x2048x128 .bf16) (harg2 : arg2.IsWhole) (arg3 : Memref sig .tc .vmem S2x2048x128 .bf16) (harg3 : arg3.IsWhole)
    (arg4 : Memref sig .tc .vmem S2048x128 .bf16) (harg4 : arg4.IsWhole) (arg5 : Memref sig .tc .vmem S2048x128 .bf16) (harg5 : arg5.IsWhole)
    (arg6 : Memref sig .tc .vmem S2048x128 .f32) (harg6 : arg6.IsWhole) (arg7 : Memref sig .tc .vmem S2048x128 .f32) (harg7 : arg7.IsWhole)
    (arg8 : Memref sig .tc .vmem S2x2048x128 .f32) (harg8 : arg8.IsWhole) (arg9 : Memref sig .tc .vmem S2x2048x128 .f32) (harg9 : arg9.IsWhole)
    (arg10 : Memref sig .tc .vmem S2048x128 .f32) (harg10 : arg10.IsWhole)
    (xq xk : Vec F S2x2048x128 .bf16) (xv xo : Vec F S2048x128 .bf16) (xl xd : Vec F S2048x128 .f32) (K : PUnit → sProp 𝕄) :
    iprop(owns (c : Thread nD τ) arg2 fullShare xq ∗ owns (c : Thread nD τ) arg3 fullShare xk ∗ owns (c : Thread nD τ) arg4 fullShare xv
        ∗ owns (c : Thread nD τ) arg5 fullShare xo ∗ owns (c : Thread nD τ) arg6 fullShare xl ∗ owns (c : Thread nD τ) arg7 fullShare xd
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare xq ∗ owns (c : Thread nD τ) arg3 fullShare xk ∗ owns (c : Thread nD τ) arg4 fullShare xv
            ∗ owns (c : Thread nD τ) arg5 fullShare xo ∗ owns (c : Thread nD τ) arg6 fullShare xl ∗ owns (c : Thread nD τ) arg7 fullShare xd
            ∗ owns (c : Thread nD τ) arg8 fullShare (dqOut xq xk xv xo xl xd) ∗ owns (c : Thread nD τ) arg9 fullShare (dkOut xq xk xv xo xl xd)
            ∗ owns (c : Thread nD τ) arg10 fullShare (dvOut xq xk xo xl)) -∗ K ⟨⟩))
      ⊢ wp frame (wpE (defs₀ (F := F)) Variants.none c none) Set.univ
          (cc0_mla_attn_bwd i arg2 harg2 arg3 harg3 arg4 harg4 arg5 harg5 arg6 harg6 arg7 harg7 arg8 harg8 arg9 harg9 arg10 harg10) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%e8, %f8, -, H8⟩, ⟨%e9, %f9, -, H9⟩, ⟨%e10, %f10, -, H10⟩, Hk⟩
  simp only [cc0_mla_attn_bwd_eq_skeleton]
  unfold cc0_mla_attn_bwd_skel
  sl_exec
  have hz9 : arg9.view.read (Elt F) (arg9.view.writes (Elt F) arg9.view.junk (kernelRun.sl.H9_1 (F := F))) = k0_pay1 := View.read_writes_full _ _ _ _ _
  have hz10 : arg10.view.read (Elt F) (arg10.view.writes (Elt F) arg10.view.junk (kernelRun.sl.H10_1 (F := F))) = k0_pay2 := View.read_writes_full _ _ _ _ _
  obtain ⟨r8, r9, r10⟩ := sto_eq c i arg2 harg2 arg3 harg3 arg4 harg4 arg5 harg5 arg6 harg6 arg7 harg7 arg8 harg8 arg9 harg9 arg10 harg10 f2 f3 f4 f5 f6 f7 f8 (arg9.view.writes (Elt F) arg9.view.junk kernelRun.sl.H9_1) (arg10.view.writes (Elt F) arg10.view.junk kernelRun.sl.H10_1) k0_t1_loop.trips le_rfl
  iapply (outerRule c i arg2 harg2 arg3 harg3 arg4 harg4 arg5 harg5 arg6 harg6 arg7 harg7 arg8 harg8 arg9 harg9 arg10 harg10 f2 f3 f4 f5 f6 f7 f8 (arg9.view.writes (Elt F) arg9.view.junk kernelRun.sl.H9_1) (arg10.view.writes (Elt F) arg10.view.junk kernelRun.sl.H10_1) K) $$ [H2 H3 H4 H5 H6 H7 H8 H9 H10]
  · isplitl [H2]; · iexact H2
    isplitl [H3]; · iexact H3
    isplitl [H4]; · iexact H4
    isplitl [H5]; · iexact H5
    isplitl [H6]; · iexact H6
    isplitl [H7]; · iexact H7
    isplitl [H8]
    · iexists _; isplitl [H8]; · iexact H8
      ipureintro; rw [sto.eq_1]
    isplitl [H9]
    · iexists _; isplitl [H9]; · iexact H9
      ipureintro; rw [sto.eq_1]
    iexists _; isplitl [H10]; · iexact H10
    ipureintro; rw [sto.eq_1]
  iintro %acc ⟨H2, H3, H4, H5, H6, H7, ⟨%g8, H8, %h8⟩, ⟨%g9, H9, %h9⟩, ⟨%g10, H10, %h10⟩⟩
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro
    rw [h8]
    refine r8.trans ?_
    rw [hf2, hf3, hf4, hf5, hf6, hf7, trips1_eq]
    funext y
    rw [dqUp_apply, if_pos (by have h1 : (y 1).val < 2048 := (y 1).isLt; omega)]
  isplitl [H9]
  · iexists _; isplitr; swap; · iexact H9
    ipureintro
    rw [h9]
    refine r9.trans ?_
    rw [hf2, hf3, hf4, hf5, hf6, hf7, trips1_eq, hz9]; rfl
  iexists _; isplitr; swap; · iexact H10
  ipureintro
  rw [h10]
  refine r10.trans ?_
  rw [hf2, hf3, hf5, hf6, trips1_eq, hz10]; rfl

/-! ## The pipeline's data -/

variable (m : (ℓ : Loc nD τ sig) → Buf (Elt F) ℓ) (ρ : Dev nD → PrngReg)

def dqAt (c : Dev nD) (t : Fin cfg0.N) : Vec F S2x2048x128 .f32 :=
  dqOut (iblk m c 0 t) (iblk m c 1 t) (iblk m c 2 t) (iblk m c 3 t) (iblk m c 4 t) (iblk m c 5 t)
def dkAt (c : Dev nD) (t : Fin cfg0.N) : Vec F S2x2048x128 .f32 :=
  dkOut (iblk m c 0 t) (iblk m c 1 t) (iblk m c 2 t) (iblk m c 3 t) (iblk m c 4 t) (iblk m c 5 t)
def dvAt (c : Dev nD) (t : Fin cfg0.N) : Vec F S2048x128 .f32 :=
  dvOut (iblk m c 0 t) (iblk m c 1 t) (iblk m c 3 t) (iblk m c 4 t)

/-- Each array as the region finds it; after the body each input at its block and each result at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t
    | ⟨7, _⟩ => dkAt m c t
    | ⟨8, _⟩ => dvAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqAt m c t := by dsimp only [dats]
theorem after0_7 (c : Dev nD) (t : Fin cfg0.N) : (dats m 0 c).after 7 t = dkAt m c t := by dsimp only [dats]
theorem after0_8 (c : Dev nD) (t : Fin cfg0.N) : (dats m 0 c).after 8 t = dvAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, the run and the frame -/

theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  unfold dqAt dkAt dvAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun c _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- From any memory the program ends with its arguments as launched and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.KernelIdeal.Hand

end
-- ==== Proof.Consts.lean ====
/- The real number that both programs scale the scores by, the patterns of the infinities, and sums of reals as ideal values. -/
module

public import proofs.«01_k».proof.KernelIdeal
public import Idealize.ShloMosaic.PureOps.Ideal.Laws

@[expose] public section

noncomputable section

namespace Cert.KernelIdeal.Hand

open Idealize.ShloMosaic

/-- The scores' factor, as a real. -/
def sc : ℝ := (Ideal.ofBits .f32 0x3DD105EC#32).toReal

theorem ofBits_scale : Ideal.ofBits .f32 0x3DD105EC#32 = (sc : EReal) := by
  have : ∃ r : ℝ, Ideal.ofBits .f32 0x3DD105EC#32 = (r : EReal) := by
    simp only [Ideal.ofBits, Ideal.ieee]
    rw [if_neg (by decide), if_neg (by decide)]
    exact ⟨_, rfl⟩
  obtain ⟨r, h⟩ := this
  rw [sc, h, EReal.toReal_coe]

theorem ofBits_neg_inf : Ideal.ofBits .f32 0xFF800000#32 = ⊥ := by
  simp only [Ideal.ofBits, Ideal.ieee]
  rw [if_pos (by decide), if_pos (by decide), if_pos (by decide)]

theorem ofBits_pos_inf : Ideal.ofBits .f32 0x7F800000#32 = ⊤ := by
  simp only [Ideal.ofBits, Ideal.ieee]
  rw [if_pos (by decide), if_pos (by decide), if_neg (by decide)]

theorem coe_sum {ι : Type} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

/-- The largest of finitely many values that are `a` or `-∞`, one of them `a`. -/
theorem fold_max_eq {n : ℕ} (f : Fin n → EReal) (a : EReal) (h : ∀ i, f i = a ∨ f i = ⊥) (h' : ∃ i, f i = a) :
    Finset.fold max ⊥ f Finset.univ = a := by
  apply le_antisymm
  · rw [Finset.fold_max_le]
    exact ⟨bot_le, fun i _ => (h i).elim (fun e => e.le) (fun e => e ▸ bot_le)⟩
  · obtain ⟨i, e⟩ := h'
    rw [Finset.le_fold_max]
    exact .inr ⟨i, Finset.mem_univ i, e.ge⟩

end Cert.KernelIdeal.Hand

end
-- ==== Proof.Pay.lean ====
/- The arithmetic of one block pair of the attention's gradient over the reals: every value that the body computes from real
   operands is a real one, and its formula. -/
module

public import proofs.«01_k».proof.Proof.Tiles
public import proofs.«01_k».proof.Proof.Consts
public import Idealize.ShloMosaic.Lib.Pointwise
public import Idealize.ShloMosaic.Lib.ValueIdxCore
public import Idealize.ShloMosaic.Lib.WordCmp

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.ShloMosaic.WordCmp (cmpi_sge_ofNat cmpi_slt_ofNat select_decide)

/-- A real matrix as a vector of ideal values, and one with a leading axis. -/
def up2 {a b : ℕ} (f : Fin a → Fin b → ℝ) : (⟨2, ![a, b]⟩ : Shape).Idx → EReal := fun y => ((f (y 0) (y 1) : ℝ) : EReal)
def up3 {a b c : ℕ} (f : Fin a → Fin b → Fin c → ℝ) : (⟨3, ![a, b, c]⟩ : Shape).Idx → EReal := fun y => ((f (y 0) (y 1) (y 2) : ℝ) : EReal)

theorem up2_ix2 {a b : ℕ} (f : Fin a → Fin b → ℝ) (i : Fin a) (j : Fin b) : up2 f (ix2 i j) = ((f i j : ℝ) : EReal) := rfl
theorem up3_ix3 {a b c : ℕ} (f : Fin a → Fin b → Fin c → ℝ) (i : Fin a) (j : Fin b) (k : Fin c) :
    up3 f (ix3 i j k) = ((f i j k : ℝ) : EReal) := rfl

theorem ext2 {a b : ℕ} {α : Type} (f g : (⟨2, ![a, b]⟩ : Shape).Idx → α) (h : ∀ i j, f (ix2 i j) = g (ix2 i j)) : f = g := by
  funext y
  rw [eq_ix2 y]
  exact h _ _
theorem ext3 {a b c : ℕ} {α : Type} (f g : (⟨3, ![a, b, c]⟩ : Shape).Idx → α) (h : ∀ i j k, f (ix3 i j k) = g (ix3 i j k)) : f = g := by
  funext y
  rw [eq_ix3 y]
  exact h _ _ _

theorem mask_bot : Named.named (F := Ideal) (φ := .f32) κ "mask" 0xF149F2CA#32 = (⊥ : EReal) := IdealRules.named_const.ideal_named_scalar _ _ _ _ rfl

variable (q o k v : Fin 512 → Fin 128 → ℝ) (l d : Fin 512 → ℝ)

/-- The weights of a block pair below the diagonal, and their gradients. -/
def wgt (r x : Fin 512) : ℝ := Real.exp ((∑ c, q r c * k x c) * sc - l r)
def grd (r x : Fin 512) : ℝ := wgt q k l r x * ((∑ c, o r c * v x c) - d r)

/-- The same of the block pair on the diagonal. -/
def wgtD (r x : Fin 512) : ℝ := if x.val ≤ r.val then wgt q k l r x else 0
def grdD (r x : Fin 512) : ℝ := wgtD q k l r x * ((∑ c, o r c * v x c) - d r)

section Casts
variable (k : Fin 512 → Fin 128 → ℝ)
theorem pay8_up : k0_pay8 (F := Ideal) (up2 k) = up2 k := by refine ext2 _ _ fun r x => ?_; pointwise [k0_pay8]
theorem pay48_up : k0_pay48 (F := Ideal) (up2 k) = up2 k := by refine ext2 _ _ fun r x => ?_; pointwise [k0_pay48]
theorem pay9_up : k0_pay9 (F := Ideal) (up3 fun _ => k) = up2 k := by refine ext2 _ _ fun r x => ?_; pointwise [k0_pay9]; rfl
theorem pay15_up : k0_pay15 (F := Ideal) (up3 fun _ => k) = up2 k := by refine ext2 _ _ fun r x => ?_; pointwise [k0_pay15]; rfl
theorem pay28_up : k0_pay28 (F := Ideal) (up3 fun _ => k) = up2 k := by refine ext2 _ _ fun r x => ?_; pointwise [k0_pay28]; rfl
theorem pay33_up : k0_pay33 (F := Ideal) (up3 fun _ => k) = up2 k := by refine ext2 _ _ fun r x => ?_; pointwise [k0_pay33]; rfl
theorem pay49_up : k0_pay49 (F := Ideal) (up3 fun _ => k) = up2 k := by refine ext2 _ _ fun r x => ?_; pointwise [k0_pay49]; rfl
theorem pay52_up : k0_pay52 (F := Ideal) (up3 fun _ => k) = up2 k := by refine ext2 _ _ fun r x => ?_; pointwise [k0_pay52]; rfl
theorem pay56_up : k0_pay56 (F := Ideal) (up3 fun _ => k) = up2 k := by refine ext2 _ _ fun r x => ?_; pointwise [k0_pay56]; rfl
theorem pay37_up : k0_pay37 (F := Ideal) = up2 fun _ _ => 0 := by
  refine ext2 _ _ fun r x => ?_
  pointwise [k0_pay37]
  simp only [up2_ix2, EReal.coe_zero]
theorem pay1_up : k0_pay1 (F := Ideal) = up3 fun _ _ _ => 0 := by
  refine ext3 _ _ fun h r x => ?_
  pointwise [k0_pay1]
  simp only [up3_ix3, EReal.coe_zero]
theorem pay2_up : k0_pay2 (F := Ideal) = up2 fun _ _ => 0 := by
  refine ext2 _ _ fun r x => ?_
  pointwise [k0_pay2]
  simp only [up2_ix2, EReal.coe_zero]
theorem pay17_up : k0_pay17 (F := Ideal) = up2 fun _ _ => sc := by
  refine ext2 _ _ fun r x => ?_
  pointwise [k0_pay17]
  simp only [up2_ix2, ofBits_scale]
theorem pay4_up : k0_pay4 (F := Ideal) = fun y => if (y 1).val ≤ (y 0).val then 0 else ⊥ := by
  refine ext2 _ _ fun r x => ?_
  have hr := r.isLt
  have hx := x.isLt
  pointwise [k0_pay4]
  rw [mask_bot, show IntOp.addi (BitVec.ofNat 32 x.val) 0#32 = BitVec.ofNat 32 x.val from BitVec.add_zero _,
    cmpi_sge_ofNat (by omega) (by omega), select_decide]
  rfl
end Casts

section Head0

theorem pay10_up : k0_pay10 (F := Ideal) (up2 q) (up2 fun r _ => l r) (up3 fun _ => k) = up2 (wgt q k l) := by
  unfold k0_pay10
  rw [pay9_up]
  refine ext2 _ _ fun r x => ?_
  pointwise
  simp only [up2_ix2, ofBits_scale, ← EReal.coe_mul, ← coe_sum, ← EReal.coe_sub, Ideal.exp_coe, wgt]

theorem pay11_up : k0_pay11 (F := Ideal) (up2 q) (up2 o) (up2 fun r _ => l r) (up2 fun r _ => d r) (up2 v) (up3 fun _ => k) = up2 (grd q o k v l d) := by
  unfold k0_pay11
  rw [pay10_up, pay8_up]
  refine ext2 _ _ fun r x => ?_
  pointwise
  simp only [up2_ix2, ← EReal.coe_mul, ← coe_sum, ← EReal.coe_sub, grd]

theorem pay12_up (a : Fin 512 → Fin 128 → ℝ) :
    k0_pay12 (F := Ideal) (up2 q) (up2 o) (up2 fun r _ => l r) (up2 fun r _ => d r) (up2 v) (up3 fun _ => k) (up3 fun _ => a)
      = up3 fun _ x c => a x c + (∑ r, grd q o k v l d r x * q r c) * sc := by
  unfold k0_pay12
  rw [pay11_up]
  refine ext3 _ _ fun e x c => ?_
  pointwise
  simp only [up2_ix2, up3_ix3, ofBits_scale, ← EReal.coe_mul, ← coe_sum, ← EReal.coe_add]

theorem pay13_up : k0_pay13 (F := Ideal) (up2 q) (up2 o) (up2 fun r _ => l r) (up3 fun _ => k) = up2 fun x c => ∑ r, wgt q k l r x * o r c := by
  unfold k0_pay13
  rw [pay10_up]
  refine ext2 _ _ fun x c => ?_
  pointwise
  simp only [up2_ix2, ← EReal.coe_mul, ← coe_sum]

theorem pay14_up (a : Fin 512 → Fin 128 → ℝ) :
    k0_pay14 (F := Ideal) (up2 q) (up2 o) (up2 fun r _ => l r) (up2 fun r _ => d r) (up2 a) (up2 v) (up3 fun _ => k)
      = up2 fun r c => a r c + ∑ x, grd q o k v l d r x * k x c := by
  unfold k0_pay14
  rw [pay11_up, pay9_up]
  refine ext2 _ _ fun x c => ?_
  pointwise
  simp only [up2_ix2, ← EReal.coe_mul, ← coe_sum, ← EReal.coe_add]

theorem bias (a : ℝ) (p : Prop) [Decidable p] (b : ℝ) :
    Ideal.exp ((a : EReal) + (if p then 0 else ⊥) - (b : EReal)) = ((if p then Real.exp (a - b) else 0 : ℝ) : EReal) := by
  by_cases h : p
  · rw [if_pos h, if_pos h, add_zero, ← EReal.coe_sub, Ideal.exp_coe]
  · rw [if_neg h, if_neg h, EReal.add_bot, EReal.bot_sub, Ideal.exp_bot, EReal.coe_zero]

theorem pay50_up : k0_pay50 (F := Ideal) k0_pay4 (up2 q) (up2 fun r _ => l r) (up3 fun _ => k) = up2 (wgtD q k l) := by
  unfold k0_pay50
  rw [pay49_up, pay4_up]
  refine ext2 _ _ fun r x => ?_
  pointwise
  simp only [up2_ix2, ofBits_scale, ← EReal.coe_mul, ← coe_sum]
  exact bias _ _ _

theorem pay51_up : k0_pay51 (F := Ideal) k0_pay4 (up2 q) (up2 o) (up2 fun r _ => l r) (up2 fun r _ => d r) (up2 v) (up3 fun _ => k) = up2 (grdD q o k v l d) := by
  unfold k0_pay51
  rw [pay50_up, pay48_up]
  refine ext2 _ _ fun r x => ?_
  pointwise
  simp only [up2_ix2, ← EReal.coe_mul, ← coe_sum, ← EReal.coe_sub, grdD]

theorem pay53_up : k0_pay53 (F := Ideal) k0_pay4 (up2 q) (up2 o) (up2 fun r _ => l r) (up2 fun r _ => d r) (up2 v) (up3 fun _ => k)
    = up2 fun x c => ∑ r, grdD q o k v l d r x * q r c := by
  unfold k0_pay53
  rw [pay51_up]
  refine ext2 _ _ fun x c => ?_
  pointwise
  simp only [up2_ix2, ← EReal.coe_mul, ← coe_sum]

theorem pay54_up (a b : Fin 512 → Fin 128 → ℝ) :
    k0_pay54 (F := Ideal) (up2 a) (up2 b) (Scalar.ofBits .f32 0x3DD105EC#32) = up3 fun _ x c => a x c + b x c * sc := by
  refine ext3 _ _ fun e x c => ?_
  pointwise [k0_pay54]
  simp only [up2_ix2, up3_ix3, ofBits_scale, ← EReal.coe_mul, ← EReal.coe_add]

theorem pay55_up (a : Fin 512 → Fin 128 → ℝ) (g : Fin 512 → Fin 512 → ℝ) :
    k0_pay55 (F := Ideal) (up2 a) (up2 k) (up2 g) = up2 fun r c => a r c + ∑ x, g r x * k x c := by
  refine ext2 _ _ fun r c => ?_
  pointwise [k0_pay55]
  simp only [up2_ix2, ← EReal.coe_mul, ← coe_sum, ← EReal.coe_add]

theorem pay6_up (a : Fin 512 → Fin 128 → ℝ) : k0_pay6 (F := Ideal) (up2 a) = up3 fun _ x c => a x c * sc := by
  refine ext3 _ _ fun e x c => ?_
  pointwise [k0_pay6]
  simp only [up2_ix2, up3_ix3, ofBits_scale, ← EReal.coe_mul]

theorem pay7_up (a b : Fin 512 → Fin 128 → ℝ) : k0_pay7 (F := Ideal) (up2 a) (up2 b) = up3 fun _ x c => (a x c + b x c) * sc := by
  refine ext3 _ _ fun e x c => ?_
  pointwise [k0_pay7]
  simp only [up2_ix2, up3_ix3, ofBits_scale, ← EReal.coe_mul, ← EReal.coe_add]

theorem pay5_up (a b : Fin 512 → Fin 128 → ℝ) : k0_pay5 (F := Ideal) (up2 a) (up2 b) = up2 fun x c => b x c + a x c := by
  refine ext2 _ _ fun x c => ?_
  pointwise [k0_pay5]
  simp only [up2_ix2, ← EReal.coe_add]

end Head0

section Head1

theorem pay16_up : k0_pay16 (F := Ideal) (up2 q) (up3 fun _ => k) = up2 fun r x => ∑ c, q r c * k x c := by
  unfold k0_pay16
  rw [pay15_up]
  refine ext2 _ _ fun r x => ?_
  pointwise
  simp only [up2_ix2, ← EReal.coe_mul, ← coe_sum]

theorem pay38_up : k0_pay38 (F := Ideal) (up2 fun r _ => l r) (up2 fun r x => ∑ c, q r c * k x c) k0_pay17 = up2 (wgt q k l) := by
  rw [pay17_up]
  refine ext2 _ _ fun r x => ?_
  pointwise [k0_pay38]
  simp only [up2_ix2, ← EReal.coe_mul, ← EReal.coe_sub, Ideal.exp_coe, wgt]

variable (w40 : IVec S512x128 1) (w57 : Vec Ideal S512x128 .f32) (hd : k0_pay36 (F := Ideal) w40 w57 = up2 fun r _ => d r)
include hd

theorem pay39_up : k0_pay39 (F := Ideal) w40 (up2 o) (up2 fun r _ => l r) w57 (up2 v) (up2 fun r x => ∑ c, q r c * k x c) k0_pay17
    = up2 (grd q o k v l d) := by
  unfold k0_pay39
  rw [pay38_up, hd]
  refine ext2 _ _ fun r x => ?_
  pointwise
  simp only [up2_ix2, ← EReal.coe_mul, ← coe_sum, ← EReal.coe_sub, grd]

theorem pay40_up (a : Fin 512 → Fin 128 → ℝ) :
    k0_pay40 (F := Ideal) w40 (up2 q) (up2 o) (up2 fun r _ => l r) w57 (up2 v) (up2 fun r x => ∑ c, q r c * k x c) k0_pay17 (up3 fun _ => a)
      = up3 fun _ x c => a x c + (∑ r, grd q o k v l d r x * q r c) * sc := by
  unfold k0_pay40
  rw [pay39_up q o k v l d w40 w57 hd]
  refine ext3 _ _ fun e x c => ?_
  pointwise
  simp only [up2_ix2, up3_ix3, ofBits_scale, ← EReal.coe_mul, ← coe_sum, ← EReal.coe_add]

theorem pay41_up (a : Fin 512 → Fin 128 → ℝ) :
    k0_pay41 (F := Ideal) w40 (up2 o) (up2 fun r _ => l r) w57 (up2 a) (up2 v) (up2 k) (up2 fun r x => ∑ c, q r c * k x c) k0_pay17
      = up2 fun r c => a r c + ∑ x, grd q o k v l d r x * k x c := by
  unfold k0_pay41
  rw [pay39_up q o k v l d w40 w57 hd]
  refine ext2 _ _ fun x c => ?_
  pointwise
  simp only [up2_ix2, ← EReal.coe_mul, ← coe_sum, ← EReal.coe_add]

omit hd in
theorem pay42_up (a b : Fin 512 → Fin 128 → ℝ) :
    k0_pay42 (F := Ideal) (up2 o) (up2 fun r _ => l r) (up2 a) (up2 fun r x => ∑ c, q r c * k x c) k0_pay17 (up2 b)
      = up2 fun x c => b x c + (a x c + ∑ r, wgt q k l r x * o r c) := by
  unfold k0_pay42
  rw [pay38_up]
  refine ext2 _ _ fun x c => ?_
  pointwise
  simp only [up2_ix2, ← EReal.coe_mul, ← coe_sum, ← EReal.coe_add]

omit hd in
theorem pay57_up : k0_pay57 (F := Ideal) k0_pay4 (up2 q) (up2 fun r _ => l r) (up3 fun _ => k) = up2 (wgtD q k l) := by
  unfold k0_pay57
  rw [pay56_up, pay4_up]
  refine ext2 _ _ fun r x => ?_
  pointwise
  simp only [up2_ix2, ofBits_scale, ← EReal.coe_mul, ← coe_sum]
  exact bias _ _ _

omit hd in
theorem pay58_up : k0_pay58 (F := Ideal) k0_pay4 (up2 q) (up2 o) (up2 fun r _ => l r) (up2 fun r _ => d r) (up2 v) (up3 fun _ => k) = up2 (grdD q o k v l d) := by
  unfold k0_pay58
  rw [pay57_up]
  refine ext2 _ _ fun r x => ?_
  pointwise
  simp only [up2_ix2, ← EReal.coe_mul, ← coe_sum, ← EReal.coe_sub, grdD]

omit hd in
theorem pay59_up (a : Fin 512 → Fin 128 → ℝ) :
    k0_pay59 (F := Ideal) k0_pay4 (up2 q) (up2 o) (up2 fun r _ => l r) (up2 fun r _ => d r) (up2 v) (up3 fun _ => k) (up3 fun _ => a)
      = up3 fun _ x c => a x c + (∑ r, grdD q o k v l d r x * q r c) * sc := by
  unfold k0_pay59
  rw [pay58_up]
  refine ext3 _ _ fun e x c => ?_
  pointwise
  simp only [up2_ix2, up3_ix3, ofBits_scale, ← EReal.coe_mul, ← coe_sum, ← EReal.coe_add]

omit hd in
theorem pay60_up (o' : Fin 512 → Fin 128 → ℝ) (w : Fin 512 → Fin 512 → ℝ) :
    k0_pay60 (F := Ideal) k0_pay4 (up2 o') (up2 q) (up2 o) (up2 fun r _ => l r) (up2 w) (up3 fun _ => k)
      = up2 fun x c => (∑ r, w r x * o' r c) + ∑ r, wgtD q k l r x * o r c := by
  unfold k0_pay60
  rw [pay57_up]
  refine ext2 _ _ fun x c => ?_
  pointwise
  simp only [up2_ix2, ← EReal.coe_mul, ← coe_sum, ← EReal.coe_add]

omit hd in
theorem pay61_up : k0_pay61 (F := Ideal) k0_pay4 (up2 q) (up2 o) (up2 fun r _ => l r) (up2 fun r _ => d r) (up2 v) (up3 fun _ => k)
    = up2 fun r c => ∑ x, grdD q o k v l d r x * k x c := by
  unfold k0_pay61
  rw [pay58_up, pay56_up]
  refine ext2 _ _ fun x c => ?_
  pointwise
  simp only [up2_ix2, ← EReal.coe_mul, ← coe_sum]

end Head1

section Lanes

/-- The half of the lanes that a lane lies in: its head. -/
def half (c : Fin 128) : Fin 2 := if c.val < 64 then 0 else 1

variable (o : Fin 512 → Fin 128 → ℝ) (L : Fin 2 → Fin 512 → ℝ)

/-- The lanes of head `h`, the others zero. -/
def lanes (h : Fin 2) (r : Fin 512) (c : Fin 128) : ℝ := if half c = h then o r c else 0

theorem flip_bit (b : Bool) : IntOp.xori (BitVec.ofBool b) 1#1 = BitVec.ofBool (!b) := by cases b <;> rfl

theorem half_eq_zero (c : Fin 128) : (half c = 0) ↔ c.val < 64 := by
  unfold half; split <;> simp_all
theorem half_eq_one (c : Fin 128) : (half c = 1) ↔ ¬ c.val < 64 := by
  unfold half; split <;> simp_all

theorem pay3_at (r : Fin 512) (c : Fin 128) : k0_pay3 (ix2 r c) = BitVec.ofBool (decide (half c = 0)) := by
  have hc := c.isLt
  pointwise [k0_pay3]
  rw [cmpi_slt_ofNat (by omega) (by omega)]
  simp only [half_eq_zero]

theorem pay32_at (r : Fin 512) (c : Fin 128) : k0_pay32 k0_pay3 (ix2 r c) = BitVec.ofBool (decide (half c = 1)) := by
  unfold k0_pay32
  rw [show xori k0_pay3 (constantI S512x128 1 1#1) (ix2 r c) = IntOp.xori (k0_pay3 (ix2 r c)) 1#1 from rfl, pay3_at, flip_bit]
  congr 1
  exact (by decide : ∀ h : Fin 2, (!decide (h = 0)) = decide (h = 1)) (half c)

theorem pick (p : Prop) [Decidable p] (a : ℝ) : Scalar.select (BitVec.ofBool (decide p)) (a : EReal) 0 = ((if p then a else 0 : ℝ) : EReal) := by
  rw [select_decide]
  by_cases h : p
  · rw [if_pos h, if_pos h]
  · rw [if_neg h, if_neg h, EReal.coe_zero]

theorem pay29_up : k0_pay29 (F := Ideal) k0_pay3 (up2 o) = up2 (lanes o 0) := by
  refine ext2 _ _ fun r c => ?_
  pointwise [k0_pay29]
  rw [pay3_at]
  exact pick _ _

theorem pay34_up : k0_pay34 (F := Ideal) k0_pay3 (up2 o) = up2 (lanes o 1) := by
  refine ext2 _ _ fun r c => ?_
  pointwise [k0_pay34]
  rw [pay32_at]
  exact pick _ _

theorem top_of_half (h : Fin 2) (r : Fin 512) :
    Finset.fold max ⊥ (fun c : Fin 128 => Scalar.select (BitVec.ofBool (decide (half c = h))) ((L (half c) r : ℝ) : EReal) ⊥) Finset.univ
      = ((L h r : ℝ) : EReal) := by
  refine fold_max_eq _ _ (fun c => ?_) ?_
  · rw [select_decide]
    by_cases e : half c = h
    · exact .inl (by rw [if_pos e, e])
    · exact .inr (if_neg e)
  · obtain ⟨c, e⟩ : ∃ c : Fin 128, half c = h :=
      (Fin.forall_fin_two (p := fun h => ∃ c : Fin 128, half c = h)).mpr ⟨⟨⟨0, by omega⟩, rfl⟩, ⟨⟨64, by omega⟩, rfl⟩⟩ h
    exact ⟨c, by rw [select_decide, if_pos e, e]⟩

theorem pay30_up : k0_pay30 (F := Ideal) k0_pay3 (up2 fun r c => L (half c) r) = up2 fun r _ => L 0 r := by
  refine ext2 _ _ fun r c => ?_
  pointwise [k0_pay30]
  simp only [pay3_at, up2_ix2, mask_bot, ofBits_neg_inf]
  exact top_of_half L 0 r
theorem pay31_up : k0_pay31 (F := Ideal) k0_pay3 (up2 fun r c => L (half c) r) = up2 fun r _ => L 0 r := by
  refine ext2 _ _ fun r c => ?_
  pointwise [k0_pay31]
  simp only [pay3_at, up2_ix2, mask_bot, ofBits_neg_inf]
  exact top_of_half L 0 r
theorem pay35_up : k0_pay35 (F := Ideal) k0_pay3 (up2 fun r c => L (half c) r) = up2 fun r _ => L 1 r := by
  refine ext2 _ _ fun r c => ?_
  pointwise [k0_pay35]
  simp only [pay32_at, up2_ix2, mask_bot, ofBits_neg_inf]
  exact top_of_half L 1 r
theorem pay36_up : k0_pay36 (F := Ideal) (k0_pay32 k0_pay3) (up2 fun r c => L (half c) r) = up2 fun r _ => L 1 r := by
  refine ext2 _ _ fun r c => ?_
  pointwise [k0_pay36]
  simp only [pay32_at, up2_ix2, mask_bot, ofBits_neg_inf]
  exact top_of_half L 1 r

end Lanes

end Cert.KernelIdeal.Hand

end
-- ==== Proof.Block.lean ====
/- What the body leaves in the three gradients' blocks, over the reals: sums over all rows of the queries or the keys. -/
module

public import proofs.«01_k».proof.Proof.Pay
public import proofs.«01_k».proof.Proof.Run

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic

/-- Row `y` of block `g`. -/
def row (g : ℕ) (y : Fin 512) : Fin 2048 := ⟨(512 * g + y.val) % 2048, Nat.mod_lt _ (by omega)⟩

theorem row_val (g : ℕ) (hg : g < 4) (y : Fin 512) : (row g y).val = 512 * g + y.val := by
  have := y.isLt
  exact Nat.mod_eq_of_lt (by omega)

theorem row_of (k : Fin 2048) : row (k.val / 512) ⟨k.val % 512, Nat.mod_lt _ (by omega)⟩ = k := by
  have := k.isLt
  exact Fin.ext (by rw [row_val _ (by omega)]; show 512 * (k.val / 512) + k.val % 512 = k.val; omega)

theorem sum_rows {M : Type} [AddCommMonoid M] (f : Fin 2048 → M) : ∑ g ∈ Finset.range 4, ∑ r : Fin 512, f (row g r) = ∑ n, f n := by
  rw [← Finset.sum_range (f := fun g => ∑ r : Fin 512, f (row g r)) (n := 4) |>.symm]
  rw [← Fintype.sum_prod_type' (f := fun (g : Fin 4) r => f (row g.val r))]
  refine Fintype.sum_bijective (fun p : Fin 4 × Fin 512 => row p.1.val p.2) ?_ _ _ fun _ => rfl
  constructor
  · rintro ⟨a, b⟩ ⟨c, d⟩ h
    have h' := congrArg Fin.val h
    simp only [row_val _ a.isLt, row_val _ c.isLt] at h'
    have := b.isLt
    have := d.isLt
    exact Prod.ext (Fin.ext (by show a.val = c.val; omega)) (Fin.ext (by show b.val = d.val; omega))
  · intro n
    have := n.isLt
    exact ⟨(⟨n.val / 512, by omega⟩, ⟨n.val % 512, Nat.mod_lt _ (by omega)⟩), row_of n⟩

section Tiles
variable (X : Fin 2 → Fin 2048 → Fin 128 → ℝ) (Y : Fin 2048 → Fin 128 → ℝ)

theorem tile3_up (h : Fin 2) (g : ℕ) : tile3 (up3 X) h g = up3 (fun (_ : Fin 1) => fun (y : Fin 512) (c : Fin 128) => X h (row g y) c) := rfl
theorem tile2_up (g : ℕ) : tile2 (up2 Y) g = up2 (fun (y : Fin 512) (c : Fin 128) => Y (row g y) c) := rfl

theorem put3_up (g : ℕ) (w0 w1 : Fin 512 → Fin 128 → ℝ) :
    put3 (put3 (up3 X) 0 g (up3 (fun (_ : Fin 1) => w0))) 1 g (up3 (fun (_ : Fin 1) => w1))
      = up3 fun h k c => if k.val / 512 = g then (if h = 0 then w0 else w1) ⟨k.val % 512, Nat.mod_lt _ (by omega)⟩ c else X h k c := by
  refine ext3 _ _ fun h k c => ?_
  rw [put3_apply, put3_apply, up3_ix3, up3_ix3]
  show (if h.val = 1 ∧ k.val / 512 = g then ((w1 ⟨k.val % 512, _⟩ c : ℝ) : EReal) else if h.val = 0 ∧ k.val / 512 = g then ((w0 ⟨k.val % 512, _⟩ c : ℝ) : EReal) else _) = _
  by_cases hk : k.val / 512 = g
  · rw [if_pos hk]
    rcases (by omega : h.val = 0 ∨ h.val = 1) with e | e
    · rw [if_neg (fun h' => by omega), if_pos ⟨e, hk⟩, if_pos (Fin.ext e)]
    · rw [if_pos ⟨e, hk⟩, if_neg (fun h' => by rw [h'] at e; exact absurd e (by decide))]
  · rw [if_neg (fun h => hk h.2), if_neg (fun h => hk h.2), if_neg hk]

theorem put2_up (g : ℕ) (w : Fin 512 → Fin 128 → ℝ) :
    put2 (up2 Y) g (up2 w) = up2 fun k c => if k.val / 512 = g then w ⟨k.val % 512, Nat.mod_lt _ (by omega)⟩ c else Y k c := by
  refine ext2 _ _ fun k c => ?_
  rw [put2_apply, up2_ix2, up2_ix2]
  show (if k.val / 512 = g then ((w ⟨k.val % 512, _⟩ c : ℝ) : EReal) else _) = _
  by_cases hk : k.val / 512 = g
  · rw [if_pos hk, if_pos hk]
  · rw [if_neg hk, if_neg hk]

end Tiles

/-! ## The pass over the blocks of keys -/

section Pass
variable (K : Fin 2 → Fin 2048 → Fin 128 → ℝ) (V : Fin 2048 → Fin 128 → ℝ)
  (q o : Fin 2 → Fin 512 → Fin 128 → ℝ) (l d : Fin 2 → Fin 512 → ℝ)
  (w40 : IVec S512x128 1) (w57 : Vec Ideal S512x128 .f32)

/-- A row's weight of a key, and its gradient, with no mask. -/
def wAt (h : Fin 2) (r : Fin 512) (k : Fin 2048) : ℝ := Real.exp ((∑ c, q h r c * K h k c) * sc - l h r)
def gAt (h : Fin 2) (r : Fin 512) (k : Fin 2048) : ℝ := wAt K q l h r k * ((∑ c, o h r c * V k c) - d h r)

theorem accs_up (hd : k0_pay36 (F := Ideal) w40 w57 = up2 fun r _ => d 1 r) : ∀ j : ℕ,
    accs (F := Ideal) (up2 (q 0)) (up2 (o 0)) (up2 fun r _ => l 0 r) (up2 fun r _ => d 0 r) w40 (up2 (q 1)) (up2 (o 1)) (up2 fun r _ => l 1 r) w57
        (up3 K) (up2 V) j
      = (up2 fun r c => ∑ i ∈ Finset.range j, ∑ x, gAt K V q o l d 0 r (row i x) * K 0 (row i x) c,
         up2 fun r c => ∑ i ∈ Finset.range j, ∑ x, gAt K V q o l d 1 r (row i x) * K 1 (row i x) c)
  | 0 => by
    show (k0_pay37 (F := Ideal), k0_pay37 (F := Ideal)) = _
    rw [pay37_up]
    rfl
  | j + 1 => by
    rw [accs, accs_up hd j, tile2_up, tile3_up, tile3_up, pay8_up, pay15_up, pay16_up, pay14_up, pay41_up _ _ _ _ _ _ _ _ hd]
    simp only [Finset.sum_range_succ]
    rfl

theorem dkIn_up (hd : k0_pay36 (F := Ideal) w40 w57 = up2 fun r _ => d 1 r) (A : Fin 2 → Fin 2048 → Fin 128 → ℝ) : ∀ j : ℕ, j ≤ 4 →
    dkIn (F := Ideal) (up2 (q 0)) (up2 (o 0)) (up2 fun r _ => l 0 r) (up2 fun r _ => d 0 r) w40 (up2 (q 1)) (up2 (o 1)) (up2 fun r _ => l 1 r) w57
        (up3 K) (up2 V) (up3 A) j
      = up3 fun h k c => A h k c + if k.val / 512 < j then (∑ r, gAt K V q o l d h r k * q h r c) * sc else 0
  | 0, _ => by
    show up3 A = _
    congr 1
    funext h k c
    rw [if_neg (by omega), add_zero]
  | j + 1, hj => by
    rw [dkIn, dkIn_up hd A j (by omega), tile2_up, tile3_up, tile3_up, tile3_up, tile3_up, pay8_up, pay16_up, pay12_up, pay40_up _ _ _ _ _ _ _ _ hd, put3_up]
    congr 1
    funext h k c
    by_cases hk : k.val / 512 = j
    · have hr : row j ⟨k.val % 512, Nat.mod_lt _ (by omega)⟩ = k := hk ▸ row_of k
      have hlt : ¬ k.val / 512 < j := by omega
      rw [if_pos hk, if_pos (show k.val / 512 < j + 1 by omega)]
      rcases Fin.forall_fin_two (p := fun h => h = 0 ∨ h = 1) |>.mpr ⟨.inl rfl, .inr rfl⟩ h with rfl | rfl
      · rw [if_pos (rfl : (0 : Fin 2) = 0)]
        simp only [hr, if_neg hlt, add_zero]
        refine congrArg (fun s => A 0 k c + s * sc) (Finset.sum_congr rfl fun r _ => ?_)
        simp only [grd, wgt, gAt, wAt, hr]
      · rw [if_neg (by decide : ¬ (1 : Fin 2) = 0)]
        simp only [hr, if_neg hlt, add_zero]
        refine congrArg (fun s => A 1 k c + s * sc) (Finset.sum_congr rfl fun r _ => ?_)
        simp only [grd, wgt, gAt, wAt, hr]
    · rw [if_neg hk]
      by_cases hl : k.val / 512 < j
      · rw [if_pos hl, if_pos (by omega)]
      · rw [if_neg hl, if_neg (by omega)]

theorem dvIn_up (A : Fin 2048 → Fin 128 → ℝ) : ∀ j : ℕ, j ≤ 4 →
    dvIn (F := Ideal) (up2 (q 0)) (up2 (o 0)) (up2 fun r _ => l 0 r) (up2 (q 1)) (up2 (o 1)) (up2 fun r _ => l 1 r) (up3 K) (up2 A) j
      = up2 fun k c => A k c + if k.val / 512 < j then (∑ r, wAt K q l 0 r k * o 0 r c) + ∑ r, wAt K q l 1 r k * o 1 r c else 0
  | 0, _ => by
    show up2 A = _
    congr 1
    funext k c
    rw [if_neg (by omega), add_zero]
  | j + 1, hj => by
    rw [dvIn, dvIn_up A j (by omega), tile2_up, tile3_up, tile3_up, pay16_up, pay13_up, pay42_up, put2_up]
    congr 1
    funext k c
    by_cases hk : k.val / 512 = j
    · have hr : row j ⟨k.val % 512, Nat.mod_lt _ (by omega)⟩ = k := hk ▸ row_of k
      have hlt : ¬ k.val / 512 < j := by omega
      rw [if_pos hk, if_pos (show k.val / 512 < j + 1 by omega)]
      simp only [hr, if_neg hlt, add_zero, wgt, wAt]
    · rw [if_neg hk]
      by_cases hl : k.val / 512 < j
      · rw [if_pos hl, if_pos (by omega)]
      · rw [if_neg hl, if_neg (by omega)]

end Pass

/-! ## The three results -/

section Results
variable (Q K : Fin 2 → Fin 2048 → Fin 128 → ℝ) (V O : Fin 2048 → Fin 128 → ℝ) (L D : Fin 2 → Fin 2048 → ℝ)

/-- The weight of key `k` in row `n`, zero above the diagonal, and its gradient. -/
def pm (h : Fin 2) (n k : Fin 2048) : ℝ := if k.val ≤ n.val then Real.exp ((∑ c, Q h n c * K h k c) * sc - L h n) else 0
def oh (h : Fin 2) (n : Fin 2048) (c : Fin 128) : ℝ := if half c = h then O n c else 0
def dsm (h : Fin 2) (n k : Fin 2048) : ℝ := pm Q K L h n k * ((∑ c, oh O h n c * V k c) - D h n)

/-- The rows of block `g`. -/
abbrev rq (g : ℕ) (h : Fin 2) (y : Fin 512) (c : Fin 128) : ℝ := Q h (row g y) c
abbrev ro (g : ℕ) (h : Fin 2) (y : Fin 512) (c : Fin 128) : ℝ := oh O h (row g y) c
abbrev rl (g : ℕ) (h : Fin 2) (y : Fin 512) : ℝ := L h (row g y)

theorem wAt_eq (g : ℕ) (hg : g < 4) (h : Fin 2) (r : Fin 512) (k : Fin 2048) (hk : k.val / 512 < g) :
    wAt K (rq Q g) (rl L g) h r k = pm Q K L h (row g r) k := by
  rw [pm, if_pos (by rw [row_val g hg]; omega)]
  rfl

theorem gAt_eq (g : ℕ) (hg : g < 4) (h : Fin 2) (r : Fin 512) (k : Fin 2048) (hk : k.val / 512 < g) :
    gAt K V (rq Q g) (ro O g) (rl L g) (rl D g) h r k = dsm Q K V O L D h (row g r) k := by
  rw [gAt, wAt_eq Q K L g hg h r k hk]
  rfl

theorem wgtD_eq (g : ℕ) (hg : g < 4) (h : Fin 2) (r x : Fin 512) :
    wgtD (rq Q g h) (fun y c => K h (row g y) c) (rl L g h) r x = pm Q K L h (row g r) (row g x) := by
  rw [pm, wgtD]
  refine if_congr ?_ rfl rfl
  rw [row_val g hg, row_val g hg]
  omega

theorem grdD_eq (g : ℕ) (hg : g < 4) (h : Fin 2) (r x : Fin 512) :
    grdD (rq Q g h) (ro O g h) (fun y c => K h (row g y) c) (fun y c => V (row g y) c) (rl L g h) (rl D g h) r x
      = dsm Q K V O L D h (row g r) (row g x) := by
  rw [grdD, wgtD_eq Q K L g hg]
  rfl

theorem pm_above (g : ℕ) (hg : g < 4) (h : Fin 2) (r : Fin 512) (k : Fin 2048) (hk : g < k.val / 512) : pm Q K L h (row g r) k = 0 := by
  have := r.isLt
  rw [pm, if_neg (by rw [row_val g hg]; omega)]

theorem dsm_above (g : ℕ) (hg : g < 4) (h : Fin 2) (r : Fin 512) (k : Fin 2048) (hk : g < k.val / 512) : dsm Q K V O L D h (row g r) k = 0 := by
  rw [dsm, pm_above Q K L g hg h r k hk, zero_mul]

theorem q0_up (g : ℕ) : q0 (F := Ideal) (up3 Q) g = up2 (rq Q g 0) := by rw [q0, tile3_up, pay28_up]
theorem q1_up (g : ℕ) : q1 (F := Ideal) (up3 Q) g = up2 (rq Q g 1) := by rw [q1, tile3_up, pay33_up]
theorem o0_up (g : ℕ) : o0 (F := Ideal) (up2 O) g = up2 (ro O g 0) := by rw [o0, tile2_up, pay29_up]; rfl
theorem o1_up (g : ℕ) : o1 (F := Ideal) (up2 O) g = up2 (ro O g 1) := by rw [o1, tile2_up, pay34_up]; rfl
theorem l0_up (g : ℕ) : l0 (F := Ideal) (up2 fun n c => L (half c) n) g = up2 fun r _ => rl L g 0 r := by
  rw [l0, tile2_up]; exact pay30_up fun h y => L h (row g y)
theorem l1_up (g : ℕ) : l1 (F := Ideal) (up2 fun n c => L (half c) n) g = up2 fun r _ => rl L g 1 r := by
  rw [l1, tile2_up]; exact pay35_up fun h y => L h (row g y)
theorem d0_up (g : ℕ) : d0 (F := Ideal) (up2 fun n c => L (half c) n) g = up2 fun r _ => rl L g 0 r := by
  rw [d0, tile2_up]; exact pay31_up fun h y => L h (row g y)
theorem d1_up (g : ℕ) : d1 (F := Ideal) (up2 fun n c => L (half c) n) g = up2 fun r _ => rl L g 1 r := by
  rw [d1, tile2_up]; exact pay36_up fun h y => L h (row g y)

/-- A row's sum over the keys: the blocks below the diagonal and the one on it. -/
theorem sum_keys (g : ℕ) (hg : g < 4) (h : Fin 2) (r : Fin 512) (c : Fin 128) :
    (∑ i ∈ Finset.range g, ∑ x, gAt K V (rq Q g) (ro O g) (rl L g) (rl D g) h r (row i x) * K h (row i x) c)
        + ∑ x, dsm Q K V O L D h (row g r) (row g x) * K h (row g x) c
      = ∑ k, dsm Q K V O L D h (row g r) k * K h k c := by
  rw [← sum_rows (fun k => dsm Q K V O L D h (row g r) k * K h k c)]
  have hs : Finset.range (g + 1) ⊆ Finset.range 4 := Finset.range_subset_range.mpr (by omega)
  rw [← Finset.sum_subset hs, Finset.sum_range_succ]
  · refine congrArg (· + _) (Finset.sum_congr rfl fun i hi => Finset.sum_congr rfl fun x _ => ?_)
    have hi := Finset.mem_range.mp hi
    have hx := x.isLt
    rw [gAt_eq Q K V O L D g hg h r (row i x) (by rw [row_val i (by omega)]; omega)]
  · intro i hi hn
    have hi := Finset.mem_range.mp hi
    have hn : ¬ i < g + 1 := fun e => hn (Finset.mem_range.mpr e)
    refine Finset.sum_eq_zero fun x _ => ?_
    have hx := x.isLt
    rw [dsm_above Q K V O L D g hg h r (row i x) (by rw [row_val i (by omega)]; omega), zero_mul]

theorem dq0_up (g : ℕ) (hg : g < 4) :
    dq0 (F := Ideal) (up3 Q) (up3 K) (up2 V) (up2 O) (up2 fun n c => L (half c) n) (up2 fun n c => D (half c) n) g
      = up3 fun _ r c => (∑ k, dsm Q K V O L D 0 (row g r) k * K 0 k c) * sc := by
  rw [dq0, sums, q0_up, q1_up, o0_up, o1_up, l0_up, l1_up, d0_up,
    accs_up K V (rq Q g) (ro O g) (rl L g) (rl D g) _ _ (d1_up D g), tile3_up, tile2_up, pay49_up, pay51_up, pay55_up, pay6_up]
  congr 1
  funext e r c
  refine congrArg (· * sc) ?_
  rw [← sum_keys Q K V O L D g hg 0 r c]
  refine congrArg (_ + ·) (Finset.sum_congr rfl fun x _ => ?_)
  rw [grdD_eq Q K V O L D g hg]

theorem dq1_up (g : ℕ) (hg : g < 4) :
    dq1 (F := Ideal) (up3 Q) (up3 K) (up2 V) (up2 O) (up2 fun n c => L (half c) n) (up2 fun n c => D (half c) n) g
      = up3 fun _ r c => (∑ k, dsm Q K V O L D 1 (row g r) k * K 1 k c) * sc := by
  rw [dq1, sums, q0_up, q1_up, o0_up, o1_up, l0_up, l1_up, d0_up,
    accs_up K V (rq Q g) (ro O g) (rl L g) (rl D g) _ _ (d1_up D g), d1_up, tile3_up, tile2_up, pay48_up, pay61_up, pay7_up]
  congr 1
  funext e r c
  refine congrArg (· * sc) ?_
  rw [← sum_keys Q K V O L D g hg 1 r c]
  refine congrArg (_ + ·) (Finset.sum_congr rfl fun x _ => ?_)
  rw [grdD_eq Q K V O L D g hg]

theorem dqOut_up :
    dqOut (F := Ideal) (up3 Q) (up3 K) (up2 V) (up2 O) (up2 fun n c => L (half c) n) (up2 fun n c => D (half c) n)
      = up3 fun h n c => (∑ k, dsm Q K V O L D h n k * K h k c) * sc := by
  refine ext3 _ _ fun h n c => ?_
  have hn := n.isLt
  rw [up3_ix3]
  show (if h.val = 0 then dq0 _ _ _ _ _ _ (n.val / 512) _ else dq1 _ _ _ _ _ _ (n.val / 512) _) = _
  rcases Fin.forall_fin_two (p := fun h => h = 0 ∨ h = 1) |>.mpr ⟨.inl rfl, .inr rfl⟩ h with rfl | rfl
  · rw [if_pos (show (0 : Fin 2).val = 0 from rfl), dq0_up Q K V O L D _ (by omega)]
    show (((∑ k, dsm Q K V O L D 0 (row (n.val / 512) ⟨n.val % 512, _⟩) k * K 0 k c) * sc : ℝ) : EReal) = _
    rw [row_of]
  · rw [if_neg (show ¬ (1 : Fin 2).val = 0 by decide), dq1_up Q K V O L D _ (by omega)]
    show (((∑ k, dsm Q K V O L D 1 (row (n.val / 512) ⟨n.val % 512, _⟩) k * K 1 k c) * sc : ℝ) : EReal) = _
    rw [row_of]

theorem dkStep_up (A : Fin 2 → Fin 2048 → Fin 128 → ℝ) (g : ℕ) (hg : g < 4) :
    dkStep (F := Ideal) (up3 Q) (up3 K) (up2 V) (up2 O) (up2 fun n c => L (half c) n) (up2 fun n c => D (half c) n) (up3 A) g
      = up3 fun h k c => A h k c + (∑ r, dsm Q K V O L D h (row g r) k * Q h (row g r) c) * sc := by
  rw [dkStep, q0_up, q1_up, o0_up, o1_up, l0_up, l1_up, d0_up]
  rw [dkIn_up K V (rq Q g) (ro O g) (rl L g) (rl D g) _ _ (d1_up D g) A g (by omega), d1_up, tile3_up, tile3_up, tile3_up, tile3_up, tile2_up,
    pay48_up, pay52_up, pay53_up, pay54_up, pay59_up, put3_up]
  congr 1
  funext h k c
  have hkl := k.isLt
  by_cases hk : k.val / 512 = g
  · have hr : row g ⟨k.val % 512, Nat.mod_lt _ (by omega)⟩ = k := hk ▸ row_of k
    have hlt : ¬ k.val / 512 < g := by omega
    rw [if_pos hk]
    rcases Fin.forall_fin_two (p := fun h => h = 0 ∨ h = 1) |>.mpr ⟨.inl rfl, .inr rfl⟩ h with rfl | rfl
    · rw [if_pos (rfl : (0 : Fin 2) = 0)]
      simp only [grdD_eq Q K V O L D _ hg 0, hr, if_neg hlt, add_zero]
    · rw [if_neg (by decide : ¬ (1 : Fin 2) = 0)]
      simp only [grdD_eq Q K V O L D _ hg 1, hr, if_neg hlt, add_zero]
  · rw [if_neg hk]
    by_cases hl : k.val / 512 < g
    · rw [if_pos hl]
      refine congrArg (fun s => _ + s * sc) (Finset.sum_congr rfl fun r _ => ?_)
      rw [gAt_eq Q K V O L D g hg h r k hl]
    · rw [if_neg hl, Finset.sum_eq_zero (fun r _ => by rw [dsm_above Q K V O L D g hg h r k (by omega), zero_mul]), zero_mul]

theorem dkUp_up : ∀ n : ℕ, n ≤ 4 →
    dkUp (F := Ideal) (up3 Q) (up3 K) (up2 V) (up2 O) (up2 fun n c => L (half c) n) (up2 fun n c => D (half c) n) (k0_pay1 (F := Ideal)) n
      = up3 fun h k c => ∑ g ∈ Finset.range n, (∑ r, dsm Q K V O L D h (row g r) k * Q h (row g r) c) * sc
  | 0, _ => by
    show k0_pay1 (F := Ideal) = _
    rw [pay1_up]
    rfl
  | n + 1, hn => by
    rw [dkUp, dkUp_up n (by omega), dkStep_up Q K V O L D _ n (by omega)]
    simp only [Finset.sum_range_succ]

theorem dkOut_up :
    dkOut (F := Ideal) (up3 Q) (up3 K) (up2 V) (up2 O) (up2 fun n c => L (half c) n) (up2 fun n c => D (half c) n)
      = up3 fun h k c => (∑ n, dsm Q K V O L D h n k * Q h n c) * sc := by
  rw [dkOut, dkUp_up Q K V O L D 4 le_rfl]
  congr 1
  funext h k c
  rw [← Finset.sum_mul, sum_rows (fun n => dsm Q K V O L D h n k * Q h n c)]

theorem two_heads (f : Fin 2 → ℝ) (b : ℝ) (h : Fin 2) :
    f 0 * (if h = 0 then b else 0) + f 1 * (if h = 1 then b else 0) = f h * b := by
  rcases Fin.forall_fin_two (p := fun h => h = 0 ∨ h = 1) |>.mpr ⟨.inl rfl, .inr rfl⟩ h with rfl | rfl <;> simp

theorem dvStep_up (A : Fin 2048 → Fin 128 → ℝ) (g : ℕ) (hg : g < 4) :
    dvStep (F := Ideal) (up3 Q) (up3 K) (up2 O) (up2 fun n c => L (half c) n) (up2 A) g
      = up2 fun k c => A k c + ∑ r, pm Q K L (half c) (row g r) k * O (row g r) c := by
  rw [dvStep, q0_up, q1_up, o0_up, o1_up, l0_up, l1_up]
  rw [dvIn_up K (rq Q g) (ro O g) (rl L g) A g (by omega), tile3_up, tile3_up, tile2_up, pay50_up, pay60_up, pay5_up, put2_up]
  congr 1
  funext k c
  have hkl := k.isLt
  by_cases hk : k.val / 512 = g
  · have hr : row g ⟨k.val % 512, Nat.mod_lt _ (by omega)⟩ = k := hk ▸ row_of k
    have hlt : ¬ k.val / 512 < g := by omega
    rw [if_pos hk]
    simp only [wgtD_eq Q K L _ hg, hr, if_neg hlt, add_zero]
    rw [← Finset.sum_add_distrib]
    exact congrArg (A k c + ·) (Finset.sum_congr rfl fun r _ => two_heads (fun h => pm Q K L h (row g r) k) _ _)
  · rw [if_neg hk]
    by_cases hl : k.val / 512 < g
    · rw [if_pos hl, ← Finset.sum_add_distrib]
      refine congrArg (_ + ·) (Finset.sum_congr rfl fun r _ => ?_)
      rw [wAt_eq Q K L g hg _ r k hl, wAt_eq Q K L g hg _ r k hl]
      exact two_heads (fun h => pm Q K L h (row g r) k) _ _
    · rw [if_neg hl, Finset.sum_eq_zero (fun r _ => by rw [pm_above Q K L g hg _ r k (by omega), zero_mul])]

theorem dvUp_up : ∀ n : ℕ, n ≤ 4 →
    dvUp (F := Ideal) (up3 Q) (up3 K) (up2 O) (up2 fun n c => L (half c) n) (k0_pay2 (F := Ideal)) n
      = up2 fun k c => ∑ g ∈ Finset.range n, ∑ r, pm Q K L (half c) (row g r) k * O (row g r) c
  | 0, _ => by
    show k0_pay2 (F := Ideal) = _
    rw [pay2_up]
    rfl
  | n + 1, hn => by
    rw [dvUp, dvUp_up n (by omega), dvStep_up Q K O L _ n (by omega)]
    simp only [Finset.sum_range_succ]

theorem dvOut_up :
    dvOut (F := Ideal) (up3 Q) (up3 K) (up2 O) (up2 fun n c => L (half c) n)
      = up2 fun k c => ∑ n, pm Q K L (half c) n k * O n c := by
  rw [dvOut, dvUp_up Q K O L 4 le_rfl]
  congr 1
  funext k c
  rw [sum_rows (fun n => pm Q K L (half c) n k * O n c)]

end Results

end Cert.KernelIdeal.Hand

end
-- ==== Proof.Array.lean ====
/- The call's arrays: what a grid point reads and writes of an array, and the three results as arrays. -/
module

public import proofs.«01_k».proof.Proof.Run
public import proofs.«01_k».proof.Proof.Block

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic

theorem N_eq : cfg0.N = 8 := by decide

theorem lt_N (t : Fin cfg0.N) : t.val < 8 := by have := t.isLt; have := N_eq; omega

/-- A grid point's batch, its heads, and where its rows and lanes lie in an array. -/
def bt (t : Fin cfg0.N) : Fin 2 := ⟨t.val / 4, by have := lt_N t; omega⟩
def hd (t : Fin cfg0.N) (h : Fin 2) : Fin 8 := ⟨2 * (t.val % 4) + h.val, by omega⟩
def rowAt (t : Fin cfg0.N) (n : Fin 2048) : Fin 4096 := ⟨2048 * (t.val / 4) + n.val, by have := lt_N t; omega⟩
def colAt (t : Fin cfg0.N) (c : Fin 128) : Fin 512 := ⟨128 * (t.val % 4) + c.val, by omega⟩

theorem index0 : ∀ t : Fin cfg0.N, win0_0.index t 0 = t.val % 4 ∧ win0_0.index t 1 = t.val / 4 ∧ win0_0.index t 2 = 0 := by decide
theorem index1 : ∀ t : Fin cfg0.N, win0_1.index t 0 = t.val % 4 ∧ win0_1.index t 1 = t.val / 4 ∧ win0_1.index t 2 = 0 := by decide
theorem index6 : ∀ t : Fin cfg0.N, win0_6.index t 0 = t.val % 4 ∧ win0_6.index t 1 = t.val / 4 ∧ win0_6.index t 2 = 0 := by decide
theorem index7 : ∀ t : Fin cfg0.N, win0_7.index t 0 = t.val % 4 ∧ win0_7.index t 1 = t.val / 4 ∧ win0_7.index t 2 = 0 := by decide
theorem index2 : ∀ t : Fin cfg0.N, win0_2.index t 0 = t.val / 4 ∧ win0_2.index t 1 = t.val % 4 := by decide
theorem index3 : ∀ t : Fin cfg0.N, win0_3.index t 0 = t.val / 4 ∧ win0_3.index t 1 = t.val % 4 := by decide
theorem index4 : ∀ t : Fin cfg0.N, win0_4.index t 0 = t.val / 4 ∧ win0_4.index t 1 = t.val % 4 := by decide
theorem index5 : ∀ t : Fin cfg0.N, win0_5.index t 0 = t.val / 4 ∧ win0_5.index t 1 = t.val % 4 := by decide
theorem index8 : ∀ t : Fin cfg0.N, win0_8.index t 0 = t.val / 4 ∧ win0_8.index t 1 = t.val % 4 := by decide

theorem at3 {a b c : ℕ} (G : Fin a → Fin b → Fin c → ℝ) {i i' : Fin a} {j j' : Fin b} {k k' : Fin c}
    (hi : i.val = i'.val) (hj : j.val = j'.val) (hk : k.val = k'.val) : ((G i j k : ℝ) : EReal) = ((G i' j' k' : ℝ) : EReal) := by
  rw [Fin.ext hi, Fin.ext hj, Fin.ext hk]
theorem at2 {a b : ℕ} (G : Fin a → Fin b → ℝ) {i i' : Fin a} {j j' : Fin b}
    (hi : i.val = i'.val) (hj : j.val = j'.val) : ((G i j : ℝ) : EReal) = ((G i' j' : ℝ) : EReal) := by
  rw [Fin.ext hi, Fin.ext hj]

section Reads
variable (t : Fin cfg0.N) (G : Fin 8 → Fin 4096 → Fin 128 → ℝ) (H : Fin 4096 → Fin 512 → ℝ)

theorem read0 : ((cfg0.win 0).blk t).view.read (Elt Ideal) (up3 G) = up3 fun h n l => G (hd t h) (rowAt t n) l := by
  obtain ⟨e0, e1, e2⟩ := index0 t
  funext j
  rw [View.read_apply]
  refine at3 G ?_ ?_ ?_
  · show win0_0.index t 0 * 2 + 1 * (j 0).val = 2 * (t.val % 4) + (j 0).val
    rw [e0]; omega
  · show win0_0.index t 1 * 2048 + 1 * (j 1).val = 2048 * (t.val / 4) + (j 1).val
    rw [e1]; omega
  · show win0_0.index t 2 * 128 + 1 * (j 2).val = (j 2).val
    rw [e2]; omega
theorem read1 : ((cfg0.win 1).blk t).view.read (Elt Ideal) (up3 G) = up3 fun h n l => G (hd t h) (rowAt t n) l := by
  obtain ⟨e0, e1, e2⟩ := index1 t
  funext j
  rw [View.read_apply]
  refine at3 G ?_ ?_ ?_
  · show win0_1.index t 0 * 2 + 1 * (j 0).val = 2 * (t.val % 4) + (j 0).val
    rw [e0]; omega
  · show win0_1.index t 1 * 2048 + 1 * (j 1).val = 2048 * (t.val / 4) + (j 1).val
    rw [e1]; omega
  · show win0_1.index t 2 * 128 + 1 * (j 2).val = (j 2).val
    rw [e2]; omega
theorem read6 : ((cfg0.win 6).blk t).view.read (Elt Ideal) (up3 G) = up3 fun h n l => G (hd t h) (rowAt t n) l := by
  obtain ⟨e0, e1, e2⟩ := index6 t
  funext j
  rw [View.read_apply]
  refine at3 G ?_ ?_ ?_
  · show win0_6.index t 0 * 2 + 1 * (j 0).val = 2 * (t.val % 4) + (j 0).val
    rw [e0]; omega
  · show win0_6.index t 1 * 2048 + 1 * (j 1).val = 2048 * (t.val / 4) + (j 1).val
    rw [e1]; omega
  · show win0_6.index t 2 * 128 + 1 * (j 2).val = (j 2).val
    rw [e2]; omega
theorem read7 : ((cfg0.win 7).blk t).view.read (Elt Ideal) (up3 G) = up3 fun h n l => G (hd t h) (rowAt t n) l := by
  obtain ⟨e0, e1, e2⟩ := index7 t
  funext j
  rw [View.read_apply]
  refine at3 G ?_ ?_ ?_
  · show win0_7.index t 0 * 2 + 1 * (j 0).val = 2 * (t.val % 4) + (j 0).val
    rw [e0]; omega
  · show win0_7.index t 1 * 2048 + 1 * (j 1).val = 2048 * (t.val / 4) + (j 1).val
    rw [e1]; omega
  · show win0_7.index t 2 * 128 + 1 * (j 2).val = (j 2).val
    rw [e2]; omega
theorem read2 : ((cfg0.win 2).blk t).view.read (Elt Ideal) (up2 H) = up2 fun n l => H (rowAt t n) (colAt t l) := by
  obtain ⟨e0, e1⟩ := index2 t
  funext j
  rw [View.read_apply]
  refine at2 H ?_ ?_
  · show win0_2.index t 0 * 2048 + 1 * (j 0).val = 2048 * (t.val / 4) + (j 0).val
    rw [e0]; omega
  · show win0_2.index t 1 * 128 + 1 * (j 1).val = 128 * (t.val % 4) + (j 1).val
    rw [e1]; omega
theorem read3 : ((cfg0.win 3).blk t).view.read (Elt Ideal) (up2 H) = up2 fun n l => H (rowAt t n) (colAt t l) := by
  obtain ⟨e0, e1⟩ := index3 t
  funext j
  rw [View.read_apply]
  refine at2 H ?_ ?_
  · show win0_3.index t 0 * 2048 + 1 * (j 0).val = 2048 * (t.val / 4) + (j 0).val
    rw [e0]; omega
  · show win0_3.index t 1 * 128 + 1 * (j 1).val = 128 * (t.val % 4) + (j 1).val
    rw [e1]; omega
theorem read4 : ((cfg0.win 4).blk t).view.read (Elt Ideal) (up2 H) = up2 fun n l => H (rowAt t n) (colAt t l) := by
  obtain ⟨e0, e1⟩ := index4 t
  funext j
  rw [View.read_apply]
  refine at2 H ?_ ?_
  · show win0_4.index t 0 * 2048 + 1 * (j 0).val = 2048 * (t.val / 4) + (j 0).val
    rw [e0]; omega
  · show win0_4.index t 1 * 128 + 1 * (j 1).val = 128 * (t.val % 4) + (j 1).val
    rw [e1]; omega
theorem read5 : ((cfg0.win 5).blk t).view.read (Elt Ideal) (up2 H) = up2 fun n l => H (rowAt t n) (colAt t l) := by
  obtain ⟨e0, e1⟩ := index5 t
  funext j
  rw [View.read_apply]
  refine at2 H ?_ ?_
  · show win0_5.index t 0 * 2048 + 1 * (j 0).val = 2048 * (t.val / 4) + (j 0).val
    rw [e0]; omega
  · show win0_5.index t 1 * 128 + 1 * (j 1).val = 128 * (t.val % 4) + (j 1).val
    rw [e1]; omega
theorem read8 : ((cfg0.win 8).blk t).view.read (Elt Ideal) (up2 H) = up2 fun n l => H (rowAt t n) (colAt t l) := by
  obtain ⟨e0, e1⟩ := index8 t
  funext j
  rw [View.read_apply]
  refine at2 H ?_ ?_
  · show win0_8.index t 0 * 2048 + 1 * (j 0).val = 2048 * (t.val / 4) + (j 0).val
    rw [e0]; omega
  · show win0_8.index t 1 * 128 + 1 * (j 1).val = 128 * (t.val % 4) + (j 1).val
    rw [e1]; omega
end Reads

theorem cover6 (i : S8x4096x128.Idx) : ∃ t : Fin cfg0.N, (cfg0.win 6).flush t = true ∧ i ∈ ((cfg0.win 6).blk t).view.set := by
  have h0 : (i 0).val < 8 := (i 0).isLt
  have h1 : (i 1).val < 4096 := (i 1).isLt
  have h2 : (i 2).val < 128 := (i 2).isLt
  refine ⟨⟨4 * ((i 1).val / 2048) + (i 0).val / 2, by rw [N_eq]; omega⟩, flush0_6 _, ?_⟩
  generalize ht : (⟨4 * ((i 1).val / 2048) + (i 0).val / 2, _⟩ : Fin cfg0.N) = t
  have hv : t.val = 4 * ((i 1).val / 2048) + (i 0).val / 2 := by rw [← ht]
  obtain ⟨e0, e1, e2⟩ := index6 t
  show i ∈ ((View.whole main_v45_0).slice (win0_6.rect t)).set
  rw [View.set_slice_whole, Rect.mem_set_unit]
  intro a
  match a with
  | ⟨0, _⟩ =>
    show win0_6.index t 0 * 2 ≤ (i 0).val ∧ (i 0).val < win0_6.index t 0 * 2 + 2
    rw [e0]; omega
  | ⟨1, _⟩ =>
    show win0_6.index t 1 * 2048 ≤ (i 1).val ∧ (i 1).val < win0_6.index t 1 * 2048 + 2048
    rw [e1]; omega
  | ⟨2, _⟩ =>
    show win0_6.index t 2 * 128 ≤ (i 2).val ∧ (i 2).val < win0_6.index t 2 * 128 + 128
    rw [e2]; omega
theorem cover7 (i : S8x4096x128.Idx) : ∃ t : Fin cfg0.N, (cfg0.win 7).flush t = true ∧ i ∈ ((cfg0.win 7).blk t).view.set := by
  have h0 : (i 0).val < 8 := (i 0).isLt
  have h1 : (i 1).val < 4096 := (i 1).isLt
  have h2 : (i 2).val < 128 := (i 2).isLt
  refine ⟨⟨4 * ((i 1).val / 2048) + (i 0).val / 2, by rw [N_eq]; omega⟩, flush0_7 _, ?_⟩
  generalize ht : (⟨4 * ((i 1).val / 2048) + (i 0).val / 2, _⟩ : Fin cfg0.N) = t
  have hv : t.val = 4 * ((i 1).val / 2048) + (i 0).val / 2 := by rw [← ht]
  obtain ⟨e0, e1, e2⟩ := index7 t
  show i ∈ ((View.whole main_v45_1).slice (win0_7.rect t)).set
  rw [View.set_slice_whole, Rect.mem_set_unit]
  intro a
  match a with
  | ⟨0, _⟩ =>
    show win0_7.index t 0 * 2 ≤ (i 0).val ∧ (i 0).val < win0_7.index t 0 * 2 + 2
    rw [e0]; omega
  | ⟨1, _⟩ =>
    show win0_7.index t 1 * 2048 ≤ (i 1).val ∧ (i 1).val < win0_7.index t 1 * 2048 + 2048
    rw [e1]; omega
  | ⟨2, _⟩ =>
    show win0_7.index t 2 * 128 ≤ (i 2).val ∧ (i 2).val < win0_7.index t 2 * 128 + 128
    rw [e2]; omega
theorem cover8 (i : S4096x512.Idx) : ∃ t : Fin cfg0.N, (cfg0.win 8).flush t = true ∧ i ∈ ((cfg0.win 8).blk t).view.set := by
  have h0 : (i 0).val < 4096 := (i 0).isLt
  have h1 : (i 1).val < 512 := (i 1).isLt
  refine ⟨⟨4 * ((i 0).val / 2048) + (i 1).val / 128, by rw [N_eq]; omega⟩, flush0_8 _, ?_⟩
  generalize ht : (⟨4 * ((i 0).val / 2048) + (i 1).val / 128, _⟩ : Fin cfg0.N) = t
  have hv : t.val = 4 * ((i 0).val / 2048) + (i 1).val / 128 := by rw [← ht]
  obtain ⟨e0, e1⟩ := index8 t
  show i ∈ ((View.whole main_v45_2).slice (win0_8.rect t)).set
  rw [View.set_slice_whole, Rect.mem_set_unit]
  intro a
  match a with
  | ⟨0, _⟩ =>
    show win0_8.index t 0 * 2048 ≤ (i 0).val ∧ (i 0).val < win0_8.index t 0 * 2048 + 2048
    rw [e0]; omega
  | ⟨1, _⟩ =>
    show win0_8.index t 1 * 128 ≤ (i 1).val ∧ (i 1).val < win0_8.index t 1 * 128 + 128
    rw [e1]; omega

section Results
variable (m : (ℓ : Loc nD τ sig) → Buf (Elt Ideal) ℓ) (c : Dev nD)

/-- An output's array is the one whose blocks the points write. -/
theorem out_dq (G : Fin 8 → Fin 4096 → Fin 128 → ℝ) (h : ∀ t, dqAt m c t = up3 fun h n l => G (hd t h) (rowAt t n) l) :
    (dats m 0 c).arrAt 6 cfg0.N = up3 G :=
  (dats m 0 c).arrAt_eq_of_cover 6 (up3 G) (fun t _ => by
    rw [read6]
    exact (after0_6 m c t).trans (h t)) cover6
theorem out_dk (G : Fin 8 → Fin 4096 → Fin 128 → ℝ) (h : ∀ t, dkAt m c t = up3 fun h n l => G (hd t h) (rowAt t n) l) :
    (dats m 0 c).arrAt 7 cfg0.N = up3 G :=
  (dats m 0 c).arrAt_eq_of_cover 7 (up3 G) (fun t _ => by
    rw [read7]
    exact (after0_7 m c t).trans (h t)) cover7
theorem out_dv (H : Fin 4096 → Fin 512 → ℝ) (h : ∀ t, dvAt m c t = up2 fun n l => H (rowAt t n) (colAt t l)) :
    (dats m 0 c).arrAt 8 cfg0.N = up2 H :=
  (dats m 0 c).arrAt_eq_of_cover 8 (up2 H) (fun t _ => by
    rw [read8]
    exact (after0_8 m c t).trans (h t)) cover8
end Results

end Cert.KernelIdeal.Hand

end
-- ==== Proof.Ref.lean ====
/- The reference program's values at real arguments: each is a real array, and its formula. -/
module

public import proofs.«01_k».proof.Proof.Pay
public import proofs.«01_k».proof.Proof.Gen.ReferenceIdeal.Read

@[expose] public section

set_option maxRecDepth 8192
set_option maxHeartbeats 4000000

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic
open Idealize.ShloMosaic.WordCmp (cmpi_sle_ofNat select_decide)
open Cert.KernelIdeal.Hand (up2 up3 up3_ix3 sc ofBits_scale ofBits_neg_inf coe_sum ext2 ext3 fold_max_eq)

/-- A real array of four axes as a vector of ideal values. -/
def up4 {a b c d : ℕ} (f : Fin a → Fin b → Fin c → Fin d → ℝ) : (⟨4, ![a, b, c, d]⟩ : Shape).Idx → EReal :=
  fun y => ((f (y 0) (y 1) (y 2) (y 3) : ℝ) : EReal)

theorem up4_ix4 {a b c d : ℕ} (f : Fin a → Fin b → Fin c → Fin d → ℝ) (i : Fin a) (j : Fin b) (k : Fin c) (l : Fin d) :
    up4 f (ix4 i j k l) = ((f i j k l : ℝ) : EReal) := rfl

theorem ext4 {a b c d : ℕ} {α : Type} (f g : (⟨4, ![a, b, c, d]⟩ : Shape).Idx → α) (h : ∀ i j k l, f (ix4 i j k l) = g (ix4 i j k l)) : f = g := by
  funext y
  rw [eq_ix4 y]
  exact h _ _ _ _

/-- The largest of finitely many reals and `-∞`, not all of them `-∞`, is a real. -/
theorem fold_max_real {n : ℕ} (f : Fin n → EReal) (h : ∀ i, f i ≠ ⊤) (i₀ : Fin n) (h' : f i₀ ≠ ⊥) :
    ∃ r : ℝ, Finset.fold max ⊥ f Finset.univ = (r : EReal) := by
  have ht : Finset.fold max ⊥ f Finset.univ < ⊤ := by
    rw [Finset.fold_max_lt]
    exact ⟨bot_lt_top, fun i _ => lt_top_iff_ne_top.mpr (h i)⟩
  have hb : ⊥ < Finset.fold max ⊥ f Finset.univ := by
    rw [Finset.lt_fold_max]
    exact .inr ⟨i₀, Finset.mem_univ _, bot_lt_iff_ne_bot.mpr h'⟩
  exact ⟨_, (EReal.coe_toReal ht.ne hb.ne').symm⟩

variable (q k : Fin 2 → Fin 8 → Fin 2048 → Fin 96 → ℝ) (v o : Fin 2 → Fin 8 → Fin 2048 → Fin 64 → ℝ)

/-- The score of a query row and a key. -/
def score (b : Fin 2) (h : Fin 8) (n j : Fin 2048) : ℝ := (∑ c, q b h n c * k b h j c) * sc

theorem v2_up : val_main_v2 (F := Ideal) (up4 q) (up4 k) = up4 (score q k) := by
  unfold val_main_v2 val_main_v0 val_main_v1 val_main_cst
  refine ext4 _ _ fun b h n j => ?_
  pointwise
  simp only [up4_ix4, ofBits_scale, ← EReal.coe_mul, ← coe_sum, score]

theorem mask_up : val_main_v9_1 (F := Ideal) = fun y => BitVec.ofBool (decide ((y 3).val ≤ (y 2).val)) := by
  unfold val_main_v9_1 val_main_v8 val_main_v7 val_main_v6 val_main_v5 val_main_v4 val_main_v3
  refine ext4 _ _ fun b h n j => ?_
  have hn := n.isLt
  have hj := j.isLt
  pointwise
  rw [cmpi_sle_ofNat (by omega) (by omega)]
  rfl

theorem v9_up : val_main_v9_0 (F := Ideal) (up4 q) (up4 k) = fun y => if (y 3).val ≤ (y 2).val then ((score q k (y 0) (y 1) (y 2) (y 3) : ℝ) : EReal) else ⊥ := by
  unfold val_main_v9_0 val_main_call0_v2 val_main_call0_v0 val_main_cst_0
  rw [v2_up, mask_up]
  refine ext4 _ _ fun b h n j => ?_
  pointwise
  show (if j.val ≤ n.val then ((score q k b h n j : ℝ) : EReal) else Ideal.ofBits .f32 0xFF800000#32) = _
  rw [ofBits_neg_inf]

/-- The largest score of a query row, among the keys that the mask leaves. -/
def mx (b : Fin 2) (h : Fin 8) (n : Fin 2048) : ℝ := (val_main_v10 (F := Ideal) (up4 q) (up4 k) (ix3 b h n)).toReal

theorem v10_up : val_main_v10 (F := Ideal) (up4 q) (up4 k) = up3 (mx q k) := by
  refine ext3 _ _ fun b h n => ?_
  have e : ∃ r : ℝ, val_main_v10 (F := Ideal) (up4 q) (up4 k) (ix3 b h n) = (r : EReal) := by
    unfold val_main_v10 val_main_cst_1
    rw [v9_up]
    pointwise
    rw [ofBits_neg_inf]
    refine fold_max_real _ (fun j => ?_) n ?_
    · show (if j.val ≤ n.val then ((score q k b h n j : ℝ) : EReal) else ⊥) ≠ ⊤
      split
      · exact EReal.coe_ne_top _
      · exact bot_ne_top
    · show (if n.val ≤ n.val then ((score q k b h n n : ℝ) : EReal) else ⊥) ≠ ⊥
      rw [if_pos le_rfl]
      exact EReal.coe_ne_bot _
  obtain ⟨r, e⟩ := e
  rw [up3_ix3, mx, e, EReal.toReal_coe]

theorem v17_up : val_main_v17 (F := Ideal) (up4 q) (up4 k) = up3 (mx q k) := by
  unfold val_main_v17 val_main_v16 val_main_cst_3
  rw [v10_up]
  refine ext3 _ _ fun b h n => ?_
  pointwise
  rw [ofBits_neg_inf]
  exact max_eq_right bot_le

/-- A row's exponentials, their sum, and the weights. -/
def ex (b : Fin 2) (h : Fin 8) (n j : Fin 2048) : ℝ := if j.val ≤ n.val then Real.exp (score q k b h n j - mx q k b h n) else 0
def tot (b : Fin 2) (h : Fin 8) (n : Fin 2048) : ℝ := ∑ j, ex q k b h n j
def pr (b : Fin 2) (h : Fin 8) (n j : Fin 2048) : ℝ := ex q k b h n j / tot q k b h n

theorem ex_nonneg (b : Fin 2) (h : Fin 8) (n j : Fin 2048) : 0 ≤ ex q k b h n j := by
  unfold ex
  split
  · exact (Real.exp_pos _).le
  · exact le_rfl

theorem tot_pos (b : Fin 2) (h : Fin 8) (n : Fin 2048) : 0 < tot q k b h n := by
  refine Finset.sum_pos' (fun j _ => ex_nonneg q k b h n j) ⟨n, Finset.mem_univ _, ?_⟩
  unfold ex
  rw [if_pos le_rfl]
  exact Real.exp_pos _

theorem masked (p : Prop) [Decidable p] (a b : ℝ) :
    Ideal.exp ((if p then (a : EReal) else ⊥) - (b : EReal)) = ((if p then Real.exp (a - b) else 0 : ℝ) : EReal) := by
  by_cases h : p
  · rw [if_pos h, if_pos h, ← EReal.coe_sub, Ideal.exp_coe]
  · rw [if_neg h, if_neg h, EReal.bot_sub, Ideal.exp_bot, EReal.coe_zero]

theorem v30_up : val_main_v30 (F := Ideal) (up4 q) (up4 k) = up4 (ex q k) := by
  unfold val_main_v30 val_main_v29 val_main_v28 val_main_v27
  rw [v17_up, v9_up]
  refine ext4 _ _ fun b h n j => ?_
  pointwise
  simp only [up3_ix3, up4_ix4]
  exact masked _ _ _

theorem v32_up : val_main_v32 (F := Ideal) (up4 q) (up4 k) = up4 fun b h n _ => tot q k b h n := by
  unfold val_main_v32 val_main_v31 val_main_cst_9
  rw [v30_up]
  refine ext4 _ _ fun b h n j => ?_
  pointwise
  simp only [up4_ix4, zero_add, ← coe_sum, tot]

theorem div_real (a : ℝ) {b : ℝ} (h : b ≠ 0) : Ideal.div (a : EReal) (b : EReal) = ((a / b : ℝ) : EReal) := by
  rw [Ideal.div_coe h, ← EReal.coe_mul, mul_one_div]

theorem v34_up : val_main_v34 (F := Ideal) (up4 q) (up4 k) = up4 (pr q k) := by
  unfold val_main_v34 val_main_v33
  rw [v30_up, v32_up]
  refine ext4 _ _ fun b h n j => ?_
  pointwise
  simp only [up4_ix4]
  exact div_real _ (tot_pos q k b h n).ne'

/-- What the softmax gives, and what it takes back from a result's gradient. -/
def att (b : Fin 2) (h : Fin 8) (n : Fin 2048) (c : Fin 64) : ℝ := ∑ j, pr q k b h n j * v b h j c
def gp (b : Fin 2) (h : Fin 8) (n j : Fin 2048) : ℝ := ∑ c, o b h n c * v b h j c
def gs (b : Fin 2) (h : Fin 8) (n j : Fin 2048) : ℝ := pr q k b h n j * (gp v o b h n j - ∑ x, pr q k b h n x * gp v o b h n x)

theorem v38_up : val_main_v38 (F := Ideal) (up4 q) (up4 k) (up4 v) = up4 (att q k v) := by
  unfold val_main_v38
  rw [v34_up]
  refine ext4 _ _ fun b h n j => ?_
  pointwise
  simp only [up4_ix4, ← EReal.coe_mul, ← coe_sum, att]

theorem v40_up : val_main_v40 (F := Ideal) (up4 q) (up4 k) (up4 o) = up4 fun b h j c => ∑ n, pr q k b h n j * o b h n c := by
  unfold val_main_v40 val_main_v39
  rw [v34_up]
  refine ext4 _ _ fun b h n j => ?_
  pointwise
  simp only [up4_ix4, ← EReal.coe_mul, ← coe_sum, mul_comm]

theorem v41_up : val_main_v41 (F := Ideal) (up4 v) (up4 o) = up4 (gp v o) := by
  unfold val_main_v41
  refine ext4 _ _ fun b h n j => ?_
  pointwise
  simp only [up4_ix4, ← EReal.coe_mul, ← coe_sum, gp]

theorem v43_up : val_main_v43 (F := Ideal) (up4 q) (up4 k) (up4 v) (up4 o)
    = up4 fun b h n j => gp v o b h n j * (1 / (tot q k b h n * tot q k b h n)) := by
  unfold val_main_v43 val_main_v42 val_main_v37 val_main_v36 val_main_v35 val_main_cst_10
  rw [v41_up, v32_up]
  refine ext4 _ _ fun b h n j => ?_
  pointwise
  have hz := (tot_pos q k b h n).ne'
  simp only [up4_ix4, ← EReal.coe_mul]
  rw [← EReal.coe_one, div_real _ (mul_ne_zero hz hz), ← EReal.coe_mul]

theorem v45_up : val_main_v45 (F := Ideal) (up4 q) (up4 k) (up4 v) (up4 o)
    = up3 fun b h n => ∑ j, gp v o b h n j * (1 / (tot q k b h n * tot q k b h n)) * ex q k b h n j := by
  unfold val_main_v45 val_main_v44 val_main_cst_11
  rw [v43_up, v30_up]
  refine ext3 _ _ fun b h n => ?_
  pointwise
  simp only [up3_ix3, up4_ix4, ← EReal.coe_mul, zero_add, ← coe_sum]

theorem v50_up : val_main_v50 (F := Ideal) (up4 q) (up4 k) (up4 v) (up4 o)
    = up3 fun b h n => -∑ j, gp v o b h n j * (1 / (tot q k b h n * tot q k b h n)) * ex q k b h n j := by
  unfold val_main_v50 val_main_v47 val_main_v46 val_main_cst_12
  rw [v45_up]
  refine ext3 _ _ fun b h n => ?_
  pointwise
  simp only [up3_ix3, zero_add, Finset.univ_unique, Finset.sum_singleton, ← EReal.coe_neg]

theorem keep (p : Prop) [Decidable p] (a g c : ℝ) (h : p → a = g) (h' : ¬p → g = 0) :
    (if p then (a : EReal) else 0) * (c : EReal) = ((g * c : ℝ) : EReal) := by
  by_cases e : p
  · rw [if_pos e, h e, EReal.coe_mul]
  · rw [if_neg e, h' e, zero_mul, zero_mul, EReal.coe_zero]

theorem v56_up : val_main_v56 (F := Ideal) (up4 q) (up4 k) (up4 v) (up4 o) = up4 fun b h n j => gs q k v o b h n j * sc := by
  unfold val_main_v56 val_main_v55 val_main_cst_13 val_main_v54 val_main_v53 val_main_v52 val_main_v51 val_main_v49 val_main_v48
    val_main_call1_v0 val_main_call1_cst
  rw [v50_up, v41_up, v32_up, v30_up, mask_up]
  refine ext4 _ _ fun b h n j => ?_
  pointwise
  have hz := (tot_pos q k b h n).ne'
  have hs : (∑ x, gp v o b h n x * (1 / (tot q k b h n * tot q k b h n)) * ex q k b h n x) * ex q k b h n j
      = pr q k b h n j * ∑ x, pr q k b h n x * gp v o b h n x := by
    rw [Finset.sum_mul, Finset.mul_sum]
    refine Finset.sum_congr rfl fun x _ => ?_
    unfold pr
    field_simp
  simp only [up3_ix3, up4_ix4]
  rw [div_real _ hz, ofBits_scale, ← EReal.coe_add, ← EReal.coe_mul]
  refine keep _ _ _ _ (fun _ => ?_) fun hm => ?_
  · rw [add_mul, neg_mul, hs]
    unfold gs
    rw [show pr q k b h n j = ex q k b h n j / tot q k b h n from rfl]
    ring
  · unfold gs pr ex
    rw [if_neg hm, zero_div, zero_mul]

theorem v57_up : val_main_v57 (F := Ideal) (up4 q) (up4 k) (up4 v) (up4 o) = up4 fun b h j c => (∑ n, gs q k v o b h n j * q b h n c) * sc := by
  unfold val_main_v57
  rw [v56_up]
  refine ext4 _ _ fun b h n j => ?_
  pointwise
  simp only [up4_ix4, ← EReal.coe_mul, ← coe_sum, Finset.sum_mul]
  refine congrArg Real.toEReal (Finset.sum_congr rfl fun x _ => ?_)
  ring

theorem v58_up : val_main_v58 (F := Ideal) (up4 q) (up4 k) (up4 v) (up4 o) = up4 fun b h n c => (∑ j, gs q k v o b h n j * k b h j c) * sc := by
  unfold val_main_v58
  rw [v56_up]
  refine ext4 _ _ fun b h n j => ?_
  pointwise
  simp only [up4_ix4, ← EReal.coe_mul, ← coe_sum, Finset.sum_mul]
  refine congrArg Real.toEReal (Finset.sum_congr rfl fun x _ => ?_)
  ring

end Cert.ReferenceIdeal.Hand

end
-- ==== Proof.Host.lean ====
/- What the kernel's program hands its call at real arguments: the four arguments in the call's layout, the logarithms of the
   softmax's sums, and the row terms of its gradient. -/
module

public import proofs.«01_k».proof.Proof.Ref
public import proofs.«01_k».proof.Proof.Gen.KernelIdeal.Frame

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic Idealize.ShloMosaic.StableHlo
open Cert.ReferenceIdeal.Hand (up4 up4_ix4 ext4 score mx ex tot pr att gp gs v9_up v10_up masked div_real tot_pos)
open Cert.ReferenceIdeal.Read (val_main_v9_0 val_main_v10 val_main_v58 val_main_v57 val_main_v40 val_main_v61 val_main_v64 val_main_v66)

/-- The layout of a head's rows: heads first, the rows of both batches, the lanes padded with zeros. -/
def heads (x : FVec Ideal S2x8x2048x96 .f32) : FVec Ideal S8x4096x128 .f32 :=
  pad S8x4096x128 ![0, 0, 0] ![0, 0, 32] ![0, 0, 0]
    (shapeCast S8x4096x96 (transpose S8x2x2048x96 [1, 0, 2, 3] x transposes_S2x8x2048x96_S8x2x2048x96_1_0_2_3) shapeCasts_S8x2x2048x96_S8x4096x96)
    (sitofp (F := Ideal) .f32 (constantI S_ 32 0#32)) pads_S8x4096x96_S8x4096x128_000_000_0320 h_S_

/-- The layout of a token's row: the heads side by side. -/
def tokens (x : FVec Ideal S2x8x2048x64 .f32) : FVec Ideal S4096x512 .f32 :=
  shapeCast S4096x512 (transpose S2x2048x8x64 [0, 2, 1, 3] x transposes_S2x8x2048x64_S2x2048x8x64_0_2_1_3) shapeCasts_S2x2048x8x64_S4096x512

/-- Where a row and a lane of the call's layout lie. -/
def rb (r : Fin 4096) : Fin 2 := ⟨r.val / 2048, by omega⟩
def rn (r : Fin 4096) : Fin 2048 := ⟨r.val % 2048, by omega⟩
def ch (c : Fin 512) : Fin 8 := ⟨c.val / 64, by omega⟩
def cl (c : Fin 512) : Fin 64 := ⟨c.val % 64, by omega⟩
def lane (f : Fin 96 → ℝ) (c : Fin 128) : ℝ := if h : c.val < 96 then f ⟨c.val, h⟩ else 0

variable (q k : Fin 2 → Fin 8 → Fin 2048 → Fin 96 → ℝ) (v o : Fin 2 → Fin 8 → Fin 2048 → Fin 64 → ℝ)

theorem heads_up : heads (up4 q) = up3 fun h r c => lane (q (rb r) h (rn r)) c := by
  refine ext3 _ _ fun h r c => ?_
  pointwise [heads]
  have z : FloatOps.sitofp (F := Ideal) FTy.f32 0#32 = (0 : EReal) := by
    show (((0#32 : BitVec 32).toInt : ℝ) : EReal) = 0
    rw [show (0#32 : BitVec 32).toInt = 0 from rfl, Int.cast_zero, EReal.coe_zero]
  rw [z, up3_ix3]
  unfold lane
  split
  · rfl
  · exact EReal.coe_zero.symm

theorem tokens_up : tokens (up4 v) = up2 fun r c => v (rb r) (ch c) (rn r) (cl c) := by
  refine ext2 _ _ fun r c => ?_
  pointwise [tokens]
  rfl

/-- The host's softmax, as the program states it. -/
def hexp (x0 x1 : FVec Ideal S2x8x2048x96 .f32) : FVec Ideal S2x8x2048x2048 .f32 :=
  Host.exp (subf (val_main_v9_0 (F := Ideal) x0 x1) (broadcastInDim S2x8x2048x2048 ![0, 1, 2, 3] bcast_S2x8x2048x1_S2x8x2048x2048_0_1_2_3
    (broadcastInDim S2x8x2048x1 ![0, 1, 2] bcast_S2x8x2048_S2x8x2048x1_0_1_2 (val_main_v10 (F := Ideal) x0 x1))))
def htot (x0 x1 : FVec Ideal S2x8x2048x96 .f32) : FVec Ideal S2x8x2048x1 .f32 :=
  broadcastInDim S2x8x2048x1 ![0, 1, 2] bcast_S2x8x2048_S2x8x2048x1_0_1_2
    (Host.reduceAdd (hexp x0 x1) (constant S_ .f32 0x00000000#32) reducesTo_S2x8x2048x2048_S2x8x2048_d3 h_S_)
def hlse (x0 x1 : FVec Ideal S2x8x2048x96 .f32) : FVec Ideal S2x8x2048x1 .f32 :=
  addf (broadcastInDim S2x8x2048x1 ![0, 1, 2] bcast_S2x8x2048_S2x8x2048x1_0_1_2 (val_main_v10 (F := Ideal) x0 x1)) (Host.log (htot x0 x1))
def hatt (x0 x1 : FVec Ideal S2x8x2048x96 .f32) (x2 : FVec Ideal S2x8x2048x64 .f32) : FVec Ideal S2x8x2048x64 .f32 :=
  Host.dotGeneral dot_S2x8x2048x2048_S2x8x2048x64_S2x8x2048x64_3_2_2_3_01_01 none
    (Host.divf (hexp x0 x1) (broadcastInDim S2x8x2048x2048 ![0, 1, 2, 3] bcast_S2x8x2048x1_S2x8x2048x2048_0_1_2_3 (htot x0 x1))) x2
def hdel (x0 x1 : FVec Ideal S2x8x2048x96 .f32) (x2 x3 : FVec Ideal S2x8x2048x64 .f32) : FVec Ideal S2x8x2048x1 .f32 :=
  broadcastInDim S2x8x2048x1 ![0, 1, 2] bcast_S2x8x2048_S2x8x2048x1_0_1_2
    (Host.reduceAdd (mulf x3 (hatt x0 x1 x2)) (constant S_ .f32 0x00000000#32) reducesTo_S2x8x2048x64_S2x8x2048_d3 h_S_)
def widen (x : FVec Ideal S2x8x2048x1 .f32) : FVec Ideal S2x8x2048x64 .f32 :=
  broadcastInDim S2x8x2048x64 ![0, 1, 2, 3] bcast_S2x8x2048x1_S2x8x2048x64_0_1_2_3 x

theorem hexp_up : hexp (up4 q) (up4 k) = up4 (ex q k) := by
  unfold hexp
  rw [v9_up, v10_up]
  refine ext4 _ _ fun b h n j => ?_
  pointwise
  simp only [up3_ix3, up4_ix4]
  exact masked _ _ _

theorem htot_up : htot (up4 q) (up4 k) = up4 fun b h n _ => tot q k b h n := by
  unfold htot
  rw [hexp_up]
  refine ext4 _ _ fun b h n j => ?_
  pointwise
  simp only [up4_ix4, zero_add, ← coe_sum, tot]

/-- The logarithm of a row's sum of exponentials, and the row's term in the gradient. -/
def lse (b : Fin 2) (h : Fin 8) (n : Fin 2048) : ℝ := mx q k b h n + Real.log (tot q k b h n)
def del (b : Fin 2) (h : Fin 8) (n : Fin 2048) : ℝ := ∑ c, o b h n c * att q k v b h n c

theorem hlse_up : hlse (up4 q) (up4 k) = up4 fun b h n _ => lse q k b h n := by
  unfold hlse
  rw [htot_up, v10_up]
  refine ext4 _ _ fun b h n j => ?_
  pointwise
  simp only [up3_ix3, up4_ix4]
  rw [Ideal.log_coe, if_neg (not_le.mpr (tot_pos q k b h n)), ← EReal.coe_add, lse]

theorem hatt_up : hatt (up4 q) (up4 k) (up4 v) = up4 (att q k v) := by
  unfold hatt
  rw [hexp_up, htot_up]
  refine ext4 _ _ fun b h n j => ?_
  pointwise
  simp only [up4_ix4, div_real _ (tot_pos q k b h n).ne', ← EReal.coe_mul, ← coe_sum, att, pr]

theorem hdel_up : hdel (up4 q) (up4 k) (up4 v) (up4 o) = up4 fun b h n _ => del q k v o b h n := by
  unfold hdel
  rw [hatt_up]
  refine ext4 _ _ fun b h n j => ?_
  pointwise
  simp only [up4_ix4, ← EReal.coe_mul, zero_add, ← coe_sum, del]

theorem widen_up (f : Fin 2 → Fin 8 → Fin 2048 → ℝ) : widen (up4 fun b h n _ => f b h n) = up4 fun b h n _ => f b h n := by
  refine ext4 _ _ fun b h n j => ?_
  pointwise [widen]
  rfl

section Lines
variable (m : (ℓ : Loc nD τ sig) → Buf (Elt Ideal) ℓ) (c : Dev nD)

theorem V_q : V m c main_v28 = heads (m (c, main_arg0)) := by
  simp only [V, List.flatten, List.append, hostOps0, hostOps0_1, hostOps0_2, hostOps0_3, hostOps0_4, hostOps0_5, hostOps0_6,
    TRef.binary, TRef.nullary, TRef.ternary, TRef.unary, TRef.toBuf, TRef.ofBuf, cast_eq]
  after_results_simp
  rfl
theorem V_k : V m c main_v32 = heads (m (c, main_arg1)) := by
  simp only [V, List.flatten, List.append, hostOps0, hostOps0_1, hostOps0_2, hostOps0_3, hostOps0_4, hostOps0_5, hostOps0_6,
    TRef.binary, TRef.nullary, TRef.ternary, TRef.unary, TRef.toBuf, TRef.ofBuf, cast_eq]
  after_results_simp
  rfl
theorem V_v : V m c main_v35 = tokens (m (c, main_arg2)) := by
  simp only [V, List.flatten, List.append, hostOps0, hostOps0_1, hostOps0_2, hostOps0_3, hostOps0_4, hostOps0_5, hostOps0_6,
    TRef.binary, TRef.nullary, TRef.ternary, TRef.unary, TRef.toBuf, TRef.ofBuf, cast_eq]
  after_results_simp
  rfl
theorem V_o : V m c main_v38 = tokens (m (c, main_arg3)) := by
  simp only [V, List.flatten, List.append, hostOps0, hostOps0_1, hostOps0_2, hostOps0_3, hostOps0_4, hostOps0_5, hostOps0_6,
    TRef.binary, TRef.nullary, TRef.ternary, TRef.unary, TRef.toBuf, TRef.ofBuf, cast_eq]
  after_results_simp
  rfl
theorem V_l : V m c main_v41 = tokens (widen (hlse (m (c, main_arg0)) (m (c, main_arg1)))) := by
  simp only [V, List.flatten, List.append, hostOps0, hostOps0_1, hostOps0_2, hostOps0_3, hostOps0_4, hostOps0_5, hostOps0_6,
    TRef.binary, TRef.nullary, TRef.ternary, TRef.unary, TRef.toBuf, TRef.ofBuf, cast_eq]
  after_results_simp
  rfl
theorem V_d : V m c main_v44 = tokens (widen (hdel (m (c, main_arg0)) (m (c, main_arg1)) (m (c, main_arg2)) (m (c, main_arg3)))) := by
  simp only [V, List.flatten, List.append, hostOps0, hostOps0_1, hostOps0_2, hostOps0_3, hostOps0_4, hostOps0_5, hostOps0_6,
    TRef.binary, TRef.nullary, TRef.ternary, TRef.unary, TRef.toBuf, TRef.ofBuf, cast_eq]
  after_results_simp
  rfl
end Lines

/-- The reference's results in the same layout. -/
theorem ref_dq (x0 x1 : FVec Ideal S2x8x2048x96 .f32) (x2 x3 : FVec Ideal S2x8x2048x64 .f32) :
    val_main_v61 (F := Ideal) x0 x1 x2 x3 = heads (val_main_v58 (F := Ideal) x0 x1 x2 x3) := rfl
theorem ref_dk (x0 x1 : FVec Ideal S2x8x2048x96 .f32) (x2 x3 : FVec Ideal S2x8x2048x64 .f32) :
    val_main_v64 (F := Ideal) x0 x1 x2 x3 = heads (val_main_v57 (F := Ideal) x0 x1 x2 x3) := rfl
theorem ref_dv (x0 x1 : FVec Ideal S2x8x2048x96 .f32) (x3 : FVec Ideal S2x8x2048x64 .f32) :
    val_main_v66 (F := Ideal) x0 x1 x3 = tokens (val_main_v40 (F := Ideal) x0 x1 x3) := rfl

end Cert.KernelIdeal.Hand

end
-- ==== Proof.Equation.lean ====
/- The two programs compute the same gradients: the kernel's three results are the reference's, at real arguments. -/
module

public import proofs.«01_k».proof.Proof.Array
public import proofs.«01_k».proof.Proof.Host

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Cert.ReferenceIdeal.Hand (up4 up4_ix4 ext4 score mx ex tot pr att gp gs tot_pos v58_up v57_up v40_up)
open Cert.ReferenceIdeal.Read (val_main_v58 val_main_v57 val_main_v40 val_main_v61 val_main_v64 val_main_v66)

/-! ## Sums over padded and shared lanes -/

theorem lane_of_lt (f : Fin 96 → ℝ) (c : Fin 96) : lane f ⟨c.val, by omega⟩ = f c := dif_pos c.isLt
theorem lane_of_ge (f : Fin 96 → ℝ) (c : Fin 128) (h : 96 ≤ c.val) : lane f c = 0 := dif_neg (by omega)

/-- A sum over a head's 128 lanes is one over its 96. -/
theorem sum_lane (f g : Fin 96 → ℝ) : ∑ c : Fin 128, lane f c * lane g c = ∑ c : Fin 96, f c * g c := by
  rw [show (∑ c : Fin 128, lane f c * lane g c) = ∑ c : Fin (96 + 32), lane f c * lane g c from rfl, Fin.sum_univ_add]
  rw [show (∑ i : Fin 32, lane f (Fin.natAdd 96 i) * lane g (Fin.natAdd 96 i)) = 0 from
    Finset.sum_eq_zero fun i _ => by rw [lane_of_ge f _ (Nat.le_add_right _ _), zero_mul], add_zero]
  exact Finset.sum_congr rfl fun c _ => congrArg₂ (· * ·) (lane_of_lt f c) (lane_of_lt g c)

/-- A weighted sum of padded rows is a padded row. -/
theorem lane_sum (w : Fin 2048 → ℝ) (f : Fin 2048 → Fin 96 → ℝ) (c : Fin 128) :
    (∑ j, w j * lane (f j) c) * sc = lane (fun x => (∑ j, w j * f j x) * sc) c := by
  by_cases h : c.val < 96
  · unfold lane
    simp only [dif_pos h]
  · unfold lane
    simp only [dif_neg h, mul_zero, Finset.sum_const_zero, zero_mul]

/-- A sum over the lanes of one head of a pair. -/
theorem sum_half (f g : Fin 8 → Fin 64 → ℝ) (t : Fin cfg0.N) (h : Fin 2) :
    (∑ c : Fin 128, (if half c = h then f (ch (colAt t c)) (cl (colAt t c)) else 0) * g (ch (colAt t c)) (cl (colAt t c)))
      = ∑ c : Fin 64, f (hd t h) c * g (hd t h) c := by
  rw [show (∑ c : Fin 128, (if half c = h then f (ch (colAt t c)) (cl (colAt t c)) else 0) * g (ch (colAt t c)) (cl (colAt t c)))
    = ∑ c : Fin (64 + 64), (if half c = h then f (ch (colAt t c)) (cl (colAt t c)) else 0) * g (ch (colAt t c)) (cl (colAt t c)) from rfl,
    Fin.sum_univ_add]
  have l0 : ∀ c : Fin 64, half (Fin.castAdd 64 c) = 0 := fun c => (half_eq_zero _).mpr c.isLt
  have l1 : ∀ c : Fin 64, half (Fin.natAdd 64 c) = 1 := fun c => (half_eq_one _).mpr (by show ¬64 + c.val < 64; omega)
  have a0 : ∀ c : Fin 64, ch (colAt t (Fin.castAdd 64 c)) = hd t 0 := fun c => Fin.ext (by
    have := c.isLt
    show (128 * (t.val % 4) + c.val) / 64 = 2 * (t.val % 4) + 0
    omega)
  have a1 : ∀ c : Fin 64, ch (colAt t (Fin.natAdd 64 c)) = hd t 1 := fun c => Fin.ext (by
    have := c.isLt
    show (128 * (t.val % 4) + (64 + c.val)) / 64 = 2 * (t.val % 4) + 1
    omega)
  have b0 : ∀ c : Fin 64, cl (colAt t (Fin.castAdd 64 c)) = c := fun c => Fin.ext (by
    have := c.isLt
    show (128 * (t.val % 4) + c.val) % 64 = c.val
    omega)
  have b1 : ∀ c : Fin 64, cl (colAt t (Fin.natAdd 64 c)) = c := fun c => Fin.ext (by
    have := c.isLt
    show (128 * (t.val % 4) + (64 + c.val)) % 64 = c.val
    omega)
  simp only [l0, l1, a0, a1, b0, b1]
  rcases Fin.forall_fin_two (p := fun h => h = 0 ∨ h = 1) |>.mpr ⟨.inl rfl, .inr rfl⟩ h with rfl | rfl
  · simp only [if_true, show ¬((1 : Fin 2) = 0) by decide, if_false, zero_mul, Finset.sum_const_zero, add_zero]
  · simp only [if_true, show ¬((0 : Fin 2) = 1) by decide, if_false, zero_mul, Finset.sum_const_zero, zero_add]

theorem rb_rowAt (t : Fin cfg0.N) (n : Fin 2048) : rb (rowAt t n) = bt t := Fin.ext (by
  have := n.isLt
  show (2048 * (t.val / 4) + n.val) / 2048 = t.val / 4
  omega)
theorem rn_rowAt (t : Fin cfg0.N) (n : Fin 2048) : rn (rowAt t n) = n := Fin.ext (by
  have := n.isLt
  show (2048 * (t.val / 4) + n.val) % 2048 = n.val
  omega)
theorem ch_colAt (t : Fin cfg0.N) (c : Fin 128) : ch (colAt t c) = hd t (half c) := by
  have hc := c.isLt
  refine Fin.ext ?_
  show (128 * (t.val % 4) + c.val) / 64 = 2 * (t.val % 4) + (half c).val
  by_cases h : c.val < 64
  · rw [(half_eq_zero c).mpr h]
    show _ = 2 * (t.val % 4) + 0
    omega
  · rw [(half_eq_one c).mpr h]
    show _ = 2 * (t.val % 4) + 1
    omega

/-! ## A grid point's results -/

section Point
variable (q k : Fin 2 → Fin 8 → Fin 2048 → Fin 96 → ℝ) (v o : Fin 2 → Fin 8 → Fin 2048 → Fin 64 → ℝ) (t : Fin cfg0.N)

/-- The blocks a point reads. -/
def bq (h : Fin 2) (n : Fin 2048) (c : Fin 128) : ℝ := lane (q (bt t) (hd t h) n) c
def bv (n : Fin 2048) (c : Fin 128) : ℝ := v (bt t) (ch (colAt t c)) n (cl (colAt t c))
def bl (h : Fin 2) (n : Fin 2048) : ℝ := lse q k (bt t) (hd t h) n
def bd (h : Fin 2) (n : Fin 2048) : ℝ := del q k v o (bt t) (hd t h) n

/-- Its weights are the softmax's. -/
theorem pm_eq (h : Fin 2) (n j : Fin 2048) : pm (bq q t) (bq k t) (bl q k t) h n j = pr q k (bt t) (hd t h) n j := by
  unfold pm pr ex bq bl lse
  split
  · rw [sum_lane, sub_add_eq_sub_sub, Real.exp_sub, Real.exp_log (tot_pos _ _ _ _ _)]
    rfl
  · rw [zero_div]

theorem del_eq (b : Fin 2) (h : Fin 8) (n : Fin 2048) : del q k v o b h n = ∑ x, pr q k b h n x * gp v o b h n x := by
  unfold del att gp
  simp only [Finset.mul_sum]
  rw [Finset.sum_comm]
  refine Finset.sum_congr rfl fun x _ => Finset.sum_congr rfl fun c _ => ?_
  ring

theorem dsm_eq (h : Fin 2) (n j : Fin 2048) :
    dsm (bq q t) (bq k t) (bv v t) (bv o t) (bl q k t) (bd q k v o t) h n j = gs q k v o (bt t) (hd t h) n j := by
  unfold dsm gs bd
  rw [pm_eq, del_eq]
  unfold oh bv
  rw [sum_half (fun a c => o (bt t) a n c) (fun a c => v (bt t) a j c) t h]
  rfl

end Point

/-! ## The results -/

section Arrays
variable (m : (ℓ : Loc nD τ sig) → Buf (Elt Ideal) ℓ) (c : Dev nD)
variable (q k : Fin 2 → Fin 8 → Fin 2048 → Fin 96 → ℝ) (v o : Fin 2 → Fin 8 → Fin 2048 → Fin 64 → ℝ)
variable (hq : m (c, main_arg0) = up4 q) (hk : m (c, main_arg1) = up4 k) (hv : m (c, main_arg2) = up4 v) (ho : m (c, main_arg3) = up4 o)
include hq hk hv ho

theorem in_q (t : Fin cfg0.N) : iblk m c 0 t = up3 (bq q t) := by
  unfold iblk
  show ((cfg0.win 0).blk t).view.read (Elt Ideal) (V m c main_v28) = _
  rw [V_q, hq, heads_up, read0]
  simp only [rb_rowAt, rn_rowAt]
  rfl
theorem in_k (t : Fin cfg0.N) : iblk m c 1 t = up3 (bq k t) := by
  unfold iblk
  show ((cfg0.win 1).blk t).view.read (Elt Ideal) (V m c main_v32) = _
  rw [V_k, hk, heads_up, read1]
  simp only [rb_rowAt, rn_rowAt]
  rfl
theorem in_v (t : Fin cfg0.N) : iblk m c 2 t = up2 (bv v t) := by
  unfold iblk
  show ((cfg0.win 2).blk t).view.read (Elt Ideal) (V m c main_v35) = _
  rw [V_v, hv, tokens_up, read2]
  simp only [rb_rowAt, rn_rowAt]
  rfl
theorem in_o (t : Fin cfg0.N) : iblk m c 3 t = up2 (bv o t) := by
  unfold iblk
  show ((cfg0.win 3).blk t).view.read (Elt Ideal) (V m c main_v38) = _
  rw [V_o, ho, tokens_up, read3]
  simp only [rb_rowAt, rn_rowAt]
  rfl
theorem in_l (t : Fin cfg0.N) : iblk m c 4 t = up2 fun n l => bl q k t (half l) n := by
  unfold iblk
  show ((cfg0.win 4).blk t).view.read (Elt Ideal) (V m c main_v41) = _
  rw [V_l, hq, hk, hlse_up, widen_up, tokens_up, read4]
  simp only [rb_rowAt, rn_rowAt, ch_colAt]
  rfl
theorem in_d (t : Fin cfg0.N) : iblk m c 5 t = up2 fun n l => bd q k v o t (half l) n := by
  unfold iblk
  show ((cfg0.win 5).blk t).view.read (Elt Ideal) (V m c main_v44) = _
  rw [V_d, hq, hk, hv, ho, hdel_up, widen_up, tokens_up, read5]
  simp only [rb_rowAt, rn_rowAt, ch_colAt]
  rfl

theorem dq_eq : (dats m 0 c).arrAt 6 cfg0.N
    = val_main_v61 (F := Ideal) (m (c, main_arg0)) (m (c, main_arg1)) (m (c, main_arg2)) (m (c, main_arg3)) := by
  rw [ref_dq, hq, hk, hv, ho, v58_up, heads_up]
  refine out_dq m c _ fun t => ?_
  unfold dqAt
  rw [in_q m c q k v o hq hk hv ho, in_k m c q k v o hq hk hv ho, in_v m c q k v o hq hk hv ho, in_o m c q k v o hq hk hv ho,
    in_l m c q k v o hq hk hv ho, in_d m c q k v o hq hk hv ho, dqOut_up]
  refine ext3 _ _ fun h n l => congrArg Real.toEReal ?_
  show (∑ j, dsm _ _ _ _ _ _ h n j * bq k t h j l) * sc
    = lane (fun x => (∑ j, gs q k v o (rb (rowAt t n)) (hd t h) (rn (rowAt t n)) j * k (rb (rowAt t n)) (hd t h) j x) * sc) l
  simp only [dsm_eq, rb_rowAt, rn_rowAt]
  exact lane_sum _ _ _

theorem dk_eq : (dats m 0 c).arrAt 7 cfg0.N
    = val_main_v64 (F := Ideal) (m (c, main_arg0)) (m (c, main_arg1)) (m (c, main_arg2)) (m (c, main_arg3)) := by
  rw [ref_dk, hq, hk, hv, ho, v57_up, heads_up]
  refine out_dk m c _ fun t => ?_
  unfold dkAt
  rw [in_q m c q k v o hq hk hv ho, in_k m c q k v o hq hk hv ho, in_v m c q k v o hq hk hv ho, in_o m c q k v o hq hk hv ho,
    in_l m c q k v o hq hk hv ho, in_d m c q k v o hq hk hv ho, dkOut_up]
  refine ext3 _ _ fun h j l => congrArg Real.toEReal ?_
  show (∑ n, dsm _ _ _ _ _ _ h n j * bq q t h n l) * sc
    = lane (fun x => (∑ n, gs q k v o (rb (rowAt t j)) (hd t h) n (rn (rowAt t j)) * q (rb (rowAt t j)) (hd t h) n x) * sc) l
  simp only [dsm_eq, rb_rowAt, rn_rowAt]
  exact lane_sum _ _ _

theorem dv_eq : (dats m 0 c).arrAt 8 cfg0.N
    = val_main_v66 (F := Ideal) (m (c, main_arg0)) (m (c, main_arg1)) (m (c, main_arg3)) := by
  rw [ref_dv, hq, hk, ho, v40_up, tokens_up]
  refine out_dv m c _ fun t => ?_
  unfold dvAt
  rw [in_q m c q k v o hq hk hv ho, in_k m c q k v o hq hk hv ho, in_o m c q k v o hq hk hv ho,
    in_l m c q k v o hq hk hv ho, dvOut_up]
  refine ext2 _ _ fun j l => congrArg Real.toEReal ?_
  show (∑ n, pm _ _ _ (half l) n j * bv o t n l)
    = ∑ n, pr q k (rb (rowAt t j)) (ch (colAt t l)) n (rn (rowAt t j)) * o (rb (rowAt t j)) (ch (colAt t l)) n (cl (colAt t l))
  simp only [pm_eq, rb_rowAt, rn_rowAt, ch_colAt, bv]

end Arrays

end Cert.KernelIdeal.Hand

end
-- ==== Proof.Finite.lean ====
/- What the precondition says: the arguments are arrays of reals. -/
module

public import proofs.«01_k».proof.Proof.Ref
public import proofs.«01_k».proof.Pre_finite

@[expose] public section

set_option maxRecDepth 8192

noncomputable section

namespace Cert.Pre_finite.Hand

open Idealize.ShloMosaic
open Cert.ReferenceIdeal.Hand (up4)
open Cert.KernelIdeal.Hand (ofBits_pos_inf)

theorem facts : Cert.Pre_finite.Facts := ⟨by decide, by decide⟩

theorem real_of_lt (x : EReal) (h : Ideal.cmp .olt (FloatOps.hostAbsf (F := Ideal) (φ := .f32) x) (Ideal.ofBits .f32 0x7F800000#32) = 1#1) :
    x ≠ ⊤ ∧ x ≠ ⊥ := by
  rw [ofBits_pos_inf] at h
  have h' : max x (-x) < ⊤ := by
    have h : BitVec.ofBool (decide (max x (-x) < ⊤)) = 1#1 := h
    by_contra hn
    rw [decide_eq_false hn] at h
    exact absurd h (by decide)
  rw [max_lt_iff] at h'
  exact ⟨h'.1.ne, fun e => by rw [e, EReal.neg_bot] at h'; exact h'.2.ne rfl⟩

theorem up4_of_real {a b c d : ℕ} (x : (⟨4, ![a, b, c, d]⟩ : Shape).Idx → EReal) (h : ∀ j, x j ≠ ⊤ ∧ x j ≠ ⊥) :
    x = up4 fun i j k l => (x (ix4 i j k l)).toReal := by
  funext y
  rw [ValueIdx.eq_ix4 y]
  exact (EReal.coe_toReal (h _).1 (h _).2).symm

variable [hf : Cert.Pre_finite.Facts]

theorem finite_iff (x0 x1 : FVec Ideal Cert.Pre_finite.S2x8x2048x96 .f32) (x2 x3 : FVec Ideal Cert.Pre_finite.S2x8x2048x64 .f32)
    (h : (Cert.Pre_finite.fn (F := Ideal) x0 x1 x2 x3).1 = (fun _ => 1#1)
      ∧ (Cert.Pre_finite.fn (F := Ideal) x0 x1 x2 x3).2.1 = (fun _ => 1#1)
      ∧ (Cert.Pre_finite.fn (F := Ideal) x0 x1 x2 x3).2.2.1 = (fun _ => 1#1)
      ∧ (Cert.Pre_finite.fn (F := Ideal) x0 x1 x2 x3).2.2.2 = (fun _ => 1#1)) :
    ∃ q k v o, x0 = up4 q ∧ x1 = up4 k ∧ x2 = up4 v ∧ x3 = up4 o :=
  ⟨_, _, _, _, up4_of_real x0 fun j => real_of_lt _ (congrFun h.1 j), up4_of_real x1 fun j => real_of_lt _ (congrFun h.2.1 j),
    up4_of_real x2 fun j => real_of_lt _ (congrFun h.2.2.1 j), up4_of_real x3 fun j => real_of_lt _ (congrFun h.2.2.2 j)⟩

end Cert.Pre_finite.Hand

end
-- ==== Proof.Wide.lean ====
/- Facts that the projection's three calls share: a sum taken by blocks of 1024, and columns widened by a gap of zeros. -/
module

public import proofs.«01_k».proof.Proof.Equation
public import Idealize.ShloMosaic.PureOps.Ideal.Laws
public import Idealize.ShloMosaic.Lib.Pointwise
public import Idealize.ShloMosaic.Lib.ValueIdxCore

@[expose] public section

noncomputable section

namespace Cert.Step

open Idealize.ShloMosaic Idealize.ShloMosaic.Tactic

/-- A matrix of ideal values as a vector. -/
def mat {a b : ℕ} (f : Fin a → Fin b → EReal) : (⟨2, ![a, b]⟩ : Shape).Idx → EReal := fun y => f (y 0) (y 1)

theorem mat_ix2 {a b : ℕ} (f : Fin a → Fin b → EReal) (i : Fin a) (j : Fin b) : mat f (ix2 i j) = f i j := rfl

theorem mat_congr {a b : ℕ} {f : Fin a → Fin b → EReal} {i i' : Fin a} {j j' : Fin b} (hi : i.val = i'.val) (hj : j.val = j'.val) :
    f i j = f i' j' := by
  rw [Fin.ext hi, Fin.ext hj]

/-- A function on the first `n` numbers, continued by zero. -/
def ext {n : ℕ} (f : Fin n → EReal) (i : ℕ) : EReal := if h : i < n then f ⟨i, h⟩ else 0

theorem ext_val {n : ℕ} (f : Fin n → EReal) (i : Fin n) : ext f i.val = f i := by
  unfold ext
  rw [dif_pos i.isLt]

/-- The part of a sum in the block number `k` of 1024. -/
def blockSum {n : ℕ} (f : Fin n → EReal) (k : ℕ) : EReal := ∑ j : Fin 1024, ext f (1024 * k + j.val)

/-- A block that lies inside is summed term by term. -/
theorem blockSum_of {n : ℕ} (f : Fin n → EReal) (k : ℕ) (h : 1024 * k + 1024 ≤ n) :
    blockSum f k = ∑ j : Fin 1024, f ⟨1024 * k + j.val, by omega⟩ := by
  refine Finset.sum_congr rfl fun j _ => ?_
  unfold ext
  rw [dif_pos (by omega)]

/-- The blocks' sums add up to the whole sum. -/
theorem sum_blocks {n : ℕ} (f : Fin n → EReal) (K : ℕ) (h : n = 1024 * K) : ∑ k ∈ Finset.range K, blockSum f k = ∑ i, f i := by
  have step : ∀ L : ℕ, ∑ k ∈ Finset.range L, blockSum f k = ∑ i ∈ Finset.range (1024 * L), ext f i := by
    intro L
    induction L with
    | zero => simp
    | succ L ih =>
      rw [Finset.sum_range_succ, ih, Nat.mul_succ, Finset.sum_range_add]
      exact congrArg _ (Fin.sum_univ_eq_sum_range (fun j => ext f (1024 * L + j)) 1024)
  rw [step, ← h, ← Fin.sum_univ_eq_sum_range]
  exact Finset.sum_congr rfl fun i _ => ext_val f i

/-- A row's columns with 96 columns of zeros between the first 2464 and the others. -/
def wide (f : Fin 11168 → EReal) (c : Fin 11264) : EReal :=
  if h : c.val < 2464 then f ⟨c.val, by omega⟩ else if h' : c.val < 2560 then 0 else f ⟨c.val - 96, by omega⟩

/-- The columns joined from three pieces. -/
theorem gap_eq (f : Fin 11168 → EReal) (c : Fin 11264) :
    (if h : c.val < 2464 then f ⟨c.val, by omega⟩ else if h' : c.val - 2464 < 96 then (0 : EReal) else f ⟨2464 + (c.val - 2464 - 96), by omega⟩)
      = wide f c := by
  unfold wide
  split
  · rfl
  · by_cases h' : c.val - 2464 < 96
    · rw [dif_pos h', dif_pos (by omega)]
    · rw [dif_neg h', dif_neg (by omega)]
      exact congrArg f (Fin.ext (by dsimp only; omega))

/-- The columns joined from two pieces, the first padded. -/
theorem pad_eq (f : Fin 11168 → EReal) (z : EReal) (hz : z = 0) (c : Fin 11264) :
    (if h : c.val < 2560 then if h' : c.val < 2464 then f ⟨c.val, by omega⟩ else z else f ⟨2464 + (c.val - 2560), by omega⟩) = wide f c := by
  unfold wide
  by_cases h : c.val < 2464
  · rw [dif_pos h, dif_pos (by omega), dif_pos h]
  · by_cases h' : c.val < 2560
    · rw [dif_neg h, dif_pos h', dif_neg h, dif_pos h', hz]
    · rw [dif_neg h, dif_neg h', dif_neg h']
      exact congrArg f (Fin.ext (by dsimp only; omega))

/-- The integer zero is the real zero. -/
theorem sitofp_zero : FloatOps.sitofp (F := Ideal) FTy.f32 0#32 = (0 : EReal) := by
  show (((0#32 : BitVec 32).toInt : ℝ) : EReal) = 0
  rw [show (0#32 : BitVec 32).toInt = 0 from rfl, Int.cast_zero, EReal.coe_zero]

/-- A sum over the widened columns is the sum over the columns themselves. -/
theorem sum_wide (f g : Fin 11168 → EReal) : ∑ c, wide f c * wide g c = ∑ c, f c * g c := by
  let e : Fin 11168 ↪ Fin 11264 :=
    ⟨fun c => if c.val < 2464 then ⟨c.val, by omega⟩ else ⟨c.val + 96, by omega⟩, fun a b h => by
      ext
      dsimp only at h
      split at h <;> split at h <;> have := congrArg Fin.val h <;> dsimp only at this <;> omega⟩
  have he : ∀ c, (e c).val = if c.val < 2464 then c.val else c.val + 96 := fun c => by
    show (if c.val < 2464 then (⟨c.val, _⟩ : Fin 11264) else ⟨c.val + 96, _⟩).val = _
    split <;> rfl
  have hw : ∀ (f : Fin 11168 → EReal) (c : Fin 11168), wide f (e c) = f c := by
    intro f c
    have := he c
    unfold wide
    split at this
    · rw [dif_pos (by omega)]; exact congrArg f (Fin.ext this)
    · rw [dif_neg (by omega), dif_neg (by omega)]; exact congrArg f (Fin.ext (by dsimp only; omega))
  rw [← Finset.sum_subset (Finset.subset_univ (Finset.univ.map e)), Finset.sum_map]
  · exact Finset.sum_congr rfl fun c _ => by rw [hw, hw]
  · intro c _ hc
    have hz : wide f c = 0 := by
      unfold wide
      by_cases h : c.val < 2464
      · exfalso; apply hc
        rw [Finset.mem_map]
        exact ⟨⟨c.val, by omega⟩, Finset.mem_univ _, Fin.ext (by rw [he]; dsimp only; rw [if_pos h])⟩
      · rw [dif_neg h]
        by_cases h' : c.val < 2560
        · rw [dif_pos h']
        · exfalso; apply hc
          rw [Finset.mem_map]
          exact ⟨⟨c.val - 96, by omega⟩, Finset.mem_univ _, Fin.ext (by rw [he]; dsimp only; rw [if_neg (by omega)]; omega)⟩
    rw [hz, zero_mul]

/-- Widening commutes with what is done to each column, where that takes zero to zero. -/
theorem wide_map (f : Fin 11168 → EReal) (φ : EReal → EReal) (h : φ 0 = 0) (c : Fin 11264) : φ (wide f c) = wide (fun j => φ (f j)) c := by
  unfold wide
  split
  · rfl
  · split
    · exact h
    · rfl

/-- A sum of widened columns is the sum widened. -/
theorem wide_sum {n : ℕ} (a : Fin n → EReal) (f : Fin n → Fin 11168 → EReal) (c : Fin 11264) :
    ∑ t, a t * wide (f t) c = wide (fun j => ∑ t, a t * f t j) c := by
  unfold wide
  split
  · rfl
  · split
    · simp
    · rfl

end Cert.Step

end
-- ==== Proof.Dw.lean ====
/- The gradient of the in projection's weights: what the call leaves in its accumulator and in its result. -/
module

public import proofs.«01_k».proof.Proof.Wide
public import proofs.«01_k».proof.Proof.Gen.Kernel3Ideal.Value
public import proofs.«01_k».proof.Proof.Gen.Reference3Ideal.Read
public import Idealize.ShloMosaic.Lib.StableHlo.Run

@[expose] public section

set_option maxRecDepth 8192
set_option maxHeartbeats 4000000

noncomputable section

namespace Cert.Kernel3Ideal.Hand

open Cert.Kernel3Ideal Cert.Kernel3Ideal.Gen Cert.Step
open Idealize.ShloMosaic Idealize.ShloMosaic.TcCoe Idealize.ShloMosaic.Tactic Idealize.ShloMosaic.StableHlo
open Cert.KernelIdeal.Hand (ext2)

theorem pay1_eq : k0_pay1 (F := Ideal) = mat fun _ _ => 0 := by
  refine ext2 _ _ fun r x => ?_
  pointwise [k0_pay1]
  rfl
theorem pay2_eq (acc : Fin 1024 → Fin 2816 → EReal) (a : Fin 1024 → Fin 1024 → EReal) (b : Fin 1024 → Fin 2816 → EReal) :
    k0_pay2 (F := Ideal) (mat acc) (mat a) (mat b) = mat fun r x => acc r x + ∑ j, a r j * b j x := by
  refine ext2 _ _ fun r x => ?_
  pointwise [k0_pay2]
  rfl
theorem pay3_eq (acc : Fin 1024 → Fin 2816 → EReal) : k0_pay3 (F := Ideal) (mat acc) = mat acc := by
  refine ext2 _ _ fun r x => ?_
  pointwise [k0_pay3]

theorem hz : (![0, 0] : Fin 2 → Nat) = fun _ => 0 := funext fun a => by fin_cases a <;> rfl

section Cases
variable (c : Dev nD) (i : grid0.Coords) (a2 : Memref sig .tc .vmem S1024x1024 .bf16) (h2 : a2.IsWhole) (a3 : Memref sig .tc .vmem S1024x2816 .bf16) (h3 : a3.IsWhole)
  (a4 : Memref sig .tc .vmem S1024x2816 .bf16) (h4 : a4.IsWhole) (a5 : Memref sig .tc .vmem S1024x2816 .f32) (h5 : a5.IsWhole)
  (x0 : Vec Ideal S1024x1024 .bf16) (x1 : Vec Ideal S1024x2816 .bf16) (xs : Vec Ideal S1024x2816 .f32)

theorem acc_A (hc0 : cond0_0 i) (hc1 : ¬cond0_1 i) : sout0_A_0 c i a2 h2 a3 h3 a4 h4 a5 h5 hc0 hc1 x0 x1 = k0_pay2 (k0_pay1) x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x2816) hz, View.readCov_unit_zero (S := S1024x2816) _ hz]
  simp only [View.readAt_eq_ld, h2.read_unread, h3.read_unread, View.ld_unit_zero (S := S1024x1024) hz, View.ld_unit_zero (S := S1024x2816) hz]

theorem acc_B (hc0 : ¬cond0_0 i) (hc1 : ¬cond0_1 i) : sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h2.read_unread, h3.read_unread, h5.read_unread, View.ld_unit_zero (S := S1024x1024) hz, View.ld_unit_zero (S := S1024x2816) hz]

theorem out_C (hc0 : ¬cond0_0 i) (hc1 : cond0_1 i) : out0_C_2 c i a2 h2 a3 h3 a4 h4 a5 h5 hc0 hc1 x0 x1 xs = k0_pay3 (k0_pay2 xs x0 x1) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz, View.readCov_unit_zero (S := S1024x2816) _ hz]
  simp only [View.readAt_eq_ld, h2.read_unread, h3.read_unread, h5.read_unread, View.ld_unit_zero (S := S1024x1024) hz, View.ld_unit_zero (S := S1024x2816) hz]

end Cases

theorem N_eq : cfg0.N = 16 := by decide

theorem lt_N (t : Fin cfg0.N) : t.val < 16 := by have := t.isLt; have := N_eq; omega

/-- Where a point's rows of the two operands lie, and its columns. -/
def rowAt (n : ℕ) (j : Fin 1024) : Fin 4096 := ⟨1024 * (n % 4) + j.val, by omega⟩
def colAt (n : ℕ) (x : Fin 2816) : Fin 11264 := ⟨(2816 * (n / 4) + x.val) % 11264, Nat.mod_lt _ (by decide)⟩

theorem index0 : ∀ t : Fin cfg0.N, win0_0.index t 0 = 0 ∧ win0_0.index t 1 = t.val % 4 := by decide
theorem index1 : ∀ t : Fin cfg0.N, win0_1.index t 0 = t.val % 4 ∧ win0_1.index t 1 = t.val / 4 := by decide
theorem index2 : ∀ t : Fin cfg0.N, win0_2.index t 0 = 0 ∧ win0_2.index t 1 = t.val / 4 := by decide

section Reads
variable (t : Fin cfg0.N)

theorem read0 (G : Fin 1024 → Fin 4096 → EReal) :
    ((cfg0.win 0).blk t).view.read (Elt Ideal) (mat G) = mat fun r j => G r (rowAt t.val j) := by
  obtain ⟨e0, e1⟩ := index0 t
  funext j
  rw [View.read_apply]
  refine mat_congr ?_ ?_
  · show win0_0.index t 0 * 1024 + 1 * (j 0).val = (j 0).val
    rw [e0]; omega
  · show win0_0.index t 1 * 1024 + 1 * (j 1).val = 1024 * (t.val % 4) + (j 1).val
    rw [e1]; omega
theorem read1 (G : Fin 4096 → Fin 11264 → EReal) :
    ((cfg0.win 1).blk t).view.read (Elt Ideal) (mat G) = mat fun j x => G (rowAt t.val j) (colAt t.val x) := by
  obtain ⟨e0, e1⟩ := index1 t
  have := lt_N t
  funext j
  have hj : (j 1).val < 2816 := (j 1).isLt
  rw [View.read_apply]
  refine mat_congr ?_ ?_
  · show win0_1.index t 0 * 1024 + 1 * (j 0).val = 1024 * (t.val % 4) + (j 0).val
    rw [e0]; omega
  · show win0_1.index t 1 * 2816 + 1 * (j 1).val = (2816 * (t.val / 4) + (j 1).val) % 11264
    rw [e1]; omega
theorem read2 (G : Fin 1024 → Fin 11264 → EReal) :
    ((cfg0.win 2).blk t).view.read (Elt Ideal) (mat G) = mat fun r x => G r (colAt t.val x) := by
  obtain ⟨e0, e1⟩ := index2 t
  have := lt_N t
  funext j
  have hj : (j 1).val < 2816 := (j 1).isLt
  rw [View.read_apply]
  refine mat_congr ?_ ?_
  · show win0_2.index t 0 * 1024 + 1 * (j 0).val = (j 0).val
    rw [e0]; omega
  · show win0_2.index t 1 * 2816 + 1 * (j 1).val = (2816 * (t.val / 4) + (j 1).val) % 11264
    rw [e1]; omega
end Reads

section Array
variable (m : (ℓ : Loc nD τ sig) → Buf (Elt Ideal) ℓ) (c : Dev nD)

/-- The normalized rows, and the gradient of the projection by rows. -/
def act (t : Fin 4096) (a : Fin 1024) : EReal :=
  Cert.Reference3Ideal.Read.val_main_v13 (F := Ideal) (m (c, main_arg0)) (m (c, main_arg1)) (ix2 t a)
def grad (t : Fin 4096) (x : Fin 11168) : EReal := m (c, main_arg2) (ix2 t x)

theorem V_act : V m c main_v14 = truncf (F := Ideal) .bf16
    (transpose S1024x4096 [1, 0] (Cert.Reference3Ideal.Read.val_main_v13 (F := Ideal) (m (c, main_arg0)) (m (c, main_arg1)))
      transposes_S4096x1024_S1024x4096_1_0) bitsLt_bf16_f32 := by
  simp only [V, List.flatten, List.append, hostOps0]
  after_results_simp
  rfl

/-- The widened gradient as the program joins it. -/
def joined (x : FVec Ideal S4096x11168 .f32) : FVec Ideal S4096x11264 .bf16 :=
  truncf (F := Ideal) .bf16
    (concatenate S4096x11264 1 [⟨S4096x2464, extractStridedSlice S4096x2464 ![0, 0] x slices_S4096x11168_S4096x2464_0_0⟩,
        ⟨S4096x96, broadcastInDim S4096x96 ![] bcast_S_S4096x96 (constant S_ .f32 0x00000000#32)⟩,
        ⟨S4096x8704, extractStridedSlice S4096x8704 ![0, 2464] x slices_S4096x11168_S4096x8704_0_2464⟩]
      concatenates_S4096x2464_S4096x96_S4096x8704_S4096x11264_d1) bitsLt_bf16_f32

theorem V_grad : V m c main_v19 = joined (m (c, main_arg2)) := by
  simp only [V, List.flatten, List.append, hostOps0]
  after_results_simp
  rfl

theorem act_eq : V m c main_v14 = mat fun a t => act m c t a := by
  rw [V_act]
  refine ext2 _ _ fun a t => ?_
  pointwise
  rfl
theorem joined_eq (x : FVec Ideal S4096x11168 .f32) : joined x = mat fun t => wide fun j => x (ix2 t j) := by
  refine ext2 _ _ fun t j => ?_
  pointwise [joined]
  rw [mat_ix2]
  exact gap_eq (fun i => x (ix2 t i)) j

theorem ref_eq : Cert.Reference3Ideal.Read.val_main_v21 (F := Ideal) (m (c, main_arg0)) (m (c, main_arg1)) (m (c, main_arg2))
    = mat fun a => wide fun j => ∑ t, grad m c t j * act m c t a := by
  refine ext2 _ _ fun a x => ?_
  pointwise [Cert.Reference3Ideal.Read.val_main_v21, Cert.Reference3Ideal.Read.val_main_v20, Cert.Reference3Ideal.Read.val_main_v19,
    Cert.Reference3Ideal.Read.val_main_v18, Cert.Reference3Ideal.Read.val_main_v17, Cert.Reference3Ideal.Read.val_main_v16,
    Cert.Reference3Ideal.Read.val_main_v15]
  rw [mat_ix2]
  exact pad_eq (fun j => ∑ t, grad m c t j * act m c t a) _ sitofp_zero x

theorem in0 (t : Fin cfg0.N) : iblk m c 0 t = mat fun a j => act m c (rowAt t.val j) a := by
  unfold iblk
  show ((cfg0.win 0).blk t).view.read (Elt Ideal) (V m c main_v14) = _
  rw [act_eq, read0]
theorem in1 (t : Fin cfg0.N) : iblk m c 1 t = mat fun j x => wide (grad m c (rowAt t.val j)) (colAt t.val x) := by
  unfold iblk
  show ((cfg0.win 1).blk t).view.read (Elt Ideal) (V m c main_v19) = _
  rw [V_grad, joined_eq, read1]
  rfl

/-- One row's part of an entry, and a block's. -/
def term (a : Fin 1024) (x : Fin 11264) (t : Fin 4096) : EReal := act m c t a * wide (grad m c t) x

theorem part_eq (n : ℕ) (a : Fin 1024) (x : Fin 2816) :
    ∑ j, act m c (rowAt n j) a * wide (grad m c (rowAt n j)) (colAt n x) = blockSum (term m c a (colAt n x)) (n % 4) :=
  (blockSum_of (term m c a (colAt n x)) (n % 4) (by omega)).symm

theorem step_eq (t : Fin cfg0.N) (acc : Fin 1024 → Fin 2816 → EReal) :
    k0_pay2 (F := Ideal) (mat acc) (iblk m c 0 t) (iblk m c 1 t)
      = mat fun a x => acc a x + blockSum (term m c a (colAt t.val x)) (t.val % 4) := by
  rw [in0, in1, pay2_eq]
  simp only [part_eq]

/-- What the accumulator holds after a point that is not a column's last: the blocks so far. -/
theorem acc_eq (n : ℕ) (hn : n < cfg0.N) (h : n % 4 ≠ 3) :
    (outsAt0 m c n hn).2 = mat fun a x => ∑ k ∈ Finset.range (n % 4 + 1), blockSum (term m c a (colAt n x)) k := by
  induction n with
  | zero =>
    rw [outsAt0_A m c ⟨0, hn⟩ (Nat.zero_mod _) h]
    dsimp only
    rw [acc_A, pay1_eq, step_eq]
    simp
  | succ n ih =>
    by_cases h0 : (n + 1) % 4 = 0
    · rw [outsAt0_A m c ⟨n + 1, hn⟩ h0 h]
      dsimp only
      rw [acc_A, pay1_eq, step_eq]
      simp [h0]
    · rw [outsAt0_B m c ⟨n + 1, hn⟩ h0 h]
      dsimp only
      have e : n + 1 - 1 = n := rfl
      simp only [e]
      rw [acc_B, ih (by omega) (by omega), step_eq]
      have e1 : (n + 1) % 4 = n % 4 + 1 := by omega
      have e2 : ∀ x, colAt n x = colAt (n + 1) x := fun x => Fin.ext (by
        show (2816 * (n / 4) + x.val) % 11264 = (2816 * ((n + 1) / 4) + x.val) % 11264
        rw [show (n + 1) / 4 = n / 4 from by omega])
      simp only [e1, e2, Finset.sum_range_succ _ (n % 4 + 1)]

theorem flushed_eq (t : Fin cfg0.N) (hf : (cfg0.win 2).flush t = true) :
    (dats m 0 c).flushed 2 t = ((cfg0.win 2).blk t).view.read (Elt Ideal) (mat fun a x => ∑ i, term m c a x i) := by
  have h3 : t.val % 4 = 3 := (flush0_2 t).mp hf
  have h0 : ¬t.val % 4 = 0 := by omega
  rw [Cert.Kernel3Ideal.Value.flushed2_C m c t h0 h3, out_C, acc_eq m c _ _ (by omega), step_eq, pay3_eq, read2]
  refine congrArg mat (funext fun a => funext fun x => ?_)
  have e1 : (t.val - 1) % 4 + 1 = 3 := by omega
  have e2 : colAt (t.val - 1) x = colAt t.val x := Fin.ext (by
    show (2816 * ((t.val - 1) / 4) + x.val) % 11264 = (2816 * (t.val / 4) + x.val) % 11264
    rw [show (t.val - 1) / 4 = t.val / 4 from by omega])
  rw [e1, e2, h3, ← Finset.sum_range_succ, sum_blocks _ 4 (by norm_num)]

/-- The result's array is the reference's. -/
theorem dw_eq : (dats m 0 c).arrAt 2 cfg0.N
    = Cert.Reference3Ideal.Read.val_main_v21 (F := Ideal) (m (c, main_arg0)) (m (c, main_arg1)) (m (c, main_arg2)) := by
  rw [ref_eq]
  refine ((dats m 0 c).arrAt_eq_of_cover 2 _ (flushed_eq m c) fun i => (Cert.Kernel3Ideal.Value.covered_iff2 i).2 ?_).trans ?_
  · have h0 : (i 0).val < 1024 := (i 0).isLt
    have h1 : (i 1).val < 11264 := (i 1).isLt
    omega
  · refine congrArg mat (funext fun a => funext fun x => ?_)
    simp only [term]
    rw [wide_sum]
    simp only [mul_comm]

end Array

end Cert.Kernel3Ideal.Hand

end
-- ==== Proof.Norm.lean ====
/- The normalization's gradient at one entry: the kernel's expression and the reference's agree on all extended reals. -/
module

public import proofs.«01_k».proof.Proof.Dw

@[expose] public section

noncomputable section

namespace Cert.Step

open Idealize.ShloMosaic

theorem ofBits_len : Ideal.ofBits .f32 0x44800000#32 = ((1024 : ℝ) : EReal) := by
  simp only [Ideal.ofBits, Ideal.ieee]
  rw [if_neg (by decide), if_neg (by decide), if_neg (by decide)]
  norm_num [Nat.shiftRight_eq_div_pow]
theorem ofBits_inv_len : Ideal.ofBits .f32 0x3A800000#32 = ((1 / 1024 : ℝ) : EReal) := by
  simp only [Ideal.ofBits, Ideal.ieee]
  rw [if_neg (by decide), if_neg (by decide), if_neg (by decide)]
  norm_num [Nat.shiftRight_eq_div_pow]
theorem ofBits_neg_half : Ideal.ofBits .f32 0xBF000000#32 = ((-(1 / 2) : ℝ) : EReal) := by
  simp only [Ideal.ofBits, Ideal.ieee]
  rw [if_neg (by decide), if_neg (by decide), if_pos (by decide)]
  norm_num [Nat.shiftRight_eq_div_pow]
theorem ofBits_eps : 0 < Ideal.ofBits .f32 0x358637BD#32 := by
  simp only [Ideal.ofBits, Ideal.ieee]
  rw [if_neg (by decide), if_neg (by decide), if_neg (by decide), ← EReal.coe_zero, EReal.coe_lt_coe_iff]
  norm_num [Nat.shiftRight_eq_div_pow]

/-- The inverse root cubed is the inverse root divided by what it is the root of. -/
theorem rsqrt_cube {s : EReal} (hs : 0 < s) : Ideal.rsqrt s * Ideal.rsqrt s * Ideal.rsqrt s = Ideal.div (Ideal.rsqrt s) s := by
  unfold Ideal.div
  rw [if_neg hs.ne']
  induction s with
  | bot => exact absurd hs (by simp)
  | top => show (0 : EReal) * 0 * 0 = 0 * _; simp
  | coe s =>
    have h : 0 < s := by exact_mod_cast hs
    have e : Ideal.rsqrt (s : EReal) = (((Real.sqrt s)⁻¹ : ℝ) : EReal) := by
      show (if s < 0 then (⊥ : EReal) else if s = 0 then ⊤ else ((Real.sqrt s)⁻¹ : ℝ)) = _
      rw [if_neg h.le.not_gt, if_neg h.ne']
    rw [e, ← EReal.coe_inv, ← EReal.coe_mul, ← EReal.coe_mul, ← EReal.coe_mul]
    congr 1
    rw [mul_assoc, mul_comm, ← mul_inv, Real.mul_self_sqrt h.le, mul_comm]

/-- Dividing by the length is multiplying by its inverse. -/
theorem div_len (a : EReal) : Ideal.div a ((1024 : ℝ) : EReal) = a * ((1 / 1024 : ℝ) : EReal) := by
  unfold Ideal.div
  rw [if_neg (by norm_num), ← EReal.coe_inv, one_div]

/-- The gradient of the normalization at one entry, the residual added. -/
theorem dx_entry (o d x s S : EReal) (hs : 0 < s) :
    o + Ideal.rsqrt s * d - x * (Ideal.rsqrt s * Ideal.rsqrt s * Ideal.rsqrt s) * (S * ((1 / 1024 : ℝ) : EReal))
      = o + d * Ideal.rsqrt s + x * Ideal.div (S * (((-(1 / 2) : ℝ) : EReal) * Ideal.div (Ideal.rsqrt s) s)) ((1024 : ℝ) : EReal)
        + Ideal.div (S * (((-(1 / 2) : ℝ) : EReal) * Ideal.div (Ideal.rsqrt s) s)) ((1024 : ℝ) : EReal) * x := by
  rw [div_len, rsqrt_cube hs, mul_comm (Ideal.rsqrt s) d]
  generalize Ideal.div (Ideal.rsqrt s) s = q
  rw [sub_eq_add_neg, add_assoc (o + d * Ideal.rsqrt s)]
  congr 1
  have hh : ((-(1 / 2) : ℝ) : EReal) = -((1 / 2 : ℝ) : EReal) := rfl
  have e : x * (S * (((-(1 / 2) : ℝ) : EReal) * q) * ((1 / 1024 : ℝ) : EReal))
      = ((-(1 / 2) : ℝ) : EReal) * (x * q * (S * ((1 / 1024 : ℝ) : EReal))) := by
    simp only [mul_assoc, mul_left_comm, mul_comm]
  rw [mul_comm _ x, e]
  generalize x * q * (S * ((1 / 1024 : ℝ) : EReal)) = y
  induction y with
  | bot => rw [EReal.coe_mul_bot_of_neg (by norm_num)]; rfl
  | top => rw [EReal.coe_mul_top_of_neg (by norm_num)]; rfl
  | coe y =>
    rw [← EReal.coe_mul, ← EReal.coe_add, ← EReal.coe_neg]
    congr 1
    ring

end Cert.Step

end
-- ==== Proof.Dx.lean ====
/- The gradient of the in projection's input: what the call leaves in its accumulator and in its two results. -/
module

public import proofs.«01_k».proof.Proof.Norm
public import proofs.«01_k».proof.Proof.Gen.Kernel2Ideal.Value
public import proofs.«01_k».proof.Proof.Gen.Reference2Ideal.Read
public import Idealize.ShloMosaic.Lib.StableHlo.Run

@[expose] public section

set_option maxRecDepth 8192
set_option maxHeartbeats 4000000

noncomputable section

namespace Cert.Kernel2Ideal.Hand

open Cert.Kernel2Ideal Cert.Kernel2Ideal.Gen Cert.Step
open Idealize.ShloMosaic Idealize.ShloMosaic.TcCoe Idealize.ShloMosaic.Tactic Idealize.ShloMosaic.StableHlo
open Cert.KernelIdeal.Hand (ext2)

/-- A row's mean square with the small addend. -/
def ms (X : Fin 1024 → EReal) : EReal := (∑ j, X j * X j) * ((1 / 1024 : ℝ) : EReal) + Ideal.ofBits .f32 0x358637BD#32

theorem pay1_eq : k0_pay1 (F := Ideal) = mat fun _ _ => 0 := by
  refine ext2 _ _ fun r x => ?_
  pointwise [k0_pay1]
  rfl
theorem pay2_eq : k0_pay2 (F := Ideal) = mat fun _ _ => 0 := by
  refine ext2 _ _ fun r x => ?_
  pointwise [k0_pay2]
  rfl
theorem pay3_eq (acc a b : Fin 1024 → Fin 1024 → EReal) :
    k0_pay3 (F := Ideal) (mat acc) (mat a) (mat b) = mat fun r x => acc r x + ∑ j, a r j * b x j := by
  refine ext2 _ _ fun r x => ?_
  pointwise [k0_pay3]
  rfl
theorem pay4_eq (X : Fin 1024 → Fin 1024 → EReal) : k0_pay4 (F := Ideal) (mat X) = mat fun r _ => Ideal.rsqrt (ms (X r)) := by
  refine ext2 _ _ fun r x => ?_
  pointwise [k0_pay4]
  rw [mat_ix2, ms, ← ofBits_inv_len]
  rfl
theorem pay5_eq (H X O : Fin 1024 → Fin 1024 → EReal) (G : Fin 1 → Fin 1024 → EReal) :
    k0_pay5 (F := Ideal) (mat H) (mat X) (mat G) (mat O) = mat fun r x =>
      O r x + Ideal.rsqrt (ms (X r)) * (H r x * G 0 x)
        - X r x * (Ideal.rsqrt (ms (X r)) * Ideal.rsqrt (ms (X r)) * Ideal.rsqrt (ms (X r)))
          * ((∑ j, X r j * (H r j * G 0 j)) * ((1 / 1024 : ℝ) : EReal)) := by
  refine ext2 _ _ fun r x => ?_
  pointwise [k0_pay5]
  simp only [pay4_eq]
  rw [← ofBits_inv_len]
  rfl
theorem pay6_eq (H X : Fin 1024 → Fin 1024 → EReal) (D : Fin 1 → Fin 1024 → EReal) :
    k0_pay6 (F := Ideal) (mat H) (mat X) (mat D) = mat fun r x => D r x + ∑ t, H t x * X t x * Ideal.rsqrt (ms (X t)) := by
  refine ext2 _ _ fun r x => ?_
  pointwise [k0_pay6]
  simp only [pay4_eq]
  rfl

theorem hz : (![0, 0] : Fin 2 → Nat) = fun _ => 0 := funext fun a => by fin_cases a <;> rfl

section Cases
variable (c : Dev nD) (i : grid0.Coords) (a2 : Memref sig .tc .vmem S1024x1024 .bf16) (h2 : a2.IsWhole) (a3 : Memref sig .tc .vmem S1024x1024 .bf16) (h3 : a3.IsWhole)
  (a4 : Memref sig .tc .vmem S1024x1024 .f32) (h4 : a4.IsWhole) (a5 : Memref sig .tc .vmem S1x1024 .f32) (h5 : a5.IsWhole)
  (a6 : Memref sig .tc .vmem S1024x1024 .f32) (h6 : a6.IsWhole) (a7 : Memref sig .tc .vmem S1024x1024 .f32) (h7 : a7.IsWhole)
  (a8 : Memref sig .tc .vmem S1x1024 .f32) (h8 : a8.IsWhole) (a9 : Memref sig .tc .vmem S1024x1024 .f32) (h9 : a9.IsWhole)
  (x0 : Vec Ideal S1024x1024 .bf16) (x1 : Vec Ideal S1024x1024 .bf16) (x2 : Vec Ideal S1024x1024 .f32) (x3 : Vec Ideal S1x1024 .f32)
  (x4 : Vec Ideal S1024x1024 .f32) (xo : Vec Ideal S1x1024 .f32) (xs : Vec Ideal S1024x1024 .f32)

theorem acc_A (hc0 : cond0_0 i) (hc1 : cond0_1 i) (hc2 : ¬cond0_2 i) :
    sout0_A_0 c i a2 h2 a3 h3 a4 h4 a5 h5 a6 h6 a7 h7 a8 h8 a9 h9 hc0 hc1 hc2 x0 x1 x2 x3 x4 = k0_pay3 (k0_pay1) x0 x1 := by
  unfold sout0_A_0
  rw [View.read_writes_eq_canon _ _ _ (scover0_A_0 c i a2 h2 a3 h3 a4 h4 a5 h5 a6 h6 a7 h7 a8 h8 a9 h9 hc0 hc1 hc2 x0 x1 x2 x3 x4)]
  unfold kernelRun0_A
  dsimp only
  sl_unfold_words
  rw [View.canon_cons_unit_zero (S := S1024x1024) hz, View.readCov_unit_zero (S := S1024x1024) _ hz]
  simp only [View.readAt_eq_ld, h2.read_unread, h3.read_unread, View.ld_unit_zero (S := S1024x1024) hz]

theorem acc_D (hc0 : cond0_0 i) (hc1 : ¬cond0_1 i) (hc2 : ¬cond0_2 i) :
    sout0_D_0 c i a2 h2 a3 h3 a4 h4 a5 h5 a6 h6 a7 h7 a8 h8 a9 h9 hc0 hc1 hc2 x0 x1 x2 x3 x4 = k0_pay3 (k0_pay1) x0 x1 := by
  unfold sout0_D_0
  rw [View.read_writes_eq_canon _ _ _ (scover0_D_0 c i a2 h2 a3 h3 a4 h4 a5 h5 a6 h6 a7 h7 a8 h8 a9 h9 hc0 hc1 hc2 x0 x1 x2 x3 x4)]
  unfold kernelRun0_D
  dsimp only
  sl_unfold_words
  rw [View.canon_cons_unit_zero (S := S1024x1024) hz, View.readCov_unit_zero (S := S1024x1024) _ hz]
  simp only [View.readAt_eq_ld, h2.read_unread, h3.read_unread, View.ld_unit_zero (S := S1024x1024) hz]

theorem acc_B (hc0 : ¬cond0_0 i) (hc1 : ¬cond0_1 i) (hc2 : ¬cond0_2 i) :
    sout0_B_0 c i a2 h2 a3 h3 a4 h4 a5 h5 a6 h6 a7 h7 a8 h8 a9 h9 hc0 hc1 hc2 x0 x1 x2 x3 x4 xs = k0_pay3 xs x0 x1 := by
  unfold sout0_B_0
  rw [View.read_writes_eq_canon _ _ _ (scover0_B_0 c i a2 h2 a3 h3 a4 h4 a5 h5 a6 h6 a7 h7 a8 h8 a9 h9 hc0 hc1 hc2 x0 x1 x2 x3 x4 xs)]
  unfold kernelRun0_B
  dsimp only
  rw [View.canon_unit_zero hz]
  simp only [View.readAt_eq_ld, h2.read_unread, h3.read_unread, h9.read_unread, View.ld_unit_zero (S := S1024x1024) hz]

theorem dg_A (hc0 : cond0_0 i) (hc1 : cond0_1 i) (hc2 : ¬cond0_2 i) :
    out0_A_6 c i a2 h2 a3 h3 a4 h4 a5 h5 a6 h6 a7 h7 a8 h8 a9 h9 hc0 hc1 hc2 x0 x1 x2 x3 x4 = k0_pay2 (F := Ideal) := by
  unfold out0_A_6
  rw [View.read_writes_eq_canon _ _ _ (cover0_A_6 c i a2 h2 a3 h3 a4 h4 a5 h5 a6 h6 a7 h7 a8 h8 a9 h9 hc0 hc1 hc2 x0 x1 x2 x3 x4)]
  unfold kernelRun0_A
  dsimp only
  rw [View.canon_unit_zero hz]

theorem dx_C (hc0 : ¬cond0_0 i) (hc1 : ¬cond0_1 i) (hc2 : cond0_2 i) :
    out0_C_5 c i a2 h2 a3 h3 a4 h4 a5 h5 a6 h6 a7 h7 a8 h8 a9 h9 hc0 hc1 hc2 x0 x1 x2 x3 x4 xo xs = k0_pay5 (k0_pay3 xs x0 x1) x2 x3 x4 := by
  unfold out0_C_5
  rw [View.read_writes_eq_canon _ _ _ (cover0_C_5 c i a2 h2 a3 h3 a4 h4 a5 h5 a6 h6 a7 h7 a8 h8 a9 h9 hc0 hc1 hc2 x0 x1 x2 x3 x4 xo xs)]
  unfold kernelRun0_C
  dsimp only
  sl_unfold_words
  rw [View.canon_unit_zero hz, View.readCov_unit_zero (S := S1024x1024) _ hz]
  simp only [View.readAt_eq_ld, h2.read_unread, h3.read_unread, h4.read_unread, h5.read_unread, h6.read_unread, h9.read_unread,
    View.ld_unit_zero (S := S1024x1024) hz, View.ld_unit_zero (S := S1x1024) hz]

theorem dg_C (hc0 : ¬cond0_0 i) (hc1 : ¬cond0_1 i) (hc2 : cond0_2 i) :
    out0_C_6 c i a2 h2 a3 h3 a4 h4 a5 h5 a6 h6 a7 h7 a8 h8 a9 h9 hc0 hc1 hc2 x0 x1 x2 x3 x4 xo xs = k0_pay6 (k0_pay3 xs x0 x1) x2 xo := by
  unfold out0_C_6
  rw [View.read_writes_eq_canon _ _ _ (cover0_C_6 c i a2 h2 a3 h3 a4 h4 a5 h5 a6 h6 a7 h7 a8 h8 a9 h9 hc0 hc1 hc2 x0 x1 x2 x3 x4 xo xs)]
  unfold kernelRun0_C
  dsimp only
  sl_unfold_words
  rw [View.canon_unit_zero hz, View.readCov_unit_zero (S := S1024x1024) _ hz]
  simp only [View.readAt_eq_ld, h2.read_unread, h3.read_unread, h4.read_unread, h8.read_unread, h9.read_unread,
    View.ld_unit_zero (S := S1024x1024) hz, View.ld_unit_zero (S := S1x1024) hz]

end Cases

theorem N_eq : cfg0.N = 44 := by decide

theorem lt_N (t : Fin cfg0.N) : t.val < 44 := by have := t.isLt; have := N_eq; omega

/-- Where a point's rows and its columns lie. -/
def rowAt (n : ℕ) (r : Fin 1024) : Fin 4096 := ⟨1024 * (n / 11 % 4) + r.val, by omega⟩
def colAt (n : ℕ) (j : Fin 1024) : Fin 11264 := ⟨1024 * (n % 11) + j.val, by omega⟩

theorem index0 : ∀ t : Fin cfg0.N, win0_0.index t 0 = t.val / 11 ∧ win0_0.index t 1 = t.val % 11 := by decide
theorem index1 : ∀ t : Fin cfg0.N, win0_1.index t 0 = 0 ∧ win0_1.index t 1 = t.val % 11 := by decide
theorem index2 : ∀ t : Fin cfg0.N, win0_2.index t 0 = t.val / 11 ∧ win0_2.index t 1 = 0 := by decide
theorem index3 : ∀ t : Fin cfg0.N, win0_3.index t 0 = 0 ∧ win0_3.index t 1 = 0 := by decide
theorem index4 : ∀ t : Fin cfg0.N, win0_4.index t 0 = t.val / 11 ∧ win0_4.index t 1 = 0 := by decide
theorem index5 : ∀ t : Fin cfg0.N, win0_5.index t 0 = t.val / 11 ∧ win0_5.index t 1 = 0 := by decide
theorem index6 : ∀ t : Fin cfg0.N, win0_6.index t 0 = 0 ∧ win0_6.index t 1 = 0 := by decide

section Reads
variable (t : Fin cfg0.N)

theorem read0 (G : Fin 4096 → Fin 11264 → EReal) :
    ((cfg0.win 0).blk t).view.read (Elt Ideal) (mat G) = mat fun r j => G (rowAt t.val r) (colAt t.val j) := by
  obtain ⟨e0, e1⟩ := index0 t
  have := lt_N t
  funext j
  rw [View.read_apply]
  refine mat_congr ?_ ?_
  · show win0_0.index t 0 * 1024 + 1 * (j 0).val = 1024 * (t.val / 11 % 4) + (j 0).val
    rw [e0]; omega
  · show win0_0.index t 1 * 1024 + 1 * (j 1).val = 1024 * (t.val % 11) + (j 1).val
    rw [e1]; omega
theorem read1 (G : Fin 1024 → Fin 11264 → EReal) :
    ((cfg0.win 1).blk t).view.read (Elt Ideal) (mat G) = mat fun r j => G (r) (colAt t.val j) := by
  obtain ⟨e0, e1⟩ := index1 t
  have := lt_N t
  funext j
  rw [View.read_apply]
  refine mat_congr ?_ ?_
  · show win0_1.index t 0 * 1024 + 1 * (j 0).val = (j 0).val
    rw [e0]; omega
  · show win0_1.index t 1 * 1024 + 1 * (j 1).val = 1024 * (t.val % 11) + (j 1).val
    rw [e1]; omega
theorem read2 (G : Fin 4096 → Fin 1024 → EReal) :
    ((cfg0.win 2).blk t).view.read (Elt Ideal) (mat G) = mat fun r j => G (rowAt t.val r) (j) := by
  obtain ⟨e0, e1⟩ := index2 t
  have := lt_N t
  funext j
  rw [View.read_apply]
  refine mat_congr ?_ ?_
  · show win0_2.index t 0 * 1024 + 1 * (j 0).val = 1024 * (t.val / 11 % 4) + (j 0).val
    rw [e0]; omega
  · show win0_2.index t 1 * 1024 + 1 * (j 1).val = (j 1).val
    rw [e1]; omega
theorem read3 (G : Fin 1 → Fin 1024 → EReal) :
    ((cfg0.win 3).blk t).view.read (Elt Ideal) (mat G) = mat fun r j => G (r) (j) := by
  obtain ⟨e0, e1⟩ := index3 t
  have := lt_N t
  funext j
  rw [View.read_apply]
  refine mat_congr ?_ ?_
  · show win0_3.index t 0 * 1 + 1 * (j 0).val = (j 0).val
    rw [e0]; omega
  · show win0_3.index t 1 * 1024 + 1 * (j 1).val = (j 1).val
    rw [e1]; omega
theorem read4 (G : Fin 4096 → Fin 1024 → EReal) :
    ((cfg0.win 4).blk t).view.read (Elt Ideal) (mat G) = mat fun r j => G (rowAt t.val r) (j) := by
  obtain ⟨e0, e1⟩ := index4 t
  have := lt_N t
  funext j
  rw [View.read_apply]
  refine mat_congr ?_ ?_
  · show win0_4.index t 0 * 1024 + 1 * (j 0).val = 1024 * (t.val / 11 % 4) + (j 0).val
    rw [e0]; omega
  · show win0_4.index t 1 * 1024 + 1 * (j 1).val = (j 1).val
    rw [e1]; omega
theorem read5 (G : Fin 4096 → Fin 1024 → EReal) :
    ((cfg0.win 5).blk t).view.read (Elt Ideal) (mat G) = mat fun r j => G (rowAt t.val r) (j) := by
  obtain ⟨e0, e1⟩ := index5 t
  have := lt_N t
  funext j
  rw [View.read_apply]
  refine mat_congr ?_ ?_
  · show win0_5.index t 0 * 1024 + 1 * (j 0).val = 1024 * (t.val / 11 % 4) + (j 0).val
    rw [e0]; omega
  · show win0_5.index t 1 * 1024 + 1 * (j 1).val = (j 1).val
    rw [e1]; omega
theorem read6 (G : Fin 1 → Fin 1024 → EReal) :
    ((cfg0.win 6).blk t).view.read (Elt Ideal) (mat G) = mat fun r j => G (r) (j) := by
  obtain ⟨e0, e1⟩ := index6 t
  have := lt_N t
  funext j
  rw [View.read_apply]
  refine mat_congr ?_ ?_
  · show win0_6.index t 0 * 1 + 1 * (j 0).val = (j 0).val
    rw [e0]; omega
  · show win0_6.index t 1 * 1024 + 1 * (j 1).val = (j 1).val
    rw [e1]; omega
end Reads

section Array
variable (m : (ℓ : Loc nD τ sig) → Buf (Elt Ideal) ℓ) (c : Dev nD)

/-- The arguments by rows and columns, the projected gradient, and a row of the two results. -/
def inp (t : Fin 4096) (a : Fin 1024) : EReal := m (c, main_arg0) (ix2 t a)
def gain (a : Fin 1024) : EReal := m (c, main_arg1) (ix1 a)
def wei (a : Fin 1024) (j : Fin 11168) : EReal := m (c, main_arg2) (ix2 a j)
def grad (t : Fin 4096) (j : Fin 11168) : EReal := m (c, main_arg3) (ix2 t j)
def res (t : Fin 4096) (a : Fin 1024) : EReal := m (c, main_arg4) (ix2 t a)
def proj (t : Fin 4096) (a : Fin 1024) : EReal := ∑ j, grad m c t j * wei m c a j
def rowDx (t : Fin 4096) (a : Fin 1024) : EReal :=
  res m c t a + Ideal.rsqrt (ms (inp m c t)) * (proj m c t a * gain m c a)
    - inp m c t a * (Ideal.rsqrt (ms (inp m c t)) * Ideal.rsqrt (ms (inp m c t)) * Ideal.rsqrt (ms (inp m c t)))
      * ((∑ j, inp m c t j * (proj m c t j * gain m c j)) * ((1 / 1024 : ℝ) : EReal))
def rowDg (a : Fin 1024) (t : Fin 4096) : EReal := proj m c t a * inp m c t a * Ideal.rsqrt (ms (inp m c t))

theorem ms_pos (X : Fin 1024 → EReal) : 0 < ms X := by
  have h0 : ∀ y : EReal, 0 ≤ y * y := fun y => by
    rcases le_total 0 y with h | h
    · exact mul_nonneg h h
    · exact EReal.mul_nonneg_iff.2 (Or.inr ⟨h, h⟩)
  have h1 : (0 : EReal) ≤ (∑ j, X j * X j) * ((1 / 1024 : ℝ) : EReal) :=
    mul_nonneg (Finset.sum_nonneg fun j _ => h0 _) (by norm_num)
  exact lt_of_lt_of_le (by rw [zero_add]; exact ofBits_eps) (add_le_add_left h1 _)

theorem ref_dx : Cert.Reference2Ideal.Read.val_main_v38 (F := Ideal) (m (c, main_arg0)) (m (c, main_arg1)) (m (c, main_arg2)) (m (c, main_arg3)) (m (c, main_arg4))
    = mat (rowDx m c) := by
  refine ext2 _ _ fun t a => ?_
  pointwise [Cert.Reference2Ideal.Read.val_main_v0, Cert.Reference2Ideal.Read.val_main_v1, Cert.Reference2Ideal.Read.val_main_v2, Cert.Reference2Ideal.Read.val_main_v3, Cert.Reference2Ideal.Read.val_main_v4, Cert.Reference2Ideal.Read.val_main_v5, Cert.Reference2Ideal.Read.val_main_v6, Cert.Reference2Ideal.Read.val_main_v7, Cert.Reference2Ideal.Read.val_main_v8, Cert.Reference2Ideal.Read.val_main_v9, Cert.Reference2Ideal.Read.val_main_v10, Cert.Reference2Ideal.Read.val_main_v13, Cert.Reference2Ideal.Read.val_main_v17, Cert.Reference2Ideal.Read.val_main_v21, Cert.Reference2Ideal.Read.val_main_v22, Cert.Reference2Ideal.Read.val_main_v24, Cert.Reference2Ideal.Read.val_main_v25, Cert.Reference2Ideal.Read.val_main_v26, Cert.Reference2Ideal.Read.val_main_v27, Cert.Reference2Ideal.Read.val_main_v28, Cert.Reference2Ideal.Read.val_main_v29, Cert.Reference2Ideal.Read.val_main_v30, Cert.Reference2Ideal.Read.val_main_v31, Cert.Reference2Ideal.Read.val_main_v32, Cert.Reference2Ideal.Read.val_main_v33, Cert.Reference2Ideal.Read.val_main_v34, Cert.Reference2Ideal.Read.val_main_v35, Cert.Reference2Ideal.Read.val_main_v36, Cert.Reference2Ideal.Read.val_main_v37, Cert.Reference2Ideal.Read.val_main_v38, Cert.Reference2Ideal.Read.val_main_cst, Cert.Reference2Ideal.Read.val_main_cst_0, Cert.Reference2Ideal.Read.val_main_cst_1, Cert.Reference2Ideal.Read.val_main_cst_2, Cert.Reference2Ideal.Read.val_main_cst_5, Cert.Reference2Ideal.Read.val_main_cst_6, Cert.Reference2Ideal.Read.val_main_cst_7]
  rw [mat_ix2, rowDx, dx_entry _ _ _ _ _ (ms_pos _)]
  simp only [Fin.sum_univ_one, ofBits_len, ofBits_neg_half, div_len]
  rfl

theorem ref_dg : Cert.Reference2Ideal.Read.val_main_v39 (F := Ideal) (m (c, main_arg0)) (m (c, main_arg2)) (m (c, main_arg3))
    = mat fun _ a => ∑ t, rowDg m c a t := by
  refine ext2 _ _ fun z a => ?_
  pointwise [Cert.Reference2Ideal.Read.val_main_v39, Cert.Reference2Ideal.Read.val_main_v23, Cert.Reference2Ideal.Read.val_main_v20, Cert.Reference2Ideal.Read.val_main_v19, Cert.Reference2Ideal.Read.val_main_v18, Cert.Reference2Ideal.Read.val_main_v17, Cert.Reference2Ideal.Read.val_main_v12, Cert.Reference2Ideal.Read.val_main_v11, Cert.Reference2Ideal.Read.val_main_v7, Cert.Reference2Ideal.Read.val_main_v6, Cert.Reference2Ideal.Read.val_main_v5, Cert.Reference2Ideal.Read.val_main_v4, Cert.Reference2Ideal.Read.val_main_v3, Cert.Reference2Ideal.Read.val_main_v2, Cert.Reference2Ideal.Read.val_main_v1, Cert.Reference2Ideal.Read.val_main_v0, Cert.Reference2Ideal.Read.val_main_cst, Cert.Reference2Ideal.Read.val_main_cst_0, Cert.Reference2Ideal.Read.val_main_cst_1, Cert.Reference2Ideal.Read.val_main_cst_3, Cert.Reference2Ideal.Read.val_main_cst_4]
  rw [mat_ix2]
  simp only [Fin.sum_univ_one, ofBits_len, div_len]
  refine Finset.sum_congr rfl fun t _ => ?_
  have e : rowDg m c a t = inp m c t a * Ideal.rsqrt (ms (inp m c t)) * proj m c t a := by
    rw [rowDg, mul_comm (proj m c t a), mul_right_comm]
  rw [e]
  rfl

/-- The widened gradient and weights as the program joins them. -/
def joinedG (x : FVec Ideal S4096x11168 .f32) : FVec Ideal S4096x11264 .bf16 :=
  truncf (F := Ideal) .bf16
    (concatenate S4096x11264 1 [⟨S4096x2464, extractStridedSlice S4096x2464 ![0, 0] x slices_S4096x11168_S4096x2464_0_0⟩,
        ⟨S4096x96, broadcastInDim S4096x96 ![] bcast_S_S4096x96 (constant S_ .f32 0x00000000#32)⟩,
        ⟨S4096x8704, extractStridedSlice S4096x8704 ![0, 2464] x slices_S4096x11168_S4096x8704_0_2464⟩]
      concatenates_S4096x2464_S4096x96_S4096x8704_S4096x11264_d1) bitsLt_bf16_f32
def joinedW (x : FVec Ideal S1024x11168 .f32) : FVec Ideal S1024x11264 .bf16 :=
  truncf (F := Ideal) .bf16
    (concatenate S1024x11264 1 [⟨S1024x2464, extractStridedSlice S1024x2464 ![0, 0] x slices_S1024x11168_S1024x2464_0_0⟩,
        ⟨S1024x96, broadcastInDim S1024x96 ![] bcast_S_S1024x96 (constant S_ .f32 0x00000000#32)⟩,
        ⟨S1024x8704, extractStridedSlice S1024x8704 ![0, 2464] x slices_S1024x11168_S1024x8704_0_2464⟩]
      concatenates_S1024x2464_S1024x96_S1024x8704_S1024x11264_d1) bitsLt_bf16_f32

theorem V_grad : V m c main_v4 = joinedG (m (c, main_arg3)) := by
  simp only [V, List.flatten, List.append, hostOps0]
  after_results_simp
  rfl
theorem V_wei : V m c main_v9 = joinedW (m (c, main_arg2)) := by
  simp only [V, List.flatten, List.append, hostOps0]
  after_results_simp
  rfl
theorem V_gain : V m c main_v10 = broadcastInDim S1x1024 ![1] bcast_S1024_S1x1024_1 (m (c, main_arg1)) := by
  simp only [V, List.flatten, List.append, hostOps0]
  after_results_simp

theorem grad_eq : V m c main_v4 = mat fun t => wide (grad m c t) := by
  rw [V_grad]
  refine ext2 _ _ fun t j => ?_
  pointwise [joinedG]
  rw [mat_ix2]
  exact gap_eq (grad m c t) j
theorem wei_eq : V m c main_v9 = mat fun a => wide (wei m c a) := by
  rw [V_wei]
  refine ext2 _ _ fun a j => ?_
  pointwise [joinedW]
  rw [mat_ix2]
  exact gap_eq (wei m c a) j
theorem gain_eq : V m c main_v10 = mat fun _ => gain m c := by
  rw [V_gain]
  refine ext2 _ _ fun z j => ?_
  pointwise
  rfl
theorem inp_eq : V m c main_arg0 = mat (inp m c) := by
  rw [V_main_arg0]
  exact ext2 _ _ fun t a => rfl
theorem res_eq : V m c main_arg4 = mat (res m c) := by
  rw [V_main_arg4]
  exact ext2 _ _ fun t a => rfl

theorem in0 (t : Fin cfg0.N) : iblk m c 0 t = mat fun r j => wide (grad m c (rowAt t.val r)) (colAt t.val j) := by
  unfold iblk
  show ((cfg0.win 0).blk t).view.read (Elt Ideal) (V m c main_v4) = _
  rw [grad_eq, read0]
theorem in1 (t : Fin cfg0.N) : iblk m c 1 t = mat fun a j => wide (wei m c a) (colAt t.val j) := by
  unfold iblk
  show ((cfg0.win 1).blk t).view.read (Elt Ideal) (V m c main_v9) = _
  rw [wei_eq, read1]
theorem in2 (t : Fin cfg0.N) : iblk m c 2 t = mat fun r => inp m c (rowAt t.val r) := by
  unfold iblk
  show ((cfg0.win 2).blk t).view.read (Elt Ideal) (V m c main_arg0) = _
  rw [inp_eq, read2]
theorem in3 (t : Fin cfg0.N) : iblk m c 3 t = mat fun _ => gain m c := by
  unfold iblk
  show ((cfg0.win 3).blk t).view.read (Elt Ideal) (V m c main_v10) = _
  rw [gain_eq, read3]
theorem in4 (t : Fin cfg0.N) : iblk m c 4 t = mat fun r => res m c (rowAt t.val r) := by
  unfold iblk
  show ((cfg0.win 4).blk t).view.read (Elt Ideal) (V m c main_arg4) = _
  rw [res_eq, read4]

/-- One column's part of an entry of the projected gradient, and a block's. -/
def term (t : Fin 4096) (a : Fin 1024) (j : Fin 11264) : EReal := wide (grad m c t) j * wide (wei m c a) j

theorem part_eq (n : ℕ) (t : Fin 4096) (a : Fin 1024) :
    ∑ j, wide (grad m c t) (colAt n j) * wide (wei m c a) (colAt n j) = blockSum (term m c t a) (n % 11) :=
  (blockSum_of (term m c t a) (n % 11) (by omega)).symm

theorem step_eq (t : Fin cfg0.N) (acc : Fin 1024 → Fin 1024 → EReal) :
    k0_pay3 (F := Ideal) (mat acc) (iblk m c 0 t) (iblk m c 1 t)
      = mat fun r a => acc r a + blockSum (term m c (rowAt t.val r) a) (t.val % 11) := by
  rw [in0, in1, pay3_eq]
  simp only [part_eq]

theorem rowAt_pred {n k : ℕ} (h : n / 11 = k / 11) (r : Fin 1024) : rowAt n r = rowAt k r := by
  unfold rowAt
  simp only [h]

/-- What the accumulator holds after a point that is not a row block's last: the blocks so far. -/
theorem acc_eq (n : ℕ) (hn : n < cfg0.N) (h : n % 11 ≠ 10) :
    (outsAt0 m c n hn).2.2 = mat fun r a => ∑ k ∈ Finset.range (n % 11 + 1), blockSum (term m c (rowAt n r) a) k := by
  have hN : n < 44 := lt_N ⟨n, hn⟩
  induction n with
  | zero =>
    rw [outsAt0_A m c ⟨0, hn⟩ (Nat.zero_mod _) (Nat.zero_mod _) h]
    dsimp only
    rw [acc_A, pay1_eq, step_eq]
    simp
  | succ n ih =>
    by_cases h0 : (n + 1) % 11 = 0
    · rw [outsAt0_D m c ⟨n + 1, hn⟩ h0 (by dsimp only; omega) h]
      dsimp only
      rw [acc_D, pay1_eq, step_eq]
      simp [h0]
    · rw [outsAt0_B m c ⟨n + 1, hn⟩ h0 (by dsimp only; omega) h]
      dsimp only
      have e : n + 1 - 1 = n := rfl
      simp only [e]
      rw [acc_B, ih (by omega) (by omega) (by omega), step_eq]
      have e1 : (n + 1) % 11 = n % 11 + 1 := by omega
      simp only [e1, rowAt_pred (show n / 11 = (n + 1) / 11 by omega), Finset.sum_range_succ _ (n % 11 + 1)]

/-- At a row block's last point the accumulator and the point's block make the projected gradient. -/
theorem whole_eq (t : Fin cfg0.N) (h : t.val % 11 = 10) :
    k0_pay3 (F := Ideal) (outsAt0 m c (t.val - 1) (Nat.lt_of_le_of_lt (Nat.sub_le _ _) t.isLt)).2.2 (iblk m c 0 t) (iblk m c 1 t)
      = mat fun r a => proj m c (rowAt t.val r) a := by
  rw [acc_eq m c _ _ (by omega), step_eq]
  refine congrArg mat (funext fun r => funext fun a => ?_)
  rw [rowAt_pred (show (t.val - 1) / 11 = t.val / 11 by omega), show (t.val - 1) % 11 + 1 = 10 from by omega, h,
    ← Finset.sum_range_succ, sum_blocks _ 11 (by norm_num)]
  exact sum_wide _ _

theorem flushed5_eq (t : Fin cfg0.N) (hf : (cfg0.win 5).flush t = true) :
    (dats m 0 c).flushed 5 t = ((cfg0.win 5).blk t).view.read (Elt Ideal) (mat (rowDx m c)) := by
  have h2 : t.val % 11 = 10 := (flush0_5 t).mp hf
  rw [Cert.Kernel2Ideal.Value.flushed5_C m c t (by omega) (by omega) h2, dx_C, whole_eq m c t h2, in2, in3, in4, pay5_eq, read5]
  rfl

/-- What the second result holds after a point: the row blocks done so far. -/
theorem dg_eq (n : ℕ) (hn : n < cfg0.N) :
    (outsAt0 m c n hn).2.1 = mat fun _ a => ∑ k ∈ Finset.range ((n + 1) / 11), blockSum (rowDg m c a) k := by
  have hN : n < 44 := lt_N ⟨n, hn⟩
  induction n with
  | zero =>
    rw [outsAt0_A m c ⟨0, hn⟩ (Nat.zero_mod _) (Nat.zero_mod _) (by dsimp only; omega)]
    dsimp only
    rw [dg_A, pay2_eq]
    simp
  | succ n ih =>
    have e : n + 1 - 1 = n := rfl
    by_cases h0 : (n + 1) % 11 = 0
    · rw [outsAt0_D m c ⟨n + 1, hn⟩ h0 (by dsimp only; omega) (by dsimp only; omega)]
      dsimp only
      simp only [e]
      show (outsAt0 m c n _).2.1 = _
      rw [ih (by omega) (by omega), show (n + 1 + 1) / 11 = (n + 1) / 11 from by omega]
    · by_cases h2 : (n + 1) % 11 = 10
      · rw [outsAt0_C m c ⟨n + 1, hn⟩ h0 (by dsimp only; omega) h2]
        dsimp only
        rw [dg_C, whole_eq m c ⟨n + 1, hn⟩ h2]
        simp only [e]
        rw [ih (by omega) (by omega), in2, pay6_eq]
        refine congrArg mat (funext fun z => funext fun a => ?_)
        rw [show (n + 1 + 1) / 11 = (n + 1) / 11 + 1 from by omega, Finset.sum_range_succ]
        refine congrArg _ ?_
        rw [show (n + 1) / 11 = (n + 1) / 11 % 4 from by omega]
        exact (blockSum_of (rowDg m c a) ((n + 1) / 11 % 4) (by omega)).symm
      · rw [outsAt0_B m c ⟨n + 1, hn⟩ h0 (by dsimp only; omega) h2]
        dsimp only
        simp only [e]
        show (outsAt0 m c n _).2.1 = _
        rw [ih (by omega) (by omega), show (n + 1 + 1) / 11 = (n + 1) / 11 from by omega]

theorem flushed6_eq (t : Fin cfg0.N) (hf : (cfg0.win 6).flush t = true) :
    (dats m 0 c).flushed 6 t = ((cfg0.win 6).blk t).view.read (Elt Ideal) (mat fun _ a => ∑ i, rowDg m c a i) := by
  have h2 : t.val % 44 = 43 := (flush0_6 t).mp hf
  have := lt_N t
  rw [Cert.Kernel2Ideal.Value.flushed6 m c t, dg_eq, read6]
  refine congrArg mat (funext fun z => funext fun a => ?_)
  rw [show (t.val + 1) / 11 = 4 from by omega, sum_blocks _ 4 (by norm_num)]

/-- The two results' arrays are the reference's. -/
theorem dx_eq : (dats m 0 c).arrAt 5 cfg0.N = Cert.Reference2Ideal.Read.val_main_v38 (F := Ideal)
    (m (c, main_arg0)) (m (c, main_arg1)) (m (c, main_arg2)) (m (c, main_arg3)) (m (c, main_arg4)) := by
  rw [ref_dx]
  refine (dats m 0 c).arrAt_eq_of_cover 5 _ (flushed5_eq m c) fun i => (Cert.Kernel2Ideal.Value.covered_iff5 i).2 ?_
  have h0 : (i 0).val < 4096 := (i 0).isLt
  have h1 : (i 1).val < 1024 := (i 1).isLt
  omega
theorem dgain_eq : (dats m 0 c).arrAt 6 cfg0.N = Cert.Reference2Ideal.Read.val_main_v39 (F := Ideal)
    (m (c, main_arg0)) (m (c, main_arg2)) (m (c, main_arg3)) := by
  rw [ref_dg]
  refine (dats m 0 c).arrAt_eq_of_cover 6 _ (flushed6_eq m c) fun i => (Cert.Kernel2Ideal.Value.covered_iff6 i).2 ?_
  have h0 : (i 0).val < 1 := (i 0).isLt
  have h1 : (i 1).val < 1024 := (i 1).isLt
  omega

end Array

end Cert.Kernel2Ideal.Hand

end
-- ==== Proof.Fwd.lean ====
/- The in projection's launch: the body at a grid point, the pipeline's data, the run, and the frame. -/
module

public import proofs.«01_k».proof.Proof.Dx
public import proofs.«01_k».proof.Proof.Gen.Kernel4Ideal.Frame
public import proofs.«01_k».proof.Proof.Gen.Kernel4Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Quiescent

@[expose] public section

set_option maxRecDepth 16384
set_option maxHeartbeats 4000000

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-! ## What a block's first point stores -/

theorem hz : (![0, 0] : Fin 2 → Nat) = fun _ => 0 := funext fun a => by fin_cases a <;> rfl

/-- The 512 rows of the block from row `o` on. -/
def rows (x : Vec F S2048x1024 .f32) (o : ℕ) (inb : ∀ a, (![o, 0] : Fin 2 → ℕ) a + S512x1024.size a ≤ S2048x1024.size a) : Vec F S512x1024 .f32 :=
  View.ld x (Rect.unit (s := S2048x1024) ![o, 0] S512x1024.size inb)

def x0 (x : Vec F S2048x1024 .f32) : Vec F S512x1024 .f32 := rows x 0 inb_S2048x1024_S512x1024_0_0
def x1 (x : Vec F S2048x1024 .f32) : Vec F S512x1024 .f32 := rows x 512 inb_S2048x1024_S512x1024_512_0
def x2 (x : Vec F S2048x1024 .f32) : Vec F S512x1024 .f32 := rows x 1024 inb_S2048x1024_S512x1024_1024_0
def x3 (x : Vec F S2048x1024 .f32) : Vec F S512x1024 .f32 := rows x 1536 inb_S2048x1024_S512x1024_1536_0

/-- The normed rows, stored 512 at a time. -/
def parts (x : Vec F S2048x1024 .f32) (g : Vec F S1x1024 .f32) : List (View.Piece (Elt F) S2048x1024 .bf16) :=
  [⟨Rect.unit (s := S2048x1024) ![1536, 0] S512x1024.size inb_S2048x1024_S512x1024_1536_0, k0_pay2 (x3 x) (k0_pay15 (x3 x)) g⟩,
   ⟨Rect.unit (s := S2048x1024) ![1024, 0] S512x1024.size inb_S2048x1024_S512x1024_1024_0, k0_pay13 (x2 x) g⟩,
   ⟨Rect.unit (s := S2048x1024) ![512, 0] S512x1024.size inb_S2048x1024_S512x1024_512_0, k0_pay10 (k0_pay9 (x1 x) g)⟩,
   ⟨Rect.unit (s := S2048x1024) ![0, 0] S512x1024.size inb_S2048x1024_S512x1024_0_0, k0_pay6 (x0 x) g⟩]

/-- The same transposed. -/
def partsT (x : Vec F S2048x1024 .f32) (g : Vec F S1x1024 .f32) : List (View.Piece (Elt F) S1024x2048 .bf16) :=
  [⟨Rect.unit (s := S1024x2048) ![0, 1536] S1024x512.size inb_S1024x2048_S1024x512_0_1536, k0_pay3 (x3 x) (k0_pay15 (x3 x)) g⟩,
   ⟨Rect.unit (s := S1024x2048) ![0, 1024] S1024x512.size inb_S1024x2048_S1024x512_0_1024, k0_pay14 (x2 x) g⟩,
   ⟨Rect.unit (s := S1024x2048) ![0, 512] S1024x512.size inb_S1024x2048_S1024x512_0_512, k0_pay11 (k0_pay8 (x1 x) g)⟩,
   ⟨Rect.unit (s := S1024x2048) ![0, 0] S1024x512.size inb_S1024x2048_S1024x512_0_0, k0_pay7 (x0 x) g⟩]

theorem parts_cover (x : Vec F S2048x1024 .f32) (g : Vec F S1x1024 .f32) (y : S2048x1024.Idx) : ∃ p ∈ parts x g, y ∈ p.1.set :=
  View.cover_of_tiledL (parts x g) S512x1024.size (by sl_kernel_rfl) y
theorem partsT_cover (x : Vec F S2048x1024 .f32) (g : Vec F S1x1024 .f32) (y : S1024x2048.Idx) : ∃ p ∈ partsT x g, y ∈ p.1.set :=
  View.cover_of_tiledL (partsT x g) S1024x512.size (by sl_kernel_rfl) y

def hid (x : Vec F S2048x1024 .f32) (g : Vec F S1x1024 .f32) : Vec F S2048x1024 .bf16 := View.canon (parts x g)
def hidT (x : Vec F S2048x1024 .f32) (g : Vec F S1x1024 .f32) : Vec F S1024x2048 .bf16 := View.canon (partsT x g)

/-! ## The body -/

/-- At a block's first point. -/
theorem headRun (c : Dev nD) (i : grid0.Coords)
    (arg2 : Memref sig .tc .vmem S2048x1024 .f32) (harg2 : arg2.IsWhole) (arg3 : Memref sig .tc .vmem S1x1024 .f32) (harg3 : arg3.IsWhole)
    (arg4 : Memref sig .tc .vmem S1024x512 .bf16) (harg4 : arg4.IsWhole) (arg5 : Memref sig .tc .vmem S2048x512 .bf16) (harg5 : arg5.IsWhole)
    (arg6 : Memref sig .tc .vmem S1024x2048 .bf16) (harg6 : arg6.IsWhole) (arg7 : Memref sig .tc .vmem S2048x1024 .bf16) (harg7 : arg7.IsWhole)
    (hc : k0_cond1 i = 1#1) (x : Vec F S2048x1024 .f32) (g : Vec F S1x1024 .f32) (w : Vec F S1024x512 .bf16) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x ∗ owns (c : Thread nD τ) arg3 fullShare g ∗ owns (c : Thread nD τ) arg4 fullShare w
            ∗ owns (c : Thread nD τ) arg5 fullShare (k0_pay4 (hid x g) w) ∗ owns (c : Thread nD τ) arg6 fullShare (hidT x g)
            ∗ owns (c : Thread nD τ) arg7 fullShare (hid x g)) -∗ K ⟨⟩))
      ⊢ wp frame (wpE (defs₀ (F := F)) Variants.none c none) Set.univ
          (cc0_inproj_fwd i arg2 harg2 arg3 harg3 arg4 harg4 arg5 harg5 arg6 harg6 arg7 harg7) K := by
  simp only [cc0_inproj_fwd_eq_skeleton]; unfold cc0_inproj_fwd_skel
  simp only [k0_part1_eq_skeleton, k0_part2_eq_skeleton]; unfold k0_part1_skel k0_part2_skel
  unfold owns
  iintro ⟨⟨%f2, %hf2, H2⟩, ⟨%f3, %hf3, H3⟩, ⟨%f4, %hf4, H4⟩, ⟨%e5, %f5, -, H5⟩, ⟨%e6, %f6, -, H6⟩, ⟨%e7, %f7, -, H7⟩, Hk⟩
  obtain rfl := harg2.eq_unread hf2; obtain rfl := harg3.eq_unread hf3; obtain rfl := harg4.eq_unread hf4
  sl_exec (disch := first | sl_exact hc)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  have hg : View.readAt (Elt F) arg3.view (Rect.unit (s := S1x1024) ![0, 0] S1x1024.size inb_S1x1024_S1x1024_0_0).toLoadRect (harg3.unread g) = g := by
    rw [View.readAt_eq_ld, hf3, View.ld_unit_zero (S := S1x1024) hz]
  have hw : View.readAt (Elt F) arg4.view (Rect.unit (s := S1024x512) ![0, 0] S1024x512.size inb_S1024x512_S1024x512_0_0).toLoadRect (harg4.unread w) = w := by
    rw [View.readAt_eq_ld, hf4, View.ld_unit_zero (S := S1024x512) hz]
  have l7 : headRun.sl.H7_4 c arg2 harg2 arg3 harg3 x g = parts x g := by
    sl_unfold_words
    simp only [View.readAt_eq_ld, hf2, hf3, View.ld_unit_zero (S := S1x1024) hz]
    rfl
  isplitl [H5]
  · iexists _; isplitr; swap; · iexact H5
    ipureintro
    have v3 : headRun.sl.v3 c arg2 harg2 arg3 harg3 arg7 x g = hid x g := by
      unfold headRun.sl.v3
      rw [l7, View.readCov_eq_canon_ld _ _ _ (parts_cover x g), View.ld_unit_zero (S := S2048x1024) hz]
      rfl
    rw [v3]
    refine (View.read_writes_full _ _ _ _ _).trans ?_
    exact congrArg (k0_pay4 (hid x g)) hw
  isplitl [H6]
  · iexists _; isplitr; swap; · iexact H6
    ipureintro
    refine Eq.trans (b := arg6.view.read (Elt F) (arg6.view.writes (Elt F) f6 (partsT x g))) (congrArg (fun L => arg6.view.read (Elt F) (arg6.view.writes (Elt F) f6 L)) ?_)
      (View.read_writes_eq_canon _ _ _ (partsT_cover x g))
    simp only [View.readAt_eq_ld, hf2, hf3, View.ld_unit_zero (S := S1x1024) hz]
    rfl
  iexists _; isplitr; swap; · iexact H7
  ipureintro
  rw [l7]
  exact View.read_writes_eq_canon _ _ _ (parts_cover x g)

/-- At another point: the normed rows are read back, and nothing but the projection's block is stored. -/
theorem nextRun (c : Dev nD) (i : grid0.Coords)
    (arg2 : Memref sig .tc .vmem S2048x1024 .f32) (harg2 : arg2.IsWhole) (arg3 : Memref sig .tc .vmem S1x1024 .f32) (harg3 : arg3.IsWhole)
    (arg4 : Memref sig .tc .vmem S1024x512 .bf16) (harg4 : arg4.IsWhole) (arg5 : Memref sig .tc .vmem S2048x512 .bf16) (harg5 : arg5.IsWhole)
    (arg6 : Memref sig .tc .vmem S1024x2048 .bf16) (harg6 : arg6.IsWhole) (arg7 : Memref sig .tc .vmem S2048x1024 .bf16) (harg7 : arg7.IsWhole)
    (hc : ¬k0_cond1 i = 1#1) (h : Vec F S2048x1024 .bf16) (w : Vec F S1024x512 .bf16) (K : PUnit → sProp 𝕄) :
    iprop(owns (c : Thread nD τ) arg4 fullShare w ∗ (∃ d, owns (c : Thread nD τ) arg5 fullShare d) ∗ owns (c : Thread nD τ) arg7 fullShare h
        ∗ (iprop(owns (c : Thread nD τ) arg4 fullShare w ∗ owns (c : Thread nD τ) arg5 fullShare (k0_pay4 h w)
            ∗ owns (c : Thread nD τ) arg7 fullShare h) -∗ K ⟨⟩))
      ⊢ wp frame (wpE (defs₀ (F := F)) Variants.none c none) Set.univ
          (cc0_inproj_fwd i arg2 harg2 arg3 harg3 arg4 harg4 arg5 harg5 arg6 harg6 arg7 harg7) K := by
  simp only [cc0_inproj_fwd_eq_skeleton]; unfold cc0_inproj_fwd_skel
  unfold owns
  iintro ⟨⟨%f4, %hf4, H4⟩, ⟨%e5, %f5, -, H5⟩, ⟨%f7, %hf7, H7⟩, Hk⟩
  obtain rfl := harg4.eq_unread hf4; obtain rfl := harg7.eq_unread hf7
  sl_exec (disch := first | sl_exact hc)
  sl_step
  iapply Hk
  isplitl [H4]
  · iexists _; isplitr; · ipureintro; exact hf4
    iexact H4
  isplitl [H5]
  · iexists _; isplitr; swap; · iexact H5
    ipureintro
    refine (View.read_writes_full _ _ _ _ _).trans ?_
    simp only [View.readAt_eq_ld, hf4, hf7, View.ld_unit_zero (S := S2048x1024) hz, View.ld_unit_zero (S := S1024x512) hz]
  iexists _; isplitr; · ipureintro; exact hf7
  iexact H7

/-! ## The points of a block -/

theorem N_eq : cfg0.N = 44 := by decide

theorem lt_N (t : Fin cfg0.N) : t.val < 44 := by have := t.isLt; have := N_eq; omega

theorem hcond : ∀ t : Fin cfg0.N, k0_cond1 (grid0.coords t) = 1#1 ↔ t.val % 22 = 0 := by decide +kernel

theorem index0 : ∀ t : Fin cfg0.N, win0_0.index t 0 = t.val / 22 ∧ win0_0.index t 1 = 0 := by decide
theorem index1 : ∀ t : Fin cfg0.N, win0_1.index t 0 = 0 ∧ win0_1.index t 1 = 0 := by decide

theorem live4 : ∀ t : Fin cfg0.N, t.val % 22 = 0 → cfg0.idle 4 (cfg0.grid.coords t) = false := by decide +kernel
theorem idle4 : ∀ t : Fin cfg0.N, t.val % 22 ≠ 0 → cfg0.idle 4 (cfg0.grid.coords t) = true := by decide +kernel
theorem fresh4_step : ∀ t : Fin cfg0.N, ((t.val + 1) % 22 == 0) = ((cfg0.win 4).flush t || (cfg0.idle 4 (cfg0.grid.coords t) && (t.val % 22 == 0))) := by
  decide +kernel
theorem fresh4 (t : Fin cfg0.N) : cfg0.fresh 4 t.val = (t.val % 22 == 0) :=
  Pipeline.Cfg.fresh_tab cfg0 4 (fun n => n % 22 == 0) rfl fresh4_step t.val (Nat.le_of_lt t.isLt)

/-! ## The pipeline's data -/

variable (m : (ℓ : Loc nD τ sig) → Buf (Elt F) ℓ) (ρ : Dev nD → PrngReg)

def xAt (c : Dev nD) (t : Fin cfg0.N) : Vec F S2048x1024 .f32 := iblk m c 0 t
def gAt (c : Dev nD) (t : Fin cfg0.N) : Vec F S1x1024 .f32 := iblk m c 1 t
def wAt (c : Dev nD) (t : Fin cfg0.N) : Vec F S1024x512 .bf16 := iblk m c 2 t
def hAt (c : Dev nD) (t : Fin cfg0.N) : Vec F S2048x1024 .bf16 := hid (xAt m c t) (gAt m c t)
def hTAt (c : Dev nD) (t : Fin cfg0.N) : Vec F S1024x2048 .bf16 := hidT (xAt m c t) (gAt m c t)

theorem xAt_same (c : Dev nD) (t t' : Fin cfg0.N) (h : t.val / 22 = t'.val / 22) : xAt m c t = xAt m c t' := by
  obtain ⟨e0, e1⟩ := index0 t
  obtain ⟨e0', e1'⟩ := index0 t'
  funext j
  unfold xAt iblk
  show ((cfg0.win 0).blk t).view.read (Elt F) (V m c main_arg0) j = ((cfg0.win 0).blk t').view.read (Elt F) (V m c main_arg0) j
  rw [View.read_apply, View.read_apply]
  refine congrArg (V m c main_arg0) (funext fun a => Fin.ext ?_)
  match a with
  | ⟨0, _⟩ =>
    show win0_0.index t 0 * 2048 + 1 * (j 0).val = win0_0.index t' 0 * 2048 + 1 * (j 0).val
    rw [e0, e0', h]
  | ⟨1, _⟩ =>
    show win0_0.index t 1 * 1024 + 1 * (j 1).val = win0_0.index t' 1 * 1024 + 1 * (j 1).val
    rw [e1, e1']

theorem gAt_same (c : Dev nD) (t t' : Fin cfg0.N) : gAt m c t = gAt m c t' := by
  obtain ⟨e0, e1⟩ := index1 t
  obtain ⟨e0', e1'⟩ := index1 t'
  funext j
  unfold gAt iblk
  show ((cfg0.win 1).blk t).view.read (Elt F) (V m c main_v0) j = ((cfg0.win 1).blk t').view.read (Elt F) (V m c main_v0) j
  rw [View.read_apply, View.read_apply]
  refine congrArg (V m c main_v0) (funext fun a => Fin.ext ?_)
  match a with
  | ⟨0, _⟩ =>
    show win0_1.index t 0 * 1 + 1 * (j 0).val = win0_1.index t' 0 * 1 + 1 * (j 0).val
    rw [e0, e0']
  | ⟨1, _⟩ =>
    show win0_1.index t 1 * 1024 + 1 * (j 1).val = win0_1.index t' 1 * 1024 + 1 * (j 1).val
    rw [e1, e1']

theorem hAt_same (c : Dev nD) (t t' : Fin cfg0.N) (h : t.val / 22 = t'.val / 22) : hAt m c t = hAt m c t' := by
  unfold hAt; rw [xAt_same m c t t' h, gAt_same m c t t']
theorem hTAt_same (c : Dev nD) (t t' : Fin cfg0.N) (h : t.val / 22 = t'.val / 22) : hTAt m c t = hTAt m c t' := by
  unfold hTAt; rw [xAt_same m c t t' h, gAt_same m c t t']

/-- The buffer that carries the normed rows from point to point. -/
abbrev kept : Memref sig .tc .vmem S2048x1024 .bf16 := Memref.whole cc0_scratch0

theorem start_eq (c : Dev nD) :
    (Pipeline.ΦA spec0 c : sProp 𝕄) = iprop((∃ d, owns (c : Thread nD τ) kept fullShare d) ∗ (∃ r, prngReg c r)) := by
  unfold Pipeline.ΦA; rw [scopedRest0_eq]; simp only [kept, owns_whole]; try rfl

/-- Between points the buffer holds the normed rows of the point before. -/
def carry (c : Dev nD) : (n : ℕ) → n ≤ cfg0.N → sProp 𝕄
  | 0, _ => Pipeline.ΦA spec0 c
  | n + 1, h => iprop(owns (c : Thread nD τ) kept fullShare (hAt m c ⟨n, h⟩) ∗ (∃ r, prngReg c r))

theorem carry_zero (c : Dev nD) (n : ℕ) (h : n ≤ cfg0.N) (hn : n = 0) : carry m c n h = Pipeline.ΦA spec0 c := by
  subst hn; rfl

theorem carry_pos (c : Dev nD) (n : ℕ) (h : n ≤ cfg0.N) (hn : n ≠ 0) :
    carry m c n h = iprop(owns (c : Thread nD τ) kept fullShare (hAt m c ⟨n - 1, by omega⟩) ∗ (∃ r, prngReg c r)) := by
  obtain ⟨k, rfl⟩ := Nat.exists_eq_succ_of_ne_zero hn
  rfl

/-- Whatever the point, the buffer can be taken at anything. -/
theorem carry_any (c : Dev nD) (n : ℕ) (h : n ≤ cfg0.N) :
    carry m c n h ⊢ iprop((∃ d, owns (c : Thread nD τ) kept fullShare d) ∗ (∃ r, prngReg c r)) := by
  cases n with
  | zero => rw [carry_zero m c 0 h rfl, start_eq]
  | succ n =>
    rw [carry_pos m c _ h (Nat.succ_ne_zero n)]
    iintro ⟨H, Hg⟩
    isplitl [H]; · iexists _; iexact H
    iexact Hg

/-- Each array as the region finds it; after the body each input at its block and each result at what the body leaves. -/
def dats (_ : Fin 1) (c : Dev nD) : Dat τ (Elt F) Unit ℕ (UR sig nD τ) ℕ cfg0 c where
  A w := V m c (Pipeline.arrRef spec0 w)
  after w t := match w with
    | ⟨0, _⟩ => xAt m c t
    | ⟨1, _⟩ => gAt m c t
    | ⟨2, _⟩ => wAt m c t
    | ⟨3, _⟩ => k0_pay4 (hAt m c t) (wAt m c t)
    | ⟨4, _⟩ => hTAt m c t
  Φ t := carry m c t.val (Nat.le_of_lt_succ t.isLt)
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = xAt m c t := by dsimp only [dats]
theorem after0_1 (c : Dev nD) (t : Fin cfg0.N) : (dats m 0 c).after 1 t = gAt m c t := by dsimp only [dats]
theorem after0_2 (c : Dev nD) (t : Fin cfg0.N) : (dats m 0 c).after 2 t = wAt m c t := by dsimp only [dats]
theorem after0_3 (c : Dev nD) (t : Fin cfg0.N) : (dats m 0 c).after 3 t = k0_pay4 (hAt m c t) (wAt m c t) := by dsimp only [dats]
theorem after0_4 (c : Dev nD) (t : Fin cfg0.N) : (dats m 0 c).after 4 t = hTAt m c t := by dsimp only [dats]

theorem before0_0 (c : Dev nD) (t : Fin cfg0.N) (d) : (dats m 0 c).before 0 t d = xAt m c t :=
  before0_0_of m (dats m 0 c) (A_eq m c 0) (after0_0 m c) t d
theorem before0_1 (c : Dev nD) (t : Fin cfg0.N) (d) : (dats m 0 c).before 1 t d = gAt m c t :=
  before0_1_of m (dats m 0 c) (A_eq m c 1) (after0_1 m c) t d
theorem before0_2 (c : Dev nD) (t : Fin cfg0.N) (d) : (dats m 0 c).before 2 t d = wAt m c t :=
  before0_2_of m (dats m 0 c) (A_eq m c 2) (after0_2 m c) t d

theorem carried4 (c : Dev nD) (t : Fin cfg0.N) (h0 : t.val ≠ 0) (hi : cfg0.idle 4 (cfg0.grid.coords t) = true) (_ : cfg0.fresh 4 t.val = false) :
    (dats m 0 c).after 4 t = (dats m 0 c).after 4 ⟨t.val - 1, by omega⟩ := by
  have ht : t.val % 22 ≠ 0 := fun h => by rw [live4 t h] at hi; exact Bool.false_ne_true hi
  rw [after0_4, after0_4]
  exact hTAt_same m c _ _ (by dsimp only; omega)

/-- At a point that stores nothing into the transposed rows' buffer it holds them already. -/
theorem before0_4 (c : Dev nD) (t : Fin cfg0.N) (h : t.val % 22 ≠ 0) (d) : (dats m 0 c).before 4 t d = hTAt m c t := by
  rw [Dat.before_out_traj _ 4 rfl (fun _ _ => rfl) (carried4 m c) t.val t rfl d,
    if_neg (by rw [fresh4]; simpa using h), after0_4]
  exact hTAt_same m c _ _ (by dsimp only; omega)

/-! ## The body obligation, the run and the frame -/

theorem body_obligation (c : Dev nD) : BodyObligation (dats (F := F) m 0 c) (defs₀ (F := F)) Variants.none () Set.univ := fun t => by
  rw [bigSep_W0, bigSep_W0]
  rw [show (dats m 0 c).Φ t.succ = iprop(owns (c : Thread nD τ) kept fullShare (hAt m c t) ∗ (∃ r, prngReg c r)) from rfl,
    show (dats m 0 c).Φ t.castSucc = carry m c t.val (Nat.le_of_lt t.isLt) from by dsimp only [dats]; exact Pipeline.Dat.Φ_castSucc (carry m c) t,
    show (dats m 0 c).owesAt () t.succ = (dats m 0 c).owesAt () t.castSucc from rfl]
  by_cases h : t.val % 22 = 0
  · rw [live4 t h]
    sl_whnfR [defs₀, Defs.onTc]
    simp only [before0_0, before0_1, before0_2]
    rw [after0_0, after0_1, after0_2, after0_3, after0_4]
    unfold hAt hTAt
    iintro ⟨HΦ, Ho, ⟨%d0, H0⟩, ⟨%d1, H1⟩, ⟨%d2, H2⟩, ⟨%d3, H3⟩, ⟨%d4, H4⟩⟩
    ihave HΦ := (carry_any m c t.val (Nat.le_of_lt t.isLt)) $$ HΦ
    icases HΦ with ⟨HS, Hg⟩
    iapply (headRun c _ _ _ _ _ _ _ _ _ _ _ _ _ ((hcond t).mpr h) (xAt m c t) (gAt m c t) (wAt m c t) _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have hn : t.val ≠ 0 := fun e => h (by rw [e])
    rw [carry_pos m c t.val (Nat.le_of_lt t.isLt) hn, hAt_same m c ⟨t.val - 1, by omega⟩ t (by dsimp only; omega)]
    rw [idle4 t h]
    cases hf : (cfg0.win 4).flush t
    all_goals
      sl_whnfR [defs₀, Defs.onTc]
      simp only [before0_0, before0_1, before0_2, before0_4 m c t h]
      rw [after0_0, after0_1, after0_2, after0_3]
      try rw [after0_4]
      iintro ⟨⟨HS, Hg⟩, Ho, ⟨%d0, H0⟩, ⟨%d1, H1⟩, ⟨%d2, H2⟩, ⟨%d3, H3⟩, ⟨%d4, H4⟩⟩
      iapply (nextRun c _ _ _ _ _ _ _ _ _ _ _ _ _ (fun e => h ((hcond t).mp e)) (hAt m c t) (wAt m c t) _)
      isplitl [H2]; · iexact H2
      isplitl [H3]; · iexists _; iexact H3
      isplitl [HS]; · iexact HS
      iintro ⟨H2, H3, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      first
        | iexact H4
        | (iexists d4; iexact H4)

theorem hin (c : Dev nD) : Pipeline.ΦA spec0 c ⊢ (dats m 0 c).Φ 0 := by
  rw [show (dats m 0 c).Φ 0 = carry m c 0 (Nat.zero_le _) from rfl, carry_zero m c 0 _ rfl]

theorem hout (c : Dev nD) : (dats m 0 c).Φ (Fin.last cfg0.N) ⊢ Pipeline.ΦA spec0 c := by
  rw [start_eq, show (dats m 0 c).Φ (Fin.last cfg0.N) = carry m c cfg0.N (Nat.le_refl _) from rfl]
  exact carry_any m c _ _

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- From any memory the program ends with its arguments as launched and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.Kernel4Ideal.Hand

end
-- ==== Proof.Hidden.lean ====
/- The normed rows and their projection: what the call leaves in its two results. -/
module

public import proofs.«01_k».proof.Proof.Fwd
public import proofs.«01_k».proof.Proof.Gen.Reference4Ideal.Read
public import Idealize.ShloMosaic.Lib.StableHlo.Run
public import Idealize.ShloMosaic.Lib.Pipeline.ValueKit.Tiles

@[expose] public section

set_option maxRecDepth 8192
set_option maxHeartbeats 4000000

noncomputable section

namespace Cert.Kernel4Ideal.Hand

open Cert.Kernel4Ideal Cert.Kernel4Ideal.Gen Cert.Step
open Idealize.ShloMosaic Idealize.ShloMosaic.TcCoe Idealize.ShloMosaic.Tactic Idealize.ShloMosaic.StableHlo
open Cert.KernelIdeal.Hand (ext2)
open Cert.Kernel2Ideal.Hand (ms)

/-! ## The body's values -/

/-- A row normed and scaled by the gain. -/
def normed (X G : Fin 1024 → EReal) (k : Fin 1024) : EReal := X k * Ideal.rsqrt (ms X) * G k

section Pays
variable (X : Fin 512 → Fin 1024 → EReal) (G : Fin 1 → Fin 1024 → EReal)

theorem pay15_eq : k0_pay15 (F := Ideal) (mat X) = mat fun r _ => Ideal.rsqrt (ms (X r)) := by
  refine ext2 _ _ fun r k => ?_
  pointwise [k0_pay15]
  rw [mat_ix2, ms, ← ofBits_inv_len]
  rfl
theorem pay1_eq : k0_pay1 (F := Ideal) (mat X) (k0_pay15 (mat X)) (mat G) = mat fun r => normed (X r) (G 0) := by
  refine ext2 _ _ fun r k => ?_
  rw [pay15_eq]
  pointwise [k0_pay1]
  simp only [mat_ix2]
  rfl
theorem pay5_eq : k0_pay5 (F := Ideal) (mat X) (mat G) = mat fun r => normed (X r) (G 0) := by
  refine ext2 _ _ fun r k => ?_
  pointwise [k0_pay5]
  rw [mat_ix2]
  unfold normed ms
  rw [← ofBits_inv_len]
  rfl
theorem pay8_eq : k0_pay8 (F := Ideal) (mat X) (mat G) = mat fun r => normed (X r) (G 0) := pay5_eq X G
theorem pay12_eq : k0_pay12 (F := Ideal) (mat X) (mat G) = mat fun r => normed (X r) (G 0) := pay5_eq X G

theorem pay2_eq : k0_pay2 (F := Ideal) (mat X) (k0_pay15 (mat X)) (mat G) = mat fun r => normed (X r) (G 0) := by
  unfold k0_pay2
  rw [pay1_eq]
  refine ext2 _ _ fun r k => ?_
  pointwise
theorem pay6_eq : k0_pay6 (F := Ideal) (mat X) (mat G) = mat fun r => normed (X r) (G 0) := by
  unfold k0_pay6
  rw [pay5_eq]
  refine ext2 _ _ fun r k => ?_
  pointwise
theorem pay10_eq : k0_pay10 (F := Ideal) (k0_pay9 (mat X) (mat G)) = mat fun r => normed (X r) (G 0) := by
  unfold k0_pay10 k0_pay9
  rw [pay8_eq]
  refine ext2 _ _ fun r k => ?_
  pointwise
theorem pay13_eq : k0_pay13 (F := Ideal) (mat X) (mat G) = mat fun r => normed (X r) (G 0) := by
  unfold k0_pay13
  rw [pay12_eq]
  refine ext2 _ _ fun r k => ?_
  pointwise

theorem pay3_eq : k0_pay3 (F := Ideal) (mat X) (k0_pay15 (mat X)) (mat G) = mat fun k r => normed (X r) (G 0) k := by
  unfold k0_pay3
  rw [pay1_eq]
  refine ext2 _ _ fun k r => ?_
  pointwise
  rfl
theorem pay7_eq : k0_pay7 (F := Ideal) (mat X) (mat G) = mat fun k r => normed (X r) (G 0) k := by
  unfold k0_pay7
  rw [pay5_eq]
  refine ext2 _ _ fun k r => ?_
  pointwise
  rfl
theorem pay11_eq : k0_pay11 (F := Ideal) (k0_pay8 (mat X) (mat G)) = mat fun k r => normed (X r) (G 0) k := by
  unfold k0_pay11
  rw [pay8_eq]
  refine ext2 _ _ fun k r => ?_
  pointwise
  rfl
theorem pay14_eq : k0_pay14 (F := Ideal) (mat X) (mat G) = mat fun k r => normed (X r) (G 0) k := by
  unfold k0_pay14
  rw [pay12_eq]
  refine ext2 _ _ fun k r => ?_
  pointwise
  rfl
end Pays

theorem pay4_eq (H : Fin 2048 → Fin 1024 → EReal) (W : Fin 1024 → Fin 512 → EReal) :
    k0_pay4 (F := Ideal) (mat H) (mat W) = mat fun r j => ∑ k, H r k * W k j := by
  refine ext2 _ _ fun r j => ?_
  pointwise [k0_pay4]
  rfl

/-- A row of the part of the block from row `o` on. -/
def rowOf (o : ℕ) (ho : o + 512 ≤ 2048) (r : Fin 512) : Fin 2048 := ⟨o + r.val, by omega⟩

theorem rows_eq (X : Fin 2048 → Fin 1024 → EReal) (o : ℕ) (inb : ∀ a, (![o, 0] : Fin 2 → ℕ) a + S512x1024.size a ≤ S2048x1024.size a)
    (ho : o + 512 ≤ 2048) : rows (F := Ideal) (mat X) o inb = mat fun r => X (rowOf o ho r) := by
  refine ext2 _ _ fun r k => ?_
  unfold rows
  show X ((Rect.unit (s := S2048x1024) ![o, 0] S512x1024.size inb).idx (ix2 r k) 0) ((Rect.unit (s := S2048x1024) ![o, 0] S512x1024.size inb).idx (ix2 r k) 1)
    = X (rowOf o ho r) k
  refine mat_congr ?_ ?_
  · rw [Rect.idx_unit_val]; rfl
  · rw [Rect.idx_unit_val]; exact Nat.zero_add _

/-- A part's entry is the block's. -/
theorem part_at (f : Fin 2048 → Fin 1024 → EReal) (o : ℕ) (inb : ∀ a, (![o, 0] : Fin 2 → ℕ) a + S512x1024.size a ≤ S2048x1024.size a)
    (ho : o + 512 ≤ 2048) (r : Fin 2048) (k : Fin 1024) (x : S512x1024.Idx)
    (hx : (Rect.unit (s := S2048x1024) ![o, 0] S512x1024.size inb).emb x = ix2 r k) : mat (fun r => f (rowOf o ho r)) x = f r k := by
  have e0 : o + 1 * (x 0).val = r.val := congrArg Fin.val (congrFun hx 0)
  have e1 : 0 + 1 * (x 1).val = k.val := congrArg Fin.val (congrFun hx 1)
  refine mat_congr ?_ ?_
  · show o + (x 0).val = r.val
    omega
  · omega
theorem partT_at (f : Fin 2048 → Fin 1024 → EReal) (o : ℕ) (inb : ∀ a, (![0, o] : Fin 2 → ℕ) a + S1024x512.size a ≤ S1024x2048.size a)
    (ho : o + 512 ≤ 2048) (k : Fin 1024) (r : Fin 2048) (x : S1024x512.Idx)
    (hx : (Rect.unit (s := S1024x2048) ![0, o] S1024x512.size inb).emb x = ix2 k r) : mat (fun k r => f (rowOf o ho r) k) x = f r k := by
  have e0 : 0 + 1 * (x 0).val = k.val := congrArg Fin.val (congrFun hx 0)
  have e1 : o + 1 * (x 1).val = r.val := congrArg Fin.val (congrFun hx 1)
  refine mat_congr (f := f) ?_ ?_
  · show o + (x 1).val = r.val
    omega
  · omega

theorem hid_eq (X : Fin 2048 → Fin 1024 → EReal) (G : Fin 1 → Fin 1024 → EReal) :
    hid (F := Ideal) (mat X) (mat G) = mat fun r => normed (X r) (G 0) := by
  refine ext2 _ _ fun r k => ?_
  refine View.canon_eq_of_allAt _ _ _ (parts_cover _ _ _) ?_
  unfold parts x0 x1 x2 x3
  rw [rows_eq _ _ _ (by norm_num), rows_eq _ _ _ (by norm_num), rows_eq _ _ _ (by norm_num), rows_eq _ _ _ (by norm_num),
    pay2_eq, pay13_eq, pay10_eq, pay6_eq]
  intro p hp x hx
  simp only [List.mem_cons, List.not_mem_nil, or_false] at hp
  rcases hp with rfl | rfl | rfl | rfl
  · exact part_at (fun r => normed (X r) (G 0)) 1536 inb_S2048x1024_S512x1024_1536_0 _ r k x hx
  · exact part_at (fun r => normed (X r) (G 0)) 1024 inb_S2048x1024_S512x1024_1024_0 _ r k x hx
  · exact part_at (fun r => normed (X r) (G 0)) 512 inb_S2048x1024_S512x1024_512_0 _ r k x hx
  · exact part_at (fun r => normed (X r) (G 0)) 0 inb_S2048x1024_S512x1024_0_0 _ r k x hx

theorem hidT_eq (X : Fin 2048 → Fin 1024 → EReal) (G : Fin 1 → Fin 1024 → EReal) :
    hidT (F := Ideal) (mat X) (mat G) = mat fun k r => normed (X r) (G 0) k := by
  refine ext2 _ _ fun k r => ?_
  refine View.canon_eq_of_allAt _ _ _ (partsT_cover _ _ _) ?_
  unfold partsT x0 x1 x2 x3
  rw [rows_eq _ _ _ (by norm_num), rows_eq _ _ _ (by norm_num), rows_eq _ _ _ (by norm_num), rows_eq _ _ _ (by norm_num),
    pay3_eq, pay14_eq, pay11_eq, pay7_eq]
  intro p hp x hx
  simp only [List.mem_cons, List.not_mem_nil, or_false] at hp
  rcases hp with rfl | rfl | rfl | rfl
  · exact partT_at (fun r => normed (X r) (G 0)) 1536 inb_S1024x2048_S1024x512_0_1536 _ k r x hx
  · exact partT_at (fun r => normed (X r) (G 0)) 1024 inb_S1024x2048_S1024x512_0_1024 _ k r x hx
  · exact partT_at (fun r => normed (X r) (G 0)) 512 inb_S1024x2048_S1024x512_0_512 _ k r x hx
  · exact partT_at (fun r => normed (X r) (G 0)) 0 inb_S1024x2048_S1024x512_0_0 _ k r x hx

/-! ## The blocks of the arrays -/

/-- Where a point's rows and columns lie in an array. -/
def rowAt (t : Fin cfg0.N) (r : Fin 2048) : Fin 4096 := ⟨2048 * (t.val / 22) + r.val, by have := lt_N t; omega⟩
def colAt (t : Fin cfg0.N) (j : Fin 512) : Fin 11264 := ⟨512 * (t.val % 22) + j.val, by omega⟩

theorem index2 : ∀ t : Fin cfg0.N, win0_2.index t 0 = 0 ∧ win0_2.index t 1 = t.val % 22 := by decide
theorem index3 : ∀ t : Fin cfg0.N, win0_3.index t 0 = t.val / 22 ∧ win0_3.index t 1 = t.val % 22 := by decide
theorem index4 : ∀ t : Fin cfg0.N, win0_4.index t 0 = 0 ∧ win0_4.index t 1 = t.val / 22 := by decide

section Reads
variable (t : Fin cfg0.N)

theorem read0 (G : Fin 4096 → Fin 1024 → EReal) :
    ((cfg0.win 0).blk t).view.read (Elt Ideal) (mat G) = mat fun r j => G (rowAt t r) j := by
  obtain ⟨e0, e1⟩ := index0 t
  funext j
  rw [View.read_apply]
  refine mat_congr ?_ ?_
  · show win0_0.index t 0 * 2048 + 1 * (j 0).val = 2048 * (t.val / 22) + (j 0).val
    rw [e0]; omega
  · show win0_0.index t 1 * 1024 + 1 * (j 1).val = (j 1).val
    rw [e1]; omega
theorem read1 (G : Fin 1 → Fin 1024 → EReal) : ((cfg0.win 1).blk t).view.read (Elt Ideal) (mat G) = mat G := by
  obtain ⟨e0, e1⟩ := index1 t
  funext j
  rw [View.read_apply]
  refine mat_congr ?_ ?_
  · show win0_1.index t 0 * 1 + 1 * (j 0).val = (j 0).val
    rw [e0]; omega
  · show win0_1.index t 1 * 1024 + 1 * (j 1).val = (j 1).val
    rw [e1]; omega
theorem read2 (G : Fin 1024 → Fin 11264 → EReal) :
    ((cfg0.win 2).blk t).view.read (Elt Ideal) (mat G) = mat fun k j => G k (colAt t j) := by
  obtain ⟨e0, e1⟩ := index2 t
  funext j
  rw [View.read_apply]
  refine mat_congr ?_ ?_
  · show win0_2.index t 0 * 1024 + 1 * (j 0).val = (j 0).val
    rw [e0]; omega
  · show win0_2.index t 1 * 512 + 1 * (j 1).val = 512 * (t.val % 22) + (j 1).val
    rw [e1]; omega
theorem read3 (G : Fin 4096 → Fin 11264 → EReal) :
    ((cfg0.win 3).blk t).view.read (Elt Ideal) (mat G) = mat fun r j => G (rowAt t r) (colAt t j) := by
  obtain ⟨e0, e1⟩ := index3 t
  funext j
  rw [View.read_apply]
  refine mat_congr ?_ ?_
  · show win0_3.index t 0 * 2048 + 1 * (j 0).val = 2048 * (t.val / 22) + (j 0).val
    rw [e0]; omega
  · show win0_3.index t 1 * 512 + 1 * (j 1).val = 512 * (t.val % 22) + (j 1).val
    rw [e1]; omega
theorem read4 (G : Fin 1024 → Fin 4096 → EReal) :
    ((cfg0.win 4).blk t).view.read (Elt Ideal) (mat G) = mat fun k r => G k (rowAt t r) := by
  obtain ⟨e0, e1⟩ := index4 t
  funext j
  rw [View.read_apply]
  refine mat_congr ?_ ?_
  · show win0_4.index t 0 * 1024 + 1 * (j 0).val = (j 0).val
    rw [e0]; omega
  · show win0_4.index t 1 * 2048 + 1 * (j 1).val = 2048 * (t.val / 22) + (j 1).val
    rw [e1]; omega
end Reads

theorem cover3 (i : S4096x11264.Idx) : ∃ t : Fin cfg0.N, (cfg0.win 3).flush t = true ∧ i ∈ ((cfg0.win 3).blk t).view.set := by
  have h0 : (i 0).val < 4096 := (i 0).isLt
  have h1 : (i 1).val < 11264 := (i 1).isLt
  refine ⟨⟨22 * ((i 0).val / 2048) + (i 1).val / 512, by rw [N_eq]; omega⟩, flush0_3 _, ?_⟩
  generalize ht : (⟨22 * ((i 0).val / 2048) + (i 1).val / 512, _⟩ : Fin cfg0.N) = t
  have hv : t.val = 22 * ((i 0).val / 2048) + (i 1).val / 512 := by rw [← ht]
  obtain ⟨e0, e1⟩ := index3 t
  show i ∈ ((View.whole main_v6_0).slice (win0_3.rect t)).set
  rw [View.set_slice_whole, Rect.mem_set_unit]
  intro a
  match a with
  | ⟨0, _⟩ =>
    show win0_3.index t 0 * 2048 ≤ (i 0).val ∧ (i 0).val < win0_3.index t 0 * 2048 + 2048
    rw [e0]; omega
  | ⟨1, _⟩ =>
    show win0_3.index t 1 * 512 ≤ (i 1).val ∧ (i 1).val < win0_3.index t 1 * 512 + 512
    rw [e1]; omega
theorem cover4 (i : S1024x4096.Idx) : ∃ t : Fin cfg0.N, (cfg0.win 4).flush t = true ∧ i ∈ ((cfg0.win 4).blk t).view.set := by
  have h0 : (i 0).val < 1024 := (i 0).isLt
  have h1 : (i 1).val < 4096 := (i 1).isLt
  refine ⟨⟨22 * ((i 1).val / 2048) + 21, by rw [N_eq]; omega⟩, (flush0_4 _).mpr (by dsimp only; omega), ?_⟩
  generalize ht : (⟨22 * ((i 1).val / 2048) + 21, _⟩ : Fin cfg0.N) = t
  have hv : t.val = 22 * ((i 1).val / 2048) + 21 := by rw [← ht]
  obtain ⟨e0, e1⟩ := index4 t
  show i ∈ ((View.whole main_v6_1).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    rw [e0]; omega
  | ⟨1, _⟩ =>
    show win0_4.index t 1 * 2048 ≤ (i 1).val ∧ (i 1).val < win0_4.index t 1 * 2048 + 2048
    rw [e1]; omega

/-! ## The two results -/

section Array
variable (m : (ℓ : Loc nD τ sig) → Buf (Elt Ideal) ℓ) (c : Dev nD)

/-- The arguments by rows and columns, and the two results. -/
def inp (t : Fin 4096) (a : Fin 1024) : EReal := m (c, main_arg0) (ix2 t a)
def gain (a : Fin 1024) : EReal := m (c, main_arg1) (ix1 a)
def wei (a : Fin 1024) (j : Fin 11168) : EReal := m (c, main_arg2) (ix2 a j)
def hidden (t : Fin 4096) (a : Fin 1024) : EReal := normed (inp m c t) (gain m c) a
def proj (t : Fin 4096) (j : Fin 11168) : EReal := ∑ k, hidden m c t k * wei m c k j

theorem ref_hidden (t : Fin 4096) (a : Fin 1024) :
    Cert.Reference4Ideal.Read.val_main_v12 (F := Ideal) (m (c, main_arg0)) (m (c, main_arg1)) (ix2 t a) = hidden m c t a := by
  pointwise [Cert.Reference4Ideal.Read.val_main_v0, Cert.Reference4Ideal.Read.val_main_v1, Cert.Reference4Ideal.Read.val_main_v2, Cert.Reference4Ideal.Read.val_main_v3, Cert.Reference4Ideal.Read.val_main_v4, Cert.Reference4Ideal.Read.val_main_v5, Cert.Reference4Ideal.Read.val_main_v6, Cert.Reference4Ideal.Read.val_main_v7, Cert.Reference4Ideal.Read.val_main_v8, Cert.Reference4Ideal.Read.val_main_v9, Cert.Reference4Ideal.Read.val_main_v10, Cert.Reference4Ideal.Read.val_main_v11, Cert.Reference4Ideal.Read.val_main_v12, Cert.Reference4Ideal.Read.val_main_cst, Cert.Reference4Ideal.Read.val_main_cst_0, Cert.Reference4Ideal.Read.val_main_cst_1]
  simp only [Fin.sum_univ_one, ofBits_len, div_len]
  rfl

theorem ref_proj (t : Fin 4096) (j : Fin 11168) :
    Cert.Reference4Ideal.Read.val_main_v13 (F := Ideal) (m (c, main_arg0)) (m (c, main_arg1)) (m (c, main_arg2)) (ix2 t j) = proj m c t j := by
  pointwise [Cert.Reference4Ideal.Read.val_main_v13]
  exact Finset.sum_congr rfl fun k _ => congrArg (· * wei m c k j) (ref_hidden m c t k)

theorem ref_wide : Cert.Reference4Ideal.Read.val_main_v18 (F := Ideal) (m (c, main_arg0)) (m (c, main_arg1)) (m (c, main_arg2))
    = mat fun t => wide (proj m c t) := by
  refine ext2 _ _ fun t j => ?_
  pointwise [Cert.Reference4Ideal.Read.val_main_v18, Cert.Reference4Ideal.Read.val_main_v17, Cert.Reference4Ideal.Read.val_main_v16, Cert.Reference4Ideal.Read.val_main_v15, Cert.Reference4Ideal.Read.val_main_v14, Cert.Reference4Ideal.Read.val_main_call0_v0, Cert.Reference4Ideal.Read.val_main_c]
  simp only [ref_proj]
  rw [mat_ix2]
  exact pad_eq (proj m c t) _ sitofp_zero j

theorem ref_turned : Cert.Reference4Ideal.Read.val_main_v20 (F := Ideal) (m (c, main_arg0)) (m (c, main_arg1))
    = mat fun a t => hidden m c t a := by
  refine ext2 _ _ fun a t => ?_
  pointwise [Cert.Reference4Ideal.Read.val_main_v20, Cert.Reference4Ideal.Read.val_main_v19]
  exact ref_hidden m c t a

/-- The widened weights as the program joins them. -/
def joinedW (x : FVec Ideal S1024x11168 .f32) : FVec Ideal S1024x11264 .bf16 :=
  truncf (F := Ideal) .bf16
    (concatenate S1024x11264 1 [⟨S1024x2464, extractStridedSlice S1024x2464 ![0, 0] x slices_S1024x11168_S1024x2464_0_0⟩,
        ⟨S1024x96, broadcastInDim S1024x96 ![] bcast_S_S1024x96 (constant S_ .f32 0x00000000#32)⟩,
        ⟨S1024x8704, extractStridedSlice S1024x8704 ![0, 2464] x slices_S1024x11168_S1024x8704_0_2464⟩]
      concatenates_S1024x2464_S1024x96_S1024x8704_S1024x11264_d1) bitsLt_bf16_f32

theorem V_wei : V m c main_v5 = joinedW (m (c, main_arg2)) := by
  simp only [V, List.flatten, List.append, hostOps0]
  after_results_simp
  rfl
theorem V_gain : V m c main_v0 = broadcastInDim S1x1024 ![1] bcast_S1024_S1x1024_1 (m (c, main_arg1)) := by
  simp only [V, List.flatten, List.append, hostOps0]
  after_results_simp

theorem wei_eq : V m c main_v5 = mat fun a => wide (wei m c a) := by
  rw [V_wei]
  refine ext2 _ _ fun a j => ?_
  pointwise [joinedW]
  rw [mat_ix2]
  exact gap_eq (wei m c a) j
theorem gain_eq : V m c main_v0 = mat fun _ => gain m c := by
  rw [V_gain]
  refine ext2 _ _ fun z j => ?_
  pointwise
  rfl
theorem inp_eq : V m c main_arg0 = mat (inp m c) := by
  rw [V_main_arg0]
  exact ext2 _ _ fun t a => rfl

theorem xAt_eq (t : Fin cfg0.N) : xAt m c t = mat fun r => inp m c (rowAt t r) := by
  unfold xAt iblk
  show ((cfg0.win 0).blk t).view.read (Elt Ideal) (V m c main_arg0) = _
  rw [inp_eq, read0]
theorem gAt_eq (t : Fin cfg0.N) : gAt m c t = mat fun _ => gain m c := by
  unfold gAt iblk
  show ((cfg0.win 1).blk t).view.read (Elt Ideal) (V m c main_v0) = _
  rw [gain_eq, read1]
theorem wAt_eq (t : Fin cfg0.N) : wAt m c t = mat fun k j => wide (wei m c k) (colAt t j) := by
  unfold wAt iblk
  show ((cfg0.win 2).blk t).view.read (Elt Ideal) (V m c main_v5) = _
  rw [wei_eq, read2]

theorem hAt_eq (t : Fin cfg0.N) : hAt m c t = mat fun r => hidden m c (rowAt t r) := by
  unfold hAt
  rw [xAt_eq, gAt_eq, hid_eq]
  rfl
theorem hTAt_eq (t : Fin cfg0.N) : hTAt m c t = mat fun k r => hidden m c (rowAt t r) k := by
  unfold hTAt
  rw [xAt_eq, gAt_eq, hidT_eq]
  rfl
theorem pAt_eq (t : Fin cfg0.N) : k0_pay4 (hAt m c t) (wAt m c t) = mat fun r j => wide (proj m c (rowAt t r)) (colAt t j) := by
  rw [hAt_eq, wAt_eq, pay4_eq]
  refine congrArg mat (funext fun r => funext fun j => ?_)
  exact wide_sum _ _ _

/-- The two results' arrays are the reference's. -/
theorem proj_eq : (dats m 0 c).arrAt 3 cfg0.N = Cert.Reference4Ideal.Read.val_main_v18 (F := Ideal)
    (m (c, main_arg0)) (m (c, main_arg1)) (m (c, main_arg2)) := by
  rw [ref_wide]
  refine (dats m 0 c).arrAt_eq_of_cover 3 _ (fun t _ => ?_) cover3
  rw [read3]
  exact (after0_3 m c t).trans (pAt_eq m c t)
theorem turned_eq : (dats m 0 c).arrAt 4 cfg0.N = Cert.Reference4Ideal.Read.val_main_v20 (F := Ideal)
    (m (c, main_arg0)) (m (c, main_arg1)) := by
  rw [ref_turned]
  refine (dats m 0 c).arrAt_eq_of_cover 4 _ (fun t _ => ?_) cover4
  rw [read4]
  exact (after0_4 m c t).trans (hTAt_eq m c t)

end Array

end Cert.Kernel4Ideal.Hand

end
-- ==== Proof.Merge.lean ====
/- The merge of the three branches: the scalar functions that it is made of, and what one point of the call computes. -/
module

public import proofs.«01_k».proof.Proof.Hidden
public import proofs.«01_k».proof.Proof.Finite
public import proofs.«01_k».proof.Proof.Gen.Kernel5Ideal.Value

@[expose] public section

set_option maxRecDepth 8192
set_option maxHeartbeats 4000000

noncomputable section

namespace Cert.Kernel5Ideal.Hand

open Cert.Kernel5Ideal Cert.Kernel5Ideal.Gen Cert.Step
open Idealize.ShloMosaic Idealize.ShloMosaic.TcCoe Idealize.ShloMosaic.Tactic Idealize.ShloMosaic.StableHlo
open Cert.KernelIdeal.Hand (ext2 ofBits_neg_inf)

/-! ## The scalars -/

/-- The sigmoid, and a gate path's factor. -/
def sg (z : EReal) : EReal := Ideal.div 1 (1 + Ideal.exp (-z))
def path (z : EReal) : EReal := z * sg z

/-- The largest of three log-sums, and their weights' sum relative to it. -/
def top (a b c : EReal) : EReal := max (max a b) c
def weight (a b c x : EReal) : EReal := Ideal.exp (x - top a b c)
def weights (a b c : EReal) : EReal := weight a b c a + weight a b c b + weight a b c c

/-- Three outputs weighted by their log-sums, the sum's inverse taken once. -/
def mix (a b c u v w : EReal) : EReal :=
  weight a b c a * Ideal.div 1 (weights a b c) * u + weight a b c b * Ideal.div 1 (weights a b c) * v
    + weight a b c c * Ideal.div 1 (weights a b c) * w

theorem exp_nonneg (x : EReal) : 0 ≤ Ideal.exp x := by
  induction x using EReal.rec with
  | bot => rw [Ideal.exp_bot]
  | top => rw [Ideal.exp_top]; exact le_top
  | coe r => rw [Ideal.exp_coe]; exact EReal.coe_nonneg.mpr (Real.exp_pos r).le

/-- Where the largest log-sum is a real, one of the weights is one. -/
theorem weights_ne (a b c : EReal) (h : top a b c ≠ ⊤ ∧ top a b c ≠ ⊥) : weights a b c ≠ 0 := by
  have one : ∀ x, x = top a b c → weight a b c x = 1 := by
    rintro x rfl
    unfold weight
    generalize top a b c = M at h
    induction M using EReal.rec with
    | bot => exact absurd rfl h.2
    | top => exact absurd rfl h.1
    | coe r => rw [← EReal.coe_sub, sub_self, Ideal.exp_coe, Real.exp_zero, EReal.coe_one]
  have pos : (1 : EReal) ≤ weights a b c := by
    have na : 0 ≤ weight a b c a := exp_nonneg _
    have nb : 0 ≤ weight a b c b := exp_nonneg _
    have nc : 0 ≤ weight a b c c := exp_nonneg _
    unfold weights
    rcases max_choice (max a b) c with e | e
    · rcases max_choice a b with e' | e'
      · have e1 := one a (by unfold top; rw [e, e'])
        rw [e1]
        exact (le_add_of_nonneg_right nb).trans (le_add_of_nonneg_right nc)
      · have e1 := one b (by unfold top; rw [e, e'])
        rw [e1]
        exact (le_add_of_nonneg_left na).trans (le_add_of_nonneg_right nc)
    · have e1 := one c (by unfold top; rw [e])
      rw [e1]
      exact le_add_of_nonneg_left (add_nonneg na nb)
  intro e
  rw [e] at pos
  exact absurd pos (by simp)

theorem div_eq (e s : EReal) (h : s ≠ 0) : Ideal.div e s = e * Ideal.div 1 s := by
  unfold Ideal.div
  rw [if_neg h, if_neg h, one_mul]

/-- The largest of three, taken from below. -/
theorem fold_three (f : Fin 3 → EReal) : max ⊥ (Finset.fold max ⊥ f Finset.univ) = top (f 0) (f 1) (f 2) := by
  unfold top
  rw [max_eq_right bot_le]
  apply le_antisymm
  · rw [Finset.fold_max_le]
    refine ⟨bot_le, fun i _ => ?_⟩
    fin_cases i
    · exact (le_max_left _ _).trans (le_max_left _ _)
    · exact (le_max_right _ _).trans (le_max_left _ _)
    · exact le_max_right _ _
  · refine max_le (max_le ?_ ?_) ?_ <;> rw [Finset.le_fold_max] <;> exact .inr ⟨_, Finset.mem_univ _, le_rfl⟩

/-- The softmax over the three, summed against the outputs. -/
theorem mix_eq (l o : Fin 3 → EReal) (h : top (l 0) (l 1) (l 2) ≠ ⊤ ∧ top (l 0) (l 1) (l 2) ≠ ⊥) :
    ∑ i, Ideal.div (Ideal.exp (l i - max ⊥ (Finset.fold max ⊥ l Finset.univ)))
        (∑ j, Ideal.exp (l j - max ⊥ (Finset.fold max ⊥ l Finset.univ))) * o i
      = mix (l 0) (l 1) (l 2) (o 0) (o 1) (o 2) := by
  have hs : ∑ j, Ideal.exp (l j - top (l 0) (l 1) (l 2)) = weights (l 0) (l 1) (l 2) := by
    rw [Fin.sum_univ_three]; rfl
  rw [fold_three, hs, Fin.sum_univ_three]
  have d := fun e => div_eq e _ (weights_ne _ _ _ h)
  exact congrArg₂ (· + ·) (congrArg₂ (· + ·) (congrArg (· * _) (d _)) (congrArg (· * _) (d _))) (congrArg (· * _) (d _))

/-! ## One row -/

/-- A row's branches projected, gated and added; the branches are given before their gate paths. -/
def merged (bz cz ya ob oc : Fin 512 → EReal) (p q s : Fin 1024 → EReal) (wa wb wc : Fin 512 → Fin 1024 → EReal) (x : Fin 1024) : EReal :=
  sg (p x) * ∑ k, ya k * wa k x + sg (q x) * ∑ k, ob k * path (bz k) * wb k x + sg (s x) * ∑ k, oc k * path (cz k) * wc k x

/-- A row of the layer's output. -/
def outRow (X : Fin 1024 → EReal) (bz cz ya ob oc : Fin 512 → EReal) (p q s : Fin 1024 → EReal) (wa wb wc : Fin 512 → Fin 1024 → EReal)
    (w : Fin 1024 → Fin 1024 → EReal) (x : Fin 1024) : EReal :=
  X x + ∑ j, merged bz cz ya ob oc p q s wa wb wc j * w j x

/-! ## The body -/

theorem pay2_eq (x : Fin 256 → Fin 512 → EReal) : k0_pay2 (F := Ideal) (mat x) = mat x := by
  refine ext2 _ _ fun r k => ?_
  pointwise [k0_pay2]
theorem pay3_eq (x : Fin 256 → Fin 512 → EReal) : k0_pay3 (F := Ideal) (mat x) = mat x := by
  refine ext2 _ _ fun r k => ?_
  pointwise [k0_pay3]
theorem pay4_eq (x : Fin 256 → Fin 1024 → EReal) (b : Fin 1 → Fin 1024 → EReal) :
    k0_pay4 (F := Ideal) (mat x) (mat b) = mat fun r k => sg (x r k + b 0 k) := by
  refine ext2 _ _ fun r k => ?_
  pointwise [k0_pay4]
  rw [zero_sub]
  rfl
theorem pay5_eq (x : Fin 256 → Fin 1024 → EReal) (b : Fin 1 → Fin 1024 → EReal) :
    k0_pay5 (F := Ideal) (mat x) (mat b) = mat fun r k => sg (x r k + b 0 k) := pay4_eq x b
theorem pay7_eq (x : Fin 256 → Fin 1024 → EReal) (b : Fin 1 → Fin 1024 → EReal) :
    k0_pay7 (F := Ideal) (k0_pay6 (mat x)) (mat b) = mat fun r k => sg (x r k + b 0 k) := pay4_eq x b
theorem pay16_eq (a b c : Fin 256 → Fin 512 → EReal) :
    k0_pay16 (F := Ideal) (mat a) (mat b) (mat c)
      = mat fun r k => weight (a r k) (b r k) (c r k) (c r k) * Ideal.div 1 (weights (a r k) (b r k) (c r k)) := by
  refine ext2 _ _ fun r k => ?_
  pointwise [k0_pay16, k0_pay12, k0_pay13, k0_pay14, k0_pay15, k0_pay11, k0_pay8, k0_pay9, k0_pay10]
  rfl
theorem pay17_eq (a b c u v : Fin 256 → Fin 512 → EReal) :
    k0_pay17 (F := Ideal) (mat a) (mat b) (mat c) (mat u) (mat v)
      = mat fun r k => weight (a r k) (b r k) (c r k) (a r k) * Ideal.div 1 (weights (a r k) (b r k) (c r k)) * u r k
          + weight (a r k) (b r k) (c r k) (b r k) * Ideal.div 1 (weights (a r k) (b r k) (c r k)) * v r k := by
  refine ext2 _ _ fun r k => ?_
  pointwise [k0_pay17, k0_pay12, k0_pay13, k0_pay14, k0_pay15, k0_pay11, k0_pay8, k0_pay9, k0_pay10]
  rfl
theorem pay18_eq (x : Fin 256 → Fin 512 → EReal) : k0_pay18 (F := Ideal) (mat x) = mat x := by
  refine ext2 _ _ fun r k => ?_
  pointwise [k0_pay18]
theorem pay19_eq (bz cz ob g h w ya : Fin 256 → Fin 512 → EReal) (p q s : Fin 256 → Fin 1024 → EReal) (wa wb wc : Fin 512 → Fin 1024 → EReal) :
    k0_pay19 (F := Ideal) (mat bz) (mat cz) (mat fun r k => sg (p r k)) (mat fun r k => sg (q r k)) (mat fun r k => sg (s r k)) (mat ob)
        (mat g) (mat h) (mat w) (mat ya) (mat wa) (mat wb) (mat wc)
      = mat fun r => merged (bz r) (cz r) (ya r) (ob r) (fun k => h r k + g r k * w r k) (p r) (q r) (s r) wa wb wc := by
  refine ext2 _ _ fun r x => ?_
  pointwise [k0_pay19]
  simp only [zero_sub, mat_ix2]
  rfl
theorem pay1_eq (y X : Fin 256 → Fin 1024 → EReal) (w : Fin 1024 → Fin 1024 → EReal) :
    k0_pay1 (F := Ideal) (mat y) (mat X) (mat w) = mat fun r x => X r x + ∑ j, y r j * w j x := by
  refine ext2 _ _ fun r x => ?_
  pointwise [k0_pay1]
  rfl

theorem hz : (![0, 0] : Fin 2 → Nat) = fun _ => 0 := funext fun a => by fin_cases a <;> rfl

/-- The bias of one gate. -/
theorem ld_bias (b : Fin 1 → Fin 3072 → EReal) :
    View.ld (Val := Elt Ideal) (e' := .f32) (mat b : Vec Ideal S1x3072 .f32) r0_2 = mat (fun i (k : Fin 1024) => b i ⟨k.val, by omega⟩)
      ∧ View.ld (Val := Elt Ideal) (e' := .f32) (mat b : Vec Ideal S1x3072 .f32) r0_3 = mat (fun i (k : Fin 1024) => b i ⟨1024 + k.val, by omega⟩)
      ∧ View.ld (Val := Elt Ideal) (e' := .f32) (mat b : Vec Ideal S1x3072 .f32) r0_4 = mat (fun i (k : Fin 1024) => b i ⟨2048 + k.val, by omega⟩) := by
  refine ⟨?_, ?_, ?_⟩ <;> refine ext2 _ _ fun i k => mat_congr ?_ ?_
  · show 0 + 1 * i.val = i.val; omega
  · show 0 + 1 * k.val = k.val; omega
  · show 0 + 1 * i.val = i.val; omega
  · show 1024 + 1 * k.val = 1024 + k.val; omega
  · show 0 + 1 * i.val = i.val; omega
  · show 2048 + 1 * k.val = 2048 + k.val; omega

/-- What a point leaves in the result's block. -/
theorem out_eq (X : Fin 256 → Fin 1024 → EReal) (bz cz : Fin 256 → Fin 512 → EReal) (p q s : Fin 256 → Fin 1024 → EReal)
    (b : Fin 1 → Fin 3072 → EReal) (ya ob u v w l0 l1 l2 : Fin 256 → Fin 512 → EReal) (wa wb wc : Fin 512 → Fin 1024 → EReal)
    (wo : Fin 1024 → Fin 1024 → EReal) :
    out0_19 (F := Ideal) (mat X) (mat bz) (mat cz) (mat p) (mat q) (mat s) (mat b) (mat ya) (mat ob) (mat u) (mat v) (mat w)
        (mat l0) (mat l1) (mat l2) (mat wa) (mat wb) (mat wc) (mat wo)
      = mat fun r => outRow (X r) (bz r) (cz r) (ya r) (ob r) (fun k => mix (l0 r k) (l1 r k) (l2 r k) (u r k) (v r k) (w r k))
          (fun k => p r k + b 0 ⟨k.val, by omega⟩) (fun k => q r k + b 0 ⟨1024 + k.val, by omega⟩) (fun k => s r k + b 0 ⟨2048 + k.val, by omega⟩)
          wa wb wc wo := by
  unfold out0_19
  rw [View.canon_unit_zero hz, (ld_bias b).1, (ld_bias b).2.1, (ld_bias b).2.2]
  simp only [View.ld_unit_zero (S := S256x512) hz, View.ld_unit_zero (S := S256x1024) hz, View.ld_unit_zero (S := S512x1024) hz,
    View.ld_unit_zero (S := S1024x1024) hz]
  rw [pay2_eq, pay3_eq, pay4_eq, pay5_eq, pay7_eq, pay16_eq, pay17_eq, pay18_eq, pay19_eq, pay1_eq]
  rfl

end Cert.Kernel5Ideal.Hand

end
-- ==== Proof.Merged.lean ====
/- The merge of the three branches: the call's arrays and the reference's. -/
module

public import proofs.«01_k».proof.Proof.Merge
public import proofs.«01_k».proof.Pre_bounded
public import proofs.«01_k».proof.Proof.Gen.Reference5Ideal.Read
public import Idealize.ShloMosaic.Lib.StableHlo.Run
public import Idealize.ShloMosaic.Lib.Pipeline.ValueKit.Tiles

@[expose] public section

set_option maxRecDepth 8192
set_option maxHeartbeats 4000000

noncomputable section

namespace Cert.Pre_bounded.Hand

open Idealize.ShloMosaic

theorem facts : Cert.Pre_bounded.Facts := ⟨by decide⟩

end Cert.Pre_bounded.Hand

namespace Cert.Kernel5Ideal.Hand

open Cert.Kernel5Ideal Cert.Kernel5Ideal.Gen Cert.Step
open Idealize.ShloMosaic Idealize.ShloMosaic.TcCoe Idealize.ShloMosaic.Tactic Idealize.ShloMosaic.StableHlo
open Cert.KernelIdeal.Hand (ext2 ofBits_neg_inf)

/-! ## The blocks of the arrays -/

theorem N_eq : cfg0.N = 16 := by decide
theorem lt_N (t : Fin cfg0.N) : t.val < 16 := by have := t.isLt; have := N_eq; omega

/-- Where a point's rows lie in an array. -/
def rowAt (t : Fin cfg0.N) (r : Fin 256) : Fin 4096 := ⟨256 * t.val + r.val, by have := lt_N t; omega⟩

/-- A column among the widened ones. -/
def col (o : ℕ) {n : ℕ} (ho : o + n ≤ 11264) (k : Fin n) : Fin 11264 := ⟨o + k.val, by omega⟩

/-- A column among the ones before the widening. -/
def nar (o : ℕ) {n : ℕ} (ho : o + n ≤ 11168) (k : Fin n) : Fin 11168 := ⟨o + k.val, by omega⟩

theorem wide_col (f : Fin 11168 → EReal) (o : ℕ) {n : ℕ} (ho : o + 96 + n ≤ 11264) (hl : 2464 ≤ o) (k : Fin n) :
    wide f (col (o + 96) ho k) = f (nar o (by omega) k) := by
  unfold wide col nar
  rw [dif_neg (by dsimp only; omega), dif_neg (by dsimp only; omega)]
  exact congrArg f (Fin.ext (by dsimp only; omega))

theorem index0 : ∀ t : Fin cfg0.N, win0_0.index t 0 = t.val ∧ win0_0.index t 1 = 0 := by decide
theorem index1 : ∀ t : Fin cfg0.N, win0_1.index t 0 = t.val ∧ win0_1.index t 1 = 5 := by decide
theorem index2 : ∀ t : Fin cfg0.N, win0_2.index t 0 = t.val ∧ win0_2.index t 1 = 15 := by decide
theorem index3 : ∀ t : Fin cfg0.N, win0_3.index t 0 = t.val ∧ win0_3.index t 1 = 8 := by decide
theorem index4 : ∀ t : Fin cfg0.N, win0_4.index t 0 = t.val ∧ win0_4.index t 1 = 9 := by decide
theorem index5 : ∀ t : Fin cfg0.N, win0_5.index t 0 = t.val ∧ win0_5.index t 1 = 10 := by decide
theorem index6 : ∀ t : Fin cfg0.N, win0_6.index t 0 = 0 ∧ win0_6.index t 1 = 0 := by decide
theorem index7 : ∀ t : Fin cfg0.N, win0_7.index t 0 = t.val ∧ win0_7.index t 1 = 0 := by decide
theorem index8 : ∀ t : Fin cfg0.N, win0_8.index t 0 = t.val ∧ win0_8.index t 1 = 0 := by decide
theorem index9 : ∀ t : Fin cfg0.N, win0_9.index t 0 = t.val ∧ win0_9.index t 1 = 0 := by decide
theorem index10 : ∀ t : Fin cfg0.N, win0_10.index t 0 = t.val ∧ win0_10.index t 1 = 0 := by decide
theorem index11 : ∀ t : Fin cfg0.N, win0_11.index t 0 = t.val ∧ win0_11.index t 1 = 0 := by decide
theorem index12 : ∀ t : Fin cfg0.N, win0_12.index t 0 = t.val ∧ win0_12.index t 1 = 0 := by decide
theorem index13 : ∀ t : Fin cfg0.N, win0_13.index t 0 = t.val ∧ win0_13.index t 1 = 0 := by decide
theorem index14 : ∀ t : Fin cfg0.N, win0_14.index t 0 = t.val ∧ win0_14.index t 1 = 0 := by decide
theorem index15 : ∀ t : Fin cfg0.N, win0_15.index t 0 = 0 ∧ win0_15.index t 1 = 0 := by decide
theorem index16 : ∀ t : Fin cfg0.N, win0_16.index t 0 = 0 ∧ win0_16.index t 1 = 0 := by decide
theorem index17 : ∀ t : Fin cfg0.N, win0_17.index t 0 = 0 ∧ win0_17.index t 1 = 0 := by decide
theorem index18 : ∀ t : Fin cfg0.N, win0_18.index t 0 = 0 ∧ win0_18.index t 1 = 0 := by decide
theorem index19 : ∀ t : Fin cfg0.N, win0_19.index t 0 = t.val ∧ win0_19.index t 1 = 0 := by decide

section Reads
variable (t : Fin cfg0.N)

theorem read0 (G : Fin 4096 → Fin 1024 → EReal) : ((cfg0.win 0).blk t).view.read (Elt Ideal) (mat G) = mat fun r => G (rowAt t r) := by
  obtain ⟨e0, e1⟩ := index0 t
  funext j
  rw [View.read_apply]
  refine mat_congr ?_ ?_
  · show win0_0.index t 0 * 256 + 1 * (j 0).val = 256 * t.val + (j 0).val
    rw [e0]; omega
  · show win0_0.index t 1 * 1024 + 1 * (j 1).val = (j 1).val
    rw [e1]; omega
theorem read1 (G : Fin 4096 → Fin 11264 → EReal) : ((cfg0.win 1).blk t).view.read (Elt Ideal) (mat G) = mat fun r k => G (rowAt t r) (col 2560 (by omega) k) := by
  obtain ⟨e0, e1⟩ := index1 t
  funext j
  rw [View.read_apply]
  refine mat_congr ?_ ?_
  · show win0_1.index t 0 * 256 + 1 * (j 0).val = 256 * t.val + (j 0).val
    rw [e0]; omega
  · show win0_1.index t 1 * 512 + 1 * (j 1).val = 2560 + (j 1).val
    rw [e1]; omega
theorem read2 (G : Fin 4096 → Fin 11264 → EReal) : ((cfg0.win 2).blk t).view.read (Elt Ideal) (mat G) = mat fun r k => G (rowAt t r) (col 7680 (by omega) k) := by
  obtain ⟨e0, e1⟩ := index2 t
  funext j
  rw [View.read_apply]
  refine mat_congr ?_ ?_
  · show win0_2.index t 0 * 256 + 1 * (j 0).val = 256 * t.val + (j 0).val
    rw [e0]; omega
  · show win0_2.index t 1 * 512 + 1 * (j 1).val = 7680 + (j 1).val
    rw [e1]; omega
theorem read3 (G : Fin 4096 → Fin 11264 → EReal) : ((cfg0.win 3).blk t).view.read (Elt Ideal) (mat G) = mat fun r k => G (rowAt t r) (col 8192 (by omega) k) := by
  obtain ⟨e0, e1⟩ := index3 t
  funext j
  rw [View.read_apply]
  refine mat_congr ?_ ?_
  · show win0_3.index t 0 * 256 + 1 * (j 0).val = 256 * t.val + (j 0).val
    rw [e0]; omega
  · show win0_3.index t 1 * 1024 + 1 * (j 1).val = 8192 + (j 1).val
    rw [e1]; omega
theorem read4 (G : Fin 4096 → Fin 11264 → EReal) : ((cfg0.win 4).blk t).view.read (Elt Ideal) (mat G) = mat fun r k => G (rowAt t r) (col 9216 (by omega) k) := by
  obtain ⟨e0, e1⟩ := index4 t
  funext j
  rw [View.read_apply]
  refine mat_congr ?_ ?_
  · show win0_4.index t 0 * 256 + 1 * (j 0).val = 256 * t.val + (j 0).val
    rw [e0]; omega
  · show win0_4.index t 1 * 1024 + 1 * (j 1).val = 9216 + (j 1).val
    rw [e1]; omega
theorem read5 (G : Fin 4096 → Fin 11264 → EReal) : ((cfg0.win 5).blk t).view.read (Elt Ideal) (mat G) = mat fun r k => G (rowAt t r) (col 10240 (by omega) k) := by
  obtain ⟨e0, e1⟩ := index5 t
  funext j
  rw [View.read_apply]
  refine mat_congr ?_ ?_
  · show win0_5.index t 0 * 256 + 1 * (j 0).val = 256 * t.val + (j 0).val
    rw [e0]; omega
  · show win0_5.index t 1 * 1024 + 1 * (j 1).val = 10240 + (j 1).val
    rw [e1]; omega
theorem read6 (G : Fin 1 → Fin 3072 → EReal) : ((cfg0.win 6).blk t).view.read (Elt Ideal) (mat G) = mat G := by
  obtain ⟨e0, e1⟩ := index6 t
  funext j
  rw [View.read_apply]
  refine mat_congr ?_ ?_
  · show win0_6.index t 0 * 1 + 1 * (j 0).val = (j 0).val
    rw [e0]; omega
  · show win0_6.index t 1 * 3072 + 1 * (j 1).val = (j 1).val
    rw [e1]; omega
theorem read7 (G : Fin 4096 → Fin 512 → EReal) : ((cfg0.win 7).blk t).view.read (Elt Ideal) (mat G) = mat fun r => G (rowAt t r) := by
  obtain ⟨e0, e1⟩ := index7 t
  funext j
  rw [View.read_apply]
  refine mat_congr ?_ ?_
  · show win0_7.index t 0 * 256 + 1 * (j 0).val = 256 * t.val + (j 0).val
    rw [e0]; omega
  · show win0_7.index t 1 * 512 + 1 * (j 1).val = (j 1).val
    rw [e1]; omega
theorem read8 (G : Fin 4096 → Fin 512 → EReal) : ((cfg0.win 8).blk t).view.read (Elt Ideal) (mat G) = mat fun r => G (rowAt t r) := by
  obtain ⟨e0, e1⟩ := index8 t
  funext j
  rw [View.read_apply]
  refine mat_congr ?_ ?_
  · show win0_8.index t 0 * 256 + 1 * (j 0).val = 256 * t.val + (j 0).val
    rw [e0]; omega
  · show win0_8.index t 1 * 512 + 1 * (j 1).val = (j 1).val
    rw [e1]; omega
theorem read9 (G : Fin 4096 → Fin 512 → EReal) : ((cfg0.win 9).blk t).view.read (Elt Ideal) (mat G) = mat fun r => G (rowAt t r) := by
  obtain ⟨e0, e1⟩ := index9 t
  funext j
  rw [View.read_apply]
  refine mat_congr ?_ ?_
  · show win0_9.index t 0 * 256 + 1 * (j 0).val = 256 * t.val + (j 0).val
    rw [e0]; omega
  · show win0_9.index t 1 * 512 + 1 * (j 1).val = (j 1).val
    rw [e1]; omega
theorem read10 (G : Fin 4096 → Fin 512 → EReal) : ((cfg0.win 10).blk t).view.read (Elt Ideal) (mat G) = mat fun r => G (rowAt t r) := by
  obtain ⟨e0, e1⟩ := index10 t
  funext j
  rw [View.read_apply]
  refine mat_congr ?_ ?_
  · show win0_10.index t 0 * 256 + 1 * (j 0).val = 256 * t.val + (j 0).val
    rw [e0]; omega
  · show win0_10.index t 1 * 512 + 1 * (j 1).val = (j 1).val
    rw [e1]; omega
theorem read11 (G : Fin 4096 → Fin 512 → EReal) : ((cfg0.win 11).blk t).view.read (Elt Ideal) (mat G) = mat fun r => G (rowAt t r) := by
  obtain ⟨e0, e1⟩ := index11 t
  funext j
  rw [View.read_apply]
  refine mat_congr ?_ ?_
  · show win0_11.index t 0 * 256 + 1 * (j 0).val = 256 * t.val + (j 0).val
    rw [e0]; omega
  · show win0_11.index t 1 * 512 + 1 * (j 1).val = (j 1).val
    rw [e1]; omega
theorem read12 (G : Fin 4096 → Fin 512 → EReal) : ((cfg0.win 12).blk t).view.read (Elt Ideal) (mat G) = mat fun r => G (rowAt t r) := by
  obtain ⟨e0, e1⟩ := index12 t
  funext j
  rw [View.read_apply]
  refine mat_congr ?_ ?_
  · show win0_12.index t 0 * 256 + 1 * (j 0).val = 256 * t.val + (j 0).val
    rw [e0]; omega
  · show win0_12.index t 1 * 512 + 1 * (j 1).val = (j 1).val
    rw [e1]; omega
theorem read13 (G : Fin 4096 → Fin 512 → EReal) : ((cfg0.win 13).blk t).view.read (Elt Ideal) (mat G) = mat fun r => G (rowAt t r) := by
  obtain ⟨e0, e1⟩ := index13 t
  funext j
  rw [View.read_apply]
  refine mat_congr ?_ ?_
  · show win0_13.index t 0 * 256 + 1 * (j 0).val = 256 * t.val + (j 0).val
    rw [e0]; omega
  · show win0_13.index t 1 * 512 + 1 * (j 1).val = (j 1).val
    rw [e1]; omega
theorem read14 (G : Fin 4096 → Fin 512 → EReal) : ((cfg0.win 14).blk t).view.read (Elt Ideal) (mat G) = mat fun r => G (rowAt t r) := by
  obtain ⟨e0, e1⟩ := index14 t
  funext j
  rw [View.read_apply]
  refine mat_congr ?_ ?_
  · show win0_14.index t 0 * 256 + 1 * (j 0).val = 256 * t.val + (j 0).val
    rw [e0]; omega
  · show win0_14.index t 1 * 512 + 1 * (j 1).val = (j 1).val
    rw [e1]; omega
theorem read15 (G : Fin 512 → Fin 1024 → EReal) : ((cfg0.win 15).blk t).view.read (Elt Ideal) (mat G) = mat G := by
  obtain ⟨e0, e1⟩ := index15 t
  funext j
  rw [View.read_apply]
  refine mat_congr ?_ ?_
  · show win0_15.index t 0 * 512 + 1 * (j 0).val = (j 0).val
    rw [e0]; omega
  · show win0_15.index t 1 * 1024 + 1 * (j 1).val = (j 1).val
    rw [e1]; omega
theorem read16 (G : Fin 512 → Fin 1024 → EReal) : ((cfg0.win 16).blk t).view.read (Elt Ideal) (mat G) = mat G := by
  obtain ⟨e0, e1⟩ := index16 t
  funext j
  rw [View.read_apply]
  refine mat_congr ?_ ?_
  · show win0_16.index t 0 * 512 + 1 * (j 0).val = (j 0).val
    rw [e0]; omega
  · show win0_16.index t 1 * 1024 + 1 * (j 1).val = (j 1).val
    rw [e1]; omega
theorem read17 (G : Fin 512 → Fin 1024 → EReal) : ((cfg0.win 17).blk t).view.read (Elt Ideal) (mat G) = mat G := by
  obtain ⟨e0, e1⟩ := index17 t
  funext j
  rw [View.read_apply]
  refine mat_congr ?_ ?_
  · show win0_17.index t 0 * 512 + 1 * (j 0).val = (j 0).val
    rw [e0]; omega
  · show win0_17.index t 1 * 1024 + 1 * (j 1).val = (j 1).val
    rw [e1]; omega
theorem read18 (G : Fin 1024 → Fin 1024 → EReal) : ((cfg0.win 18).blk t).view.read (Elt Ideal) (mat G) = mat G := by
  obtain ⟨e0, e1⟩ := index18 t
  funext j
  rw [View.read_apply]
  refine mat_congr ?_ ?_
  · show win0_18.index t 0 * 1024 + 1 * (j 0).val = (j 0).val
    rw [e0]; omega
  · show win0_18.index t 1 * 1024 + 1 * (j 1).val = (j 1).val
    rw [e1]; omega
theorem read19 (G : Fin 4096 → Fin 1024 → EReal) : ((cfg0.win 19).blk t).view.read (Elt Ideal) (mat G) = mat fun r => G (rowAt t r) := by
  obtain ⟨e0, e1⟩ := index19 t
  funext j
  rw [View.read_apply]
  refine mat_congr ?_ ?_
  · show win0_19.index t 0 * 256 + 1 * (j 0).val = 256 * t.val + (j 0).val
    rw [e0]; omega
  · show win0_19.index t 1 * 1024 + 1 * (j 1).val = (j 1).val
    rw [e1]; omega
end Reads

theorem cover19 (i : S4096x1024.Idx) : ∃ t : Fin cfg0.N, (cfg0.win 19).flush t = true ∧ i ∈ ((cfg0.win 19).blk t).view.set := by
  have h0 : (i 0).val < 4096 := (i 0).isLt
  have h1 : (i 1).val < 1024 := (i 1).isLt
  refine ⟨⟨(i 0).val / 256, by rw [N_eq]; omega⟩, flush0_19 _, ?_⟩
  generalize ht : (⟨(i 0).val / 256, _⟩ : Fin cfg0.N) = t
  have hv : t.val = (i 0).val / 256 := by rw [← ht]
  obtain ⟨e0, e1⟩ := index19 t
  show i ∈ ((View.whole main_v23).slice (win0_19.rect t)).set
  rw [View.set_slice_whole, Rect.mem_set_unit]
  intro a
  match a with
  | ⟨0, _⟩ =>
    show win0_19.index t 0 * 256 ≤ (i 0).val ∧ (i 0).val < win0_19.index t 0 * 256 + 256
    rw [e0]; omega
  | ⟨1, _⟩ =>
    show win0_19.index t 1 * 1024 ≤ (i 1).val ∧ (i 1).val < win0_19.index t 1 * 1024 + 1024
    rw [e1]; omega

/-! ## The arguments -/

section Array
variable (m : (ℓ : Loc nD τ sig) → Buf (Elt Ideal) ℓ) (c : Dev nD)

/-- The head and the lane of a column. -/
def hd (k : Fin 512) : Fin 8 := ⟨k.val / 64, by omega⟩
def ln (k : Fin 512) : Fin 64 := ⟨k.val % 64, by omega⟩

/-- The arguments by rows and columns. -/
def inp (t : Fin 4096) (a : Fin 1024) : EReal := m (c, main_arg0) (ix2 t a)
def pr (t : Fin 4096) (j : Fin 11168) : EReal := m (c, main_arg1) (ix2 t j)
def bias (j : Fin 3072) : EReal := m (c, main_arg2) (ix1 j)
def brA (t : Fin 4096) (k : Fin 512) : EReal := m (c, main_arg3) (ix2 t k)
def brB (t : Fin 4096) (k : Fin 512) : EReal := m (c, main_arg4) (ix2 t k)
def o0 (t : Fin 4096) (k : Fin 512) : EReal := m (c, main_arg5) (ix3 t (hd k) (ln k))
def o1 (t : Fin 4096) (k : Fin 512) : EReal := m (c, main_arg6) (ix3 t (hd k) (ln k))
def o2 (t : Fin 4096) (k : Fin 512) : EReal := m (c, main_arg7) (ix3 t (hd k) (ln k))
def l0 (t : Fin 4096) (k : Fin 512) : EReal := m (c, main_arg8) (ix2 t (hd k))
def l1 (t : Fin 4096) (k : Fin 512) : EReal := m (c, main_arg9) (ix2 t (hd k))
def l2 (t : Fin 4096) (k : Fin 512) : EReal := m (c, main_arg10) (ix2 t (hd k))
def wA (k : Fin 512) (j : Fin 1024) : EReal := m (c, main_arg11) (ix2 k j)
def wB (k : Fin 512) (j : Fin 1024) : EReal := m (c, main_arg12) (ix2 k j)
def wC (k : Fin 512) (j : Fin 1024) : EReal := m (c, main_arg13) (ix2 k j)
def wO (k : Fin 1024) (j : Fin 1024) : EReal := m (c, main_arg14) (ix2 k j)

/-- The gate paths' and the gates' inputs. -/
def bz (t : Fin 4096) (k : Fin 512) : EReal := pr m c t (nar 2464 (by omega) k)
def cz (t : Fin 4096) (k : Fin 512) : EReal := pr m c t (nar 7584 (by omega) k)
def ga (t : Fin 4096) (j : Fin 1024) : EReal := pr m c t (nar 8096 (by omega) j) + bias m c ⟨j.val, by omega⟩
def gb (t : Fin 4096) (j : Fin 1024) : EReal := pr m c t (nar 9120 (by omega) j) + bias m c ⟨1024 + j.val, by omega⟩
def gc (t : Fin 4096) (j : Fin 1024) : EReal := pr m c t (nar 10144 (by omega) j) + bias m c ⟨2048 + j.val, by omega⟩

/-- The mixed outputs of the three rates, and the layer's output. -/
def brC (t : Fin 4096) (k : Fin 512) : EReal := mix (l0 m c t k) (l1 m c t k) (l2 m c t k) (o0 m c t k) (o1 m c t k) (o2 m c t k)
def res (t : Fin 4096) : Fin 1024 → EReal :=
  outRow (inp m c t) (bz m c t) (cz m c t) (brA m c t) (brB m c t) (brC m c t) (ga m c t) (gb m c t) (gc m c t) (wA m c) (wB m c) (wC m c) (wO m c)

/-- The widened projection as the program joins it. -/
def joined (x : FVec Ideal S4096x11168 .f32) : FVec Ideal S4096x11264 .bf16 :=
  truncf (F := Ideal) .bf16
    (concatenate S4096x11264 1 [⟨S4096x2464, extractStridedSlice S4096x2464 ![0, 0] x slices_S4096x11168_S4096x2464_0_0⟩,
        ⟨S4096x96, broadcastInDim S4096x96 ![] bcast_S_S4096x96 (constant S_ .f32 0x00000000#32)⟩,
        ⟨S4096x8704, extractStridedSlice S4096x8704 ![0, 2464] x slices_S4096x11168_S4096x8704_0_2464⟩]
      concatenates_S4096x2464_S4096x96_S4096x8704_S4096x11264_d1) bitsLt_bf16_f32

/-- A log-sum over its head's lanes. -/
def lanes (x : FVec Ideal S4096x8 .f32) : FVec Ideal S4096x512 .f32 :=
  shapeCast S4096x512 (broadcastInDim S4096x8x64 ![0, 1, 2] bcast_S4096x8x1_S4096x8x64_0_1_2
    (broadcastInDim S4096x8x1 ![0, 1] bcast_S4096x8_S4096x8x1_0_1 x)) shapeCasts_S4096x8x64_S4096x512

/-- An output's heads side by side. -/
def flat (x : FVec Ideal S4096x8x64 .f32) : FVec Ideal S4096x512 .f32 := shapeCast S4096x512 x shapeCasts_S4096x8x64_S4096x512

theorem joined_eq (x : FVec Ideal S4096x11168 .f32) : joined x = mat fun t => wide fun j => x (ix2 t j) := by
  refine ext2 _ _ fun t j => ?_
  pointwise [joined]
  rw [mat_ix2]
  exact gap_eq (fun i => x (ix2 t i)) j
theorem lanes_eq (x : FVec Ideal S4096x8 .f32) : lanes x = mat fun t k => x (ix2 t (hd k)) := by
  refine ext2 _ _ fun t k => ?_
  pointwise [lanes]
  rfl
theorem flat_eq (x : FVec Ideal S4096x8x64 .f32) : flat x = mat fun t k => x (ix3 t (hd k) (ln k)) := by
  refine ext2 _ _ fun t k => ?_
  pointwise [flat]
  rfl

theorem V_pr : V m c main_v4 = joined (m (c, main_arg1)) := by
  simp only [V, List.flatten, List.append, hostOps0]
  after_results_simp
  rfl
theorem pr_eq : V m c main_v4 = mat fun t => wide (pr m c t) := by
  rw [V_pr]
  exact joined_eq _
theorem V_bias : V m c main_v5 = broadcastInDim S1x3072 ![1] bcast_S3072_S1x3072_1 (m (c, main_arg2)) := by
  simp only [V, List.flatten, List.append, hostOps0]
  after_results_simp
theorem bias_eq : V m c main_v5 = mat fun _ => bias m c := by
  rw [V_bias]
  refine ext2 _ _ fun z j => ?_
  pointwise
  rfl
theorem V_brA : V m c main_v6 = truncf (F := Ideal) .bf16 (m (c, main_arg3) : FVec Ideal S4096x512 .f32) bitsLt_bf16_f32 := by
  simp only [V, List.flatten, List.append, hostOps0]
  after_results_simp
theorem brA_eq : V m c main_v6 = mat (brA m c) := by
  rw [V_brA]
  refine ext2 _ _ fun z j => ?_
  pointwise
  rfl
theorem V_o0 : V m c main_v7 = flat (m (c, main_arg5)) := by
  simp only [V, List.flatten, List.append, hostOps0]
  after_results_simp
  rfl
theorem o0_eq : V m c main_v7 = mat (o0 m c) := by
  rw [V_o0]
  exact flat_eq _
theorem V_o1 : V m c main_v8 = flat (m (c, main_arg6)) := by
  simp only [V, List.flatten, List.append, hostOps0]
  after_results_simp
  rfl
theorem o1_eq : V m c main_v8 = mat (o1 m c) := by
  rw [V_o1]
  exact flat_eq _
theorem V_o2 : V m c main_v9 = flat (m (c, main_arg7)) := by
  simp only [V, List.flatten, List.append, hostOps0]
  after_results_simp
  rfl
theorem o2_eq : V m c main_v9 = mat (o2 m c) := by
  rw [V_o2]
  exact flat_eq _
theorem V_l0 : V m c main_v12 = lanes (m (c, main_arg8)) := by
  simp only [V, List.flatten, List.append, hostOps0]
  after_results_simp
  rfl
theorem l0_eq : V m c main_v12 = mat (l0 m c) := by
  rw [V_l0]
  exact lanes_eq _
theorem V_l1 : V m c main_v15 = lanes (m (c, main_arg9)) := by
  simp only [V, List.flatten, List.append, hostOps0]
  after_results_simp
  rfl
theorem l1_eq : V m c main_v15 = mat (l1 m c) := by
  rw [V_l1]
  exact lanes_eq _
theorem V_l2 : V m c main_v18 = lanes (m (c, main_arg10)) := by
  simp only [V, List.flatten, List.append, hostOps0]
  after_results_simp
  rfl
theorem l2_eq : V m c main_v18 = mat (l2 m c) := by
  rw [V_l2]
  exact lanes_eq _
theorem V_wA : V m c main_v19 = truncf (F := Ideal) .bf16 (m (c, main_arg11) : FVec Ideal S512x1024 .f32) bitsLt_bf16_f32 := by
  simp only [V, List.flatten, List.append, hostOps0]
  after_results_simp
theorem wA_eq : V m c main_v19 = mat (wA m c) := by
  rw [V_wA]
  refine ext2 _ _ fun z j => ?_
  pointwise
  rfl
theorem V_wB : V m c main_v20 = truncf (F := Ideal) .bf16 (m (c, main_arg12) : FVec Ideal S512x1024 .f32) bitsLt_bf16_f32 := by
  simp only [V, List.flatten, List.append, hostOps0]
  after_results_simp
theorem wB_eq : V m c main_v20 = mat (wB m c) := by
  rw [V_wB]
  refine ext2 _ _ fun z j => ?_
  pointwise
  rfl
theorem V_wC : V m c main_v21 = truncf (F := Ideal) .bf16 (m (c, main_arg13) : FVec Ideal S512x1024 .f32) bitsLt_bf16_f32 := by
  simp only [V, List.flatten, List.append, hostOps0]
  after_results_simp
theorem wC_eq : V m c main_v21 = mat (wC m c) := by
  rw [V_wC]
  refine ext2 _ _ fun z j => ?_
  pointwise
  rfl
theorem V_wO : V m c main_v22 = truncf (F := Ideal) .bf16 (m (c, main_arg14) : FVec Ideal S1024x1024 .f32) bitsLt_bf16_f32 := by
  simp only [V, List.flatten, List.append, hostOps0]
  after_results_simp
theorem wO_eq : V m c main_v22 = mat (wO m c) := by
  rw [V_wO]
  refine ext2 _ _ fun z j => ?_
  pointwise
  rfl
theorem inp_eq : V m c main_arg0 = mat (inp m c) := by
  rw [V_main_arg0]
  exact ext2 _ _ fun t a => rfl
theorem brB_eq : V m c main_arg4 = mat (brB m c) := by
  rw [V_main_arg4]
  exact ext2 _ _ fun t a => rfl

/-! ## The blocks read -/

theorem in0 (t : Fin cfg0.N) : iblk m c 0 t = mat fun r => inp m c (rowAt t r) := by
  unfold iblk
  show ((cfg0.win 0).blk t).view.read (Elt Ideal) (V m c main_arg0) = _
  rw [inp_eq, read0]
theorem in1 (t : Fin cfg0.N) : iblk m c 1 t = mat fun r k => wide (pr m c (rowAt t r)) (col 2560 (by omega) k) := by
  unfold iblk
  show ((cfg0.win 1).blk t).view.read (Elt Ideal) (V m c main_v4) = _
  rw [pr_eq, read1]
theorem in2 (t : Fin cfg0.N) : iblk m c 2 t = mat fun r k => wide (pr m c (rowAt t r)) (col 7680 (by omega) k) := by
  unfold iblk
  show ((cfg0.win 2).blk t).view.read (Elt Ideal) (V m c main_v4) = _
  rw [pr_eq, read2]
theorem in3 (t : Fin cfg0.N) : iblk m c 3 t = mat fun r k => wide (pr m c (rowAt t r)) (col 8192 (by omega) k) := by
  unfold iblk
  show ((cfg0.win 3).blk t).view.read (Elt Ideal) (V m c main_v4) = _
  rw [pr_eq, read3]
theorem in4 (t : Fin cfg0.N) : iblk m c 4 t = mat fun r k => wide (pr m c (rowAt t r)) (col 9216 (by omega) k) := by
  unfold iblk
  show ((cfg0.win 4).blk t).view.read (Elt Ideal) (V m c main_v4) = _
  rw [pr_eq, read4]
theorem in5 (t : Fin cfg0.N) : iblk m c 5 t = mat fun r k => wide (pr m c (rowAt t r)) (col 10240 (by omega) k) := by
  unfold iblk
  show ((cfg0.win 5).blk t).view.read (Elt Ideal) (V m c main_v4) = _
  rw [pr_eq, read5]
theorem in6 (t : Fin cfg0.N) : iblk m c 6 t = mat fun _ => bias m c := by
  unfold iblk
  show ((cfg0.win 6).blk t).view.read (Elt Ideal) (V m c main_v5) = _
  rw [bias_eq, read6]
theorem in7 (t : Fin cfg0.N) : iblk m c 7 t = mat fun r => brA m c (rowAt t r) := by
  unfold iblk
  show ((cfg0.win 7).blk t).view.read (Elt Ideal) (V m c main_v6) = _
  rw [brA_eq, read7]
theorem in8 (t : Fin cfg0.N) : iblk m c 8 t = mat fun r => brB m c (rowAt t r) := by
  unfold iblk
  show ((cfg0.win 8).blk t).view.read (Elt Ideal) (V m c main_arg4) = _
  rw [brB_eq, read8]
theorem in9 (t : Fin cfg0.N) : iblk m c 9 t = mat fun r => o0 m c (rowAt t r) := by
  unfold iblk
  show ((cfg0.win 9).blk t).view.read (Elt Ideal) (V m c main_v7) = _
  rw [o0_eq, read9]
theorem in10 (t : Fin cfg0.N) : iblk m c 10 t = mat fun r => o1 m c (rowAt t r) := by
  unfold iblk
  show ((cfg0.win 10).blk t).view.read (Elt Ideal) (V m c main_v8) = _
  rw [o1_eq, read10]
theorem in11 (t : Fin cfg0.N) : iblk m c 11 t = mat fun r => o2 m c (rowAt t r) := by
  unfold iblk
  show ((cfg0.win 11).blk t).view.read (Elt Ideal) (V m c main_v9) = _
  rw [o2_eq, read11]
theorem in12 (t : Fin cfg0.N) : iblk m c 12 t = mat fun r => l0 m c (rowAt t r) := by
  unfold iblk
  show ((cfg0.win 12).blk t).view.read (Elt Ideal) (V m c main_v12) = _
  rw [l0_eq, read12]
theorem in13 (t : Fin cfg0.N) : iblk m c 13 t = mat fun r => l1 m c (rowAt t r) := by
  unfold iblk
  show ((cfg0.win 13).blk t).view.read (Elt Ideal) (V m c main_v15) = _
  rw [l1_eq, read13]
theorem in14 (t : Fin cfg0.N) : iblk m c 14 t = mat fun r => l2 m c (rowAt t r) := by
  unfold iblk
  show ((cfg0.win 14).blk t).view.read (Elt Ideal) (V m c main_v18) = _
  rw [l2_eq, read14]
theorem in15 (t : Fin cfg0.N) : iblk m c 15 t = mat (wA m c) := by
  unfold iblk
  show ((cfg0.win 15).blk t).view.read (Elt Ideal) (V m c main_v19) = _
  rw [wA_eq, read15]
theorem in16 (t : Fin cfg0.N) : iblk m c 16 t = mat (wB m c) := by
  unfold iblk
  show ((cfg0.win 16).blk t).view.read (Elt Ideal) (V m c main_v20) = _
  rw [wB_eq, read16]
theorem in17 (t : Fin cfg0.N) : iblk m c 17 t = mat (wC m c) := by
  unfold iblk
  show ((cfg0.win 17).blk t).view.read (Elt Ideal) (V m c main_v21) = _
  rw [wC_eq, read17]
theorem in18 (t : Fin cfg0.N) : iblk m c 18 t = mat (wO m c) := by
  unfold iblk
  show ((cfg0.win 18).blk t).view.read (Elt Ideal) (V m c main_v22) = _
  rw [wO_eq, read18]

/-- A widened column read back. -/
theorem back (o : ℕ) {n : ℕ} (ho : o + 96 + n ≤ 11264) (hl : 2464 ≤ o) (t : Fin cfg0.N) :
    (fun (r : Fin 256) (k : Fin n) => wide (pr m c (rowAt t r)) (col (o + 96) ho k)) = fun r k => pr m c (rowAt t r) (nar o (by omega) k) :=
  funext fun r => funext fun k => wide_col _ _ _ hl _

/-- What a point leaves in the result's block, in the arguments. -/
theorem point_eq (t : Fin cfg0.N) :
    out0_19 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (iblk m c 17 t) (iblk m c 18 t) = mat fun r => res m c (rowAt t r) := by
  rw [in0, in1, in2, in3, in4, in5, in6, in7, in8, in9, in10, in11, in12, in13, in14, in15, in16, in17, in18]
  rw [back m c 2464 (by omega) (by omega) t, back m c 7584 (by omega) (by omega) t, back m c 8096 (by omega) (by omega) t,
    back m c 9120 (by omega) (by omega) t, back m c 10144 (by omega) (by omega) t, out_eq]
  rfl

end Array

end Cert.Kernel5Ideal.Hand

end
-- ==== Proof.MergeRef.lean ====
/- The merge of the three branches: the reference's rows, and the two programs' results. -/
module

public import proofs.«01_k».proof.Proof.Merged

@[expose] public section

set_option maxRecDepth 8192
set_option maxHeartbeats 4000000

noncomputable section

namespace Cert.Kernel5Ideal.Hand

open Cert.Kernel5Ideal Cert.Kernel5Ideal.Gen Cert.Step
open Idealize.ShloMosaic Idealize.ShloMosaic.TcCoe Idealize.ShloMosaic.Tactic Idealize.ShloMosaic.StableHlo
open Cert.KernelIdeal.Hand (ext2 ofBits_neg_inf)

section Ref
variable (m : (ℓ : Loc nD τ sig) → Buf (Elt Ideal) ℓ) (c : Dev nD)

/-- The largest log-sum of every row and head is a real. -/
def Bounded : Prop := ∀ (t : Fin 4096) (h : Fin 8),
  top (m (c, main_arg8) (ix2 t h)) (m (c, main_arg9) (ix2 t h)) (m (c, main_arg10) (ix2 t h)) ≠ ⊤
    ∧ top (m (c, main_arg8) (ix2 t h)) (m (c, main_arg9) (ix2 t h)) (m (c, main_arg10) (ix2 t h)) ≠ ⊥

/-- One of three. -/
def pick (u v w : EReal) (i : Fin 3) : EReal := if h : i.val < 1 then u else if h : i.val - 1 < 1 then v else w

theorem ref_mix (hb : Bounded m c) (t : Fin 4096) (k : Fin 512) :
    Cert.Reference5Ideal.Read.val_main_v28 (F := Ideal) (m (c, main_arg5)) (m (c, main_arg6)) (m (c, main_arg7)) (m (c, main_arg8)) (m (c, main_arg9)) (m (c, main_arg10)) (ix2 t k)
      = brC m c t k := by
  refine Eq.trans ?_ (mix_eq (pick (l0 m c t k) (l1 m c t k) (l2 m c t k)) (pick (o0 m c t k) (o1 m c t k) (o2 m c t k)) (hb t (hd k)))
  pointwise [Cert.Reference5Ideal.Read.val_main_v28, Cert.Reference5Ideal.Read.val_main_v27, Cert.Reference5Ideal.Read.val_main_v26, Cert.Reference5Ideal.Read.val_main_v25, Cert.Reference5Ideal.Read.val_main_v24, Cert.Reference5Ideal.Read.val_main_v23, Cert.Reference5Ideal.Read.val_main_v22, Cert.Reference5Ideal.Read.val_main_v21, Cert.Reference5Ideal.Read.val_main_v20, Cert.Reference5Ideal.Read.val_main_v19, Cert.Reference5Ideal.Read.val_main_v18, Cert.Reference5Ideal.Read.val_main_v17, Cert.Reference5Ideal.Read.val_main_v16, Cert.Reference5Ideal.Read.val_main_v15, Cert.Reference5Ideal.Read.val_main_v14, Cert.Reference5Ideal.Read.val_main_v13, Cert.Reference5Ideal.Read.val_main_v12, Cert.Reference5Ideal.Read.val_main_v11, Cert.Reference5Ideal.Read.val_main_v10, Cert.Reference5Ideal.Read.val_main_v9, Cert.Reference5Ideal.Read.val_main_v8, Cert.Reference5Ideal.Read.val_main_v7, Cert.Reference5Ideal.Read.val_main_v6, Cert.Reference5Ideal.Read.val_main_v5, Cert.Reference5Ideal.Read.val_main_cst, Cert.Reference5Ideal.Read.val_main_cst_0, Cert.Reference5Ideal.Read.val_main_cst_1, Cert.Reference5Ideal.Read.val_main_cst_2]
  simp only [ofBits_neg_inf]
  rfl

theorem ref_path_b (t : Fin 4096) (k : Fin 512) : Cert.Reference5Ideal.Read.val_main_v4 (F := Ideal) (m (c, main_arg1)) (m (c, main_arg4)) (ix2 t k)
    = brB m c t k * path (bz m c t k) := by
  pointwise [Cert.Reference5Ideal.Read.val_main_v4, Cert.Reference5Ideal.Read.val_main_v3, Cert.Reference5Ideal.Read.val_main_call0_v5, Cert.Reference5Ideal.Read.val_main_call0_v4, Cert.Reference5Ideal.Read.val_main_call0_v3, Cert.Reference5Ideal.Read.val_main_call0_v2, Cert.Reference5Ideal.Read.val_main_call0_v1, Cert.Reference5Ideal.Read.val_main_call0_v0, Cert.Reference5Ideal.Read.val_main_call0_cst, Cert.Reference5Ideal.Read.val_main_call0_cst_0, Cert.Reference5Ideal.Read.val_main_v0]
  rfl
theorem ref_path_c (t : Fin 4096) (k : Fin 512) : Cert.Reference5Ideal.Read.val_main_v29 (F := Ideal) (m (c, main_arg1)) (ix2 t k) = path (cz m c t k) := by
  pointwise [Cert.Reference5Ideal.Read.val_main_v29, Cert.Reference5Ideal.Read.val_main_call1_v5, Cert.Reference5Ideal.Read.val_main_call1_v4, Cert.Reference5Ideal.Read.val_main_call1_v3, Cert.Reference5Ideal.Read.val_main_call1_v2, Cert.Reference5Ideal.Read.val_main_call1_v1, Cert.Reference5Ideal.Read.val_main_call1_v0, Cert.Reference5Ideal.Read.val_main_call1_cst, Cert.Reference5Ideal.Read.val_main_call1_cst_0, Cert.Reference5Ideal.Read.val_main_v1]
  rfl
theorem ref_gate (t : Fin 4096) (j : Fin 3072) : Cert.Reference5Ideal.Read.val_main_v39 (F := Ideal) (m (c, main_arg1)) (m (c, main_arg2)) (ix2 t j)
    = sg (pr m c t (nar 8096 (by omega) j) + bias m c j) := by
  pointwise [Cert.Reference5Ideal.Read.val_main_v39, Cert.Reference5Ideal.Read.val_main_v38, Cert.Reference5Ideal.Read.val_main_v37, Cert.Reference5Ideal.Read.val_main_v36, Cert.Reference5Ideal.Read.val_main_v35, Cert.Reference5Ideal.Read.val_main_v34, Cert.Reference5Ideal.Read.val_main_v33, Cert.Reference5Ideal.Read.val_main_v32, Cert.Reference5Ideal.Read.val_main_v31, Cert.Reference5Ideal.Read.val_main_cst_3, Cert.Reference5Ideal.Read.val_main_cst_4, Cert.Reference5Ideal.Read.val_main_v2]
  rfl

theorem ref_gate_a (t : Fin 4096) (j : Fin 1024) : Cert.Reference5Ideal.Read.val_main_v40 (F := Ideal) (m (c, main_arg1)) (m (c, main_arg2)) (ix2 t j) = sg (ga m c t j) := by
  pointwise [Cert.Reference5Ideal.Read.val_main_v40]
  refine (ref_gate m c t _).trans (congrArg sg ?_)
  unfold ga nar
  refine congrArg₂ (· + ·) (congrArg (pr m c t) (Fin.ext ?_)) (congrArg (bias m c) (Fin.ext ?_)) <;> dsimp only <;> omega
theorem ref_gate_b (t : Fin 4096) (j : Fin 1024) : Cert.Reference5Ideal.Read.val_main_v41 (F := Ideal) (m (c, main_arg1)) (m (c, main_arg2)) (ix2 t j) = sg (gb m c t j) := by
  pointwise [Cert.Reference5Ideal.Read.val_main_v41]
  refine (ref_gate m c t _).trans (congrArg sg ?_)
  unfold gb nar
  refine congrArg₂ (· + ·) (congrArg (pr m c t) (Fin.ext ?_)) (congrArg (bias m c) (Fin.ext ?_)) <;> dsimp only <;> omega
theorem ref_gate_c (t : Fin 4096) (j : Fin 1024) : Cert.Reference5Ideal.Read.val_main_v42 (F := Ideal) (m (c, main_arg1)) (m (c, main_arg2)) (ix2 t j) = sg (gc m c t j) := by
  pointwise [Cert.Reference5Ideal.Read.val_main_v42]
  refine (ref_gate m c t _).trans (congrArg sg ?_)
  unfold gc nar
  refine congrArg₂ (· + ·) (congrArg (pr m c t) (Fin.ext ?_)) (congrArg (bias m c) (Fin.ext ?_)) <;> dsimp only <;> omega

theorem ref_merged (hb : Bounded m c) (t : Fin 4096) (j : Fin 1024) :
    Cert.Reference5Ideal.Read.val_main_v50 (F := Ideal) (m (c, main_arg1)) (m (c, main_arg2)) (m (c, main_arg3)) (m (c, main_arg4)) (m (c, main_arg5)) (m (c, main_arg6)) (m (c, main_arg7)) (m (c, main_arg8)) (m (c, main_arg9)) (m (c, main_arg10)) (m (c, main_arg11)) (m (c, main_arg12)) (m (c, main_arg13)) (ix2 t j)
      = merged (bz m c t) (cz m c t) (brA m c t) (brB m c t) (brC m c t) (ga m c t) (gb m c t) (gc m c t) (wA m c) (wB m c) (wC m c) j := by
  pointwise [Cert.Reference5Ideal.Read.val_main_v50, Cert.Reference5Ideal.Read.val_main_v49, Cert.Reference5Ideal.Read.val_main_v48, Cert.Reference5Ideal.Read.val_main_v47, Cert.Reference5Ideal.Read.val_main_v46, Cert.Reference5Ideal.Read.val_main_v45, Cert.Reference5Ideal.Read.val_main_v44, Cert.Reference5Ideal.Read.val_main_v43, Cert.Reference5Ideal.Read.val_main_v30]
  simp only [ref_gate_a, ref_gate_b, ref_gate_c, ref_mix m c hb, ref_path_b, ref_path_c]
  rfl

theorem ref_out (hb : Bounded m c) : Cert.Reference5Ideal.Read.val_main_v52 (F := Ideal) (m (c, main_arg0)) (m (c, main_arg1)) (m (c, main_arg2)) (m (c, main_arg3)) (m (c, main_arg4)) (m (c, main_arg5)) (m (c, main_arg6)) (m (c, main_arg7)) (m (c, main_arg8)) (m (c, main_arg9)) (m (c, main_arg10)) (m (c, main_arg11)) (m (c, main_arg12)) (m (c, main_arg13)) (m (c, main_arg14)) = mat (res m c) := by
  refine ext2 _ _ fun t x => ?_
  pointwise [Cert.Reference5Ideal.Read.val_main_v52, Cert.Reference5Ideal.Read.val_main_v51]
  simp only [ref_merged m c hb]
  rfl

/-- The result's array is the reference's. -/
theorem merged_eq (hb : Bounded m c) : (dats m 0 c).arrAt 19 cfg0.N = Cert.Reference5Ideal.Read.val_main_v52 (F := Ideal) (m (c, main_arg0)) (m (c, main_arg1)) (m (c, main_arg2)) (m (c, main_arg3)) (m (c, main_arg4)) (m (c, main_arg5)) (m (c, main_arg6)) (m (c, main_arg7)) (m (c, main_arg8)) (m (c, main_arg9)) (m (c, main_arg10)) (m (c, main_arg11)) (m (c, main_arg12)) (m (c, main_arg13)) (m (c, main_arg14)) := by
  rw [ref_out m c hb]
  refine (dats m 0 c).arrAt_eq_of_cover 19 _ (fun t _ => ?_) cover19
  rw [read19, Value.flushed19]
  exact congrArg _ (point_eq m c t)

/-- What the precondition says. -/
theorem bounded_of [hf : Cert.Pre_bounded.Facts]
    (h : Cert.Pre_bounded.fn (F := Ideal) (m (c, main_arg0)) (m (c, main_arg1)) (m (c, main_arg2)) (m (c, main_arg3)) (m (c, main_arg4)) (m (c, main_arg5)) (m (c, main_arg6)) (m (c, main_arg7)) (m (c, main_arg8)) (m (c, main_arg9)) (m (c, main_arg10)) (m (c, main_arg11)) (m (c, main_arg12)) (m (c, main_arg13)) (m (c, main_arg14)) = fun _ => 1#1) : Bounded m c := fun t k =>
  Cert.Pre_finite.Hand.real_of_lt _ (congrFun h (ix2 t k))

end Ref

end Cert.Kernel5Ideal.Hand

end
-- ==== Proof.Outer.lean ====
/- The gradients of the output projections' weights: a product over the tokens, summed block by block. -/
module

public import proofs.«01_k».proof.Proof.MergeRef
public import proofs.«01_k».proof.Proof.Gen.Kernel6Ideal.Value
public import proofs.«01_k».proof.Proof.Gen.Kernel7Ideal.Value
public import proofs.«01_k».proof.Proof.Gen.Reference6Ideal.Read
public import proofs.«01_k».proof.Proof.Gen.Reference7Ideal.Read

@[expose] public section

set_option maxRecDepth 8192
set_option maxHeartbeats 4000000

noncomputable section

namespace Cert.Step

/-- The part of a sum in the block number `k` of 512. -/
def rowsSum {n : ℕ} (f : Fin n → EReal) (k : ℕ) : EReal := ∑ j : Fin 512, ext f (512 * k + j.val)

/-- A block that lies inside is summed term by term. -/
theorem rowsSum_of {n : ℕ} (f : Fin n → EReal) (k : ℕ) (h : 512 * k + 512 ≤ n) :
    rowsSum f k = ∑ j : Fin 512, f ⟨512 * k + j.val, by omega⟩ := by
  refine Finset.sum_congr rfl fun j _ => ?_
  unfold ext
  rw [dif_pos (by omega)]

/-- The blocks' sums add up to the whole sum. -/
theorem sum_rows {n : ℕ} (f : Fin n → EReal) (K : ℕ) (h : n = 512 * K) : ∑ k ∈ Finset.range K, rowsSum f k = ∑ i, f i := by
  have upto : ∀ L : ℕ, ∑ k ∈ Finset.range L, rowsSum f k = ∑ i ∈ Finset.range (512 * L), ext f i := by
    intro L
    induction L with
    | zero => simp
    | succ L ih =>
      rw [Finset.sum_range_succ, ih, Nat.mul_succ, Finset.sum_range_add]
      exact congrArg _ (Fin.sum_univ_eq_sum_range (fun j => ext f (512 * L + j)) 512)
  rw [upto, ← h, ← Fin.sum_univ_eq_sum_range]
  exact Finset.sum_congr rfl fun i _ => ext_val f i

end Cert.Step

namespace Cert.Kernel6Ideal.Hand

open Cert.Kernel6Ideal Cert.Kernel6Ideal.Gen Cert.Kernel6Ideal.Value Cert.Step
open Idealize.ShloMosaic Idealize.ShloMosaic.TcCoe Idealize.ShloMosaic.Tactic Idealize.ShloMosaic.StableHlo
open Cert.KernelIdeal.Hand (ext2)

theorem pay1_eq : k0_pay1 (F := Ideal) = mat fun _ _ => 0 := by
  refine ext2 _ _ fun r x => ?_
  pointwise [k0_pay1]
  rfl
theorem pay2_eq (acc : Fin 1024 → Fin 1024 → EReal) (a : Fin 512 → Fin 1024 → EReal) (b : Fin 512 → Fin 1024 → EReal) :
    k0_pay2 (F := Ideal) (mat acc) (mat a) (mat b) = mat fun r x => acc r x + ∑ j, a j r * b j x := by
  refine ext2 _ _ fun r x => ?_
  pointwise [k0_pay2]
  rfl

theorem N_eq : cfg0.N = 8 := by decide
theorem lt_N (t : Fin cfg0.N) : t.val < 8 := by have := t.isLt; have := N_eq; omega

/-- Where a point's rows lie. -/
def rowAt (t : Fin cfg0.N) (j : Fin 512) : Fin 4096 := ⟨512 * t.val + j.val, by have := lt_N t; omega⟩

theorem index0 : ∀ t : Fin cfg0.N, win0_0.index t 0 = t.val ∧ win0_0.index t 1 = 0 := by decide
theorem index1 : ∀ t : Fin cfg0.N, win0_1.index t 0 = t.val ∧ win0_1.index t 1 = 0 := by decide

section Reads
variable (t : Fin cfg0.N)

theorem read0 (G : Fin 4096 → Fin 1024 → EReal) : ((cfg0.win 0).blk t).view.read (Elt Ideal) (mat G) = mat fun j => G (rowAt t j) := by
  obtain ⟨e0, e1⟩ := index0 t
  funext j
  rw [View.read_apply]
  refine mat_congr ?_ ?_
  · show win0_0.index t 0 * 512 + 1 * (j 0).val = 512 * t.val + (j 0).val
    rw [e0]; omega
  · show win0_0.index t 1 * 1024 + 1 * (j 1).val = (j 1).val
    rw [e1]; omega
theorem read1 (G : Fin 4096 → Fin 1024 → EReal) : ((cfg0.win 1).blk t).view.read (Elt Ideal) (mat G) = mat fun j => G (rowAt t j) := by
  obtain ⟨e0, e1⟩ := index1 t
  funext j
  rw [View.read_apply]
  refine mat_congr ?_ ?_
  · show win0_1.index t 0 * 512 + 1 * (j 0).val = 512 * t.val + (j 0).val
    rw [e0]; omega
  · show win0_1.index t 1 * 1024 + 1 * (j 1).val = (j 1).val
    rw [e1]; omega
end Reads

section Array
variable (m : (ℓ : Loc nD τ sig) → Buf (Elt Ideal) ℓ) (c : Dev nD)

/-- The projected rows, and the gradient of what they are projected to. -/
def act (t : Fin 4096) (a : Fin 1024) : EReal := m (c, main_arg0) (ix2 t a)
def grad (t : Fin 4096) (x : Fin 1024) : EReal := m (c, main_arg1) (ix2 t x)

/-- One row's part of an entry. -/
def term (a : Fin 1024) (x : Fin 1024) (t : Fin 4096) : EReal := act m c t a * grad m c t x

theorem V_act : V m c main_v0 = truncf (F := Ideal) .bf16 (m (c, main_arg0) : FVec Ideal S4096x1024 .f32) bitsLt_bf16_f32 := by
  simp only [V, List.flatten, List.append, hostOps0]
  after_results_simp
theorem act_eq : V m c main_v0 = mat (act m c) := by
  rw [V_act]
  refine ext2 _ _ fun t a => ?_
  pointwise
  rfl
theorem grad_eq : V m c main_arg1 = mat (grad m c) := by
  rw [V_main_arg1]
  exact ext2 _ _ fun t a => rfl

theorem in0 (t : Fin cfg0.N) : iblk m c 0 t = mat fun j => act m c (rowAt t j) := by
  unfold iblk
  show ((cfg0.win 0).blk t).view.read (Elt Ideal) (V m c main_v0) = _
  rw [act_eq, read0]
theorem in1 (t : Fin cfg0.N) : iblk m c 1 t = mat fun j => grad m c (rowAt t j) := by
  unfold iblk
  show ((cfg0.win 1).blk t).view.read (Elt Ideal) (V m c main_arg1) = _
  rw [grad_eq, read1]

theorem point_eq (n : ℕ) (h : n < cfg0.N) (acc : Fin 1024 → Fin 1024 → EReal) :
    k0_pay2 (F := Ideal) (mat acc) (iblk m c 0 ⟨n, h⟩) (iblk m c 1 ⟨n, h⟩) = mat fun a x => acc a x + rowsSum (term m c a x) n := by
  have hn : n < 8 := by rw [N_eq] at h; exact h
  rw [in0, in1, pay2_eq]
  refine congrArg mat (funext fun a => funext fun x => congrArg (acc a x + ·) ?_)
  exact (rowsSum_of (term m c a x) n (by omega)).symm

/-- What the result's block holds after point `j`: the blocks of rows so far. -/
theorem acc_eq (j : ℕ) (h : 0 + j < cfg0.N) :
    Pipeline.accAt (reset2 m c) (step2 m c) 0 j h = mat fun a x => ∑ k ∈ Finset.range (j + 1), rowsSum (term m c a x) k := by
  induction j with
  | zero =>
    show k0_pay2 (k0_pay1 (F := Ideal)) (iblk m c 0 ⟨0, h⟩) (iblk m c 1 ⟨0, h⟩) = _
    rw [pay1_eq, point_eq]
    simp
  | succ j ih =>
    show k0_pay2 (Pipeline.accAt (reset2 m c) (step2 m c) 0 j (by omega)) (iblk m c 0 ⟨0 + (j + 1), h⟩) (iblk m c 1 ⟨0 + (j + 1), h⟩) = _
    rw [ih, point_eq]
    simp only [Nat.zero_add, Finset.sum_range_succ _ (j + 1)]
theorem upto_eq (b : ℕ) (hb : b = 0) (j : ℕ) (h : b + j < cfg0.N) :
    Pipeline.accAt (reset2 m c) (step2 m c) b j h = mat fun a x => ∑ k ∈ Finset.range (j + 1), rowsSum (term m c a x) k := by
  subst hb
  exact acc_eq m c j h

theorem ref_eq : Cert.Reference6Ideal.Read.val_main_v3 (F := Ideal) (m (c, main_arg0)) (m (c, main_arg1))
    = mat fun a x => ∑ t, term m c a x t := by
  refine ext2 _ _ fun a x => ?_
  pointwise [Cert.Reference6Ideal.Read.val_main_v3, Cert.Reference6Ideal.Read.val_main_v2]
  exact Finset.sum_congr rfl fun t _ => mul_comm _ _

/-- The result's array is the reference's. -/
theorem dw_eq : G2 m c = Cert.Reference6Ideal.Read.val_main_v3 (F := Ideal) (m (c, main_arg0)) (m (c, main_arg1)) := by
  rw [ref_eq]
  refine ext2 _ _ fun a x => ?_
  unfold G2
  have e : 8 * run2Of (ix2 a x) = 0 := by
    show 8 * (1 * (a.val / 1024 - 0) + 1 * (x.val / 1024 - 0)) = 0
    omega
  have l : loc2Of (ix2 a x) = ix2 a x := by
    funext b
    apply Fin.ext
    match b with
    | ⟨0, _⟩ => exact Nat.mod_eq_of_lt a.isLt
    | ⟨1, _⟩ => exact Nat.mod_eq_of_lt x.isLt
  have hN : 8 * run2Of (ix2 a x) + 7 < cfg0.N := by rw [e, N_eq]; omega
  rw [l, dif_pos hN, upto_eq m c _ e 7 hN, mat_ix2, mat_ix2]
  exact sum_rows _ 8 (by norm_num)

end Array

end Cert.Kernel6Ideal.Hand

namespace Cert.Kernel7Ideal.Hand

open Cert.Kernel7Ideal Cert.Kernel7Ideal.Gen Cert.Kernel7Ideal.Value Cert.Step
open Idealize.ShloMosaic Idealize.ShloMosaic.TcCoe Idealize.ShloMosaic.Tactic Idealize.ShloMosaic.StableHlo
open Cert.KernelIdeal.Hand (ext2)

theorem pay1_eq : k0_pay1 (F := Ideal) = mat fun _ _ => 0 := by
  refine ext2 _ _ fun r x => ?_
  pointwise [k0_pay1]
  rfl
theorem pay2_eq (acc : Fin 512 → Fin 1024 → EReal) (a : Fin 512 → Fin 512 → EReal) (b : Fin 512 → Fin 1024 → EReal) :
    k0_pay2 (F := Ideal) (mat acc) (mat a) (mat b) = mat fun r x => acc r x + ∑ j, a j r * b j x := by
  refine ext2 _ _ fun r x => ?_
  pointwise [k0_pay2]
  rfl

theorem N_eq : cfg0.N = 8 := by decide
theorem lt_N (t : Fin cfg0.N) : t.val < 8 := by have := t.isLt; have := N_eq; omega

/-- Where a point's rows lie. -/
def rowAt (t : Fin cfg0.N) (j : Fin 512) : Fin 4096 := ⟨512 * t.val + j.val, by have := lt_N t; omega⟩

theorem index0 : ∀ t : Fin cfg0.N, win0_0.index t 0 = t.val ∧ win0_0.index t 1 = 0 := by decide
theorem index1 : ∀ t : Fin cfg0.N, win0_1.index t 0 = t.val ∧ win0_1.index t 1 = 0 := by decide

section Reads
variable (t : Fin cfg0.N)

theorem read0 (G : Fin 4096 → Fin 512 → EReal) : ((cfg0.win 0).blk t).view.read (Elt Ideal) (mat G) = mat fun j => G (rowAt t j) := by
  obtain ⟨e0, e1⟩ := index0 t
  funext j
  rw [View.read_apply]
  refine mat_congr ?_ ?_
  · show win0_0.index t 0 * 512 + 1 * (j 0).val = 512 * t.val + (j 0).val
    rw [e0]; omega
  · show win0_0.index t 1 * 512 + 1 * (j 1).val = (j 1).val
    rw [e1]; omega
theorem read1 (G : Fin 4096 → Fin 1024 → EReal) : ((cfg0.win 1).blk t).view.read (Elt Ideal) (mat G) = mat fun j => G (rowAt t j) := by
  obtain ⟨e0, e1⟩ := index1 t
  funext j
  rw [View.read_apply]
  refine mat_congr ?_ ?_
  · show win0_1.index t 0 * 512 + 1 * (j 0).val = 512 * t.val + (j 0).val
    rw [e0]; omega
  · show win0_1.index t 1 * 1024 + 1 * (j 1).val = (j 1).val
    rw [e1]; omega
end Reads

section Array
variable (m : (ℓ : Loc nD τ sig) → Buf (Elt Ideal) ℓ) (c : Dev nD)

/-- The projected rows, and the gradient of what they are projected to. -/
def act (t : Fin 4096) (a : Fin 512) : EReal := m (c, main_arg0) (ix2 t a)
def grad (t : Fin 4096) (x : Fin 1024) : EReal := m (c, main_arg1) (ix2 t x)

/-- One row's part of an entry. -/
def term (a : Fin 512) (x : Fin 1024) (t : Fin 4096) : EReal := act m c t a * grad m c t x

theorem V_act : V m c main_v0 = truncf (F := Ideal) .bf16 (m (c, main_arg0) : FVec Ideal S4096x512 .f32) bitsLt_bf16_f32 := by
  simp only [V, List.flatten, List.append, hostOps0]
  after_results_simp
theorem act_eq : V m c main_v0 = mat (act m c) := by
  rw [V_act]
  refine ext2 _ _ fun t a => ?_
  pointwise
  rfl
theorem V_grad : V m c main_v1 = truncf (F := Ideal) .bf16 (m (c, main_arg1) : FVec Ideal S4096x1024 .f32) bitsLt_bf16_f32 := by
  simp only [V, List.flatten, List.append, hostOps0]
  after_results_simp
theorem grad_eq : V m c main_v1 = mat (grad m c) := by
  rw [V_grad]
  refine ext2 _ _ fun t a => ?_
  pointwise
  rfl

theorem in0 (t : Fin cfg0.N) : iblk m c 0 t = mat fun j => act m c (rowAt t j) := by
  unfold iblk
  show ((cfg0.win 0).blk t).view.read (Elt Ideal) (V m c main_v0) = _
  rw [act_eq, read0]
theorem in1 (t : Fin cfg0.N) : iblk m c 1 t = mat fun j => grad m c (rowAt t j) := by
  unfold iblk
  show ((cfg0.win 1).blk t).view.read (Elt Ideal) (V m c main_v1) = _
  rw [grad_eq, read1]

theorem point_eq (n : ℕ) (h : n < cfg0.N) (acc : Fin 512 → Fin 1024 → EReal) :
    k0_pay2 (F := Ideal) (mat acc) (iblk m c 0 ⟨n, h⟩) (iblk m c 1 ⟨n, h⟩) = mat fun a x => acc a x + rowsSum (term m c a x) n := by
  have hn : n < 8 := by rw [N_eq] at h; exact h
  rw [in0, in1, pay2_eq]
  refine congrArg mat (funext fun a => funext fun x => congrArg (acc a x + ·) ?_)
  exact (rowsSum_of (term m c a x) n (by omega)).symm

/-- What the result's block holds after point `j`: the blocks of rows so far. -/
theorem acc_eq (j : ℕ) (h : 0 + j < cfg0.N) :
    Pipeline.accAt (reset2 m c) (step2 m c) 0 j h = mat fun a x => ∑ k ∈ Finset.range (j + 1), rowsSum (term m c a x) k := by
  induction j with
  | zero =>
    show k0_pay2 (k0_pay1 (F := Ideal)) (iblk m c 0 ⟨0, h⟩) (iblk m c 1 ⟨0, h⟩) = _
    rw [pay1_eq, point_eq]
    simp
  | succ j ih =>
    show k0_pay2 (Pipeline.accAt (reset2 m c) (step2 m c) 0 j (by omega)) (iblk m c 0 ⟨0 + (j + 1), h⟩) (iblk m c 1 ⟨0 + (j + 1), h⟩) = _
    rw [ih, point_eq]
    simp only [Nat.zero_add, Finset.sum_range_succ _ (j + 1)]
theorem upto_eq (b : ℕ) (hb : b = 0) (j : ℕ) (h : b + j < cfg0.N) :
    Pipeline.accAt (reset2 m c) (step2 m c) b j h = mat fun a x => ∑ k ∈ Finset.range (j + 1), rowsSum (term m c a x) k := by
  subst hb
  exact acc_eq m c j h

theorem ref_eq : Cert.Reference7Ideal.Read.val_main_v3 (F := Ideal) (m (c, main_arg0)) (m (c, main_arg1))
    = mat fun a x => ∑ t, term m c a x t := by
  refine ext2 _ _ fun a x => ?_
  pointwise [Cert.Reference7Ideal.Read.val_main_v3, Cert.Reference7Ideal.Read.val_main_v2]
  exact Finset.sum_congr rfl fun t _ => mul_comm _ _

/-- The result's array is the reference's. -/
theorem dw_eq : G2 m c = Cert.Reference7Ideal.Read.val_main_v3 (F := Ideal) (m (c, main_arg0)) (m (c, main_arg1)) := by
  rw [ref_eq]
  refine ext2 _ _ fun a x => ?_
  unfold G2
  have e : 8 * run2Of (ix2 a x) = 0 := by
    show 8 * (1 * (a.val / 512 - 0) + 1 * (x.val / 1024 - 0)) = 0
    omega
  have l : loc2Of (ix2 a x) = ix2 a x := by
    funext b
    apply Fin.ext
    match b with
    | ⟨0, _⟩ => exact Nat.mod_eq_of_lt a.isLt
    | ⟨1, _⟩ => exact Nat.mod_eq_of_lt x.isLt
  have hN : 8 * run2Of (ix2 a x) + 7 < cfg0.N := by rw [e, N_eq]; omega
  rw [l, dif_pos hN, upto_eq m c _ e 7 hN, mat_ix2, mat_ix2]
  exact sum_rows _ 8 (by norm_num)

end Array

end Cert.Kernel7Ideal.Hand

end
-- ==== Proof.Conv.lean ====
/- The gated convolution: a gate, a causal filter of three taps over the tokens of one sequence, and a gate path. -/
module

public import proofs.«01_k».proof.Proof.Outer
public import proofs.«01_k».proof.Proof.Gen.Kernel8Ideal.Value
public import proofs.«01_k».proof.Proof.Gen.Reference8Ideal.Read

@[expose] public section

set_option maxRecDepth 8192
set_option maxHeartbeats 4000000

noncomputable section

namespace Cert.Kernel8Ideal.Hand

open Cert.Kernel8Ideal Cert.Kernel8Ideal.Gen Cert.Step
open Idealize.ShloMosaic Idealize.ShloMosaic.TcCoe Idealize.ShloMosaic.Tactic Idealize.ShloMosaic.StableHlo
open Cert.KernelIdeal.Hand (ext2)
open Cert.Kernel5Ideal.Hand (sg path)
open Idealize.ShloMosaic.WordCmp (cmpi_sge_ofNat select_decide)

/-- The value `k` tokens earlier, zero before the sequence's first. -/
def prev (k : ℕ) (u : Fin 2048 → EReal) (r : Fin 2048) : EReal := if h : r.val < k then 0 else u ⟨r.val - k, by omega⟩

/-- One channel of the filter at one token. -/
def conv (b w0 w1 w2 : EReal) (u : Fin 2048 → EReal) (r : Fin 2048) : EReal :=
  b + w0 * prev 2 u r + w1 * prev 1 u r + w2 * u r

/-- Rows rotated down by `k`, those before the first masked. -/
theorem masked (k : ℕ) (hk : k < 2048) (w : EReal) (u : Fin 2048 → EReal) (r : Fin 2048) :
    Scalar.select (IntOp.cmpi .sge (BitVec.ofNat 32 r.val) (BitVec.ofNat 32 k)) (w * u ⟨(r.val + 2048 - k) % 2048, Nat.mod_lt _ (by decide)⟩) 0
      = w * prev k u r := by
  rw [cmpi_sge_ofNat (by omega) (by omega), select_decide]
  unfold prev
  by_cases h : r.val < k
  · rw [dif_pos h, if_neg (by omega), mul_zero]
  · rw [dif_neg h, if_pos (by omega)]
    exact congrArg (w * u ·) (Fin.ext (by dsimp only; omega))

theorem pay2_eq (x : Fin 2048 → Fin 128 → EReal) : k0_pay2 (F := Ideal) (mat x) = mat x := by
  refine ext2 _ _ fun r k => ?_
  pointwise [k0_pay2]
theorem pay3_eq (x : Fin 2048 → Fin 128 → EReal) : k0_pay3 (F := Ideal) (mat x) = mat x := by
  refine ext2 _ _ fun r k => ?_
  pointwise [k0_pay3]
theorem pay4_eq (x y : Fin 2048 → Fin 128 → EReal) : k0_pay4 (F := Ideal) (mat x) (mat y) = mat fun r k => x r k * y r k := by
  refine ext2 _ _ fun r k => ?_
  pointwise [k0_pay4]
  rfl
theorem pay5_eq (x y : Fin 2048 → Fin 128 → EReal) (b w0 w1 : Fin 1 → Fin 128 → EReal) :
    k0_pay5 (F := Ideal) (mat x) (mat y) (mat b) (mat w0) (mat w1)
      = mat fun r k => b 0 k + w0 0 k * prev 2 (fun r => x r k * y r k) r + w1 0 k * prev 1 (fun r => x r k * y r k) r := by
  refine ext2 _ _ fun r k => ?_
  pointwise [k0_pay5]
  rw [pay4_eq]
  exact congrArg₂ (· + ·) (congrArg (b 0 k + ·) (masked 2 (by omega) (w0 0 k) (fun r => x r k * y r k) r))
    (masked 1 (by omega) (w1 0 k) (fun r => x r k * y r k) r)
theorem pay1_eq (g z u p : Fin 2048 → Fin 128 → EReal) (w2 : Fin 1 → Fin 128 → EReal) :
    k0_pay1 (F := Ideal) (mat g) (mat z) (mat u) (mat p) (mat w2)
      = mat fun r k => g r k * (p r k + w2 0 k * u r k) * path (z r k) := by
  refine ext2 _ _ fun r k => ?_
  pointwise [k0_pay1]
  rw [zero_sub]
  rfl

theorem hz : (![0, 0] : Fin 2 → Nat) = fun _ => 0 := funext fun a => by fin_cases a <;> rfl

/-- The filter's taps, a row each. -/
theorem ld_tap (w : Fin 3 → Fin 128 → EReal) :
    View.ld (Val := Elt Ideal) (e' := .f32) (mat w : Vec Ideal S3x128 .f32) r0_2 = mat (fun (_ : Fin 1) (k : Fin 128) => w 0 k)
      ∧ View.ld (Val := Elt Ideal) (e' := .f32) (mat w : Vec Ideal S3x128 .f32) r0_3 = mat (fun (_ : Fin 1) (k : Fin 128) => w 1 k)
      ∧ View.ld (Val := Elt Ideal) (e' := .f32) (mat w : Vec Ideal S3x128 .f32) r0_4 = mat (fun (_ : Fin 1) (k : Fin 128) => w 2 k) := by
  refine ⟨?_, ?_, ?_⟩ <;> refine ext2 _ _ fun i k => mat_congr ?_ ?_
  · show 0 + 1 * i.val = 0; omega
  · show 0 + 1 * k.val = k.val; omega
  · show 1 + 1 * i.val = 1; omega
  · show 0 + 1 * k.val = k.val; omega
  · show 2 + 1 * i.val = 2; omega
  · show 0 + 1 * k.val = k.val; omega

/-- What a point leaves in the result's block. -/
theorem out_eq (g x y z : Fin 2048 → Fin 128 → EReal) (w : Fin 3 → Fin 128 → EReal) (b : Fin 1 → Fin 128 → EReal) :
    out0_6 (F := Ideal) (mat g) (mat x) (mat y) (mat z) (mat w) (mat b)
      = mat fun r k => g r k * conv (b 0 k) (w 0 k) (w 1 k) (w 2 k) (fun r => x r k * y r k) r * path (z r k) := by
  unfold out0_6
  rw [View.canon_unit_zero hz, (ld_tap w).1, (ld_tap w).2.1, (ld_tap w).2.2]
  simp only [View.ld_unit_zero (S := S2048x128) hz, View.ld_unit_zero (S := S1x128) hz]
  rw [pay2_eq, pay3_eq, pay4_eq, pay5_eq, pay1_eq]
  rfl

/-! ## The blocks of the arrays -/

theorem N_eq : cfg0.N = 8 := by decide
theorem lt_N (t : Fin cfg0.N) : t.val < 8 := by have := t.isLt; have := N_eq; omega

/-- Where a point's rows and channels lie. -/
def rowAt (t : Fin cfg0.N) (r : Fin 2048) : Fin 4096 := ⟨2048 * (t.val / 4) + r.val, by have := lt_N t; omega⟩
def chan (t : Fin cfg0.N) (k : Fin 128) : Fin 512 := ⟨128 * (t.val % 4) + k.val, by omega⟩

/-- A channel's column from `o` on, of the widened ones and of the ones before. -/
def wcol (o : ℕ) (ho : o + 512 ≤ 2464) (t : Fin cfg0.N) (k : Fin 128) : Fin 11264 := ⟨o + (128 * (t.val % 4) + k.val), by omega⟩
def ncol (o : ℕ) (ho : o + 512 ≤ 2464) (k : Fin 512) : Fin 11168 := ⟨o + k.val, by omega⟩

theorem wide_low (f : Fin 11168 → EReal) (o : ℕ) (ho : o + 512 ≤ 2464) (t : Fin cfg0.N) (k : Fin 128) :
    wide f (wcol o ho t k) = f (ncol o ho (chan t k)) := by
  unfold wide wcol ncol chan
  rw [dif_pos (by dsimp only; omega)]

theorem index0 : ∀ t : Fin cfg0.N, win0_0.index t 0 = t.val / 4 ∧ win0_0.index t 1 = 0 + t.val % 4 := by decide
theorem index1 : ∀ t : Fin cfg0.N, win0_1.index t 0 = t.val / 4 ∧ win0_1.index t 1 = 4 + t.val % 4 := by decide
theorem index2 : ∀ t : Fin cfg0.N, win0_2.index t 0 = t.val / 4 ∧ win0_2.index t 1 = 8 + t.val % 4 := by decide
theorem index3 : ∀ t : Fin cfg0.N, win0_3.index t 0 = t.val / 4 ∧ win0_3.index t 1 = 12 + t.val % 4 := by decide
theorem index6 : ∀ t : Fin cfg0.N, win0_6.index t 0 = t.val / 4 ∧ win0_6.index t 1 = 0 + t.val % 4 := by decide
theorem index4 : ∀ t : Fin cfg0.N, win0_4.index t 0 = 0 ∧ win0_4.index t 1 = t.val % 4 := by decide
theorem index5 : ∀ t : Fin cfg0.N, win0_5.index t 0 = 0 ∧ win0_5.index t 1 = t.val % 4 := by decide

section Reads
variable (t : Fin cfg0.N)
theorem read0 (G : Fin 4096 → Fin 11264 → EReal) : ((cfg0.win 0).blk t).view.read (Elt Ideal) (mat G) = mat fun r k => G (rowAt t r) (wcol 0 (by omega) t k) := by
  obtain ⟨e0, e1⟩ := index0 t
  funext j
  rw [View.read_apply]
  refine mat_congr ?_ ?_
  · show win0_0.index t 0 * 2048 + 1 * (j 0).val = 2048 * (t.val / 4) + (j 0).val
    rw [e0]; omega
  · show win0_0.index t 1 * 128 + 1 * (j 1).val = 0 + (128 * (t.val % 4) + (j 1).val)
    rw [e1]; omega
theorem read1 (G : Fin 4096 → Fin 11264 → EReal) : ((cfg0.win 1).blk t).view.read (Elt Ideal) (mat G) = mat fun r k => G (rowAt t r) (wcol 512 (by omega) t k) := by
  obtain ⟨e0, e1⟩ := index1 t
  funext j
  rw [View.read_apply]
  refine mat_congr ?_ ?_
  · show win0_1.index t 0 * 2048 + 1 * (j 0).val = 2048 * (t.val / 4) + (j 0).val
    rw [e0]; omega
  · show win0_1.index t 1 * 128 + 1 * (j 1).val = 512 + (128 * (t.val % 4) + (j 1).val)
    rw [e1]; omega
theorem read2 (G : Fin 4096 → Fin 11264 → EReal) : ((cfg0.win 2).blk t).view.read (Elt Ideal) (mat G) = mat fun r k => G (rowAt t r) (wcol 1024 (by omega) t k) := by
  obtain ⟨e0, e1⟩ := index2 t
  funext j
  rw [View.read_apply]
  refine mat_congr ?_ ?_
  · show win0_2.index t 0 * 2048 + 1 * (j 0).val = 2048 * (t.val / 4) + (j 0).val
    rw [e0]; omega
  · show win0_2.index t 1 * 128 + 1 * (j 1).val = 1024 + (128 * (t.val % 4) + (j 1).val)
    rw [e1]; omega
theorem read3 (G : Fin 4096 → Fin 11264 → EReal) : ((cfg0.win 3).blk t).view.read (Elt Ideal) (mat G) = mat fun r k => G (rowAt t r) (wcol 1536 (by omega) t k) := by
  obtain ⟨e0, e1⟩ := index3 t
  funext j
  rw [View.read_apply]
  refine mat_congr ?_ ?_
  · show win0_3.index t 0 * 2048 + 1 * (j 0).val = 2048 * (t.val / 4) + (j 0).val
    rw [e0]; omega
  · show win0_3.index t 1 * 128 + 1 * (j 1).val = 1536 + (128 * (t.val % 4) + (j 1).val)
    rw [e1]; omega
theorem read4 (G : Fin 3 → Fin 512 → EReal) : ((cfg0.win 4).blk t).view.read (Elt Ideal) (mat G) = mat fun i k => G i (chan t k) := by
  obtain ⟨e0, e1⟩ := index4 t
  funext j
  rw [View.read_apply]
  refine mat_congr ?_ ?_
  · show win0_4.index t 0 * 3 + 1 * (j 0).val = (j 0).val
    rw [e0]; omega
  · show win0_4.index t 1 * 128 + 1 * (j 1).val = 128 * (t.val % 4) + (j 1).val
    rw [e1]; omega
theorem read5 (G : Fin 1 → Fin 512 → EReal) : ((cfg0.win 5).blk t).view.read (Elt Ideal) (mat G) = mat fun i k => G i (chan t k) := by
  obtain ⟨e0, e1⟩ := index5 t
  funext j
  rw [View.read_apply]
  refine mat_congr ?_ ?_
  · show win0_5.index t 0 * 1 + 1 * (j 0).val = (j 0).val
    rw [e0]; omega
  · show win0_5.index t 1 * 128 + 1 * (j 1).val = 128 * (t.val % 4) + (j 1).val
    rw [e1]; omega
theorem read6 (G : Fin 4096 → Fin 512 → EReal) : ((cfg0.win 6).blk t).view.read (Elt Ideal) (mat G) = mat fun r k => G (rowAt t r) (chan t k) := by
  obtain ⟨e0, e1⟩ := index6 t
  funext j
  rw [View.read_apply]
  refine mat_congr ?_ ?_
  · show win0_6.index t 0 * 2048 + 1 * (j 0).val = 2048 * (t.val / 4) + (j 0).val
    rw [e0]; omega
  · show win0_6.index t 1 * 128 + 1 * (j 1).val = 128 * (t.val % 4) + (j 1).val
    rw [e1]; omega
end Reads

theorem cover6 (i : S4096x512.Idx) : ∃ t : Fin cfg0.N, (cfg0.win 6).flush t = true ∧ i ∈ ((cfg0.win 6).blk t).view.set := by
  have h0 : (i 0).val < 4096 := (i 0).isLt
  have h1 : (i 1).val < 512 := (i 1).isLt
  refine ⟨⟨4 * ((i 0).val / 2048) + (i 1).val / 128, by rw [N_eq]; omega⟩, flush0_6 _, ?_⟩
  generalize ht : (⟨4 * ((i 0).val / 2048) + (i 1).val / 128, _⟩ : Fin cfg0.N) = t
  have hv : t.val = 4 * ((i 0).val / 2048) + (i 1).val / 128 := by rw [← ht]
  obtain ⟨e0, e1⟩ := index6 t
  show i ∈ ((View.whole main_v6).slice (win0_6.rect t)).set
  rw [View.set_slice_whole, Rect.mem_set_unit]
  intro a
  match a with
  | ⟨0, _⟩ =>
    show win0_6.index t 0 * 2048 ≤ (i 0).val ∧ (i 0).val < win0_6.index t 0 * 2048 + 2048
    rw [e0]; omega
  | ⟨1, _⟩ =>
    show win0_6.index t 1 * 128 ≤ (i 1).val ∧ (i 1).val < win0_6.index t 1 * 128 + 128
    rw [e1]; omega

/-! ## The arguments -/

section Array
variable (m : (ℓ : Loc nD τ sig) → Buf (Elt Ideal) ℓ) (c : Dev nD)

/-- The arguments by rows and columns. -/
def pr (t : Fin 4096) (j : Fin 11168) : EReal := m (c, main_arg0) (ix2 t j)
def tap (i : Fin 3) (k : Fin 512) : EReal := m (c, main_arg1) (ix2 i k)
def bias (k : Fin 512) : EReal := m (c, main_arg2) (ix1 k)

/-- A row's sequence and its place there. -/
def tok (b : Fin 2) (r : Fin 2048) : Fin 4096 := ⟨2048 * b.val + r.val, by omega⟩
def sq (t : Fin 4096) : Fin 2 := ⟨t.val / 2048, by omega⟩
def pl (t : Fin 4096) : Fin 2048 := ⟨t.val % 2048, by omega⟩

/-- What is filtered: one channel over one sequence. -/
def inner (b : Fin 2) (k : Fin 512) (r : Fin 2048) : EReal :=
  pr m c (tok b r) (ncol 512 (by omega) k) * pr m c (tok b r) (ncol 1024 (by omega) k)

/-- The branch's output. -/
def res (t : Fin 4096) (k : Fin 512) : EReal :=
  pr m c t (ncol 0 (by omega) k) * conv (bias m c k) (tap m c 0 k) (tap m c 1 k) (tap m c 2 k) (inner m c (sq t) k) (pl t)
    * path (pr m c t (ncol 1536 (by omega) k))

/-- The widened projection as the program joins it. -/
def joined (x : FVec Ideal S4096x11168 .f32) : FVec Ideal S4096x11264 .bf16 :=
  truncf (F := Ideal) .bf16
    (concatenate S4096x11264 1 [⟨S4096x2464, extractStridedSlice S4096x2464 ![0, 0] x slices_S4096x11168_S4096x2464_0_0⟩,
        ⟨S4096x96, broadcastInDim S4096x96 ![] bcast_S_S4096x96 (constant S_ .f32 0x00000000#32)⟩,
        ⟨S4096x8704, extractStridedSlice S4096x8704 ![0, 2464] x slices_S4096x11168_S4096x8704_0_2464⟩]
      concatenates_S4096x2464_S4096x96_S4096x8704_S4096x11264_d1) bitsLt_bf16_f32

theorem joined_eq (x : FVec Ideal S4096x11168 .f32) : joined x = mat fun t => wide fun j => x (ix2 t j) := by
  refine ext2 _ _ fun t j => ?_
  pointwise [joined]
  rw [mat_ix2]
  exact gap_eq (fun i => x (ix2 t i)) j
theorem V_pr : V m c main_v4 = joined (m (c, main_arg0)) := by
  simp only [V, List.flatten, List.append, hostOps0]
  after_results_simp
  rfl
theorem pr_eq : V m c main_v4 = mat fun t => wide (pr m c t) := by
  rw [V_pr]
  exact joined_eq _
theorem V_bias : V m c main_v5 = broadcastInDim S1x512 ![1] bcast_S512_S1x512_1 (m (c, main_arg2)) := by
  simp only [V, List.flatten, List.append, hostOps0]
  after_results_simp
theorem bias_eq : V m c main_v5 = mat fun _ => bias m c := by
  rw [V_bias]
  refine ext2 _ _ fun z j => ?_
  pointwise
  rfl
theorem tap_eq : V m c main_arg1 = mat (tap m c) := by
  rw [V_main_arg1]
  exact ext2 _ _ fun t a => rfl

theorem in0 (t : Fin cfg0.N) : iblk m c 0 t = mat fun r k => pr m c (rowAt t r) (ncol 0 (by omega) (chan t k)) := by
  unfold iblk
  show ((cfg0.win 0).blk t).view.read (Elt Ideal) (V m c main_v4) = _
  rw [pr_eq, read0]
  exact congrArg mat (funext fun r => funext fun k => wide_low _ _ _ t k)
theorem in1 (t : Fin cfg0.N) : iblk m c 1 t = mat fun r k => pr m c (rowAt t r) (ncol 512 (by omega) (chan t k)) := by
  unfold iblk
  show ((cfg0.win 1).blk t).view.read (Elt Ideal) (V m c main_v4) = _
  rw [pr_eq, read1]
  exact congrArg mat (funext fun r => funext fun k => wide_low _ _ _ t k)
theorem in2 (t : Fin cfg0.N) : iblk m c 2 t = mat fun r k => pr m c (rowAt t r) (ncol 1024 (by omega) (chan t k)) := by
  unfold iblk
  show ((cfg0.win 2).blk t).view.read (Elt Ideal) (V m c main_v4) = _
  rw [pr_eq, read2]
  exact congrArg mat (funext fun r => funext fun k => wide_low _ _ _ t k)
theorem in3 (t : Fin cfg0.N) : iblk m c 3 t = mat fun r k => pr m c (rowAt t r) (ncol 1536 (by omega) (chan t k)) := by
  unfold iblk
  show ((cfg0.win 3).blk t).view.read (Elt Ideal) (V m c main_v4) = _
  rw [pr_eq, read3]
  exact congrArg mat (funext fun r => funext fun k => wide_low _ _ _ t k)
theorem in4 (t : Fin cfg0.N) : iblk m c 4 t = mat fun i k => tap m c i (chan t k) := by
  unfold iblk
  show ((cfg0.win 4).blk t).view.read (Elt Ideal) (V m c main_arg1) = _
  rw [tap_eq, read4]
theorem in5 (t : Fin cfg0.N) : iblk m c 5 t = mat fun _ k => bias m c (chan t k) := by
  unfold iblk
  show ((cfg0.win 5).blk t).view.read (Elt Ideal) (V m c main_v5) = _
  rw [bias_eq, read5]

theorem tok_of (t : Fin cfg0.N) (r r' : Fin 2048) : tok (sq (rowAt t r)) r' = rowAt t r' := by
  unfold tok sq rowAt
  exact Fin.ext (by dsimp only; omega)
theorem pl_of (t : Fin cfg0.N) (r : Fin 2048) : pl (rowAt t r) = r := by
  unfold pl rowAt
  exact Fin.ext (by dsimp only; omega)

theorem point_eq (t : Fin cfg0.N) :
    out0_6 (iblk m c 0 t) (iblk m c 1 t) (iblk m c 2 t) (iblk m c 3 t) (iblk m c 4 t) (iblk m c 5 t) = mat fun r k => res m c (rowAt t r) (chan t k) := by
  rw [in0, in1, in2, in3, in4, in5, out_eq]
  refine congrArg mat (funext fun r => funext fun k => ?_)
  unfold res
  rw [pl_of]
  refine congrArg (fun u => _ * conv _ _ _ _ u r * _) (funext fun r' => ?_)
  unfold inner
  rw [tok_of]

/-! ## The reference -/

/-- The product, padded in front by two tokens of zeros. -/
theorem ref_padded (b : Fin 2) (r : Fin 2050) (k : Fin 512) :
    Cert.Reference8Ideal.Read.val_main_v7 (F := Ideal) (m (c, main_arg0)) (ix3 b r k) = if h : r.val < 2 then 0 else inner m c b k ⟨r.val - 2, by omega⟩ := by
  pointwise [Cert.Reference8Ideal.Read.val_main_v7, Cert.Reference8Ideal.Read.val_main_v6, Cert.Reference8Ideal.Read.val_main_v2, Cert.Reference8Ideal.Read.val_main_v3, Cert.Reference8Ideal.Read.val_main_v0, Cert.Reference8Ideal.Read.val_main_call0_v0, Cert.Reference8Ideal.Read.val_main_c]
  rw [sitofp_zero]
  by_cases h : r.val < 2
  · rw [dif_pos h, dif_neg (by omega)]
  · rw [dif_neg h, dif_pos ⟨by omega, by omega⟩]
    unfold inner pr tok ncol
    refine congrArg₂ (· * ·) (congrArg (m (c, main_arg0)) (congrArg₂ ix2 (Fin.ext ?_) rfl)) (congrArg (m (c, main_arg0)) (congrArg₂ ix2 (Fin.ext ?_) rfl)) <;> dsimp only <;> omega

theorem ref_conv (b : Fin 2) (r : Fin 2048) (k : Fin 512) :
    Cert.Reference8Ideal.Read.val_main_v30 (F := Ideal) (m (c, main_arg0)) (m (c, main_arg1)) (m (c, main_arg2)) (ix3 b r k)
      = conv (bias m c k) (tap m c 0 k) (tap m c 1 k) (tap m c 2 k) (inner m c b k) r := by
  pointwise [Cert.Reference8Ideal.Read.val_main_v30, Cert.Reference8Ideal.Read.val_main_v29, Cert.Reference8Ideal.Read.val_main_v28, Cert.Reference8Ideal.Read.val_main_v27, Cert.Reference8Ideal.Read.val_main_v26, Cert.Reference8Ideal.Read.val_main_v25, Cert.Reference8Ideal.Read.val_main_v24, Cert.Reference8Ideal.Read.val_main_v23, Cert.Reference8Ideal.Read.val_main_v22, Cert.Reference8Ideal.Read.val_main_v21, Cert.Reference8Ideal.Read.val_main_v20, Cert.Reference8Ideal.Read.val_main_v19, Cert.Reference8Ideal.Read.val_main_v18, Cert.Reference8Ideal.Read.val_main_v17, Cert.Reference8Ideal.Read.val_main_v16, Cert.Reference8Ideal.Read.val_main_v15, Cert.Reference8Ideal.Read.val_main_v14, Cert.Reference8Ideal.Read.val_main_v13, Cert.Reference8Ideal.Read.val_main_v12, Cert.Reference8Ideal.Read.val_main_v11, Cert.Reference8Ideal.Read.val_main_v10, Cert.Reference8Ideal.Read.val_main_v9, Cert.Reference8Ideal.Read.val_main_v8]
  rw [ref_padded, ref_padded, ref_padded, dif_neg (by omega : ¬ 2 + r.val < 2)]
  unfold conv
  have h2 : (if h : r.val < 2 then 0 else inner m c b k ⟨r.val - 2, by omega⟩) = prev 2 (inner m c b k) r := rfl
  have h1 : (if h : 1 + r.val < 2 then 0 else inner m c b k ⟨1 + r.val - 2, by omega⟩) = prev 1 (inner m c b k) r := by
    unfold prev
    by_cases h : r.val < 1
    · rw [dif_pos h, dif_pos (by omega)]
    · rw [dif_neg h, dif_neg (by omega)]
      exact congrArg (inner m c b k) (Fin.ext (by dsimp only; omega))
  have h0 : inner m c b k ⟨2 + r.val - 2, by omega⟩ = inner m c b k r := congrArg (inner m c b k) (Fin.ext (by dsimp only; omega))
  rw [h2, h1, h0, mul_comm (prev 2 _ _), mul_comm (prev 1 _ _), mul_comm (inner m c b k r)]
  rfl

theorem ref_res : Cert.Reference8Ideal.Read.val_main_v35 (F := Ideal) (m (c, main_arg0)) (m (c, main_arg1)) (m (c, main_arg2)) = mat (res m c) := by
  refine ext2 _ _ fun t k => ?_
  pointwise [Cert.Reference8Ideal.Read.val_main_v35, Cert.Reference8Ideal.Read.val_main_v34, Cert.Reference8Ideal.Read.val_main_v33, Cert.Reference8Ideal.Read.val_main_v32, Cert.Reference8Ideal.Read.val_main_v31, Cert.Reference8Ideal.Read.val_main_v1, Cert.Reference8Ideal.Read.val_main_v4, Cert.Reference8Ideal.Read.val_main_v0, Cert.Reference8Ideal.Read.val_main_call1_v0, Cert.Reference8Ideal.Read.val_main_call1_v1, Cert.Reference8Ideal.Read.val_main_call1_v2, Cert.Reference8Ideal.Read.val_main_call1_v3, Cert.Reference8Ideal.Read.val_main_call1_v4, Cert.Reference8Ideal.Read.val_main_call1_v5, Cert.Reference8Ideal.Read.val_main_call1_cst, Cert.Reference8Ideal.Read.val_main_call1_cst_0]
  rw [ref_conv, mat_ix2]
  unfold res
  refine congrArg (fun a => pr m c t a * conv _ _ _ _ _ _ * path (pr m c t (ncol 1536 (by omega) k))) (Fin.ext ?_)
  show k.val = 0 + k.val
  omega

/-- The result's array is the reference's. -/
theorem conv_eq : (dats m 0 c).arrAt 6 cfg0.N = Cert.Reference8Ideal.Read.val_main_v35 (F := Ideal) (m (c, main_arg0)) (m (c, main_arg1)) (m (c, main_arg2)) := by
  rw [ref_res]
  refine (dats m 0 c).arrAt_eq_of_cover 6 _ (fun t _ => ?_) cover6
  rw [read6, Value.flushed6]
  exact congrArg _ (point_eq m c t)

end Array

end Cert.Kernel8Ideal.Hand

end
-- ==== Proof.Softmax.lean ====
/- The forward attention's outer loop: one trip (one block of queries) run once at a symbolic trip. The inner loop over the
   blocks of keys is gone through by its generated invariant. -/
module

public import proofs.«01_k».proof.Proof.Conv
public import proofs.«01_k».proof.Proof.Array
public import proofs.«01_k».proof.Proof.Host
public import proofs.«01_k».proof.Proof.Gen.Kernel9Ideal
public import proofs.«01_k».proof.Proof.Gen.Kernel9Ideal.Skeleton
public import proofs.«01_k».proof.Proof.Gen.Kernel9Ideal.Loops
public import proofs.«01_k».proof.Proof.Gen.Kernel9Ideal.Launch
public import proofs.«01_k».proof.Proof.Gen.Kernel9Ideal.Points
public import proofs.«01_k».proof.Proof.Gen.Kernel9Ideal.Frame
public import Idealize.ShloMosaic.Lib.VecWindow

@[expose] public section

set_option maxRecDepth 8192
set_option maxHeartbeats 4000000

noncomputable section

namespace Cert.Kernel9Ideal.Hand

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S2x2048x128 .bf16) (harg2 : arg2.IsWhole) (arg3 : Memref sig .tc .vmem S2x2048x128 .bf16) (harg3 : arg3.IsWhole)
  (arg4 : Memref sig .tc .vmem S2048x128 .bf16) (harg4 : arg4.IsWhole) (arg5 : Memref sig .tc .vmem S2048x128 .f32) (harg5 : arg5.IsWhole)
  (arg6 : Memref sig .tc .vmem S2048x128 .f32) (harg6 : arg6.IsWhole)
  (X2 : BufTy.Contents (Elt F) arg2.view.ty) (X3 : BufTy.Contents (Elt F) arg3.view.ty) (X4 : BufTy.Contents (Elt F) arg4.view.ty)

/-- What a trip holds: the three blocks read at their contents, the two blocks written at any. -/
abbrev Held (f5 : BufTy.Contents (Elt F) arg5.view.ty) (f6 : BufTy.Contents (Elt F) arg6.view.ty) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} f5) ∗ (arg6.view.loc (c : Thread nD τ) ↦[arg6.view.set]{fullShare} f6))

/-- One trip of the outer loop at a symbolic trip `k`: what it writes into the two results. -/
@[irreducible] def trip (k : Fin k0_t1_loop.trips) :
    Σ' (L5 : List (View.Piece (Elt F) S2048x128 .f32)),
       { L6 : List (View.Piece (Elt F) S2048x128 .f32) //
         ∀ (E : Set ℕ) (f5 : BufTy.Contents (Elt F) arg5.view.ty) (f6 : BufTy.Contents (Elt F) arg6.view.ty),
          Held c arg2 arg3 arg4 arg5 arg6 X2 X3 X4 f5 f6
          ⊢ wp frame (wpE (defs₀ (F := F)) Variants.none (c : Thread nD τ) none) E
              (k0_t1_body (F := F) i arg2 harg2 arg3 harg3 arg4 harg4 arg5 harg5 arg6 harg6 k ())
              (fun _ => Held c arg2 arg3 arg4 arg5 arg6 X2 X3 X4
                (arg5.view.writes (Elt F) f5 L5) (arg6.view.writes (Elt F) f6 L6)) } := by
  refine ⟨?_, ?_, fun E f5 f6 => ?run⟩
  case run =>
    unfold k0_t1_body
    iintro ⟨H2, H3, H4, H5, H6⟩
    sl_exec
    sl_step
    sl_close

/-! ## Tiles and the pass over the blocks of keys below the diagonal -/

open Cert.KernelIdeal.Hand (tile2 tile3 window2_eq window3_eq put2)

section Read
variable {κ : Kind} {sp : Space} {e : EltTy}

theorem readAt3 (v : View sig κ sp S2x2048x128 e) (f : v.ty.Contents (Elt F)) (off : Fin 3 → ℕ) (h : Fin 2) (g : ℕ) (hg : g < 4)
    (inb : ∀ a, off a + S1x512x128.size a ≤ S2x2048x128.size a) (ho : off = ![h.val, 512 * g, 0]) :
    v.readAt (Elt F) (Rect.unit (s := S2x2048x128) off S1x512x128.size inb).toLoadRect f = tile3 (v.read (Elt F) f) h g := by
  subst ho
  exact (View.readAt_unit v f inb rfl inb).trans (window3_eq _ h g hg inb)

theorem readAt2 (v : View sig κ sp S2048x128 e) (f : v.ty.Contents (Elt F)) (off : Fin 2 → ℕ) (g : ℕ) (hg : g < 4)
    (inb : ∀ a, off a + S512x128.size a ≤ S2048x128.size a) (ho : off = ![512 * g, 0]) :
    v.readAt (Elt F) (Rect.unit (s := S2048x128) off S512x128.size inb).toLoadRect f = tile2 (v.read (Elt F) f) g := by
  subst ho
  exact (View.readAt_unit v f inb rfl inb).trans (window2_eq _ g hg inb)

theorem readPut2 (v : View sig κ sp S2048x128 e) (f : v.ty.Contents (Elt F)) (off : Fin 2 → ℕ) (g : ℕ)
    (inb : ∀ a, off a + S512x128.size a ≤ S2048x128.size a) (ho : off = ![512 * g, 0])
    (w : S512x128.Idx → Elt F e) (L : List (View.Piece (Elt F) S2048x128 e)) :
    v.read (Elt F) (v.writes (Elt F) f (⟨Rect.unit off S512x128.size inb, w⟩ :: L))
      = put2 (v.read (Elt F) (v.writes (Elt F) f L)) g w :=
  View.read_writes_cons_put v f inb w L ho

end Read

section Inner
variable (q0 q1 : Vec F S1x512x128 .bf16) (xk : Vec F S2x2048x128 .bf16) (xv : Vec F S2048x128 .bf16)

/-- The two heads' largest scores and weighted sums before block `j` of the keys. -/
def accs : ℕ → FVec F S512x1 .f32 × FVec F S512x128 .f32 × FVec F S512x1 .f32 × FVec F S512x128 .f32
  | 0 => (k0_pay24, k0_pay25, k0_pay24, k0_pay25)
  | j + 1 => (k0_pay7 (k0_pay22 q0) (accs j).1 (tile3 xk 0 j),
      k0_pay8 k0_pay2 (k0_pay22 q0) (Scalar.ofBits .bf16 0x3F80#16) (accs j).1 (accs j).2.1 (tile2 xv j) (tile3 xk 0 j),
      k0_pay10 (k0_pay23 q1) (accs j).2.2.1 (tile3 xk 1 j),
      k0_pay26 (k0_pay5 k0_pay2 (Scalar.ofBits .bf16 0x3F80#16) (tile2 xv j)) (k0_pay11 (k0_pay23 q1) (accs j).2.2.1 (accs j).2.2.2 (tile3 xk 1 j))
        (k0_pay12 (k0_pay23 q1) (accs j).2.2.1 (tile3 xk 1 j)) (constant S512x128 .f32 0x00000000#32))

end Inner

section Pass
variable (𝒱 : Variants) (bd : Option 𝒱.V) (v13 : FVec F S512x512 .f32) (w w' : BitVec 32) (g : Fin k0_t1_loop.trips) (q0 q1 : Vec F S1x512x128 .bf16)

theorem trips2_le : ∀ g : Fin k0_t1_loop.trips, (k0_t2_loop g).trips = g.val := by decide +kernel
theorem trips3_eq : ∀ g : Fin k0_t1_loop.trips, (k0_t3_loop g).trips = 0 := by decide +kernel
theorem trips1_eq : k0_t1_loop.trips = 4 := by decide +kernel

theorem lt4 (j : Fin (k0_t2_loop g).trips) : j.val < 4 := by
  have h1 := j.isLt
  have h2 := g.isLt
  have h3 := trips2_le g
  have h4 := trips1_eq
  omega

theorem step_eq (j : Fin (k0_t2_loop g).trips) (acc : FVec F S512x1 .f32 × FVec F S512x128 .f32 × FVec F S512x1 .f32 × FVec F S512x128 .f32) :
    tripR_k0_t2 𝒱 c bd i arg2 harg2 arg3 harg3 arg4 harg4 arg5 harg5 arg6 harg6 k0_pay2 v13 w w' g q0 q1 (Scalar.ofBits .bf16 0x3F80#16) X3 X4 j acc
      = (k0_pay7 (k0_pay22 q0) acc.1 (tile3 (arg3.view.read (Elt F) X3) 0 j.val),
      k0_pay8 k0_pay2 (k0_pay22 q0) (Scalar.ofBits .bf16 0x3F80#16) acc.1 acc.2.1 (tile2 (arg4.view.read (Elt F) X4) j.val) (tile3 (arg3.view.read (Elt F) X3) 0 j.val),
      k0_pay10 (k0_pay23 q1) acc.2.2.1 (tile3 (arg3.view.read (Elt F) X3) 1 j.val),
      k0_pay26 (k0_pay5 k0_pay2 (Scalar.ofBits .bf16 0x3F80#16) (tile2 (arg4.view.read (Elt F) X4) j.val)) (k0_pay11 (k0_pay23 q1) acc.2.2.1 acc.2.2.2 (tile3 (arg3.view.read (Elt F) X3) 1 j.val))
        (k0_pay12 (k0_pay23 q1) acc.2.2.1 (tile3 (arg3.view.read (Elt F) X3) 1 j.val)) (constant S512x128 .f32 0x00000000#32)) := by
  have h4 := lt4 g j
  unfold tripR_k0_t2 trip_k0_t2
  dsimp only
  sl_unfold_words
  rw [← readAt2 arg4.view X4 (k0_off3 g j) j.val h4 (k0_off3_inb g j) (k0_off3_eq g j),
    ← readAt3 arg3.view X3 (k0_off4 g j) 0 j.val h4 (k0_off4_inb g j) (k0_off4_eq g j),
    ← readAt3 arg3.view X3 (k0_off5 g j) 1 j.val h4 (k0_off5_inb g j) (k0_off5_eq g j)]
  rfl

/-- The pass over the blocks of keys, stated by its sums. -/
theorem pass_eq : ∀ k : ℕ, k ≤ (k0_t2_loop g).trips →
    st_k0_t2 𝒱 c bd i arg2 harg2 arg3 harg3 arg4 harg4 arg5 harg5 arg6 harg6 k0_pay2 v13 w w' g q0 q1 (Scalar.ofBits .bf16 0x3F80#16) X3 X4 (k0_pay24, k0_pay25, k0_pay24, k0_pay25) k
      = accs q0 q1 (arg3.view.read (Elt F) X3) (arg4.view.read (Elt F) X4) k
  | 0, _ => rfl
  | k + 1, hk => by
    have h1 := pass_eq k (Nat.le_of_succ_le hk)
    have hs := st_k0_t2_succ 𝒱 c bd i arg2 harg2 arg3 harg3 arg4 harg4 arg5 harg5 arg6 harg6 k0_pay2 v13 w w' g q0 q1 (Scalar.ofBits .bf16 0x3F80#16) X3 X4 (k0_pay24, k0_pay25, k0_pay24, k0_pay25) ⟨k, hk⟩
    dsimp only at hs
    rw [hs, h1, step_eq]
    rfl

theorem none_left (w30 : BitVec 32) (init : FVec F S512x1 .f32 × FVec F S512x128 .f32 × FVec F S512x1 .f32 × FVec F S512x128 .f32) :
    st_k0_t3 𝒱 c bd i arg2 harg2 arg3 harg3 arg4 harg4 arg5 harg5 arg6 harg6 k0_pay2 v13 w w' g q0 q1 (Scalar.ofBits .bf16 0x3F80#16) w30 X3 X4 init
      (Scf.trips (k0_t3_loop g).lb (k0_t3_loop g).ub (k0_t3_loop g).st) = init := by
  have h : Scf.trips (k0_t3_loop g).lb (k0_t3_loop g).ub (k0_t3_loop g).st = 0 := trips3_eq g
  rw [h]; rfl

end Pass

/-! ## One block of queries -/

section Block
variable (xq xk : Vec F S2x2048x128 .bf16) (xv : Vec F S2048x128 .bf16)

/-- The two heads' sums over the blocks of keys below block `g`. -/
def sums (g : ℕ) := accs (tile3 xq 0 g) (tile3 xq 1 g) xk xv g

/-- The two results' rows of block `g`. -/
def oBlk (g : ℕ) : FVec F S512x128 .f32 :=
  k0_pay39 k0_pay1 k0_pay3 (k0_pay23 (tile3 xq 1 g)) (sums xq xk xv g).1 (sums xq xk xv g).2.1 (sums xq xk xv g).2.2.1 (sums xq xk xv g).2.2.2
    (k0_pay29 k0_pay2 (tile2 xv g)) (k0_pay30 k0_pay2 (tile2 xv g)) (k0_pay31 k0_pay3 (tile3 xq 0 g) (tile3 xk 0 g))
    (k0_pay32 k0_pay3 (tile3 xq 0 g) (sums xq xk xv g).1 (tile3 xk 0 g)) (tile3 xk 1 g)
def lBlk (g : ℕ) : FVec F S512x128 .f32 :=
  k0_pay40 k0_pay1 k0_pay3 (k0_pay23 (tile3 xq 1 g)) (sums xq xk xv g).1 (sums xq xk xv g).2.1 (sums xq xk xv g).2.2.1 (sums xq xk xv g).2.2.2
    (k0_pay29 k0_pay2 (tile2 xv g)) (k0_pay30 k0_pay2 (tile2 xv g)) (k0_pay31 k0_pay3 (tile3 xq 0 g) (tile3 xk 0 g))
    (k0_pay32 k0_pay3 (tile3 xq 0 g) (sums xq xk xv g).1 (tile3 xk 0 g)) (tile3 xk 1 g)

end Block

theorem trip_eq (g : Fin k0_t1_loop.trips)
    (f5 : BufTy.Contents (Elt F) arg5.view.ty) (f6 : BufTy.Contents (Elt F) arg6.view.ty) :
    arg5.view.read (Elt F) (arg5.view.writes (Elt F) f5 (trip c i arg2 harg2 arg3 harg3 arg4 harg4 arg5 harg5 arg6 harg6 X2 X3 X4 g).1)
      = put2 (arg5.view.read (Elt F) f5) g.val (oBlk (arg2.view.read (Elt F) X2) (arg3.view.read (Elt F) X3) (arg4.view.read (Elt F) X4) g.val)
    ∧ arg6.view.read (Elt F) (arg6.view.writes (Elt F) f6 (trip c i arg2 harg2 arg3 harg3 arg4 harg4 arg5 harg5 arg6 harg6 X2 X3 X4 g).2.1)
      = put2 (arg6.view.read (Elt F) f6) g.val (lBlk (arg2.view.read (Elt F) X2) (arg3.view.read (Elt F) X3) (arg4.view.read (Elt F) X4) g.val) := by
  have h4 : g.val < 4 := by have := g.isLt; have := trips1_eq; omega
  have e1 := readAt3 arg2.view X2 (k0_off1 g) 0 g.val h4 (k0_off1_inb g) (k0_off1_eq g)
  have e2 := readAt3 arg2.view X2 (k0_off2 g) 1 g.val h4 (k0_off2_inb g) (k0_off2_eq g)
  have e9 := readAt2 arg4.view X4 (k0_off9 g) g.val h4 (k0_off9_inb g) (k0_off9_eq g)
  have e10 := readAt3 arg3.view X3 (k0_off10 g) 0 g.val h4 (k0_off10_inb g) (k0_off10_eq g)
  have e11 := readAt3 arg3.view X3 (k0_off11 g) 1 g.val h4 (k0_off11_inb g) (k0_off11_eq g)
  have hn : Scf.trips (k0_t2_loop g).lb (k0_t2_loop g).ub (k0_t2_loop g).st = g.val := trips2_le g
  have p := pass_eq c i arg2 harg2 arg3 harg3 arg4 harg4 arg5 harg5 arg6 harg6 X3 X4 Variants.none none k0_pay3 0#32 1#32 g (tile3 (arg2.view.read (Elt F) X2) 0 g.val) (tile3 (arg2.view.read (Elt F) X2) 1 g.val)
    g.val (trips2_le g).ge
  have q := (none_left c i arg2 harg2 arg3 harg3 arg4 harg4 arg5 harg5 arg6 harg6 X3 X4 Variants.none none k0_pay3 0#32 1#32 g (tile3 (arg2.view.read (Elt F) X2) 0 g.val) (tile3 (arg2.view.read (Elt F) X2) 1 g.val)
    (trip.sl.v30 g) _).trans p
  have hr1 : trip.sl.r_1 c i arg2 harg2 arg3 harg3 arg4 harg4 arg5 harg5 arg6 harg6 X2 X3 X4 g = (sums (arg2.view.read (Elt F) X2) (arg3.view.read (Elt F) X3) (arg4.view.read (Elt F) X4) g.val).1 := by
    unfold trip.sl.r_1
    rw [hn, e1, e2]
    exact congrArg (fun s => s.1) q
  have hr2 : trip.sl.r_2 c i arg2 harg2 arg3 harg3 arg4 harg4 arg5 harg5 arg6 harg6 X2 X3 X4 g = (sums (arg2.view.read (Elt F) X2) (arg3.view.read (Elt F) X3) (arg4.view.read (Elt F) X4) g.val).2.1 := by
    unfold trip.sl.r_2
    rw [hn, e1, e2]
    exact congrArg (fun s => s.2.1) q
  have hr3 : trip.sl.r_3 c i arg2 harg2 arg3 harg3 arg4 harg4 arg5 harg5 arg6 harg6 X2 X3 X4 g = (sums (arg2.view.read (Elt F) X2) (arg3.view.read (Elt F) X3) (arg4.view.read (Elt F) X4) g.val).2.2.1 := by
    unfold trip.sl.r_3
    rw [hn, e1, e2]
    exact congrArg (fun s => s.2.2.1) q
  have hr4 : trip.sl.r_4 c i arg2 harg2 arg3 harg3 arg4 harg4 arg5 harg5 arg6 harg6 X2 X3 X4 g = (sums (arg2.view.read (Elt F) X2) (arg3.view.read (Elt F) X3) (arg4.view.read (Elt F) X4) g.val).2.2.2 := by
    unfold trip.sl.r_4
    rw [hn, e1, e2]
    exact congrArg (fun s => s.2.2.2) q
  have hr : trip.sl.r arg2 X2 g = k0_pay23 (tile3 (arg2.view.read (Elt F) X2) 1 g.val) := congrArg k0_pay23 e2
  have hr5 : trip.sl.r_5 arg4 X4 g = k0_pay29 k0_pay2 (tile2 (arg4.view.read (Elt F) X4) g.val) := congrArg (k0_pay29 k0_pay2) e9
  have hr6 : trip.sl.r_6 arg4 X4 g = k0_pay30 k0_pay2 (tile2 (arg4.view.read (Elt F) X4) g.val) := congrArg (k0_pay30 k0_pay2) e9
  have hr7 : trip.sl.r_7 arg2 arg3 X2 X3 g = k0_pay31 k0_pay3 (tile3 (arg2.view.read (Elt F) X2) 0 g.val) (tile3 (arg3.view.read (Elt F) X3) 0 g.val) :=
    congrArg₂ (k0_pay31 k0_pay3) e1 e10
  have hr8 : trip.sl.r_8 c i arg2 harg2 arg3 harg3 arg4 harg4 arg5 harg5 arg6 harg6 X2 X3 X4 g = k0_pay32 k0_pay3 (tile3 (arg2.view.read (Elt F) X2) 0 g.val) (sums (arg2.view.read (Elt F) X2) (arg3.view.read (Elt F) X3) (arg4.view.read (Elt F) X4) g.val).1 (tile3 (arg3.view.read (Elt F) X3) 0 g.val) := by
    unfold trip.sl.r_8
    refine Eq.trans (b := k0_pay32 k0_pay3 _ (trip.sl.r_1 c i arg2 harg2 arg3 harg3 arg4 harg4 arg5 harg5 arg6 harg6 X2 X3 X4 g) _) rfl ?_
    rw [hr1, e1, e10]
  unfold trip
  dsimp only
  refine ⟨?_, ?_⟩
  · refine (readPut2 arg5.view f5 (k0_off12 g) g.val (k0_off12_inb g) (k0_off12_eq g) _ []).trans ?_
    refine congrArg (put2 (arg5.view.read (Elt F) f5) g.val) ?_
    rw [hr, hr1, hr2, hr3, hr4, hr5, hr6, hr7, hr8]
    exact congrArg _ e11
  · refine (readPut2 arg6.view f6 (k0_off12 g) g.val (k0_off12_inb g) (k0_off12_eq g) _ []).trans ?_
    refine congrArg (put2 (arg6.view.read (Elt F) f6) g.val) ?_
    rw [hr, hr1, hr2, hr3, hr4, hr5, hr6, hr7, hr8]
    exact congrArg _ e11

end Cert.Kernel9Ideal.Hand

end
-- ==== Proof.SoftmaxRun.lean ====
/- The forward attention's launch: the body at a grid point, the pipeline's data, the run, and the frame. -/
module

public import proofs.«01_k».proof.Proof.Softmax
public import Idealize.ShloMosaic.Lib.Quiescent

@[expose] public section

set_option maxRecDepth 8192
set_option maxHeartbeats 4000000

noncomputable section

namespace Cert.Kernel9Ideal.Hand

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.KernelIdeal.Hand (put2 put2_apply in2)

variable {F : FTy → Type} [FloatOps F] [Named F]

local notation "𝕄" => MT nD τ sig Unit (Elt F) ℕ (UR sig nD τ) ℕ

section Outer
variable (xq xk : Vec F S2x2048x128 .bf16) (xv : Vec F S2048x128 .bf16)

/-- The two results after the blocks below `g`, over what they held. -/
def oUp (d : Vec F S2048x128 .f32) : ℕ → Vec F S2048x128 .f32
  | 0 => d
  | g + 1 => put2 (oUp d g) g (oBlk xq xk xv g)
def lUp (d : Vec F S2048x128 .f32) : ℕ → Vec F S2048x128 .f32
  | 0 => d
  | g + 1 => put2 (lUp d g) g (lBlk xq xk xv g)

/-- What the body leaves in the two results. -/
def oOut : Vec F S2048x128 .f32 := fun y => oBlk xq xk xv ((y 0).val / 512) (in2 y)
def lOut : Vec F S2048x128 .f32 := fun y => lBlk xq xk xv ((y 0).val / 512) (in2 y)

theorem oUp_apply (d : Vec F S2048x128 .f32) (y : S2048x128.Idx) : ∀ n : ℕ, oUp xq xk xv d n y = if (y 0).val / 512 < n then oOut xq xk xv y else d y
  | 0 => by simp [oUp]
  | n + 1 => by
    refine (put2_apply (oUp xq xk xv d n) n (oBlk xq xk xv n) y).trans ?_
    rw [oUp_apply d y n]
    by_cases hn : (y 0).val / 512 = n
    · subst hn
      rw [if_pos rfl, if_pos (Nat.lt_succ_self _)]; rfl
    · rw [if_neg hn]
      by_cases hl : (y 0).val / 512 < n
      · rw [if_pos hl, if_pos (by omega)]
      · rw [if_neg hl, if_neg (by omega)]
theorem lUp_apply (d : Vec F S2048x128 .f32) (y : S2048x128.Idx) : ∀ n : ℕ, lUp xq xk xv d n y = if (y 0).val / 512 < n then lOut xq xk xv y else d y
  | 0 => by simp [lUp]
  | n + 1 => by
    refine (put2_apply (lUp xq xk xv d n) n (lBlk xq xk xv n) y).trans ?_
    rw [lUp_apply d y n]
    by_cases hn : (y 0).val / 512 = n
    · subst hn
      rw [if_pos rfl, if_pos (Nat.lt_succ_self _)]; rfl
    · rw [if_neg hn]
      by_cases hl : (y 0).val / 512 < n
      · rw [if_pos hl, if_pos (by omega)]
      · rw [if_neg hl, if_neg (by omega)]

end Outer

section Body
variable (c : Dev nD) (i : grid0.Coords)
  (arg2 : Memref sig .tc .vmem S2x2048x128 .bf16) (harg2 : arg2.IsWhole) (arg3 : Memref sig .tc .vmem S2x2048x128 .bf16) (harg3 : arg3.IsWhole)
  (arg4 : Memref sig .tc .vmem S2048x128 .bf16) (harg4 : arg4.IsWhole) (arg5 : Memref sig .tc .vmem S2048x128 .f32) (harg5 : arg5.IsWhole)
  (arg6 : Memref sig .tc .vmem S2048x128 .f32) (harg6 : arg6.IsWhole)
  (X2 : BufTy.Contents (Elt F) arg2.view.ty) (X3 : BufTy.Contents (Elt F) arg3.view.ty) (X4 : BufTy.Contents (Elt F) arg4.view.ty)
  (G5 : BufTy.Contents (Elt F) arg5.view.ty) (G6 : BufTy.Contents (Elt F) arg6.view.ty)

/-- The two results' contents before trip `g`. -/
def sto : ℕ → BufTy.Contents (Elt F) arg5.view.ty × BufTy.Contents (Elt F) arg6.view.ty
  | 0 => (G5, G6)
  | g + 1 => if h : g < k0_t1_loop.trips then
      (arg5.view.writes (Elt F) (sto g).1 (trip c i arg2 harg2 arg3 harg3 arg4 harg4 arg5 harg5 arg6 harg6 X2 X3 X4 ⟨g, h⟩).1,
       arg6.view.writes (Elt F) (sto g).2 (trip c i arg2 harg2 arg3 harg3 arg4 harg4 arg5 harg5 arg6 harg6 X2 X3 X4 ⟨g, h⟩).2.1)
    else sto g

theorem sto_succ (k : Fin k0_t1_loop.trips) :
    (sto c i arg2 harg2 arg3 harg3 arg4 harg4 arg5 harg5 arg6 harg6 X2 X3 X4 G5 G6 (k.val + 1)) = (arg5.view.writes (Elt F) (sto c i arg2 harg2 arg3 harg3 arg4 harg4 arg5 harg5 arg6 harg6 X2 X3 X4 G5 G6 k.val).1 (trip c i arg2 harg2 arg3 harg3 arg4 harg4 arg5 harg5 arg6 harg6 X2 X3 X4 k).1,
      arg6.view.writes (Elt F) (sto c i arg2 harg2 arg3 harg3 arg4 harg4 arg5 harg5 arg6 harg6 X2 X3 X4 G5 G6 k.val).2 (trip c i arg2 harg2 arg3 harg3 arg4 harg4 arg5 harg5 arg6 harg6 X2 X3 X4 k).2.1) := by
  rw [sto.eq_2]
  exact dif_pos k.isLt

/-- Read as vectors, the two results before trip `g` are the plain recursions. -/
theorem sto_eq : ∀ g : ℕ, g ≤ k0_t1_loop.trips →
    arg5.view.read (Elt F) (sto c i arg2 harg2 arg3 harg3 arg4 harg4 arg5 harg5 arg6 harg6 X2 X3 X4 G5 G6 g).1 = oUp (arg2.view.read (Elt F) X2) (arg3.view.read (Elt F) X3) (arg4.view.read (Elt F) X4) (arg5.view.read (Elt F) G5) g
    ∧ arg6.view.read (Elt F) (sto c i arg2 harg2 arg3 harg3 arg4 harg4 arg5 harg5 arg6 harg6 X2 X3 X4 G5 G6 g).2 = lUp (arg2.view.read (Elt F) X2) (arg3.view.read (Elt F) X3) (arg4.view.read (Elt F) X4) (arg6.view.read (Elt F) G6) g
  | 0, _ => ⟨rfl, rfl⟩
  | g + 1, hg => by
    obtain ⟨h1, h2⟩ := sto_eq g (Nat.le_of_succ_le hg)
    rw [sto_succ c i arg2 harg2 arg3 harg3 arg4 harg4 arg5 harg5 arg6 harg6 X2 X3 X4 G5 G6 ⟨g, hg⟩]
    dsimp only
    obtain ⟨e1, e2⟩ := trip_eq c i arg2 harg2 arg3 harg3 arg4 harg4 arg5 harg5 arg6 harg6 X2 X3 X4 ⟨g, hg⟩ (sto c i arg2 harg2 arg3 harg3 arg4 harg4 arg5 harg5 arg6 harg6 X2 X3 X4 G5 G6 g).1 (sto c i arg2 harg2 arg3 harg3 arg4 harg4 arg5 harg5 arg6 harg6 X2 X3 X4 G5 G6 g).2
    refine ⟨?_, ?_⟩
    · rw [e1, h1]; rfl
    · rw [e2, h2]; rfl

/-- The invariant of the outer loop before trip `k`. -/
abbrev invOuter (k : ℕ) (acc : Unit) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4)
    ∗ (∃ f, (arg5.view.loc (c : Thread nD τ) ↦[arg5.view.set]{fullShare} f) ∗ ⌜f = (sto c i arg2 harg2 arg3 harg3 arg4 harg4 arg5 harg5 arg6 harg6 X2 X3 X4 G5 G6 k).1⌝)
    ∗ (∃ f, (arg6.view.loc (c : Thread nD τ) ↦[arg6.view.set]{fullShare} f) ∗ ⌜f = (sto c i arg2 harg2 arg3 harg3 arg4 harg4 arg5 harg5 arg6 harg6 X2 X3 X4 G5 G6 k).2⌝))

set_option warn.classDefReducibility false in
/-- The outer loop's invariant and its step. -/
def loopOuter : Gen.LoopInvTy_k0_t1 (F := F) Unit ℕ (UR sig nD τ) ℕ Variants.none c none Set.univ i arg2 harg2 arg3 harg3 arg4 harg4 arg5 harg5 arg6 harg6 where
  inv := invOuter c i arg2 harg2 arg3 harg3 arg4 harg4 arg5 harg5 arg6 harg6 X2 X3 X4 G5 G6
  step k acc := by
    iintro ⟨H2, H3, H4, ⟨%f5, H5, %h5⟩, ⟨%f6, H6, %h6⟩⟩
    iapply (wp_wand_r Idealize.ShloMosaic.frame (wpE (defs₀ (F := F)) Variants.none (c : Thread nD τ) none) Set.univ)
    isplitl [H2 H3 H4 H5 H6]
    · iapply ((trip c i arg2 harg2 arg3 harg3 arg4 harg4 arg5 harg5 arg6 harg6 X2 X3 X4 k).2.2 Set.univ f5 f6)
      isplitl [H2]; · iexact H2
      isplitl [H3]; · iexact H3
      isplitl [H4]; · iexact H4
      isplitl [H5]; · iexact H5
      iexact H6
    · iintro %yld ⟨H2, H3, H4, H5, H6⟩
      isplitl [H2]; · iexact H2
      isplitl [H3]; · iexact H3
      isplitl [H4]; · iexact H4
      isplitl [H5]
      · iexists _; isplitl [H5]; · iexact H5
        ipureintro
        rw [sto_succ, h5]
      iexists _; isplitl [H6]; · iexact H6
      ipureintro
      rw [sto_succ, h6]

end Body

/-- The outer loop run from its invariant. -/
theorem outerRule (c : Dev nD) (i : grid0.Coords)
    (arg2 : Memref sig .tc .vmem S2x2048x128 .bf16) (harg2 : arg2.IsWhole) (arg3 : Memref sig .tc .vmem S2x2048x128 .bf16) (harg3 : arg3.IsWhole)
    (arg4 : Memref sig .tc .vmem S2048x128 .bf16) (harg4 : arg4.IsWhole) (arg5 : Memref sig .tc .vmem S2048x128 .f32) (harg5 : arg5.IsWhole)
    (arg6 : Memref sig .tc .vmem S2048x128 .f32) (harg6 : arg6.IsWhole)
    (X2 : Buf (Elt F) (arg2.view.loc (c : Thread nD τ))) (X3 : Buf (Elt F) (arg3.view.loc (c : Thread nD τ)))
    (X4 : Buf (Elt F) (arg4.view.loc (c : Thread nD τ))) (G5 : Buf (Elt F) (arg5.view.loc (c : Thread nD τ)))
    (G6 : Buf (Elt F) (arg6.view.loc (c : Thread nD τ))) (K : PUnit → sProp 𝕄) :
    invOuter c i arg2 harg2 arg3 harg3 arg4 harg4 arg5 harg5 arg6 harg6 X2 X3 X4 G5 G6 0 () ⊢ iprop((∀ acc, invOuter c i arg2 harg2 arg3 harg3 arg4 harg4 arg5 harg5 arg6 harg6 X2 X3 X4 G5 G6 k0_t1_loop.trips acc
        -∗ wp Idealize.ShloMosaic.frame (wpE (defs₀ (F := F)) Variants.none (c : Thread nD τ) none) Set.univ (Pure.pure PUnit.unit) K)
      -∗ wp Idealize.ShloMosaic.frame (wpE (defs₀ (F := F)) Variants.none (c : Thread nD τ) none) Set.univ
        (k0_t1_loop.for k0_t1_ok PUnit.unit (k0_t1_body (F := F) i arg2 harg2 arg3 harg3 arg4 harg4 arg5 harg5 arg6 harg6) >>= fun _ => Pure.pure PUnit.unit) K) :=
  exec_loop Idealize.ShloMosaic.frame (wpE (defs₀ (F := F)) Variants.none (c : Thread nD τ) none) Set.univ k0_t1_loop.lb k0_t1_loop.ub k0_t1_loop.st k0_t1_ok PUnit.unit
    (k0_t1_body (F := F) i arg2 harg2 arg3 harg3 arg4 harg4 arg5 harg5 arg6 harg6) (loopOuter c i arg2 harg2 arg3 harg3 arg4 harg4 arg5 harg5 arg6 harg6 X2 X3 X4 G5 G6)

theorem kernelRun (c : Dev nD) (i : grid0.Coords)
    (arg2 : Memref sig .tc .vmem S2x2048x128 .bf16) (harg2 : arg2.IsWhole) (arg3 : Memref sig .tc .vmem S2x2048x128 .bf16) (harg3 : arg3.IsWhole)
    (arg4 : Memref sig .tc .vmem S2048x128 .bf16) (harg4 : arg4.IsWhole) (arg5 : Memref sig .tc .vmem S2048x128 .f32) (harg5 : arg5.IsWhole)
    (arg6 : Memref sig .tc .vmem S2048x128 .f32) (harg6 : arg6.IsWhole)
    (xq xk : Vec F S2x2048x128 .bf16) (xv : Vec F S2048x128 .bf16) (K : PUnit → sProp 𝕄) :
    iprop(owns (c : Thread nD τ) arg2 fullShare xq ∗ owns (c : Thread nD τ) arg3 fullShare xk ∗ owns (c : Thread nD τ) arg4 fullShare xv
        ∗ (∃ d, owns (c : Thread nD τ) arg5 fullShare d) ∗ (∃ d, owns (c : Thread nD τ) arg6 fullShare d)
        ∗ (iprop(owns (c : Thread nD τ) arg2 fullShare xq ∗ owns (c : Thread nD τ) arg3 fullShare xk ∗ owns (c : Thread nD τ) arg4 fullShare xv
            ∗ owns (c : Thread nD τ) arg5 fullShare (oOut xq xk xv) ∗ owns (c : Thread nD τ) arg6 fullShare (lOut xq xk xv)) -∗ K ⟨⟩))
      ⊢ wp frame (wpE (defs₀ (F := F)) Variants.none c none) Set.univ
          (cc0_mla_attn_fwd i arg2 harg2 arg3 harg3 arg4 harg4 arg5 harg5 arg6 harg6) K := by
  unfold owns
  iintro ⟨⟨%f2, %hf2, H2⟩, ⟨%f3, %hf3, H3⟩, ⟨%f4, %hf4, H4⟩, ⟨%e5, %f5, -, H5⟩, ⟨%e6, %f6, -, H6⟩, Hk⟩
  simp only [cc0_mla_attn_fwd_eq_skeleton]
  unfold cc0_mla_attn_fwd_skel
  obtain ⟨r5, r6⟩ := sto_eq c i arg2 harg2 arg3 harg3 arg4 harg4 arg5 harg5 arg6 harg6 f2 f3 f4 f5 f6 k0_t1_loop.trips le_rfl
  iapply (outerRule c i arg2 harg2 arg3 harg3 arg4 harg4 arg5 harg5 arg6 harg6 f2 f3 f4 f5 f6 K) $$ [H2 H3 H4 H5 H6]
  · isplitl [H2]; · iexact H2
    isplitl [H3]; · iexact H3
    isplitl [H4]; · iexact H4
    isplitl [H5]
    · iexists _; isplitl [H5]; · iexact H5
      ipureintro; rw [sto.eq_1]
    iexists _; isplitl [H6]; · iexact H6
    ipureintro; rw [sto.eq_1]
  iintro %acc ⟨H2, H3, H4, ⟨%g5, H5, %h5⟩, ⟨%g6, H6, %h6⟩⟩
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    rw [h5]
    refine r5.trans ?_
    rw [hf2, hf3, hf4, trips1_eq]
    funext y
    rw [oUp_apply, if_pos (by have h1 : (y 0).val < 2048 := (y 0).isLt; omega)]
  iexists _; isplitr; swap; · iexact H6
  ipureintro
  rw [h6]
  refine r6.trans ?_
  rw [hf2, hf3, hf4, trips1_eq]
  funext y
  rw [lUp_apply, if_pos (by have h1 : (y 0).val < 2048 := (y 0).isLt; omega)]

/-! ## The pipeline's data -/

variable (m : (ℓ : Loc nD τ sig) → Buf (Elt F) ℓ) (ρ : Dev nD → PrngReg)

def oAt (c : Dev nD) (t : Fin cfg0.N) : Vec F S2048x128 .f32 := oOut (iblk m c 0 t) (iblk m c 1 t) (iblk m c 2 t)
def lAt (c : Dev nD) (t : Fin cfg0.N) : Vec F S2048x128 .f32 := lOut (iblk m c 0 t) (iblk m c 1 t) (iblk m c 2 t)

/-- Each array as the region finds it; after the body each input at its block and each result at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oAt m c t
    | ⟨4, _⟩ => lAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = oAt m c t := by dsimp only [dats]
theorem after0_4 (c : Dev nD) (t : Fin cfg0.N) : (dats m 0 c).after 4 t = lAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, the run and the frame -/

theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold oAt lAt
  iintro ⟨HΦ, Ho, ⟨%d0, H0⟩, ⟨%d1, H1⟩, ⟨%d2, H2⟩, ⟨%d3, H3⟩, ⟨%d4, H4⟩⟩
  iapply (kernelRun c _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- From any memory the program ends with its arguments as launched and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.Kernel9Ideal.Hand

end
-- ==== Proof.SoftmaxVal.lean ====
/- The arithmetic of the forward attention's body over the reals: the running maximum stays a real number, and the running
   sums are the sums of the exponentials below it. -/
module

public import proofs.«01_k».proof.Proof.SoftmaxRun
public import proofs.«01_k».proof.Proof.Wide
public import Idealize.ShloMosaic.Lib.Pointwise
public import Idealize.ShloMosaic.Lib.ValueIdxCore
public import Idealize.ShloMosaic.Lib.WordCmp

@[expose] public section

set_option maxRecDepth 8192
set_option maxHeartbeats 4000000

noncomputable section

namespace Cert.Kernel9Ideal.Hand

open Cert.Kernel9Ideal Cert.Kernel9Ideal.Gen
open Idealize.ShloMosaic Idealize.ShloMosaic.TcCoe Idealize.ShloMosaic.Tactic
open Idealize.ShloMosaic.WordCmp (cmpi_sge_ofNat cmpi_slt_ofNat select_decide)
open Cert.KernelIdeal.Hand (up2 up3 up2_ix2 up3_ix3 ext2 ext3 half half_eq_zero half_eq_one sc ofBits_scale coe_sum bias ofBits_neg_inf row row_val sum_rows in2)
open Cert.ReferenceIdeal.Hand (fold_max_real)
open Cert.Step (mat mat_ix2)

theorem masked_bot : Named.named (F := Ideal) (φ := .f32) κ "mask" 0xF149F2CA#32 = (⊥ : EReal) := IdealRules.named_const.ideal_named_scalar _ _ _ _ rfl

/-- A score, hidden where `p` fails. -/
def ent (p : Fin 512 → Fin 512 → Prop) [∀ r x, Decidable (p r x)] (σ : Fin 512 → Fin 512 → ℝ) (r x : Fin 512) : EReal :=
  ((σ r x : ℝ) : EReal) + (if p r x then 0 else ⊥)
/-- A block of scores in which the entries outside `p` are hidden. -/
def seen (p : Fin 512 → Fin 512 → Prop) [∀ r x, Decidable (p r x)] (σ : Fin 512 → Fin 512 → ℝ) : FVec Ideal S512x512 .f32 :=
  fun y => ent p σ (y 0) (y 1)

/-- The running maximum after a block of scores, and the running sums after it. -/
def top (S : FVec Ideal S512x512 .f32) (m : FVec Ideal S512x1 .f32) : FVec Ideal S512x1 .f32 :=
  maximumf m (shapeCast S512x1 (multiReduction .maximumf [1] S512 S 0xFF800000#32 reduces_S512x512_S512 (.inl rfl) rfl) shapeCasts_S512_S512x1)
def upd (S : FVec Ideal S512x512 .f32) (m ν : FVec Ideal S512x1 .f32) (acc : FVec Ideal S512x128 .f32) (w : FVec Ideal S512x128 .bf16) :
    FVec Ideal S512x128 .f32 :=
  addf (mulf (broadcastTo S512x128 (exp (subf m ν)) broadcasts_S512x1_S512x128) acc)
    (matmul dot_S512x512_S512x128_S512x128_1_0_0_1_n_n none
      (truncf .bf16 (exp (subf S (broadcastTo S512x512 ν broadcasts_S512x1_S512x512))) bitsLt_bf16_f32) w (constant S512x128 .f32 0x00000000#32))

/-- A factor that is a real number and not negative goes into a sum. -/
theorem scale_sum {ι : Type} (s : Finset ι) (a : ℝ) (ha : 0 ≤ a) (f : ι → EReal) : (a : EReal) * ∑ i ∈ s, f i = ∑ i ∈ s, (a : EReal) * f i := by
  classical
  induction s using Finset.induction_on with
  | empty => rw [Finset.sum_empty, Finset.sum_empty, mul_zero]
  | insert i s hi ih =>
    rw [Finset.sum_insert hi, Finset.sum_insert hi, EReal.left_distrib_of_nonneg_of_ne_top (EReal.coe_nonneg.mpr ha) (EReal.coe_ne_top a), ih]

section Step
variable (p : Fin 512 → Fin 512 → Prop) [∀ r x, Decidable (p r x)] (σ : Fin 512 → Fin 512 → ℝ)

theorem top_real (hp : ∀ r, ∃ x, p r x) (m : FVec Ideal S512x1 .f32) (hm : ∀ r, m (ix2 r 0) ≠ ⊤) :
    ∃ ν : Fin 512 → ℝ, top (seen p σ) m = up2 fun r _ => ν r := by
  have key : ∀ r : Fin 512, ∃ ν : ℝ, top (seen p σ) m (ix2 r 0) = (ν : EReal) := by
    intro r
    obtain ⟨x₀, hx₀⟩ := hp r
    obtain ⟨a, ha⟩ := fold_max_real (fun x : Fin 512 => seen p σ (ix2 r x)) (fun x => by
      show ((σ r x : ℝ) : EReal) + (if p r x then 0 else ⊥) ≠ ⊤
      split
      · rw [add_zero]; exact EReal.coe_ne_top _
      · rw [EReal.add_bot]; exact bot_ne_top) x₀ (by
      show ((σ r x₀ : ℝ) : EReal) + (if p r x₀ then 0 else ⊥) ≠ ⊥
      rw [if_pos hx₀, add_zero]; exact EReal.coe_ne_bot _)
    have e : top (seen p σ) m (ix2 r 0) = max (m (ix2 r 0)) (a : EReal) := by
      rw [← ha]
      pointwise [top]
      rw [ofBits_neg_inf]
    rw [e]
    refine ⟨(max (m (ix2 r 0)) (a : EReal)).toReal, (EReal.coe_toReal ?_ ?_).symm⟩
    · exact (max_lt (lt_top_iff_ne_top.mpr (hm r)) (EReal.coe_lt_top a)).ne
    · exact ((EReal.bot_lt_coe a).trans_le (le_max_right _ _)).ne'
  choose ν hν using key
  refine ⟨ν, ext2 _ _ fun r i => ?_⟩
  rw [Subsingleton.elim i 0]
  exact hν r

theorem upd_real (m : FVec Ideal S512x1 .f32) (ν : Fin 512 → ℝ) (acc : FVec Ideal S512x128 .f32) (w A : Fin 512 → Fin 128 → EReal)
    (h : ∀ r c, Ideal.exp (m (ix2 r 0) - (ν r : EReal)) * acc (ix2 r c) = A r c) :
    upd (seen p σ) m (up2 fun r _ => ν r) acc (mat w)
      = mat fun r c => A r c + ∑ x, ((if p r x then Real.exp (σ r x - ν r) else 0 : ℝ) : EReal) * w x c := by
  refine ext2 _ _ fun r c => ?_
  have e : upd (seen p σ) m (up2 fun r _ => ν r) acc (mat w) (ix2 r c)
      = Ideal.exp (m (ix2 r 0) - (ν r : EReal)) * acc (ix2 r c)
        + ∑ x, Ideal.exp (((σ r x : ℝ) : EReal) + (if p r x then 0 else ⊥) - (ν r : EReal)) * w x c := by
    pointwise [upd]
    rfl
  rw [e, h]
  simp only [bias, mat_ix2]
end Step

/-- The running maximum and sums over the blocks of keys below the diagonal. -/
def runs (S : ℕ → FVec Ideal S512x512 .f32) (w : ℕ → FVec Ideal S512x128 .bf16) : ℕ → FVec Ideal S512x1 .f32 × FVec Ideal S512x128 .f32
  | 0 => (fun _ => (⊥ : EReal), fun _ => (0 : EReal))
  | j + 1 => (top (S j) (runs S w j).1, upd (S j) (runs S w j).1 (top (S j) (runs S w j).1) (runs S w j).2 (w j))

section Runs
variable (σ : ℕ → Fin 512 → Fin 512 → ℝ) (w : ℕ → Fin 512 → Fin 128 → EReal)

/-- The sums of the exponentials of the scores, less a number, over the blocks below `j`. -/
def psum (j : ℕ) (r : Fin 512) (c : Fin 128) (ν : ℝ) : EReal :=
  ∑ i ∈ Finset.range j, ∑ x, ((Real.exp (σ i r x - ν) : ℝ) : EReal) * w i x c

theorem psum_shift (j : ℕ) (r : Fin 512) (c : Fin 128) (μ ν : ℝ) : ((Real.exp (μ - ν) : ℝ) : EReal) * psum σ w j r c μ = psum σ w j r c ν := by
  unfold psum
  simp only [scale_sum _ _ (Real.exp_pos _).le, ← mul_assoc, ← EReal.coe_mul, ← Real.exp_add]
  refine Finset.sum_congr rfl fun i _ => Finset.sum_congr rfl fun x _ => ?_
  rw [show μ - ν + (σ i r x - μ) = σ i r x - ν by ring]

abbrev runsR (j : ℕ) := runs (fun i => seen (fun _ _ => True) (σ i)) (fun i => mat (w i)) j

theorem carry_of (j : ℕ) (h : (j = 0 ∧ runsR σ w j = (fun _ => (⊥ : EReal), fun _ => (0 : EReal)))
      ∨ ∃ μ : Fin 512 → ℝ, (runsR σ w j).1 = (up2 fun r _ => μ r) ∧ (runsR σ w j).2 = mat fun r c => psum σ w j r c (μ r)) :
    (∀ r, (runsR σ w j).1 (ix2 r 0) ≠ ⊤)
      ∧ ∀ (ν : Fin 512 → ℝ) r c, Ideal.exp ((runsR σ w j).1 (ix2 r 0) - (ν r : EReal)) * (runsR σ w j).2 (ix2 r c) = psum σ w j r c (ν r) := by
  rcases h with ⟨h0, e⟩ | ⟨μ, e1, e2⟩
  · rw [e]
    refine ⟨fun r => bot_ne_top, fun ν r c => ?_⟩
    show Ideal.exp (⊥ - (ν r : EReal)) * 0 = _
    rw [mul_zero, h0, psum, Finset.range_zero, Finset.sum_empty]
  · rw [e1, e2]
    refine ⟨fun r => EReal.coe_ne_top _, fun ν r c => ?_⟩
    rw [up2_ix2, mat_ix2, ← EReal.coe_sub, Ideal.exp_coe, psum_shift]

theorem runs_real (j : ℕ) : (j = 0 ∧ runsR σ w j = (fun _ => (⊥ : EReal), fun _ => (0 : EReal)))
      ∨ ∃ μ : Fin 512 → ℝ, (runsR σ w j).1 = (up2 fun r _ => μ r) ∧ (runsR σ w j).2 = mat fun r c => psum σ w j r c (μ r) := by
  induction j with
  | zero => exact .inl ⟨rfl, rfl⟩
  | succ j ih =>
    right
    obtain ⟨hm, hc⟩ := carry_of σ w j ih
    obtain ⟨ν, hν⟩ := top_real (fun _ _ => True) (σ j) (fun r => ⟨r, trivial⟩) (runsR σ w j).1 hm
    refine ⟨ν, hν, ?_⟩
    show upd (seen (fun _ _ => True) (σ j)) (runsR σ w j).1 (top (seen (fun _ _ => True) (σ j)) (runsR σ w j).1) (runsR σ w j).2 (mat (w j)) = _
    rw [hν, upd_real (fun _ _ => True) (σ j) _ ν _ (w j) (fun r c => psum σ w j r c (ν r)) (hc ν)]
    simp only [if_true, psum, Finset.sum_range_succ]

/-- The maximum and the sums after the block on the diagonal too. -/
theorem last_real (g : ℕ) : ∃ ν : Fin 512 → ℝ,
    top (seen (fun r x => x.val ≤ r.val) (σ g)) (runsR σ w g).1 = (up2 fun r _ => ν r)
    ∧ upd (seen (fun r x => x.val ≤ r.val) (σ g)) (runsR σ w g).1 (top (seen (fun r x => x.val ≤ r.val) (σ g)) (runsR σ w g).1) (runsR σ w g).2 (mat (w g))
      = mat fun r c => psum σ w g r c (ν r) + ∑ x : Fin 512, ((if x.val ≤ r.val then Real.exp (σ g r x - ν r) else 0 : ℝ) : EReal) * w g x c := by
  obtain ⟨hm, hc⟩ := carry_of σ w g (runs_real σ w g)
  obtain ⟨ν, hν⟩ := top_real (fun r x => x.val ≤ r.val) (σ g) (fun r => ⟨r, le_rfl⟩) (runsR σ w g).1 hm
  refine ⟨ν, hν, ?_⟩
  rw [hν, upd_real (fun r x => x.val ≤ r.val) (σ g) _ ν _ (w g) (fun r c => psum σ w g r c (ν r)) (hc ν)]
end Runs

section Pays
variable (q k : Fin 512 → Fin 128 → ℝ) (v : Fin 512 → Fin 128 → EReal)

/-- The scores of a block pair. -/
def scr (r x : Fin 512) : ℝ := (∑ c, q r c * k x c) * sc

theorem pay22_up : k0_pay22 (F := Ideal) (up3 fun _ => q) = up2 q := by refine ext2 _ _ fun r x => ?_; pointwise [k0_pay22]; rfl
theorem pay23_up : k0_pay23 (F := Ideal) (up3 fun _ => q) = up2 q := by refine ext2 _ _ fun r x => ?_; pointwise [k0_pay23]; rfl

theorem pay6_up : k0_pay6 (F := Ideal) (up2 q) (up3 fun _ => k) = seen (fun _ _ => True) (scr q k) := by
  have e : shapeCast S512x128 (up3 fun (_ : Fin 1) => k) shapeCasts_S1x512x128_S512x128 = up2 k := pay22_up k
  unfold k0_pay6
  rw [e]
  refine ext2 _ _ fun r x => ?_
  pointwise
  simp only [up2_ix2, ofBits_scale, ← EReal.coe_mul, ← coe_sum]
  show _ = ((scr q k r x : ℝ) : EReal) + (if True then 0 else ⊥)
  rw [if_pos trivial, add_zero, scr]

theorem pay9_up : k0_pay9 (F := Ideal) (up2 q) (up3 fun _ => k) = seen (fun _ _ => True) (scr q k) := pay6_up q k

theorem pay3_up : k0_pay3 (F := Ideal) = fun y => if (y 1).val ≤ (y 0).val then 0 else ⊥ := by
  refine ext2 _ _ fun r x => ?_
  have hr := r.isLt
  have hx := x.isLt
  pointwise [k0_pay3]
  rw [masked_bot, show IntOp.addi (BitVec.ofNat 32 x.val) 0#32 = BitVec.ofNat 32 x.val from BitVec.add_zero _,
    cmpi_sge_ofNat (by omega) (by omega), select_decide]
  rfl

theorem pay34_up : k0_pay34 (F := Ideal) k0_pay3 (up2 q) (up3 fun _ => k) = seen (fun r x => x.val ≤ r.val) (scr q k) := by
  have e : k0_pay34 (F := Ideal) k0_pay3 (up2 q) (up3 fun _ => k) = addf (k0_pay6 (up2 q) (up3 fun _ => k)) k0_pay3 := rfl
  rw [e, pay6_up, pay3_up]
  refine ext2 _ _ fun r x => ?_
  show ((scr q k r x : ℝ) : EReal) + (if True then 0 else ⊥) + (if x.val ≤ r.val then 0 else ⊥) = ((scr q k r x : ℝ) : EReal) + (if x.val ≤ r.val then 0 else ⊥)
  rw [if_pos trivial, add_zero]

theorem pay31_up : k0_pay31 (F := Ideal) k0_pay3 (up3 fun _ => q) (up3 fun _ => k) = seen (fun r x => x.val ≤ r.val) (scr q k) := by
  have e : k0_pay31 (F := Ideal) k0_pay3 (up3 fun _ => q) (up3 fun _ => k) = k0_pay34 k0_pay3 (k0_pay22 (up3 fun _ => q)) (up3 fun _ => k) := rfl
  rw [e, pay22_up, pay34_up]

theorem pay2_at (r : Fin 512) (c : Fin 128) : k0_pay2 (ix2 r c) = BitVec.ofBool (decide (half c = 0)) := by
  have hc := c.isLt
  pointwise [k0_pay2]
  rw [cmpi_slt_ofNat (by omega) (by omega)]
  simp only [half_eq_zero]

theorem pay1_at (r : Fin 512) (c : Fin 128) : k0_pay1 (ix2 r c) = BitVec.ofBool (decide (half c = 0)) := by
  have hc := c.isLt
  pointwise [k0_pay1]
  rw [cmpi_slt_ofNat (by omega) (by omega)]
  simp only [half_eq_zero]

/-- A head's lanes of the values; in the other lanes a one. -/
def wide (h : Fin 2) (v : Fin 512 → Fin 128 → EReal) (x : Fin 512) (c : Fin 128) : EReal := if half c = h then v x c else 1

theorem pay29_up : k0_pay29 (F := Ideal) k0_pay2 (mat v) = mat (wide 0 v) := by
  refine ext2 _ _ fun r c => ?_
  pointwise [k0_pay29, k0_pay28]
  rw [pay2_at, select_decide]
  show _ = wide 0 v r c
  unfold wide
  split
  · rfl
  · rfl

theorem pay30_up : k0_pay30 (F := Ideal) k0_pay2 (mat v) = mat (wide 1 v) := by
  refine ext2 _ _ fun r c => ?_
  pointwise [k0_pay30, k0_pay28]
  rw [pay2_at, select_decide]
  show _ = wide 1 v r c
  unfold wide
  by_cases h : half c = 0
  · rw [if_pos h, if_neg (by rw [h]; decide)]
  · rw [if_neg h, if_pos ((by decide : ∀ a : Fin 2, a ≠ 0 → a = 1) _ h)]
    rfl

theorem pay5_up : k0_pay5 (F := Ideal) k0_pay2 (Scalar.ofBits .bf16 0x3F80#16) (mat v) = mat (wide 1 v) := pay30_up v
end Pays

section Accs
variable (q0 q1 : Fin 512 → Fin 128 → ℝ) (K : Fin 2 → Fin 2048 → Fin 128 → ℝ) (V : Fin 2048 → Fin 128 → EReal)

/-- The blocks of scores, and of values, of head `h`. -/
def sBlk (q : Fin 512 → Fin 128 → ℝ) (h : Fin 2) (i : ℕ) : Fin 512 → Fin 512 → ℝ := scr q fun y c => K h (row i y) c
def wBlk (h : Fin 2) (i : ℕ) : Fin 512 → Fin 128 → EReal := wide h fun y c => V (row i y) c

theorem accs_up (j : ℕ) : accs (F := Ideal) (up3 fun (_ : Fin 1) => q0) (up3 fun (_ : Fin 1) => q1) (up3 K) (mat V) j
    = ((runsR (sBlk K q0 0) (wBlk V 0) j).1, (runsR (sBlk K q0 0) (wBlk V 0) j).2,
       (runsR (sBlk K q1 1) (wBlk V 1) j).1, (runsR (sBlk K q1 1) (wBlk V 1) j).2) := by
  induction j with
  | zero =>
    have e1 : k0_pay24 (F := Ideal) = fun _ => (⊥ : EReal) := funext fun _ => masked_bot
    have e2 : k0_pay25 (F := Ideal) = fun _ => (0 : EReal) := by
      refine ext2 _ _ fun r c => ?_
      pointwise [k0_pay25]
    show (k0_pay24 (F := Ideal), k0_pay25 (F := Ideal), k0_pay24 (F := Ideal), k0_pay25 (F := Ideal)) = _
    rw [e1, e2]
    rfl
  | succ j ih =>
    have e7 : ∀ (q : FVec Ideal S512x128 .bf16) m k, k0_pay7 (F := Ideal) q m k = top (k0_pay6 q k) m := fun _ _ _ => rfl
    have e10 : ∀ (q : FVec Ideal S512x128 .bf16) m k, k0_pay10 (F := Ideal) q m k = top (k0_pay9 q k) m := fun _ _ _ => rfl
    have e8 : ∀ (q : FVec Ideal S512x128 .bf16) m a v k, k0_pay8 (F := Ideal) k0_pay2 q (Scalar.ofBits .bf16 0x3F80#16) m a v k
        = upd (k0_pay6 q k) m (top (k0_pay6 q k) m) a (k0_pay29 k0_pay2 v) := fun _ _ _ _ _ => rfl
    have e26 : ∀ (q : FVec Ideal S512x128 .bf16) m a k w, k0_pay26 (F := Ideal) w (k0_pay11 q m a k) (k0_pay12 q m k) (constant S512x128 .f32 0x00000000#32)
        = upd (k0_pay9 q k) m (top (k0_pay9 q k) m) a w := fun _ _ _ _ _ => rfl
    rw [accs, ih, e7, e8, e10, e26, pay22_up, pay23_up]
    have t2 : Cert.KernelIdeal.Hand.tile2 (mat V) j = mat fun y c => V (row j y) c := rfl
    rw [t2, pay29_up, pay5_up, Cert.KernelIdeal.Hand.tile3_up, Cert.KernelIdeal.Hand.tile3_up, pay6_up, pay9_up]
    rfl
end Accs

/-- The lane that the rotation brings to lane `c`. -/
def opp (c : Fin 128) : Fin 128 := ⟨(c.val + 64) % 128, Nat.mod_lt _ (by omega)⟩

theorem rot_up (f : Fin 512 → Fin 128 → EReal) (r : Fin 512) (c : Fin 128) (h) :
    dynamicRotate (s := S512x128) 1 64#32 none (mat f : S512x128.Idx → EReal) h (ix2 r c) = f r (opp c) := by
  show f r (⟨(c.val + 128 - (64 + 0) % 128) % 128, _⟩ : Fin 128) = _
  have e : (⟨(c.val + 128 - (64 + 0) % 128) % 128, Nat.mod_lt _ (by omega)⟩ : Fin 128) = opp c :=
    Fin.ext (by show (c.val + 128 - (64 + 0) % 128) % 128 = (c.val + 64) % 128; omega)
  rw [e]

theorem half_opp (c : Fin 128) : half (opp c) ≠ half c := by
  revert c; decide

section Out
variable (Q K : Fin 2 → Fin 2048 → Fin 128 → ℝ) (V : Fin 2048 → Fin 128 → EReal)

/-- The exponential of the score of query `n` and key `k`, zero for a later key. -/
def xp (h : Fin 2) (n k : Fin 2048) : ℝ := if k.val ≤ n.val then Real.exp ((∑ c, Q h n c * K h k c) * sc) else 0

theorem xp_sum_pos (h : Fin 2) (n : Fin 2048) : 0 < ∑ k, xp Q K h n k := by
  refine Finset.sum_pos' (fun k _ => ?_) ⟨n, Finset.mem_univ _, ?_⟩
  · unfold xp
    split
    · exact (Real.exp_pos _).le
    · exact le_rfl
  · rw [xp, if_pos le_rfl]
    exact Real.exp_pos _

abbrev qBlk (h : Fin 2) (g : ℕ) : Fin 512 → Fin 128 → ℝ := fun y c => Q h (row g y) c

/-- The blocks below the diagonal and the one on it are all the keys there are. -/
theorem keys (g : ℕ) (hg : g < 4) (h : Fin 2) (r : Fin 512) (c : Fin 128) (ν : ℝ) :
    psum (sBlk K (qBlk Q h g) h) (wBlk V h) g r c ν
        + ∑ x : Fin 512, ((if x.val ≤ r.val then Real.exp (sBlk K (qBlk Q h g) h g r x - ν) else 0 : ℝ) : EReal) * wBlk V h g x c
      = ((Real.exp (-ν) : ℝ) : EReal) * ∑ k, ((xp Q K h (row g r) k : ℝ) : EReal) * (if half c = h then V k c else 1) := by
  have he : 0 ≤ Real.exp (-ν) := (Real.exp_pos _).le
  rw [← sum_rows (fun k => ((xp Q K h (row g r) k : ℝ) : EReal) * (if half c = h then V k c else 1))]
  have hs : Finset.range (g + 1) ⊆ Finset.range 4 := Finset.range_subset_range.mpr (by omega)
  have hr := r.isLt
  rw [← Finset.sum_subset hs, scale_sum _ _ he, Finset.sum_range_succ, psum, scale_sum _ _ he]
  · congr 1
    · refine Finset.sum_congr rfl fun i hi => ?_
      rw [scale_sum _ _ he]
      refine Finset.sum_congr rfl fun x _ => ?_
      have hi := Finset.mem_range.mp hi
      have hx := x.isLt
      rw [xp, if_pos (by rw [row_val i (by omega), row_val g hg]; omega), ← mul_assoc, ← EReal.coe_mul, ← Real.exp_add, neg_add_eq_sub]
      rfl
    · refine Finset.sum_congr rfl fun x _ => ?_
      have hx := x.isLt
      rw [xp, ← mul_assoc, ← EReal.coe_mul]
      by_cases hxr : x.val ≤ r.val
      · rw [if_pos hxr, if_pos (by rw [row_val g hg, row_val g hg]; omega), ← Real.exp_add, neg_add_eq_sub]
        rfl
      · rw [if_neg hxr, if_neg (by rw [row_val g hg, row_val g hg]; omega), mul_zero]
        rfl
  · intro i hi hn
    have hi := Finset.mem_range.mp hi
    have hn : ¬ i < g + 1 := fun e => hn (Finset.mem_range.mpr e)
    refine Finset.sum_eq_zero fun x _ => ?_
    have hx := x.isLt
    rw [xp, if_neg (by rw [row_val i (by omega), row_val g hg]; omega), EReal.coe_zero, zero_mul]

/-- The maximum and the sums of head `h` after all its keys. -/
theorem head_real (g : ℕ) (hg : g < 4) (h : Fin 2) : ∃ ν : Fin 512 → ℝ,
    top (seen (fun r x => x.val ≤ r.val) (sBlk K (qBlk Q h g) h g)) (runsR (sBlk K (qBlk Q h g) h) (wBlk V h) g).1 = (up2 fun r _ => ν r)
    ∧ upd (seen (fun r x => x.val ≤ r.val) (sBlk K (qBlk Q h g) h g)) (runsR (sBlk K (qBlk Q h g) h) (wBlk V h) g).1
        (top (seen (fun r x => x.val ≤ r.val) (sBlk K (qBlk Q h g) h g)) (runsR (sBlk K (qBlk Q h g) h) (wBlk V h) g).1)
        (runsR (sBlk K (qBlk Q h g) h) (wBlk V h) g).2 (mat (wBlk V h g))
      = mat fun r c => ((Real.exp (-ν r) : ℝ) : EReal) * ∑ k, ((xp Q K h (row g r) k : ℝ) : EReal) * (if half c = h then V k c else 1) := by
  obtain ⟨ν, h1, h2⟩ := last_real (sBlk K (qBlk Q h g) h) (wBlk V h) g
  refine ⟨ν, h1, h2.trans ?_⟩
  exact congrArg mat (funext fun r => funext fun c => keys Q K V g hg h r c (ν r))

/-- A row of the result and of the log-sums. -/
def oRow (n : Fin 2048) (c : Fin 128) : EReal := (∑ k, ((xp Q K (half c) n k : ℝ) : EReal) * V k c) * ((1 / ∑ k, xp Q K (half c) n k : ℝ) : EReal)
def lRow (n : Fin 2048) (c : Fin 128) : ℝ := Real.log (∑ k, xp Q K (half c) n k)

/-- A head's quotient in its own lanes, and its logarithm. -/
theorem quot (g : ℕ) (h : Fin 2) (r : Fin 512) (c : Fin 128) (hc : half c = h) (ν : ℝ) (T : Fin 512 → Fin 128 → EReal)
    (hT : ∀ c, T r c = ((Real.exp (-ν) : ℝ) : EReal) * ∑ k, ((xp Q K h (row g r) k : ℝ) : EReal) * (if half c = h then V k c else 1)) :
    Ideal.div (T r c) (T r (opp c)) = oRow Q K V (row g r) c
    ∧ ((ν : ℝ) : EReal) + Ideal.log (T r (opp c)) = ((lRow Q K (row g r) c : ℝ) : EReal) := by
  have hp := xp_sum_pos Q K h (row g r)
  have e1 : T r c = ((Real.exp (-ν) : ℝ) : EReal) * ∑ k, ((xp Q K h (row g r) k : ℝ) : EReal) * V k c := by
    rw [hT]
    simp only [if_pos hc]
  have e2 : T r (opp c) = ((Real.exp (-ν) * ∑ k, xp Q K h (row g r) k : ℝ) : EReal) := by
    rw [hT]
    have hn : ¬ half (opp c) = h := fun e => half_opp c (e.trans hc.symm)
    simp only [if_neg hn, mul_one, EReal.coe_mul, coe_sum]
  have hq : 0 < Real.exp (-ν) * ∑ k, xp Q K h (row g r) k := mul_pos (Real.exp_pos _) hp
  rw [e1, e2]
  constructor
  · rw [Ideal.div_coe hq.ne', oRow, hc, mul_comm ((Real.exp (-ν) : ℝ) : EReal), mul_assoc, ← EReal.coe_mul]
    congr 2
    have := Real.exp_ne_zero (-ν)
    have := hp.ne'
    field_simp
  · rw [Ideal.log_coe, if_neg (not_le.mpr hq), ← EReal.coe_add, lRow, hc, Real.log_mul (Real.exp_ne_zero _) hp.ne', Real.log_exp, add_neg_cancel_left]

theorem pay39_at (v2 : IVec S512x128 1) (v13 : FVec Ideal S512x512 .f32) (q : FVec Ideal S512x128 .bf16) (m0 : FVec Ideal S512x1 .f32) (a0 : FVec Ideal S512x128 .f32)
    (m1 : FVec Ideal S512x1 .f32) (a1 : FVec Ideal S512x128 .f32) (w0 w1 : FVec Ideal S512x128 .bf16) (s : FVec Ideal S512x512 .f32) (ν : FVec Ideal S512x1 .f32)
    (k : FVec Ideal S1x512x128 .bf16) :
    k0_pay39 v2 v13 q m0 a0 m1 a1 w0 w1 s ν k = select v2
      (divf (upd s m0 ν a0 w0) (dynamicRotate 1 64#32 none (upd s m0 ν a0 w0) rotates_S512x128_d1))
      (divf (upd (k0_pay34 v13 q k) m1 (top (k0_pay34 v13 q k) m1) a1 w1)
        (dynamicRotate 1 64#32 none (upd (k0_pay34 v13 q k) m1 (top (k0_pay34 v13 q k) m1) a1 w1) rotates_S512x128_d1)) := rfl

theorem pay40_at (v2 : IVec S512x128 1) (v13 : FVec Ideal S512x512 .f32) (q : FVec Ideal S512x128 .bf16) (m0 : FVec Ideal S512x1 .f32) (a0 : FVec Ideal S512x128 .f32)
    (m1 : FVec Ideal S512x1 .f32) (a1 : FVec Ideal S512x128 .f32) (w0 w1 : FVec Ideal S512x128 .bf16) (s : FVec Ideal S512x512 .f32) (ν : FVec Ideal S512x1 .f32)
    (k : FVec Ideal S1x512x128 .bf16) :
    k0_pay40 v2 v13 q m0 a0 m1 a1 w0 w1 s ν k = select v2
      (addf (broadcastTo S512x128 ν broadcasts_S512x1_S512x128) (log (dynamicRotate 1 64#32 none (upd s m0 ν a0 w0) rotates_S512x128_d1)))
      (addf (broadcastTo S512x128 (top (k0_pay34 v13 q k) m1) broadcasts_S512x1_S512x128)
        (log (dynamicRotate 1 64#32 none (upd (k0_pay34 v13 q k) m1 (top (k0_pay34 v13 q k) m1) a1 w1) rotates_S512x128_d1))) := rfl

theorem blk_up (g : ℕ) (hg : g < 4) :
    oBlk (F := Ideal) (up3 Q) (up3 K) (mat V) g = (mat fun r c => oRow Q K V (row g r) c)
    ∧ lBlk (F := Ideal) (up3 Q) (up3 K) (mat V) g = up2 fun r c => lRow Q K (row g r) c := by
  have t0 : ∀ (X : Fin 2 → Fin 2048 → Fin 128 → ℝ) h, Cert.KernelIdeal.Hand.tile3 (up3 X) h g = up3 fun (_ : Fin 1) => qBlk X h g := fun _ _ => rfl
  have t2 : Cert.KernelIdeal.Hand.tile2 (mat V) g = mat fun y c => V (row g y) c := rfl
  have hs : sums (F := Ideal) (up3 Q) (up3 K) (mat V) g = _ := accs_up (qBlk Q 0 g) (qBlk Q 1 g) K V g
  have e32 : ∀ (q : FVec Ideal S1x512x128 .bf16) m k, k0_pay32 (F := Ideal) k0_pay3 q m k = top (k0_pay31 k0_pay3 q k) m := fun _ _ _ => rfl
  have s0 : k0_pay31 (F := Ideal) k0_pay3 (up3 fun (_ : Fin 1) => qBlk Q 0 g) (up3 fun (_ : Fin 1) => qBlk K 0 g)
      = seen (fun r x => x.val ≤ r.val) (sBlk K (qBlk Q 0 g) 0 g) := pay31_up _ _
  have s1 : k0_pay34 (F := Ideal) k0_pay3 (up2 (qBlk Q 1 g)) (up3 fun (_ : Fin 1) => qBlk K 1 g)
      = seen (fun r x => x.val ≤ r.val) (sBlk K (qBlk Q 1 g) 1 g) := pay34_up _ _
  have w0 : k0_pay29 (F := Ideal) k0_pay2 (mat fun y c => V (row g y) c) = mat (wBlk V 0 g) := pay29_up _
  have w1 : k0_pay30 (F := Ideal) k0_pay2 (mat fun y c => V (row g y) c) = mat (wBlk V 1 g) := pay30_up _
  obtain ⟨ν0, h0, k0⟩ := head_real Q K V g hg 0
  obtain ⟨ν1, h1, k1⟩ := head_real Q K V g hg 1
  have q0 := fun r c hc => quot Q K V g 0 r c hc (ν0 r) (fun r c => ((Real.exp (-ν0 r) : ℝ) : EReal) * ∑ k, ((xp Q K 0 (row g r) k : ℝ) : EReal) * (if half c = 0 then V k c else 1)) (fun _ => rfl)
  have q1 := fun r c hc => quot Q K V g 1 r c hc (ν1 r) (fun r c => ((Real.exp (-ν1 r) : ℝ) : EReal) * ∑ k, ((xp Q K 1 (row g r) k : ℝ) : EReal) * (if half c = 1 then V k c else 1)) (fun _ => rfl)
  constructor
  · unfold oBlk
    rw [hs, pay39_at, e32, t0, t0, t0, t0, t2, s0, w0, w1, pay23_up, s1, k0, k1]
    refine ext2 _ _ fun r c => ?_
    show Scalar.select (k0_pay1 (ix2 r c)) (Ideal.div _ (dynamicRotate (s := S512x128) 1 64#32 none _ _ (ix2 r c))) (Ideal.div _ (dynamicRotate (s := S512x128) 1 64#32 none _ _ (ix2 r c))) = _
    rw [pay1_at, select_decide, rot_up, rot_up]
    split
    · next hc => exact (q0 r c hc).1
    · next hc => exact (q1 r c ((by decide : ∀ a : Fin 2, a ≠ 0 → a = 1) _ hc)).1
  · unfold lBlk
    rw [hs, pay40_at, e32, t0, t0, t0, t0, t2, s0, w0, w1, pay23_up, s1, k0, k1, h0, h1]
    refine ext2 _ _ fun r c => ?_
    have eb : ∀ ν : Fin 512 → ℝ, broadcastTo S512x128 (up2 fun r (_ : Fin 1) => ν r) broadcasts_S512x1_S512x128 (ix2 r c) = ((ν r : ℝ) : EReal) := by
      intro ν
      pointwise
      rfl
    have ea : ∀ x y : FVec Ideal S512x128 .f32, addf x y (ix2 r c) = (x (ix2 r c) + y (ix2 r c) : EReal) := fun _ _ => rfl
    have el : ∀ x : FVec Ideal S512x128 .f32, log x (ix2 r c) = Ideal.log (x (ix2 r c)) := by
      intro x
      pointwise
    have es : ∀ (w : IVec S512x128 1) (x y : FVec Ideal S512x128 .f32), select w x y (ix2 r c) = Scalar.select (w (ix2 r c)) (x (ix2 r c)) (y (ix2 r c)) := fun _ _ _ => rfl
    rw [es, ea, ea, el, el]
    rw [eb, eb, pay1_at, select_decide, rot_up, rot_up]
    split
    · next hc => exact (q0 r c hc).2
    · next hc => exact (q1 r c ((by decide : ∀ a : Fin 2, a ≠ 0 → a = 1) _ hc)).2

theorem row_in2 (y : S2048x128.Idx) : row ((y 0).val / 512) (in2 y 0) = y 0 := Cert.KernelIdeal.Hand.row_of (y 0)

/-- What the body leaves in the two results, over the reals. -/
theorem oOut_up : oOut (F := Ideal) (up3 Q) (up3 K) (mat V) = mat (oRow Q K V) := by
  funext y
  have hy : (y 0).val < 2048 := (y 0).isLt
  have e := congrFun (blk_up Q K V ((y 0).val / 512) (by omega)).1 (in2 y)
  refine e.trans ?_
  show oRow Q K V (row ((y 0).val / 512) (in2 y 0)) (y 1) = oRow Q K V (y 0) (y 1)
  rw [row_in2]
theorem lOut_up : lOut (F := Ideal) (up3 Q) (up3 K) (mat V) = up2 (lRow Q K) := by
  funext y
  have hy : (y 0).val < 2048 := (y 0).isLt
  have e := congrFun (blk_up Q K V ((y 0).val / 512) (by omega)).2 (in2 y)
  refine e.trans ?_
  show ((lRow Q K (row ((y 0).val / 512) (in2 y 0)) (y 1) : ℝ) : EReal) = ((lRow Q K (y 0) (y 1) : ℝ) : EReal)
  rw [row_in2]
end Out

end Cert.Kernel9Ideal.Hand

end
-- ==== Proof.SoftmaxArr.lean ====
/- The forward attention's call as a whole: its arrays, what the program hands it, and that its two results are the softmax's
   averages and the logarithms of its sums. -/
module

public import proofs.«01_k».proof.Proof.SoftmaxVal
public import proofs.«01_k».proof.Proof.Finite
public import proofs.«01_k».proof.Pre_numbers
public import proofs.«01_k».proof.Proof.Gen.Reference9Ideal
public import proofs.«01_k».proof.Proof.Gen.Reference9Ideal.Run
public import proofs.«01_k».proof.Proof.Gen.Reference9Ideal.Read

@[expose] public section

set_option maxRecDepth 8192
set_option maxHeartbeats 4000000

noncomputable section

namespace Cert.Pre_numbers.Hand

open Idealize.ShloMosaic
open Cert.ReferenceIdeal.Hand (up4)
open Cert.Pre_finite.Hand (real_of_lt up4_of_real)

theorem facts : Cert.Pre_numbers.Facts := ⟨by decide⟩

variable [hf : Cert.Pre_numbers.Facts]

/-- Queries and keys that the precondition admits are arrays of reals. -/
theorem numbers_iff (x0 x1 : FVec Ideal Cert.Pre_numbers.S2x8x2048x96 .f32) (x2 : FVec Ideal Cert.Pre_numbers.S2x8x2048x64 .f32)
    (h : (Cert.Pre_numbers.fn (F := Ideal) x0 x1 x2).1 = (fun _ => 1#1)
      ∧ (Cert.Pre_numbers.fn (F := Ideal) x0 x1 x2).2 = (fun _ => 1#1)) :
    ∃ q k, x0 = up4 q ∧ x1 = up4 k :=
  ⟨_, _, up4_of_real x0 fun j => real_of_lt _ (congrFun h.1 j), up4_of_real x1 fun j => real_of_lt _ (congrFun h.2 j)⟩

end Cert.Pre_numbers.Hand

namespace Cert.Kernel9Ideal.Hand

open Cert.Kernel9Ideal Cert.Kernel9Ideal.Gen
open Idealize.ShloMosaic Idealize.ShloMosaic.TcCoe Idealize.ShloMosaic.Tactic Idealize.ShloMosaic.StableHlo
open Cert.KernelIdeal.Hand (up2 up3 ext2 half sc at2 at3 bt hd rowAt colAt heads tokens widen hlse heads_up tokens_up widen_up hlse_up hatt hexp_up htot_up lse
  rb rn ch cl lane sum_lane rb_rowAt rn_rowAt ch_colAt bq)
open Cert.ReferenceIdeal.Hand (up4 up4_ix4 score mx ex tot pr tot_pos div_real)
open Cert.Step (mat mat_ix2 mat_congr)
open Cert.Reference9Ideal.Read (val_main_v24 val_main_v26)

theorem points : cfg0.N = Cert.KernelIdeal.cfg0.N := by decide

/-- The same grid point of the gradient's call: the two calls have one grid. -/
def pt (t : Fin cfg0.N) : Fin Cert.KernelIdeal.cfg0.N := Fin.cast points t

theorem point_lt (t : Fin cfg0.N) : t.val < 8 := Cert.KernelIdeal.Hand.lt_N (pt t)

theorem index0 : ∀ t : Fin cfg0.N, win0_0.index t 0 = t.val % 4 ∧ win0_0.index t 1 = t.val / 4 ∧ win0_0.index t 2 = 0 := by decide
theorem index1 : ∀ t : Fin cfg0.N, win0_1.index t 0 = t.val % 4 ∧ win0_1.index t 1 = t.val / 4 ∧ win0_1.index t 2 = 0 := by decide
theorem index2 : ∀ t : Fin cfg0.N, win0_2.index t 0 = t.val / 4 ∧ win0_2.index t 1 = t.val % 4 := by decide
theorem index3 : ∀ t : Fin cfg0.N, win0_3.index t 0 = t.val / 4 ∧ win0_3.index t 1 = t.val % 4 := by decide
theorem index4 : ∀ t : Fin cfg0.N, win0_4.index t 0 = t.val / 4 ∧ win0_4.index t 1 = t.val % 4 := by decide

section Reads
variable (t : Fin cfg0.N) (G : Fin 8 → Fin 4096 → Fin 128 → ℝ) (H : Fin 4096 → Fin 512 → ℝ)

theorem read0 : ((cfg0.win 0).blk t).view.read (Elt Ideal) (up3 G) = up3 fun h n l => G (hd (pt t) h) (rowAt (pt t) n) l := by
  obtain ⟨e0, e1, e2⟩ := index0 t
  funext j
  rw [View.read_apply]
  refine at3 G ?_ ?_ ?_
  · show win0_0.index t 0 * 2 + 1 * (j 0).val = 2 * (t.val % 4) + (j 0).val
    rw [e0]; omega
  · show win0_0.index t 1 * 2048 + 1 * (j 1).val = 2048 * (t.val / 4) + (j 1).val
    rw [e1]; omega
  · show win0_0.index t 2 * 128 + 1 * (j 2).val = (j 2).val
    rw [e2]; omega
theorem read1 : ((cfg0.win 1).blk t).view.read (Elt Ideal) (up3 G) = up3 fun h n l => G (hd (pt t) h) (rowAt (pt t) n) l := by
  obtain ⟨e0, e1, e2⟩ := index1 t
  funext j
  rw [View.read_apply]
  refine at3 G ?_ ?_ ?_
  · show win0_1.index t 0 * 2 + 1 * (j 0).val = 2 * (t.val % 4) + (j 0).val
    rw [e0]; omega
  · show win0_1.index t 1 * 2048 + 1 * (j 1).val = 2048 * (t.val / 4) + (j 1).val
    rw [e1]; omega
  · show win0_1.index t 2 * 128 + 1 * (j 2).val = (j 2).val
    rw [e2]; omega
theorem read2 (M : Fin 4096 → Fin 512 → EReal) : ((cfg0.win 2).blk t).view.read (Elt Ideal) (mat M) = mat fun n l => M (rowAt (pt t) n) (colAt (pt t) l) := by
  obtain ⟨e0, e1⟩ := index2 t
  funext j
  rw [View.read_apply]
  refine mat_congr (f := M) ?_ ?_
  · show win0_2.index t 0 * 2048 + 1 * (j 0).val = 2048 * (t.val / 4) + (j 0).val
    rw [e0]; omega
  · show win0_2.index t 1 * 128 + 1 * (j 1).val = 128 * (t.val % 4) + (j 1).val
    rw [e1]; omega
theorem read3 (M : Fin 4096 → Fin 512 → EReal) : ((cfg0.win 3).blk t).view.read (Elt Ideal) (mat M) = mat fun n l => M (rowAt (pt t) n) (colAt (pt t) l) := by
  obtain ⟨e0, e1⟩ := index3 t
  funext j
  rw [View.read_apply]
  refine mat_congr (f := M) ?_ ?_
  · show win0_3.index t 0 * 2048 + 1 * (j 0).val = 2048 * (t.val / 4) + (j 0).val
    rw [e0]; omega
  · show win0_3.index t 1 * 128 + 1 * (j 1).val = 128 * (t.val % 4) + (j 1).val
    rw [e1]; omega
theorem read4 : ((cfg0.win 4).blk t).view.read (Elt Ideal) (up2 H) = up2 fun n l => H (rowAt (pt t) n) (colAt (pt t) l) := by
  obtain ⟨e0, e1⟩ := index4 t
  funext j
  rw [View.read_apply]
  refine at2 H ?_ ?_
  · show win0_4.index t 0 * 2048 + 1 * (j 0).val = 2048 * (t.val / 4) + (j 0).val
    rw [e0]; omega
  · show win0_4.index t 1 * 128 + 1 * (j 1).val = 128 * (t.val % 4) + (j 1).val
    rw [e1]; omega
end Reads

theorem cover3 (i : S4096x512.Idx) : ∃ t : Fin cfg0.N, (cfg0.win 3).flush t = true ∧ i ∈ ((cfg0.win 3).blk t).view.set := by
  have h0 : (i 0).val < 4096 := (i 0).isLt
  have h1 : (i 1).val < 512 := (i 1).isLt
  refine ⟨⟨4 * ((i 0).val / 2048) + (i 1).val / 128, by rw [points, Cert.KernelIdeal.Hand.N_eq]; omega⟩, flush0_3 _, ?_⟩
  generalize ht : (⟨4 * ((i 0).val / 2048) + (i 1).val / 128, _⟩ : Fin cfg0.N) = t
  have hv : t.val = 4 * ((i 0).val / 2048) + (i 1).val / 128 := by rw [← ht]
  obtain ⟨e0, e1⟩ := index3 t
  show i ∈ ((View.whole main_v11_0).slice (win0_3.rect t)).set
  rw [View.set_slice_whole, Rect.mem_set_unit]
  intro a
  match a with
  | ⟨0, _⟩ =>
    show win0_3.index t 0 * 2048 ≤ (i 0).val ∧ (i 0).val < win0_3.index t 0 * 2048 + 2048
    rw [e0]; omega
  | ⟨1, _⟩ =>
    show win0_3.index t 1 * 128 ≤ (i 1).val ∧ (i 1).val < win0_3.index t 1 * 128 + 128
    rw [e1]; omega

theorem cover4 (i : S4096x512.Idx) : ∃ t : Fin cfg0.N, (cfg0.win 4).flush t = true ∧ i ∈ ((cfg0.win 4).blk t).view.set := by
  have h0 : (i 0).val < 4096 := (i 0).isLt
  have h1 : (i 1).val < 512 := (i 1).isLt
  refine ⟨⟨4 * ((i 0).val / 2048) + (i 1).val / 128, by rw [points, Cert.KernelIdeal.Hand.N_eq]; omega⟩, flush0_4 _, ?_⟩
  generalize ht : (⟨4 * ((i 0).val / 2048) + (i 1).val / 128, _⟩ : Fin cfg0.N) = t
  have hv : t.val = 4 * ((i 0).val / 2048) + (i 1).val / 128 := by rw [← ht]
  obtain ⟨e0, e1⟩ := index4 t
  show i ∈ ((View.whole main_v11_1).slice (win0_4.rect t)).set
  rw [View.set_slice_whole, Rect.mem_set_unit]
  intro a
  match a with
  | ⟨0, _⟩ =>
    show win0_4.index t 0 * 2048 ≤ (i 0).val ∧ (i 0).val < win0_4.index t 0 * 2048 + 2048
    rw [e0]; omega
  | ⟨1, _⟩ =>
    show win0_4.index t 1 * 128 ≤ (i 1).val ∧ (i 1).val < win0_4.index t 1 * 128 + 128
    rw [e1]; omega

section Point
variable (q k : Fin 2 → Fin 8 → Fin 2048 → Fin 96 → ℝ) (x2 : FVec Ideal S2x8x2048x64 .f32) (t : Fin Cert.KernelIdeal.cfg0.N)

/-- The point's exponentials are the softmax's, times that of the row's maximum. -/
theorem xp_eq (h : Fin 2) (n j : Fin 2048) :
    xp (bq q t) (bq k t) h n j = Real.exp (mx q k (bt t) (hd t h) n) * ex q k (bt t) (hd t h) n j := by
  unfold xp ex bq
  split
  · rw [sum_lane, ← Real.exp_add, add_sub_cancel, score]
  · rw [mul_zero]

theorem xp_tot (h : Fin 2) (n : Fin 2048) :
    ∑ j, xp (bq q t) (bq k t) h n j = Real.exp (mx q k (bt t) (hd t h) n) * tot q k (bt t) (hd t h) n := by
  simp only [xp_eq, tot, Finset.mul_sum]

/-- The softmax's averages and a point's block of v, whose elements may be infinite. -/
def avg (b : Fin 2) (h : Fin 8) (n : Fin 2048) (c : Fin 64) : EReal := ∑ j, ((pr q k b h n j : ℝ) : EReal) * x2 (ix4 b h j c)
def vals (n : Fin 2048) (c : Fin 128) : EReal := x2 (ix4 (bt t) (ch (colAt t c)) n (cl (colAt t c)))

theorem avg_eq (b : Fin 2) (h : Fin 8) (n : Fin 2048) (c : Fin 64) : hatt (up4 q) (up4 k) x2 (ix4 b h n c) = avg q k x2 b h n c := by
  unfold hatt
  rw [hexp_up, htot_up]
  pointwise
  simp only [up4_ix4, div_real _ (tot_pos q k b h n).ne', avg, pr]

theorem tokens_at (r : Fin 4096) (c : Fin 512) : tokens x2 (ix2 r c) = x2 (ix4 (rb r) (ch c) (rn r) (cl c)) := by
  pointwise [tokens]
  rfl

theorem tokens_mat : tokens x2 = mat fun r c => x2 (ix4 (rb r) (ch c) (rn r) (cl c)) := ext2 _ _ fun r c => tokens_at x2 r c

theorem oRow_eq (n : Fin 2048) (c : Fin 128) :
    oRow (bq q t) (bq k t) (vals x2 t) n c = avg q k x2 (bt t) (hd t (half c)) n (cl (colAt t c)) := by
  have hp := tot_pos q k (bt t) (hd t (half c)) n
  have he := Real.exp_pos (mx q k (bt t) (hd t (half c)) n)
  unfold oRow avg
  rw [xp_tot, mul_comm, scale_sum _ _ (one_div_nonneg.mpr (mul_pos he hp).le)]
  refine Finset.sum_congr rfl fun j _ => ?_
  rw [← mul_assoc, ← EReal.coe_mul, xp_eq]
  unfold pr vals
  rw [ch_colAt]
  congr 2
  have := he.ne'
  have := hp.ne'
  field_simp

theorem lRow_eq (n : Fin 2048) (c : Fin 128) : lRow (bq q t) (bq k t) n c = lse q k (bt t) (hd t (half c)) n := by
  unfold lRow lse
  rw [xp_tot, Real.log_mul (Real.exp_ne_zero _) (tot_pos _ _ _ _ _).ne', Real.log_exp]
end Point

section Lines
variable (m : (ℓ : Loc nD τ sig) → Buf (Elt Ideal) ℓ) (c : Dev nD)

theorem V_q : V m c main_v3 = heads (m (c, main_arg0)) := by
  simp only [V, List.flatten, List.append, hostOps0, hostOps0_1, hostOps0_2, hostOps0_3, hostOps0_4,
    TRef.binary, TRef.nullary, TRef.ternary, TRef.unary, TRef.toBuf, TRef.ofBuf, cast_eq]
  after_results_simp
  rfl
theorem V_k : V m c main_v7 = heads (m (c, main_arg1)) := by
  simp only [V, List.flatten, List.append, hostOps0, hostOps0_1, hostOps0_2, hostOps0_3, hostOps0_4,
    TRef.binary, TRef.nullary, TRef.ternary, TRef.unary, TRef.toBuf, TRef.ofBuf, cast_eq]
  after_results_simp
  rfl
theorem V_v : V m c main_v10 = tokens (m (c, main_arg2)) := by
  simp only [V, List.flatten, List.append, hostOps0, hostOps0_1, hostOps0_2, hostOps0_3, hostOps0_4,
    TRef.binary, TRef.nullary, TRef.ternary, TRef.unary, TRef.toBuf, TRef.ofBuf, cast_eq]
  after_results_simp
  rfl

theorem ref_o (x0 x1 : FVec Ideal S2x8x2048x96 .f32) (x2 : FVec Ideal S2x8x2048x64 .f32) :
    val_main_v24 (F := Ideal) x0 x1 x2 = tokens (hatt x0 x1 x2) := rfl
theorem ref_l (x0 x1 : FVec Ideal S2x8x2048x96 .f32) : val_main_v26 (F := Ideal) x0 x1 = tokens (widen (hlse x0 x1)) := rfl

variable (q k : Fin 2 → Fin 8 → Fin 2048 → Fin 96 → ℝ)
variable (hq : m (c, main_arg0) = up4 q) (hk : m (c, main_arg1) = up4 k)
include hq hk

theorem in_q (t : Fin cfg0.N) : iblk m c 0 t = up3 (bq q (pt t)) := by
  unfold iblk
  show ((cfg0.win 0).blk t).view.read (Elt Ideal) (V m c main_v3) = _
  rw [V_q, hq, heads_up, read0]
  simp only [rb_rowAt, rn_rowAt]
  rfl
theorem in_k (t : Fin cfg0.N) : iblk m c 1 t = up3 (bq k (pt t)) := by
  unfold iblk
  show ((cfg0.win 1).blk t).view.read (Elt Ideal) (V m c main_v7) = _
  rw [V_k, hk, heads_up, read1]
  simp only [rb_rowAt, rn_rowAt]
  rfl
omit hq hk in
theorem in_v (t : Fin cfg0.N) : iblk m c 2 t = mat (vals (m (c, main_arg2)) (pt t)) := by
  unfold iblk
  show ((cfg0.win 2).blk t).view.read (Elt Ideal) (V m c main_v10) = _
  rw [V_v, tokens_mat, read2]
  simp only [rb_rowAt, rn_rowAt]
  rfl

theorem o_eq : (dats m 0 c).arrAt 3 cfg0.N = val_main_v24 (F := Ideal) (m (c, main_arg0)) (m (c, main_arg1)) (m (c, main_arg2)) := by
  rw [ref_o, hq, hk, tokens_mat]
  simp only [avg_eq]
  refine (dats m 0 c).arrAt_eq_of_cover 3 _ (fun t _ => ?_) cover3
  rw [read3]
  refine (after0_3 m c t).trans ?_
  unfold oAt
  rw [in_q m c q k hq hk, in_k m c q k hq hk, in_v m c, oOut_up]
  refine ext2 _ _ fun n l => ?_
  show oRow _ _ _ n l = avg q k (m (c, main_arg2)) (rb (rowAt (pt t) n)) (ch (colAt (pt t) l)) (rn (rowAt (pt t) n)) (cl (colAt (pt t) l))
  rw [oRow_eq, rb_rowAt, rn_rowAt, ch_colAt]

theorem l_eq : (dats m 0 c).arrAt 4 cfg0.N = val_main_v26 (F := Ideal) (m (c, main_arg0)) (m (c, main_arg1)) := by
  rw [ref_l, hq, hk, hlse_up, widen_up, tokens_up]
  refine (dats m 0 c).arrAt_eq_of_cover 4 _ (fun t _ => ?_) cover4
  rw [read4]
  refine (after0_4 m c t).trans ?_
  unfold lAt
  rw [in_q m c q k hq hk, in_k m c q k hq hk, in_v m c, lOut_up]
  refine ext2 _ _ fun n l => congrArg Real.toEReal ?_
  show lRow _ _ n l = lse q k (rb (rowAt (pt t) n)) (ch (colAt (pt t) l)) (rn (rowAt (pt t) n))
  rw [lRow_eq, rb_rowAt, rn_rowAt, ch_colAt]

end Lines

end Cert.Kernel9Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.KRun
public import proofs.«01_k».proof.Proof.Run
public import proofs.«01_k».proof.Proof.Equation
public import proofs.«01_k».proof.Proof.Finite
public import proofs.«01_k».proof.Proof.Dw
public import proofs.«01_k».proof.Proof.Dx
public import proofs.«01_k».proof.Proof.Fwd
public import proofs.«01_k».proof.Proof.Hidden
public import Idealize.ShloMosaic.Adequacy
public import Idealize.ShloMosaic.Init
public import Idealize.ShloMosaic.Lib.Quiescent
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Loops
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Loops
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.MergeRef
public import proofs.«01_k».proof.Proof.Outer
public import proofs.«01_k».proof.Proof.Conv
public import proofs.«01_k».proof.Proof.SoftmaxArr

@[expose] public section

noncomputable section

namespace Cert.Proof

open Idealize.ShloMosaic Idealize.SL.Sem

theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2, Idealize.ShloMosaic.sem_eq_zero_of_no_sems (by decide) r.2⟩)
    (Cert.ReferenceIdeal.Value.run (F := Ideal) m g)

/-- The kernel's run, with what its three results hold. -/
theorem run_kernel (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v45_0) = (Cert.KernelIdeal.Hand.dats m 0 c).arrAt 6 Cert.KernelIdeal.cfg0.N
      ∧ r.2.mem ((c.tc : Thread Cert.KernelIdeal.nD Cert.KernelIdeal.τ).loc Cert.KernelIdeal.main_v45_1) = (Cert.KernelIdeal.Hand.dats m 0 c).arrAt 7 Cert.KernelIdeal.cfg0.N
      ∧ r.2.mem ((c.tc : Thread Cert.KernelIdeal.nD Cert.KernelIdeal.τ).loc Cert.KernelIdeal.main_v45_2) = (Cert.KernelIdeal.Hand.dats m 0 c).arrAt 8 Cert.KernelIdeal.cfg0.N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run _ _ _).mono (fun r h c => ⟨(h.1 c).1 6, (h.1 c).1 7, (h.1 c).1 8,
      ((h.1 c).2 Cert.KernelIdeal.main_arg0 (Pipeline.mem_restRefs_of Cert.KernelIdeal.main_arg0 (by decide) (by decide))).trans (Cert.KernelIdeal.Gen.V_main_arg0 m c),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c),
      ((h.1 c).2 Cert.KernelIdeal.main_arg3 (Pipeline.mem_restRefs_of Cert.KernelIdeal.main_arg3 (by decide) (by decide))).trans (Cert.KernelIdeal.Gen.V_main_arg3 m c)⟩)
    (Cert.KernelIdeal.Hand.run_main (F := Ideal) m g)

/-- Both runs end with the same three gradients. -/
theorem algebraic [hPre_finite : Cert.Pre_finite.Facts] :
    Cert.algebraic_KernelIdeal_ReferenceIdeal_pre_finite (hKernelIdeal := Cert.KernelIdeal.Gen.facts) (hReferenceIdeal := Cert.ReferenceIdeal.Gen.facts)
      (hPre_finite := hPre_finite) := by
  intro m g m' g' hpre hargs
  refine ⟨_, _, _, run_kernel m g, (θ_run _ _ _).mono (fun r h c => ?_) (Cert.ReferenceIdeal.Value.run (F := Ideal) m' g')⟩
  obtain ⟨h61, h64, h66, hrest⟩ := h c
  obtain ⟨e0, e1, e2, e3⟩ := hargs c
  obtain ⟨q, k, v, o, hq, hk, hv, ho⟩ := Cert.Pre_finite.Hand.finite_iff _ _ _ _ (hpre c)
  refine ⟨h61.trans ?_, h64.trans ?_, h66.trans ?_, hrest⟩
  · rw [Cert.ReferenceIdeal.Read.val_main_v61_eq, e0, e1, e2, e3]
    exact (Cert.KernelIdeal.Hand.dq_eq m c q k v o hq hk hv ho).symm
  · rw [Cert.ReferenceIdeal.Read.val_main_v64_eq, e0, e1, e2, e3]
    exact (Cert.KernelIdeal.Hand.dk_eq m c q k v o hq hk hv ho).symm
  · rw [Cert.ReferenceIdeal.Read.val_main_v66_eq, e0, e1, e3]
    exact (Cert.KernelIdeal.Hand.dv_eq m c q k v o hq hk hv ho).symm

theorem frame_reference2 (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run _ _ _).mono (fun r h => ⟨fun c => (h c).2.2, Idealize.ShloMosaic.sem_eq_zero_of_no_sems (by decide) r.2⟩)
    (Cert.Reference2Ideal.Value.run (F := Ideal) m g)

/-- Both runs end with the same gradients of the layer's input and of its gain. -/
theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨_, _, Cert.Kernel2Ideal.Value.run_blocks (F := Ideal) m g, (θ_run _ _ _).mono (fun r h c => ?_) (Cert.Reference2Ideal.Value.run (F := Ideal) m' g')⟩
  obtain ⟨h38, h39, hrest⟩ := h c
  obtain ⟨e0, e1, e2, e3, e4⟩ := hargs c
  refine ⟨h38.trans ?_, h39.trans ?_, hrest⟩
  · rw [Cert.Reference2Ideal.Read.val_main_v38_eq, e0, e1, e2, e3, e4]
    exact (Cert.Kernel2Ideal.Hand.dx_eq m c).symm
  · rw [Cert.Reference2Ideal.Read.val_main_v39_eq, e0, e2, e3]
    exact (Cert.Kernel2Ideal.Hand.dgain_eq m c).symm

theorem frame_reference3 (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0) :=
  (θ_run _ _ _).mono (fun r h => ⟨fun c => (h c).2, Idealize.ShloMosaic.sem_eq_zero_of_no_sems (by decide) r.2⟩)
    (Cert.Reference3Ideal.Value.run (F := Ideal) m g)

/-- Both runs end with the same gradient of the projection's weights. -/
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨_, Cert.Kernel3Ideal.Value.run_blocks (F := Ideal) m g, (θ_run _ _ _).mono (fun r h c => ?_) (Cert.Reference3Ideal.Value.run (F := Ideal) m' g')⟩
  obtain ⟨h21, hrest⟩ := h c
  obtain ⟨e0, e1, e2⟩ := hargs c
  refine ⟨h21.trans ?_, hrest⟩
  rw [Cert.Reference3Ideal.Read.val_main_v21_eq, e0, e1, e2]
  exact (Cert.Kernel3Ideal.Hand.dw_eq m c).symm

theorem frame_reference4 (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0) :=
  (θ_run _ _ _).mono (fun r h => ⟨fun c => (h c).2.2, Idealize.ShloMosaic.sem_eq_zero_of_no_sems (by decide) r.2⟩)
    (Cert.Reference4Ideal.Value.run (F := Ideal) m g)

/-- The kernel's text is its idealization's, so one run serves both. -/
theorem frame_kernel4 (m : (ℓ : Loc Cert.Kernel4.nD Cert.Kernel4.τ Cert.Kernel4.sig) → Buf (Elt Bits) ℓ)
    (g : Dev Cert.Kernel4.nD → PrngReg) :
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0) := by
  have e : Cert.Kernel4.defs (F := Bits) = Cert.Kernel4Ideal.defs (F := Bits) := by sl_kernel_rfl
  rw [e]
  exact Cert.Kernel4Ideal.Hand.frame (F := Bits) m g

/-- The projection's run, with what its two results hold. -/
theorem run_kernel4 (m : (ℓ : Loc Cert.Kernel4Ideal.nD Cert.Kernel4Ideal.τ Cert.Kernel4Ideal.sig) → Buf (Elt Ideal) ℓ)
    (g : Dev Cert.Kernel4Ideal.nD → PrngReg) :
    θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
      r.2.mem ((c.tc : Thread Cert.Kernel4Ideal.nD Cert.Kernel4Ideal.τ).loc Cert.Kernel4Ideal.main_v6_0) = (Cert.Kernel4Ideal.Hand.dats m 0 c).arrAt 3 Cert.Kernel4Ideal.cfg0.N
      ∧ r.2.mem ((c.tc : Thread Cert.Kernel4Ideal.nD Cert.Kernel4Ideal.τ).loc Cert.Kernel4Ideal.main_v6_1) = (Cert.Kernel4Ideal.Hand.dats m 0 c).arrAt 4 Cert.Kernel4Ideal.cfg0.N
      ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)) :=
  (θ_run _ _ _).mono (fun r h c => ⟨(h.1 c).1 3, (h.1 c).1 4,
      ((h.1 c).1 0).trans (((Cert.Kernel4Ideal.Hand.dats m 0 c).arrAt_in 0 rfl _).trans (Cert.Kernel4Ideal.Gen.V_main_arg0 m c)),
      ((h.1 c).2 Cert.Kernel4Ideal.main_arg1 (Pipeline.mem_restRefs_of Cert.Kernel4Ideal.main_arg1 (by decide) (by decide))).trans (Cert.Kernel4Ideal.Gen.V_main_arg1 m c),
      ((h.1 c).2 Cert.Kernel4Ideal.main_arg2 (Pipeline.mem_restRefs_of Cert.Kernel4Ideal.main_arg2 (by decide) (by decide))).trans (Cert.Kernel4Ideal.Gen.V_main_arg2 m c)⟩)
    (Cert.Kernel4Ideal.Hand.run_main (F := Ideal) m g)

/-- Both runs end with the same projection and the same normed rows transposed. -/
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨_, _, run_kernel4 m g, (θ_run _ _ _).mono (fun r h c => ?_) (Cert.Reference4Ideal.Value.run (F := Ideal) m' g')⟩
  obtain ⟨h18, h20, hrest⟩ := h c
  obtain ⟨e0, e1, e2⟩ := hargs c
  refine ⟨h18.trans ?_, h20.trans ?_, hrest⟩
  · rw [Cert.Reference4Ideal.Read.val_main_v18_eq, e0, e1, e2]
    exact (Cert.Kernel4Ideal.Hand.proj_eq m c).symm
  · rw [Cert.Reference4Ideal.Read.val_main_v20_eq, e0, e1]
    exact (Cert.Kernel4Ideal.Hand.turned_eq m c).symm

theorem frame_reference5 (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14))
      ∧ r.2.sem = fun _ => 0) :=
  (θ_run _ _ _).mono (fun r h => ⟨fun c => (h c).2, Idealize.ShloMosaic.sem_eq_zero_of_no_sems (by decide) r.2⟩)
    (Cert.Reference5Ideal.Value.run (F := Ideal) m g)

/-- Both runs end with the same layer output, where every row's largest log-sum is a real. -/
theorem algebraic5 [hPre_bounded : Cert.Pre_bounded.Facts] :
    Cert.algebraic_Kernel5Ideal_Reference5Ideal_pre_bounded (hKernel5Ideal := Cert.Kernel5Ideal.Gen.facts)
      (hReference5Ideal := Cert.Reference5Ideal.Gen.facts) (hPre_bounded := hPre_bounded) := by
  intro m g m' g' hpre hargs
  refine ⟨_, Cert.Kernel5Ideal.Value.run_blocks (F := Ideal) m g, (θ_run _ _ _).mono (fun r h c => ?_) (Cert.Reference5Ideal.Value.run (F := Ideal) m' g')⟩
  obtain ⟨h52, hrest⟩ := h c
  obtain ⟨e0, e1, e2, e3, e4, e5, e6, e7, e8, e9, e10, e11, e12, e13, e14⟩ := hargs c
  refine ⟨h52.trans ?_, hrest⟩
  rw [Cert.Reference5Ideal.Read.val_main_v52_eq, e0, e1, e2, e3, e4, e5, e6, e7, e8, e9, e10, e11, e12, e13, e14]
  exact (Cert.Kernel5Ideal.Hand.merged_eq m c (Cert.Kernel5Ideal.Hand.bounded_of m c (hpre c))).symm

theorem frame_reference6 (m : (ℓ : Loc Cert.Reference6Ideal.nD Cert.Reference6Ideal.τ Cert.Reference6Ideal.sig) → Buf (Elt Ideal) ℓ)
    (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0) :=
  (θ_run _ _ _).mono (fun r h => ⟨fun c => (h c).2, Idealize.ShloMosaic.sem_eq_zero_of_no_sems (by decide) r.2⟩)
    (Cert.Reference6Ideal.Value.run (F := Ideal) m g)

/-- Both runs end with the same gradient of the output projection's weights. -/
theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨_, Cert.Kernel6Ideal.Value.run (F := Ideal) m g, (θ_run _ _ _).mono (fun r h c => ?_) (Cert.Reference6Ideal.Value.run (F := Ideal) m' g')⟩
  obtain ⟨h3, hrest⟩ := h c
  obtain ⟨e0, e1⟩ := hargs c
  refine ⟨h3.trans ?_, hrest⟩
  rw [Cert.Reference6Ideal.Read.val_main_v3_eq, e0, e1]
  exact (Cert.Kernel6Ideal.Hand.dw_eq m c).symm

theorem frame_reference7 (m : (ℓ : Loc Cert.Reference7Ideal.nD Cert.Reference7Ideal.τ Cert.Reference7Ideal.sig) → Buf (Elt Ideal) ℓ)
    (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0) :=
  (θ_run _ _ _).mono (fun r h => ⟨fun c => (h c).2, Idealize.ShloMosaic.sem_eq_zero_of_no_sems (by decide) r.2⟩)
    (Cert.Reference7Ideal.Value.run (F := Ideal) m g)

/-- Both runs end with the same gradient of a branch's projection's weights. -/
theorem algebraic7 : Cert.algebraic_Kernel7Ideal_Reference7Ideal (hKernel7Ideal := Cert.Kernel7Ideal.Gen.facts)
    (hReference7Ideal := Cert.Reference7Ideal.Gen.facts) := by
  intro m g m' g' _ hargs
  refine ⟨_, Cert.Kernel7Ideal.Value.run (F := Ideal) m g, (θ_run _ _ _).mono (fun r h c => ?_) (Cert.Reference7Ideal.Value.run (F := Ideal) m' g')⟩
  obtain ⟨h3, hrest⟩ := h c
  obtain ⟨e0, e1⟩ := hargs c
  refine ⟨h3.trans ?_, hrest⟩
  rw [Cert.Reference7Ideal.Read.val_main_v3_eq, e0, e1]
  exact (Cert.Kernel7Ideal.Hand.dw_eq m c).symm

theorem frame_reference8 (m : (ℓ : Loc Cert.Reference8Ideal.nD Cert.Reference8Ideal.τ Cert.Reference8Ideal.sig) → Buf (Elt Ideal) ℓ)
    (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0) :=
  (θ_run _ _ _).mono (fun r h => ⟨fun c => (h c).2, Idealize.ShloMosaic.sem_eq_zero_of_no_sems (by decide) r.2⟩)
    (Cert.Reference8Ideal.Value.run (F := Ideal) m g)

/-- Both runs end with the same branch of the gated convolution. -/
theorem algebraic8 : Cert.algebraic_Kernel8Ideal_Reference8Ideal (hKernel8Ideal := Cert.Kernel8Ideal.Gen.facts)
    (hReference8Ideal := Cert.Reference8Ideal.Gen.facts) := by
  intro m g m' g' _ hargs
  refine ⟨_, Cert.Kernel8Ideal.Value.run_blocks (F := Ideal) m g, (θ_run _ _ _).mono (fun r h c => ?_) (Cert.Reference8Ideal.Value.run (F := Ideal) m' g')⟩
  obtain ⟨h6, hrest⟩ := h c
  obtain ⟨e0, e1, e2⟩ := hargs c
  refine ⟨h6.trans ?_, hrest⟩
  rw [Cert.Reference8Ideal.Read.val_main_v35_eq, e0, e1, e2]
  exact (Cert.Kernel8Ideal.Hand.conv_eq m c).symm

/-- The named constant at the machine's numbers is the number itself. -/
local instance bitsNamed : Named Bits := ⟨fun _ _ φ b => FloatOps.ofBits φ b⟩

theorem frame_kernel9 (m : (ℓ : Loc Cert.Kernel9.nD Cert.Kernel9.τ Cert.Kernel9.sig) → Buf (Elt Bits) ℓ)
    (g : Dev Cert.Kernel9.nD → PrngReg) :
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0) := by
  have e : Cert.Kernel9.defs (F := Bits) = Cert.Kernel9Ideal.defs (F := Bits) := by sl_kernel_rfl
  rw [e]
  exact Cert.Kernel9Ideal.Hand.frame (F := Bits) m g

theorem frame_reference9 (m : (ℓ : Loc Cert.Reference9Ideal.nD Cert.Reference9Ideal.τ Cert.Reference9Ideal.sig) → Buf (Elt Ideal) ℓ)
    (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0) :=
  (θ_run _ _ _).mono (fun r h => ⟨fun c => (h c).2.2, Idealize.ShloMosaic.sem_eq_zero_of_no_sems (by decide) r.2⟩)
    (Cert.Reference9Ideal.Value.run (F := Ideal) m g)

theorem run_kernel9 (m : (ℓ : Loc Cert.Kernel9Ideal.nD Cert.Kernel9Ideal.τ Cert.Kernel9Ideal.sig) → Buf (Elt Ideal) ℓ)
    (g : Dev Cert.Kernel9Ideal.nD → PrngReg) :
    θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
      r.2.mem ((c.tc : Thread Cert.Kernel9Ideal.nD Cert.Kernel9Ideal.τ).loc Cert.Kernel9Ideal.main_v11_0) = (Cert.Kernel9Ideal.Hand.dats m 0 c).arrAt 3 Cert.Kernel9Ideal.cfg0.N
      ∧ r.2.mem ((c.tc : Thread Cert.Kernel9Ideal.nD Cert.Kernel9Ideal.τ).loc Cert.Kernel9Ideal.main_v11_1) = (Cert.Kernel9Ideal.Hand.dats m 0 c).arrAt 4 Cert.Kernel9Ideal.cfg0.N
      ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)) :=
  (θ_run _ _ _).mono (fun r h c => ⟨(h.1 c).1 3, (h.1 c).1 4,
      ((h.1 c).2 Cert.Kernel9Ideal.main_arg0 (Pipeline.mem_restRefs_of Cert.Kernel9Ideal.main_arg0 (by decide) (by decide))).trans (Cert.Kernel9Ideal.Gen.V_main_arg0 m c),
      ((h.1 c).2 Cert.Kernel9Ideal.main_arg1 (Pipeline.mem_restRefs_of Cert.Kernel9Ideal.main_arg1 (by decide) (by decide))).trans (Cert.Kernel9Ideal.Gen.V_main_arg1 m c),
      ((h.1 c).2 Cert.Kernel9Ideal.main_arg2 (Pipeline.mem_restRefs_of Cert.Kernel9Ideal.main_arg2 (by decide) (by decide))).trans (Cert.Kernel9Ideal.Gen.V_main_arg2 m c)⟩)
    (Cert.Kernel9Ideal.Hand.run_main (F := Ideal) m g)

/-- Both runs end with the same averages and the same logarithms of the softmax's sums. -/
theorem algebraic9 [hPre_numbers : Cert.Pre_numbers.Facts] :
    Cert.algebraic_Kernel9Ideal_Reference9Ideal_pre_numbers (hKernel9Ideal := Cert.Kernel9Ideal.Gen.facts)
      (hReference9Ideal := Cert.Reference9Ideal.Gen.facts) (hPre_numbers := hPre_numbers) := by
  intro m g m' g' hpre hargs
  refine ⟨_, _, run_kernel9 m g, (θ_run _ _ _).mono (fun r h c => ?_) (Cert.Reference9Ideal.Value.run (F := Ideal) m' g')⟩
  obtain ⟨h24, h26, hrest⟩ := h c
  obtain ⟨e0, e1, e2⟩ := hargs c
  obtain ⟨q, k, hq, hk⟩ := Cert.Pre_numbers.Hand.numbers_iff _ _ _ (hpre c)
  refine ⟨h24.trans ?_, h26.trans ?_, hrest⟩
  · rw [Cert.Reference9Ideal.Read.val_main_v24_eq, e0, e1, e2]
    exact (Cert.Kernel9Ideal.Hand.o_eq m c q k hq hk).symm
  · rw [Cert.Reference9Ideal.Read.val_main_v26_eq, e0, e1]
    exact (Cert.Kernel9Ideal.Hand.l_eq m c q k hq hk).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite.Hand.facts, Cert.Pre_bounded.Hand.facts, Cert.Pre_numbers.Hand.facts,
    fun m g _ => Cert.Kernel.Hand.frame m g, fun m g _ => Cert.KernelIdeal.Hand.frame m g, fun m g _ => Cert.KernelIdeal.Hand.frame m g,
    fun m g _ => frame_reference m g, fun m g _ => frame_reference m g,
    fun m g _ => Cert.Kernel2.Gen.frame m g, fun m g _ => Cert.Kernel2Ideal.Gen.frame m g, fun m g _ => frame_reference2 m g,
    fun m g _ => Cert.Kernel3.Gen.frame m g, fun m g _ => Cert.Kernel3Ideal.Gen.frame m g, fun m g _ => frame_reference3 m g,
    fun m g _ => frame_kernel4 m g, fun m g _ => Cert.Kernel4Ideal.Hand.frame m g, fun m g _ => frame_reference4 m g,
    fun m g _ => Cert.Kernel5.Gen.frame m g, fun m g _ => Cert.Kernel5Ideal.Gen.frame m g, fun m g _ => Cert.Kernel5Ideal.Gen.frame m g,
    fun m g _ => frame_reference5 m g, fun m g _ => frame_reference5 m g,
    fun m g _ => Cert.Kernel6.Gen.frame m g, fun m g _ => Cert.Kernel6Ideal.Gen.frame m g, fun m g _ => frame_reference6 m g,
    fun m g _ => Cert.Kernel7.Gen.frame m g, fun m g _ => Cert.Kernel7Ideal.Gen.frame m g, fun m g _ => frame_reference7 m g,
    fun m g _ => Cert.Kernel8.Gen.frame m g, fun m g _ => Cert.Kernel8Ideal.Gen.frame m g, fun m g _ => frame_reference8 m g,
    fun m g _ => frame_kernel9 m g, fun m g _ => Cert.Kernel9Ideal.Hand.frame m g, fun m g _ => Cert.Kernel9Ideal.Hand.frame m g,
    fun m g _ => frame_reference9 m g, fun m g _ => frame_reference9 m g,
    IdealRules.named_const.statement Cert.KernelIdeal.κ "mask" .f32 0xF149F2CA#32 ⊥ rfl,
    algebraic (hPre_finite := Cert.Pre_finite.Hand.facts),
    trivial, algebraic2, trivial, algebraic3,
    trivial, algebraic4,
    trivial, algebraic5 (hPre_bounded := Cert.Pre_bounded.Hand.facts),
    trivial, algebraic6, trivial, algebraic7, trivial, algebraic8,
    IdealRules.named_const.statement Cert.Kernel9Ideal.κ "mask" .f32 0xF149F2CA#32 ⊥ rfl,
    algebraic9 (hPre_numbers := Cert.Pre_numbers.Hand.facts)⟩

end Cert.Proof

end
